-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "score_scale" .f32 0x3DD53B95#32 (((Real.sqrt 192)⁻¹ * (Real.log 2)⁻¹ : ℝ) : EReal)

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)) (v7 : (c : Dev Cert.KernelIdeal.nD) → Buf (Elt Ideal) ((c.tc : Thread Cert.KernelIdeal.nD Cert.KernelIdeal.τ).loc Cert.KernelIdeal.main_v3_7)) (v8 : (c : Dev Cert.KernelIdeal.nD) → Buf (Elt Ideal) ((c.tc : Thread Cert.KernelIdeal.nD Cert.KernelIdeal.τ).loc Cert.KernelIdeal.main_v3_8)) (v9 : (c : Dev Cert.KernelIdeal.nD) → Buf (Elt Ideal) ((c.tc : Thread Cert.KernelIdeal.nD Cert.KernelIdeal.τ).loc Cert.KernelIdeal.main_v3_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_v3_7) = v7 c
          ∧ r.2.mem ((c.tc : Thread Cert.KernelIdeal.nD Cert.KernelIdeal.τ).loc Cert.KernelIdeal.main_v3_8) = v8 c
          ∧ r.2.mem ((c.tc : Thread Cert.KernelIdeal.nD Cert.KernelIdeal.τ).loc Cert.KernelIdeal.main_v3_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_v2_6) = v6 c
          ∧ r.2.mem ((c.tc : Thread Cert.ReferenceIdeal.nD Cert.ReferenceIdeal.τ).loc Cert.ReferenceIdeal.main_v2_7) = v7 c
          ∧ r.2.mem ((c.tc : Thread Cert.ReferenceIdeal.nD Cert.ReferenceIdeal.τ).loc Cert.ReferenceIdeal.main_v2_8) = v8 c
          ∧ r.2.mem ((c.tc : Thread Cert.ReferenceIdeal.nD Cert.ReferenceIdeal.τ).loc Cert.ReferenceIdeal.main_v2_9) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S5x384x512 : Shape := ⟨3, ![5, 384, 512]⟩
abbrev S5x384 : Shape := ⟨2, ![5, 384]⟩
abbrev S5x384x64 : Shape := ⟨3, ![5, 384, 64]⟩
abbrev S5x384x20x128 : Shape := ⟨4, ![5, 384, 20, 128]⟩
abbrev S5x384x20x64 : Shape := ⟨4, ![5, 384, 20, 64]⟩
abbrev S20x512x128 : Shape := ⟨3, ![20, 512, 128]⟩
abbrev S20x128 : Shape := ⟨2, ![20, 128]⟩
abbrev S13x20 : Shape := ⟨2, ![13, 20]⟩
abbrev S_ : Shape := ⟨0, ![]⟩

class Facts : Prop where
  bcast_S_S13x20 : S_.BroadcastsInDim S13x20 (![] : Fin 0 → Fin S13x20.rank)
  reducesTo_S13x20_S_d0_1 : S13x20.ReducesTo [0, 1] S_
  h_S_ : 0 < S_.numel

variable [Facts]

def fn {F : FTy → Type} [FloatOps F] (main_arg0 : FVec F S5x384x512 .fp8e4m3) (main_arg1 : FVec F S5x384 .f32) (main_arg2 : FVec F S5x384x64 .bf16) (main_arg3 : FVec F S5x384x20x128 .bf16) (main_arg4 : FVec F S5x384x20x64 .bf16) (main_arg5 : FVec F S20x512x128 .fp8e4m3) (main_arg6 : FVec F S20x128 .f32) (main_arg7 : FVec F S20x512x128 .fp8e4m3) (main_arg8 : FVec F S20x128 .f32) (main_arg9 : FVec F S13x20 .f32) (main_arg10 : FVec F S13x20 .f32) (main_arg11 : FVec F S13x20 .f32) : IVec S_ 1 :=
  let main_v0 : FVec F S13x20 .f32 := Host.absf main_arg9
  let main_cst : FVec F S_ .f32 := constant S_ .f32 0x7F7FFFFF#32
  let main_v1 : FVec F S13x20 .f32 := broadcastInDim S13x20 ![] bcast_S_S13x20 main_cst
  let main_v2 : IVec S13x20 1 := cmpf .ole main_v0 main_v1
  let main_c : IVec S_ 1 := constantI S_ 1 1#1
  let main_v3 : IVec S_ 1 := (fun x v => Host.reduce IntOp.andi x v reducesTo_S13x20_S_d0_1 h_S_) main_v2 main_c
  let main_v4 : FVec F S13x20 .f32 := Host.absf main_arg10
  let main_cst_0 : FVec F S_ .f32 := constant S_ .f32 0x7F7FFFFF#32
  let main_v5 : FVec F S13x20 .f32 := broadcastInDim S13x20 ![] bcast_S_S13x20 main_cst_0
  let main_v6 : IVec S13x20 1 := cmpf .ole main_v4 main_v5
  let main_c_1 : IVec S_ 1 := constantI S_ 1 1#1
  let main_v7 : IVec S_ 1 := (fun x v => Host.reduce IntOp.andi x v reducesTo_S13x20_S_d0_1 h_S_) main_v6 main_c_1
  let main_v8 : IVec S_ 1 := andi main_v3 main_v7
  let main_v9 : FVec F S13x20 .f32 := Host.absf main_arg11
  let main_cst_2 : FVec F S_ .f32 := constant S_ .f32 0x7F7FFFFF#32
  let main_v10 : FVec F S13x20 .f32 := broadcastInDim S13x20 ![] bcast_S_S13x20 main_cst_2
  let main_v11 : IVec S13x20 1 := cmpf .ole main_v9 main_v10
  let main_c_3 : IVec S_ 1 := constantI S_ 1 1#1
  let main_v12 : IVec S_ 1 := (fun x v => Host.reduce IntOp.andi x v reducesTo_S13x20_S_d0_1 h_S_) main_v11 main_c_3
  let main_v13 : IVec S_ 1 := andi main_v8 main_v12
  main_v13
-- ==== Kernel.lean ====
abbrev S5x384x512 : Shape := ⟨3, ![5, 384, 512]⟩
abbrev S5x384 : Shape := ⟨2, ![5, 384]⟩
abbrev S5x384x64 : Shape := ⟨3, ![5, 384, 64]⟩
abbrev S5x384x20x128 : Shape := ⟨4, ![5, 384, 20, 128]⟩
abbrev S5x384x20x64 : Shape := ⟨4, ![5, 384, 20, 64]⟩
abbrev S20x512x128 : Shape := ⟨3, ![20, 512, 128]⟩
abbrev S20x128 : Shape := ⟨2, ![20, 128]⟩
abbrev S13x20 : Shape := ⟨2, ![13, 20]⟩
abbrev S5x64x384 : Shape := ⟨3, ![5, 64, 384]⟩
abbrev S5x20x384x128 : Shape := ⟨4, ![5, 20, 384, 128]⟩
abbrev S5x20x64x384 : Shape := ⟨4, ![5, 20, 64, 384]⟩
abbrev S1x20 : Shape := ⟨2, ![1, 20]⟩
abbrev S5x20x192x384 : Shape := ⟨4, ![5, 20, 192, 384]⟩
abbrev S5x2x384x128 : Shape := ⟨4, ![5, 2, 384, 128]⟩
abbrev S5x2x64x384 : Shape := ⟨4, ![5, 2, 64, 384]⟩
abbrev S2x512x128 : Shape := ⟨3, ![2, 512, 128]⟩
abbrev S5x2x192x384 : Shape := ⟨4, ![5, 2, 192, 384]⟩
abbrev S6x20x128 : Shape := ⟨3, ![6, 20, 128]⟩
abbrev S5x384x128 : Shape := ⟨3, ![5, 384, 128]⟩
abbrev S8x128 : Shape := ⟨2, ![8, 128]⟩
abbrev S20 : Shape := ⟨1, ![20]⟩
abbrev S20x20 : Shape := ⟨2, ![20, 20]⟩
abbrev S20x1 : Shape := ⟨2, ![20, 1]⟩
abbrev S1x20x128 : Shape := ⟨3, ![1, 20, 128]⟩
abbrev S1x128 : Shape := ⟨2, ![1, 128]⟩
abbrev S128x128 : Shape := ⟨2, ![128, 128]⟩
abbrev S1x128x128 : Shape := ⟨3, ![1, 128, 128]⟩
abbrev S64x384 : Shape := ⟨2, ![64, 384]⟩
abbrev S384 : Shape := ⟨1, ![384]⟩
abbrev S1x384 : Shape := ⟨2, ![1, 384]⟩
abbrev S1 : Shape := ⟨1, ![1]⟩
abbrev S1x1 : Shape := ⟨2, ![1, 1]⟩
abbrev S1x512x128 : Shape := ⟨3, ![1, 512, 128]⟩
abbrev S512x128 : Shape := ⟨2, ![512, 128]⟩
abbrev S128x512 : Shape := ⟨2, ![128, 512]⟩
abbrev S256x512 : Shape := ⟨2, ![256, 512]⟩
abbrev S512x256 : Shape := ⟨2, ![512, 256]⟩
abbrev S1x1x128 : Shape := ⟨3, ![1, 1, 128]⟩
abbrev S1x384x512 : Shape := ⟨3, ![1, 384, 512]⟩
abbrev S384x512 : Shape := ⟨2, ![384, 512]⟩
abbrev S256x384 : Shape := ⟨2, ![256, 384]⟩
abbrev S384x256 : Shape := ⟨2, ![384, 256]⟩
abbrev S128x384 : Shape := ⟨2, ![128, 384]⟩
abbrev S1x1x128x384 : Shape := ⟨4, ![1, 1, 128, 384]⟩
abbrev S1x64x384 : Shape := ⟨3, ![1, 64, 384]⟩
abbrev S1x1x64x384 : Shape := ⟨4, ![1, 1, 64, 384]⟩
abbrev S384x128 : Shape := ⟨2, ![384, 128]⟩
abbrev S1x384x128 : Shape := ⟨3, ![1, 384, 128]⟩
abbrev S128 : Shape := ⟨1, ![128]⟩
abbrev S1x1x384x128 : Shape := ⟨4, ![1, 1, 384, 128]⟩
abbrev S384x64 : Shape := ⟨2, ![384, 64]⟩
abbrev S384x192 : Shape := ⟨2, ![384, 192]⟩
abbrev S1x1x192x384 : Shape := ⟨4, ![1, 1, 192, 384]⟩
abbrev S192x384 : Shape := ⟨2, ![192, 384]⟩
abbrev S128x192 : Shape := ⟨2, ![128, 192]⟩
abbrev S192x128 : Shape := ⟨2, ![192, 128]⟩
abbrev S128x1 : Shape := ⟨2, ![128, 1]⟩
abbrev S1x1x128x128 : Shape := ⟨4, ![1, 1, 128, 128]⟩
abbrev S192x256 : Shape := ⟨2, ![192, 256]⟩
abbrev S128x256 : Shape := ⟨2, ![128, 256]⟩
abbrev S1x256 : Shape := ⟨2, ![1, 256]⟩
abbrev S256x128 : Shape := ⟨2, ![256, 128]⟩

abbrev nBuf : Space → Nat
  | .hbm => 25
  | .vmem => 33
  | .smem => 0
  | _ => 0

abbrev bufTy : (tb : Table) → Fin (tcTables nBuf tb) → BufTy
  | .hbm, ⟨0, _⟩ => ⟨S5x384x512, .fp8e4m3⟩
  | .hbm, ⟨1, _⟩ => ⟨S5x384, .f32⟩
  | .hbm, ⟨2, _⟩ => ⟨S5x384x64, .bf16⟩
  | .hbm, ⟨3, _⟩ => ⟨S5x384x20x128, .bf16⟩
  | .hbm, ⟨4, _⟩ => ⟨S5x384x20x64, .bf16⟩
  | .hbm, ⟨5, _⟩ => ⟨S20x512x128, .fp8e4m3⟩
  | .hbm, ⟨6, _⟩ => ⟨S20x128, .f32⟩
  | .hbm, ⟨7, _⟩ => ⟨S20x512x128, .fp8e4m3⟩
  | .hbm, ⟨8, _⟩ => ⟨S20x128, .f32⟩
  | .hbm, ⟨9, _⟩ => ⟨S13x20, .f32⟩
  | .hbm, ⟨10, _⟩ => ⟨S13x20, .f32⟩
  | .hbm, ⟨11, _⟩ => ⟨S13x20, .f32⟩
  | .hbm, ⟨12, _⟩ => ⟨S5x64x384, .bf16⟩
  | .hbm, ⟨13, _⟩ => ⟨S5x20x384x128, .bf16⟩
  | .hbm, ⟨14, _⟩ => ⟨S5x20x64x384, .bf16⟩
  | .hbm, ⟨15, _⟩ => ⟨S5x20x384x128, .bf16⟩
  | .hbm, ⟨16, _⟩ => ⟨S1x20, .f32⟩
  | .hbm, ⟨17, _⟩ => ⟨S1x20, .f32⟩
  | .hbm, ⟨18, _⟩ => ⟨S1x20, .f32⟩
  | .hbm, ⟨19, _⟩ => ⟨S5x20x192x384, .fp8e4m3⟩
  | .hbm, ⟨20, _⟩ => ⟨S1x20, .f32⟩
  | .hbm, ⟨21, _⟩ => ⟨S5x20x192x384, .fp8e4m3⟩
  | .hbm, ⟨22, _⟩ => ⟨S1x20, .f32⟩
  | .hbm, ⟨23, _⟩ => ⟨S5x20x384x128, .fp8e4m3⟩
  | .hbm, ⟨24, _⟩ => ⟨S1x20, .f32⟩
  | .local _ .vmem, ⟨0, _⟩ => ⟨S5x384x512, .fp8e4m3⟩
  | .local _ .vmem, ⟨1, _⟩ => ⟨S5x384, .f32⟩
  | .local _ .vmem, ⟨2, _⟩ => ⟨S5x64x384, .bf16⟩
  | .local _ .vmem, ⟨3, _⟩ => ⟨S5x2x384x128, .bf16⟩
  | .local _ .vmem, ⟨4, _⟩ => ⟨S5x2x384x128, .bf16⟩
  | .local _ .vmem, ⟨5, _⟩ => ⟨S5x2x64x384, .bf16⟩
  | .local _ .vmem, ⟨6, _⟩ => ⟨S5x2x64x384, .bf16⟩
  | .local _ .vmem, ⟨7, _⟩ => ⟨S2x512x128, .fp8e4m3⟩
  | .local _ .vmem, ⟨8, _⟩ => ⟨S2x512x128, .fp8e4m3⟩
  | .local _ .vmem, ⟨9, _⟩ => ⟨S20x128, .f32⟩
  | .local _ .vmem, ⟨10, _⟩ => ⟨S2x512x128, .fp8e4m3⟩
  | .local _ .vmem, ⟨11, _⟩ => ⟨S2x512x128, .fp8e4m3⟩
  | .local _ .vmem, ⟨12, _⟩ => ⟨S20x128, .f32⟩
  | .local _ .vmem, ⟨13, _⟩ => ⟨S13x20, .f32⟩
  | .local _ .vmem, ⟨14, _⟩ => ⟨S13x20, .f32⟩
  | .local _ .vmem, ⟨15, _⟩ => ⟨S13x20, .f32⟩
  | .local _ .vmem, ⟨16, _⟩ => ⟨S5x2x384x128, .bf16⟩
  | .local _ .vmem, ⟨17, _⟩ => ⟨S5x2x384x128, .bf16⟩
  | .local _ .vmem, ⟨18, _⟩ => ⟨S1x20, .f32⟩
  | .local _ .vmem, ⟨19, _⟩ => ⟨S1x20, .f32⟩
  | .local _ .vmem, ⟨20, _⟩ => ⟨S1x20, .f32⟩
  | .local _ .vmem, ⟨21, _⟩ => ⟨S5x2x192x384, .fp8e4m3⟩
  | .local _ .vmem, ⟨22, _⟩ => ⟨S5x2x192x384, .fp8e4m3⟩
  | .local _ .vmem, ⟨23, _⟩ => ⟨S1x20, .f32⟩
  | .local _ .vmem, ⟨24, _⟩ => ⟨S5x2x192x384, .fp8e4m3⟩
  | .local _ .vmem, ⟨25, _⟩ => ⟨S5x2x192x384, .fp8e4m3⟩
  | .local _ .vmem, ⟨26, _⟩ => ⟨S1x20, .f32⟩
  | .local _ .vmem, ⟨27, _⟩ => ⟨S5x2x384x128, .fp8e4m3⟩
  | .local _ .vmem, ⟨28, _⟩ => ⟨S5x2x384x128, .fp8e4m3⟩
  | .local _ .vmem, ⟨29, _⟩ => ⟨S1x20, .f32⟩
  | .local _ .vmem, ⟨30, _⟩ => ⟨S6x20x128, .f32⟩
  | .local _ .vmem, ⟨31, _⟩ => ⟨S5x384x128, .f32⟩
  | .local _ .vmem, ⟨32, _⟩ => ⟨S8x128, .f32⟩
  | _, _ => ⟨S5x384x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev main_v3_5 : Ref sig .tc := ⟨.hbm, 20, rfl⟩
abbrev main_v3_6 : Ref sig .tc := ⟨.hbm, 21, rfl⟩
abbrev main_v3_7 : Ref sig .tc := ⟨.hbm, 22, rfl⟩
abbrev main_v3_8 : Ref sig .tc := ⟨.hbm, 23, rfl⟩
abbrev main_v3_9 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem18_0 : DmaSem sig := 24
abbrev cc0_sem18_1 : DmaSem sig := 25
abbrev cc0_sem19_0 : DmaSem sig := 26
abbrev cc0_sem20_0 : DmaSem sig := 27
abbrev cc0_sem20_1 : DmaSem sig := 28
abbrev cc0_sem21_0 : DmaSem sig := 29

abbrev nD : Nat := 1
abbrev τ : Topo := Topo.v7x

variable {F : FTy → Type} [FloatOps F]

abbrev grid0 : Pipeline.Grid := ⟨1, ![10], ![false]⟩

def k0_off1 (i : grid0.Coords) (c0_i32_11 : BitVec 32) : Fin 3 → Nat :=
  let c0_13 : Index := 0#32
  let arg0 : BitVec 32 := BitVec.ofNat 32 (i 0).val
  let c2_i32 : BitVec 32 := 2#32
  let v19 : BitVec 32 := Scalar.muli arg0 c2_i32
  let v20 : BitVec 32 := Scalar.addi v19 c0_i32_11
  let v23 : Index := Scalar.indexCast v20
  let c0_14 : Index := 0#32
  ![0, v23.toNat, 0]
def k0_off2 (i : grid0.Coords) (c0_i32_11 : BitVec 32) : Fin 3 → Nat :=
  let c1_15 : Index := 1#32
  let arg0 : BitVec 32 := BitVec.ofNat 32 (i 0).val
  let c2_i32 : BitVec 32 := 2#32
  let v19 : BitVec 32 := Scalar.muli arg0 c2_i32
  let v20 : BitVec 32 := Scalar.addi v19 c0_i32_11
  let v26 : Index := Scalar.indexCast v20
  let c0_16 : Index := 0#32
  ![1, v26.toNat, 0]
def k0_off3 (i : grid0.Coords) (c0_i32_11 : BitVec 32) : Fin 3 → Nat :=
  let c2 : Index := 2#32
  let arg0 : BitVec 32 := BitVec.ofNat 32 (i 0).val
  let c2_i32 : BitVec 32 := 2#32
  let v19 : BitVec 32 := Scalar.muli arg0 c2_i32
  let v20 : BitVec 32 := Scalar.addi v19 c0_i32_11
  let v29 : Index := Scalar.indexCast v20
  let c0_17 : Index := 0#32
  ![2, v29.toNat, 0]
def k0_off4 (i : grid0.Coords) (c0_i32_11 : BitVec 32) : Fin 3 → Nat :=
  let c3 : Index := 3#32
  let arg0 : BitVec 32 := BitVec.ofNat 32 (i 0).val
  let c2_i32 : BitVec 32 := 2#32
  let v19 : BitVec 32 := Scalar.muli arg0 c2_i32
  let v20 : BitVec 32 := Scalar.addi v19 c0_i32_11
  let v32 : Index := Scalar.indexCast v20
  let c0_18 : Index := 0#32
  ![3, v32.toNat, 0]
def k0_off5 (i : grid0.Coords) (c0_i32_11 : BitVec 32) : Fin 3 → Nat :=
  let c4 : Index := 4#32
  let arg0 : BitVec 32 := BitVec.ofNat 32 (i 0).val
  let c2_i32 : BitVec 32 := 2#32
  let v19 : BitVec 32 := Scalar.muli arg0 c2_i32
  let v20 : BitVec 32 := Scalar.addi v19 c0_i32_11
  let v35 : Index := Scalar.indexCast v20
  let c0_19 : Index := 0#32
  ![4, v35.toNat, 0]
def k0_off6 (i : grid0.Coords) (c0_i32_11 : BitVec 32) : Fin 3 → Nat :=
  let c5 : Index := 5#32
  let arg0 : BitVec 32 := BitVec.ofNat 32 (i 0).val
  let c2_i32 : BitVec 32 := 2#32
  let v19 : BitVec 32 := Scalar.muli arg0 c2_i32
  let v20 : BitVec 32 := Scalar.addi v19 c0_i32_11
  let v38 : Index := Scalar.indexCast v20
  let c0_20 : Index := 0#32
  ![5, v38.toNat, 0]
def k0_off7 (i : grid0.Coords) (c0_i32_11 : BitVec 32) : Fin 2 → Nat :=
  let arg0 : BitVec 32 := BitVec.ofNat 32 (i 0).val
  let c2_i32 : BitVec 32 := 2#32
  let v19 : BitVec 32 := Scalar.muli arg0 c2_i32
  let v20 : BitVec 32 := Scalar.addi v19 c0_i32_11
  let v59 : Index := Scalar.indexCast v20
  let c0_33 : Index := 0#32
  ![v59.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S5x384x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x64x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5x2x384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5x2x64x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S20x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x512x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S20x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S13x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S13x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S13x20 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S5x2x384x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x20 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x20 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x20 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S5x2x192x384 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x20 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S5x2x192x384 .fp8e4m3 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x20 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S5x2x384x128 .fp8e4m3 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x20 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== KernelIdeal.lean ====
variable {F : FTy → Type} [FloatOps F] [Named F]
def κ : String → Option EReal := fun
  | "score_scale" => some (((Real.sqrt 192)⁻¹ * (Real.log 2)⁻¹ : ℝ) : EReal)
  | _ => none
-- ==== ReferenceIdeal.lean ====
abbrev S5x384x512 : Shape := ⟨3, ![5, 384, 512]⟩
abbrev S5x384 : Shape := ⟨2, ![5, 384]⟩
abbrev S5x384x64 : Shape := ⟨3, ![5, 384, 64]⟩
abbrev S5x384x20x128 : Shape := ⟨4, ![5, 384, 20, 128]⟩
abbrev S5x384x20x64 : Shape := ⟨4, ![5, 384, 20, 64]⟩
abbrev S20x512x128 : Shape := ⟨3, ![20, 512, 128]⟩
abbrev S20x128 : Shape := ⟨2, ![20, 128]⟩
abbrev S13x20 : Shape := ⟨2, ![13, 20]⟩
abbrev S5x20x384x128 : Shape := ⟨4, ![5, 20, 384, 128]⟩
abbrev S5x20x384x64 : Shape := ⟨4, ![5, 20, 384, 64]⟩
abbrev S1x20 : Shape := ⟨2, ![1, 20]⟩
abbrev S5x20x192x384 : Shape := ⟨4, ![5, 20, 192, 384]⟩
abbrev S5x1x384x512 : Shape := ⟨4, ![5, 1, 384, 512]⟩
abbrev S5x20x384x512 : Shape := ⟨4, ![5, 20, 384, 512]⟩
abbrev S1x20x512x128 : Shape := ⟨4, ![1, 20, 512, 128]⟩
abbrev S5x20x512x128 : Shape := ⟨4, ![5, 20, 512, 128]⟩
abbrev S5x1x384x1 : Shape := ⟨4, ![5, 1, 384, 1]⟩
abbrev S1x20x1x128 : Shape := ⟨4, ![1, 20, 1, 128]⟩
abbrev S5x20x384x192 : Shape := ⟨4, ![5, 20, 384, 192]⟩
abbrev S5x20 : Shape := ⟨2, ![5, 20]⟩
abbrev S20 : Shape := ⟨1, ![20]⟩
abbrev S20x1 : Shape := ⟨2, ![20, 1]⟩
abbrev S1x20x1x1 : Shape := ⟨4, ![1, 20, 1, 1]⟩
abbrev S5x1x384x64 : Shape := ⟨4, ![5, 1, 384, 64]⟩
abbrev S5x20x384x384 : Shape := ⟨4, ![5, 20, 384, 384]⟩
abbrev S5x20x384 : Shape := ⟨3, ![5, 20, 384]⟩
abbrev S5x20x384x1 : Shape := ⟨4, ![5, 20, 384, 1]⟩

abbrev nBuf : Space → Nat
  | .hbm => 24
  | .vmem => 22
  | .smem => 0
  | _ => 0

abbrev bufTy : (tb : Table) → Fin (tcTables nBuf tb) → BufTy
  | .hbm, ⟨0, _⟩ => ⟨S5x384x512, .fp8e4m3⟩
  | .hbm, ⟨1, _⟩ => ⟨S5x384, .f32⟩
  | .hbm, ⟨2, _⟩ => ⟨S5x384x64, .bf16⟩
  | .hbm, ⟨3, _⟩ => ⟨S5x384x20x128, .bf16⟩
  | .hbm, ⟨4, _⟩ => ⟨S5x384x20x64, .bf16⟩
  | .hbm, ⟨5, _⟩ => ⟨S20x512x128, .fp8e4m3⟩
  | .hbm, ⟨6, _⟩ => ⟨S20x128, .f32⟩
  | .hbm, ⟨7, _⟩ => ⟨S20x512x128, .fp8e4m3⟩
  | .hbm, ⟨8, _⟩ => ⟨S20x128, .f32⟩
  | .hbm, ⟨9, _⟩ => ⟨S13x20, .f32⟩
  | .hbm, ⟨10, _⟩ => ⟨S13x20, .f32⟩
  | .hbm, ⟨11, _⟩ => ⟨S13x20, .f32⟩
  | .hbm, ⟨12, _⟩ => ⟨S5x20x384x128, .bf16⟩
  | .hbm, ⟨13, _⟩ => ⟨S5x20x384x64, .bf16⟩
  | .hbm, ⟨14, _⟩ => ⟨S5x20x384x128, .bf16⟩
  | .hbm, ⟨15, _⟩ => ⟨S1x20, .f32⟩
  | .hbm, ⟨16, _⟩ => ⟨S1x20, .f32⟩
  | .hbm, ⟨17, _⟩ => ⟨S1x20, .f32⟩
  | .hbm, ⟨18, _⟩ => ⟨S5x20x192x384, .fp8e4m3⟩
  | .hbm, ⟨19, _⟩ => ⟨S1x20, .f32⟩
  | .hbm, ⟨20, _⟩ => ⟨S5x20x192x384, .fp8e4m3⟩
  | .hbm, ⟨21, _⟩ => ⟨S1x20, .f32⟩
  | .hbm, ⟨22, _⟩ => ⟨S5x20x384x128, .fp8e4m3⟩
  | .hbm, ⟨23, _⟩ => ⟨S1x20, .f32⟩
  | .local _ .vmem, ⟨0, _⟩ => ⟨S5x384x512, .fp8e4m3⟩
  | .local _ .vmem, ⟨1, _⟩ => ⟨S5x384, .f32⟩
  | .local _ .vmem, ⟨2, _⟩ => ⟨S5x384x64, .bf16⟩
  | .local _ .vmem, ⟨3, _⟩ => ⟨S5x20x384x128, .bf16⟩
  | .local _ .vmem, ⟨4, _⟩ => ⟨S5x20x384x64, .bf16⟩
  | .local _ .vmem, ⟨5, _⟩ => ⟨S20x512x128, .fp8e4m3⟩
  | .local _ .vmem, ⟨6, _⟩ => ⟨S20x128, .f32⟩
  | .local _ .vmem, ⟨7, _⟩ => ⟨S20x512x128, .fp8e4m3⟩
  | .local _ .vmem, ⟨8, _⟩ => ⟨S20x128, .f32⟩
  | .local _ .vmem, ⟨9, _⟩ => ⟨S13x20, .f32⟩
  | .local _ .vmem, ⟨10, _⟩ => ⟨S13x20, .f32⟩
  | .local _ .vmem, ⟨11, _⟩ => ⟨S13x20, .f32⟩
  | .local _ .vmem, ⟨12, _⟩ => ⟨S5x20x384x128, .bf16⟩
  | .local _ .vmem, ⟨13, _⟩ => ⟨S1x20, .f32⟩
  | .local _ .vmem, ⟨14, _⟩ => ⟨S1x20, .f32⟩
  | .local _ .vmem, ⟨15, _⟩ => ⟨S1x20, .f32⟩
  | .local _ .vmem, ⟨16, _⟩ => ⟨S5x20x192x384, .fp8e4m3⟩
  | .local _ .vmem, ⟨17, _⟩ => ⟨S1x20, .f32⟩
  | .local _ .vmem, ⟨18, _⟩ => ⟨S5x20x192x384, .fp8e4m3⟩
  | .local _ .vmem, ⟨19, _⟩ => ⟨S1x20, .f32⟩
  | .local _ .vmem, ⟨20, _⟩ => ⟨S5x20x384x128, .fp8e4m3⟩
  | .local _ .vmem, ⟨21, _⟩ => ⟨S1x20, .f32⟩
  | _, _ => ⟨S5x384x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v2_3 : Ref sig .tc := ⟨.hbm, 17, rfl⟩
abbrev main_v2_4 : Ref sig .tc := ⟨.hbm, 18, rfl⟩
abbrev main_v2_5 : Ref sig .tc := ⟨.hbm, 19, rfl⟩
abbrev main_v2_6 : Ref sig .tc := ⟨.hbm, 20, rfl⟩
abbrev main_v2_7 : Ref sig .tc := ⟨.hbm, 21, rfl⟩
abbrev main_v2_8 : Ref sig .tc := ⟨.hbm, 22, rfl⟩
abbrev main_v2_9 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F] [Named F]

def κ : String → Option EReal := fun
  | "sm_scale" => some (((Real.sqrt 192)⁻¹ : ℝ) : EReal)
  | _ => none

abbrev grid0 : Pipeline.Grid := .none

abbrev stage0_0 : Fin 1 → Memref sig .tc .vmem S5x384x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x384x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x20x384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x20x384x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x512x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S20x512x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S20x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S13x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S13x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S13x20 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S5x20x384x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x20 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x20 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x20 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S5x20x192x384 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x20 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S5x20x192x384 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x20 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S5x20x384x128 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x20 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== Proof.KernelRuns.lean ====
/- What the two cases of the body of the given kernel share: the branch condition in closed form, the staging and scratch buffers. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1320000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      (Pipeline.RDat.FramePost.arr_in h c 11 rfl).trans ((hA c 11).trans (V_main_arg11 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S5x384x512 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5x64x384 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5x2x384x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5x2x64x384 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x512x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S20x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x512x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S20x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S13x20 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S13x20 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S13x20 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S5x2x384x128 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x20 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x20 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x20 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S5x2x192x384 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x20 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S5x2x192x384 .fp8e4m3 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x20 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S5x2x384x128 .fp8e4m3 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x20 .f32 := win0_21.stage (cfg0.slots t 21)
abbrev hs0_21 (t : Fin cfg0.N) : (ms0_21 t).IsWhole := hstage0_21 ((cfg0.slots t 21).cast nbuf0_21)
/-- The scratch operands: whole scoped buffers of the kernel's own, passed beside the windows. -/
abbrev scM0_0 : Memref sig .tc .vmem S6x20x128 .f32 := Memref.whole cc0_scratch0
abbrev scM0_1 : Memref sig .tc .vmem S5x384x128 .f32 := Memref.whole cc0_scratch1
abbrev scM0_2 : Memref sig .tc .vmem S8x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KernelRun.lean ====
/- The body of the given kernel at any grid point: every buffer it stores into ends at some contents. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 5292000 in
/-- The body's triple at any point, both cases of its one `scf.if` by the same steps: on whole staging memrefs — the inputs' at their contents,
    the outputs' (12 to 21) at anything, handed back at some contents nothing names — the body runs to the continuation holding the inputs' as
    they were and the scratch at some contents. -/
theorem kernelRun0 (c : Dev nD) (i : grid0.Coords) (arg1 : Memref sig .tc .vmem S5x384x512 .fp8e4m3) (harg1 : arg1.IsWhole) (arg2 : Memref sig .tc .vmem S5x384 .f32) (harg2 : arg2.IsWhole) (arg3 : Memref sig .tc .vmem S5x64x384 .bf16) (harg3 : arg3.IsWhole) (arg4 : Memref sig .tc .vmem S5x2x384x128 .bf16) (harg4 : arg4.IsWhole) (arg5 : Memref sig .tc .vmem S5x2x64x384 .bf16) (harg5 : arg5.IsWhole) (arg6 : Memref sig .tc .vmem S2x512x128 .fp8e4m3) (harg6 : arg6.IsWhole) (arg7 : Memref sig .tc .vmem S20x128 .f32) (harg7 : arg7.IsWhole) (arg8 : Memref sig .tc .vmem S2x512x128 .fp8e4m3) (harg8 : arg8.IsWhole) (arg9 : Memref sig .tc .vmem S20x128 .f32) (harg9 : arg9.IsWhole) (arg10 : Memref sig .tc .vmem S13x20 .f32) (harg10 : arg10.IsWhole) (arg11 : Memref sig .tc .vmem S13x20 .f32) (harg11 : arg11.IsWhole) (arg12 : Memref sig .tc .vmem S13x20 .f32) (harg12 : arg12.IsWhole) (arg13 : Memref sig .tc .vmem S5x2x384x128 .bf16) (harg13 : arg13.IsWhole) (arg14 : Memref sig .tc .vmem S1x20 .f32) (harg14 : arg14.IsWhole) (arg15 : Memref sig .tc .vmem S1x20 .f32) (harg15 : arg15.IsWhole) (arg16 : Memref sig .tc .vmem S1x20 .f32) (harg16 : arg16.IsWhole) (arg17 : Memref sig .tc .vmem S5x2x192x384 .fp8e4m3) (harg17 : arg17.IsWhole) (arg18 : Memref sig .tc .vmem S1x20 .f32) (harg18 : arg18.IsWhole) (arg19 : Memref sig .tc .vmem S5x2x192x384 .fp8e4m3) (harg19 : arg19.IsWhole) (arg20 : Memref sig .tc .vmem S1x20 .f32) (harg20 : arg20.IsWhole) (arg21 : Memref sig .tc .vmem S5x2x384x128 .fp8e4m3) (harg21 : arg21.IsWhole) (arg22 : Memref sig .tc .vmem S1x20 .f32) (harg22 : arg22.IsWhole) (arg23 : Memref sig .tc .vmem S6x20x128 .f32) (harg23 : arg23.IsWhole) (arg24 : Memref sig .tc .vmem S5x384x128 .f32) (harg24 : arg24.IsWhole) (arg25 : Memref sig .tc .vmem S8x128 .f32) (harg25 : arg25.IsWhole)
    (x0 : Vec F S5x384x512 .fp8e4m3) (x1 : Vec F S5x384 .f32) (x2 : Vec F S5x64x384 .bf16) (x3 : Vec F S5x2x384x128 .bf16) (x4 : Vec F S5x2x64x384 .bf16) (x5 : Vec F S2x512x128 .fp8e4m3) (x6 : Vec F S20x128 .f32) (x7 : Vec F S2x512x128 .fp8e4m3) (x8 : Vec F S20x128 .f32) (x9 : Vec F S13x20 .f32) (x10 : Vec F S13x20 .f32) (x11 : Vec F S13x20 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none c none) E (cc0_mla_fp8_prefill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    intro E K
    by_cases hc0 : cond0_0 i
    all_goals
      simp only [cc0_mla_fp8_prefill_eq_skeleton]; unfold cc0_mla_fp8_prefill_skel
      simp only [k0_part70_eq_skeleton, k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%ds1, %fs1, -, HS1⟩, ⟨%ds2, %fs2, -, HS2⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
      sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _; isplitr; · ipureintro; exact harg12.read_unread _
        iexact H11
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      isplitl [H21]
      · iexists _, _; isplitr; swap; · iexact H21
        ipureintro; rfl
      isplitl [HS0]
      · iexists _, _; isplitr; swap; · iexact HS0
        ipureintro; rfl
      isplitl [HS1]
      · iexists _, _; isplitr; swap; · iexact HS1
        ipureintro; rfl
      iexists _, _; isplitr; swap; · iexact HS2
      ipureintro; rfl

end Cert.Kernel.Gen

end
-- ==== Proof.KernelFrame.lean ====
/- The frame of the given kernel: its proof data with the outputs left unnamed, the body obligation, the run. -/
module

public import proofs.«01_k».proof.Proof.KernelRun
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (12, 13, 14, 15, 16, 17, 18, 19, 20, 21): nothing reads what the kernel leaves in them, so nothing
    of it is named (Lib/Pipeline/Dat.lean `Dat.toRForget`). -/
def forgets0 : Fin 22 → Bool := fun w => w.val == 12 || w.val == 13 || w.val == 14 || w.val == 15 || w.val == 16 || w.val == 17 || w.val == 18 || w.val == 19 || w.val == 20 || w.val == 21

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨_ + 22, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d))

set_option maxHeartbeats 4800000 in
/-- The body at any point: the inputs' memrefs hold their blocks (`before0_W`), so the run applies; the invariant hands the body its scratch
    buffers at some contents (and the generator register) and takes them back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  simp only [Dat.leavesExact, liveAt0_0 t, liveAt0_1 t, liveAt0_2 t, liveAt0_3 t, liveAt0_4 t, liveAt0_5 t, liveAt0_6 t, liveAt0_7 t, liveAt0_8 t, liveAt0_9 t, liveAt0_10 t, liveAt0_11 t, after0_0, after0_1, after0_2, after0_3, after0_4, after0_5, after0_6, after0_7, after0_8, after0_9, after0_10, after0_11]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((kernelRun0 c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, H21, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 12, 13, 14, 15, 16, 17, 18, 19, 20, 21) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel.Gen

end
-- ==== Proof.IdealRuns.lean ====
/- What the two cases of the body of the kernel with its constant named share: the branch condition in closed form, the staging and scratch buffers. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S5x384x512 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5x64x384 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5x2x384x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5x2x64x384 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x512x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S20x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x512x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S20x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S13x20 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S13x20 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S13x20 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S5x2x384x128 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x20 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x20 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x20 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S5x2x192x384 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x20 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S5x2x192x384 .fp8e4m3 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x20 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S5x2x384x128 .fp8e4m3 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x20 .f32 := win0_21.stage (cfg0.slots t 21)
abbrev hs0_21 (t : Fin cfg0.N) : (ms0_21 t).IsWhole := hstage0_21 ((cfg0.slots t 21).cast nbuf0_21)
/-- The scratch operands: whole scoped buffers of the kernel's own, passed beside the windows. -/
abbrev scM0_0 : Memref sig .tc .vmem S6x20x128 .f32 := Memref.whole cc0_scratch0
abbrev scM0_1 : Memref sig .tc .vmem S5x384x128 .f32 := Memref.whole cc0_scratch1
abbrev scM0_2 : Memref sig .tc .vmem S8x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.Split.lean ====
/- The body as its first step (run at point 0 only) and the rest, which runs at every point. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Ring
public import Idealize.ShloMosaic.Lib.Tactic
public import Idealize.ShloMosaic.Lib.WordCmp

@[expose] public section

set_option maxRecDepth 16384
set_option synthInstance.maxSize 4096

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the body does at point 0 before the rest: the tables, the transposed token scales, the greatest key
magnitude, the scale rows and the zeroed amax rows. Then the rest. -/
def initThen {α : Type} (i : grid0.Coords) (arg1 : Memref sig .tc .vmem S5x384x512 .fp8e4m3) (harg1 : arg1.IsWhole) (arg2 : Memref sig .tc .vmem S5x384 .f32) (harg2 : arg2.IsWhole) (arg3 : Memref sig .tc .vmem S5x64x384 .bf16) (harg3 : arg3.IsWhole) (arg4 : Memref sig .tc .vmem S5x2x384x128 .bf16) (harg4 : arg4.IsWhole) (arg5 : Memref sig .tc .vmem S5x2x64x384 .bf16) (harg5 : arg5.IsWhole) (arg6 : Memref sig .tc .vmem S2x512x128 .fp8e4m3) (harg6 : arg6.IsWhole) (arg7 : Memref sig .tc .vmem S20x128 .f32) (harg7 : arg7.IsWhole) (arg8 : Memref sig .tc .vmem S2x512x128 .fp8e4m3) (harg8 : arg8.IsWhole) (arg9 : Memref sig .tc .vmem S20x128 .f32) (harg9 : arg9.IsWhole) (arg10 : Memref sig .tc .vmem S13x20 .f32) (harg10 : arg10.IsWhole) (arg11 : Memref sig .tc .vmem S13x20 .f32) (harg11 : arg11.IsWhole) (arg12 : Memref sig .tc .vmem S13x20 .f32) (harg12 : arg12.IsWhole) (arg13 : Memref sig .tc .vmem S5x2x384x128 .bf16) (harg13 : arg13.IsWhole) (arg14 : Memref sig .tc .vmem S1x20 .f32) (harg14 : arg14.IsWhole) (arg15 : Memref sig .tc .vmem S1x20 .f32) (harg15 : arg15.IsWhole) (arg16 : Memref sig .tc .vmem S1x20 .f32) (harg16 : arg16.IsWhole) (arg17 : Memref sig .tc .vmem S5x2x192x384 .fp8e4m3) (harg17 : arg17.IsWhole) (arg18 : Memref sig .tc .vmem S1x20 .f32) (harg18 : arg18.IsWhole) (arg19 : Memref sig .tc .vmem S5x2x192x384 .fp8e4m3) (harg19 : arg19.IsWhole) (arg20 : Memref sig .tc .vmem S1x20 .f32) (harg20 : arg20.IsWhole) (arg21 : Memref sig .tc .vmem S5x2x384x128 .fp8e4m3) (harg21 : arg21.IsWhole) (arg22 : Memref sig .tc .vmem S1x20 .f32) (harg22 : arg22.IsWhole) (arg23 : Memref sig .tc .vmem S6x20x128 .f32) (harg23 : arg23.IsWhole) (arg24 : Memref sig .tc .vmem S5x384x128 .f32) (harg24 : arg24.IsWhole) (arg25 : Memref sig .tc .vmem S8x128 .f32) (harg25 : arg25.IsWhole) (rest : Prog (TpuEff nD τ sig (Elt F) Λ₀ .tc) α) :
    Prog (TpuEff nD τ sig (Elt F) Λ₀ .tc) α := do
  let arg0 : BitVec 32 := BitVec.ofNat 32 (i 0).val

  let ⟨v2134, v2136, v2169, v2171, v2176⟩ : Σ' (v2134 : FVec F S1x20 .f32) (v2136 : FVec F S1x20 .f32) (v2169 : IVec S1x20 32) (v2171 : IVec S1x20 32), IVec S1x20 1 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25
  let ⟨v2219, v2221⟩ : Σ' (v2219 : IVec S20x20 1), FVec F S20x20 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v2134 v2136 v2169 v2171 v2176
  let ⟨v2227, v2229, v2262, v2264, v2265, v2267⟩ : Σ' (v2227 : FVec F S20x128 .f32) (v2229 : FVec F S20x128 .f32) (v2262 : IVec S20x128 32) (v2264 : IVec S20x128 32) (v2265 : FVec F S20x128 .f32), IVec S20x128 32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v2219 v2221
  let ⟨v2308, v2313⟩ : Σ' (v2308 : FVec F S20x128 .f32), FVec F S20x128 .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v2227 v2229 v2262 v2264 v2265 v2267
  let ⟨v2322, v2324, v2349, v2351, v2352, c23_i32_1029⟩ : Σ' (v2322 : FVec F S1x20 .f32) (v2324 : FVec F S1x20 .f32) (v2349 : IVec S1x20 32) (v2351 : IVec S1x20 32) (v2352 : FVec F S1x20 .f32), BitVec 32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v2308 v2313
  let ⟨v2398, v2399⟩ : Σ' (v2398 : IVec S1x20 32), IVec S1x20 32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v2322 v2324 v2349 v2351 v2352 c23_i32_1029
  let ⟨v2415, v2417, v2442, v2444⟩ : Σ' (v2415 : FVec F S20x128 .f32) (v2417 : FVec F S20x128 .f32) (v2442 : IVec S20x128 32), IVec S20x128 32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v2322 v2398 v2399
  let v2491 : IVec S20x128 32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v2415 v2417 v2442 v2444
  let ⟨v2510, v2512, v2529, c32_i32_1089⟩ : Σ' (v2510 : FVec F S1x20 .f32) (v2512 : FVec F S1x20 .f32) (v2529 : IVec S1x20 32), BitVec 32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v2491
  let ⟨v2577, cst_1101⟩ : Σ' (v2577 : IVec S1x20 32), F .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v2512 v2529 c32_i32_1089
  let ⟨v2603, v2605, v2614, v2616, v2621⟩ : Σ' (v2603 : FVec F S20x128 .f32) (v2605 : FVec F S20x128 .f32) (v2614 : IVec S20x128 32) (v2616 : IVec S20x128 32), IVec S20x128 1 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v2510 v2577 cst_1101
  let ⟨v2662, v2664, v2669⟩ : Σ' (v2662 : IVec S20x128 32) (v2664 : IVec S20x128 32), IVec S20x128 1 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v2605 v2614 v2616 v2621
  let v2705 : FVec F S128x128 .f32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v2603 v2662 v2664 v2669
  k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v2705
  let v2769 : FVec F S128x128 .f32 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25
  k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v2769
  let v2801 : Vec F S5x64x384 .bf16 ← Prog.lift (.load arg3 (Rect.unit (s := S5x64x384) ![0, 0, 0] S5x64x384.size inb_S5x64x384_S5x64x384_0_0_0).toLoadRect (View.loadsAt_vmem h_S5x64x384))

  let v2812 : Vec F S8x128 .f32 ← Prog.lift (.load arg25 (Rect.unit (s := S8x128) ![0, 0] S8x128.size inb_S8x128_S8x128_0_0).toLoadRect (View.loadsAt_vmem h_S8x128))

  Prog.lift (.store arg25 (Rect.unit (s := S8x128) ![0, 0] S8x128.size inb_S8x128_S8x128_0_0) (k0_pay69 v2801) Finset.univ (View.stores_vmem_bits_univ h_S8x128 rfl) (.inl rfl))
  let v2816 : Vec F S1x20 .f32 ← Prog.lift (.load arg14 (Rect.unit (s := S1x20) ![0, 0] S1x20.size inb_S1x20_S1x20_0_0).toLoadRect (View.loadsAt_vmem h_S1x20))
  Prog.lift (.store arg14 (Rect.unit (s := S1x20) ![0, 0] S1x20.size inb_S1x20_S1x20_0_0) (k0_pay70 (F := F)) Finset.univ (View.stores_vmem_bits_univ h_S1x20 rfl) (.inl rfl))
  let v2818 : Vec F S1x20 .f32 ← Prog.lift (.load arg15 (Rect.unit (s := S1x20) ![0, 0] S1x20.size inb_S1x20_S1x20_0_0).toLoadRect (View.loadsAt_vmem h_S1x20))
  Prog.lift (.store arg15 (Rect.unit (s := S1x20) ![0, 0] S1x20.size inb_S1x20_S1x20_0_0) (k0_pay71 (F := F)) Finset.univ (View.stores_vmem_bits_univ h_S1x20 rfl) (.inl rfl))
  let v2820 : Vec F S1x20 .f32 ← Prog.lift (.load arg16 (Rect.unit (s := S1x20) ![0, 0] S1x20.size inb_S1x20_S1x20_0_0).toLoadRect (View.loadsAt_vmem h_S1x20))
  Prog.lift (.store arg16 (Rect.unit (s := S1x20) ![0, 0] S1x20.size inb_S1x20_S1x20_0_0) (k0_pay72 (F := F)) Finset.univ (View.stores_vmem_bits_univ h_S1x20 rfl) (.inl rfl))
  rest

/-- The first part of the body after that branch. -/
def rest17 (i : grid0.Coords) (arg1 : Memref sig .tc .vmem S5x384x512 .fp8e4m3) (harg1 : arg1.IsWhole) (arg2 : Memref sig .tc .vmem S5x384 .f32) (harg2 : arg2.IsWhole) (arg3 : Memref sig .tc .vmem S5x64x384 .bf16) (harg3 : arg3.IsWhole) (arg4 : Memref sig .tc .vmem S5x2x384x128 .bf16) (harg4 : arg4.IsWhole) (arg5 : Memref sig .tc .vmem S5x2x64x384 .bf16) (harg5 : arg5.IsWhole) (arg6 : Memref sig .tc .vmem S2x512x128 .fp8e4m3) (harg6 : arg6.IsWhole) (arg7 : Memref sig .tc .vmem S20x128 .f32) (harg7 : arg7.IsWhole) (arg8 : Memref sig .tc .vmem S2x512x128 .fp8e4m3) (harg8 : arg8.IsWhole) (arg9 : Memref sig .tc .vmem S20x128 .f32) (harg9 : arg9.IsWhole) (arg10 : Memref sig .tc .vmem S13x20 .f32) (harg10 : arg10.IsWhole) (arg11 : Memref sig .tc .vmem S13x20 .f32) (harg11 : arg11.IsWhole) (arg12 : Memref sig .tc .vmem S13x20 .f32) (harg12 : arg12.IsWhole) (arg13 : Memref sig .tc .vmem S5x2x384x128 .bf16) (harg13 : arg13.IsWhole) (arg14 : Memref sig .tc .vmem S1x20 .f32) (harg14 : arg14.IsWhole) (arg15 : Memref sig .tc .vmem S1x20 .f32) (harg15 : arg15.IsWhole) (arg16 : Memref sig .tc .vmem S1x20 .f32) (harg16 : arg16.IsWhole) (arg17 : Memref sig .tc .vmem S5x2x192x384 .fp8e4m3) (harg17 : arg17.IsWhole) (arg18 : Memref sig .tc .vmem S1x20 .f32) (harg18 : arg18.IsWhole) (arg19 : Memref sig .tc .vmem S5x2x192x384 .fp8e4m3) (harg19 : arg19.IsWhole) (arg20 : Memref sig .tc .vmem S1x20 .f32) (harg20 : arg20.IsWhole) (arg21 : Memref sig .tc .vmem S5x2x384x128 .fp8e4m3) (harg21 : arg21.IsWhole) (arg22 : Memref sig .tc .vmem S1x20 .f32) (harg22 : arg22.IsWhole) (arg23 : Memref sig .tc .vmem S6x20x128 .f32) (harg23 : arg23.IsWhole) (arg24 : Memref sig .tc .vmem S5x384x128 .f32) (harg24 : arg24.IsWhole) (arg25 : Memref sig .tc .vmem S8x128 .f32) (harg25 : arg25.IsWhole) :
    Prog (TpuEff nD τ sig (Elt F) Λ₀ .tc) (Σ' (v3 : IVec S1x20 32) (v6 : IVec S128x128 1) (v13 : FVec F S256x512 .fp8e4m3) (v18 : FVec F S512x256 .fp8e4m3) (v20 : BitVec 32) (v22 : BitVec 32) (v25 : FVec F S1x128 .f32) (v28 : FVec F S1x128 .f32), FVec F S1x128 .f32) := do
  let arg0 : BitVec 32 := BitVec.ofNat 32 (i 0).val

  have v3 : IVec S1x20 32 := iota .tc S1x20 32 [1] iota_S1x20_d1_w32
  let v7 : Vec F S1x512x128 .fp8e4m3 ← Prog.lift (.load arg6 (Rect.unit (s := S2x512x128) ![0, 0, 0] S1x512x128.size inb_S2x512x128_S1x512x128_0_0_0).toLoadRect (View.loadsAt_vmem h_S1x512x128))
  let v10 : Vec F S1x512x128 .fp8e4m3 ← Prog.lift (.load arg6 (Rect.unit (s := S2x512x128) ![1, 0, 0] S1x512x128.size inb_S2x512x128_S1x512x128_1_0_0).toLoadRect (View.loadsAt_vmem h_S1x512x128))
  let v14 : Vec F S1x512x128 .fp8e4m3 ← Prog.lift (.load arg8 (Rect.unit (s := S2x512x128) ![0, 0, 0] S1x512x128.size inb_S2x512x128_S1x512x128_0_0_0).toLoadRect (View.loadsAt_vmem h_S1x512x128))
  let v16 : Vec F S1x512x128 .fp8e4m3 ← Prog.lift (.load arg8 (Rect.unit (s := S2x512x128) ![1, 0, 0] S1x512x128.size inb_S2x512x128_S1x512x128_1_0_0).toLoadRect (View.loadsAt_vmem h_S1x512x128))
  let v19 : BitVec 32 := Scalar.muli arg0 2#32
  let v20 : BitVec 32 := Scalar.addi v19 0#32
  let v21 : BitVec 32 := Scalar.muli arg0 2#32
  let v22 : BitVec 32 := Scalar.addi v21 1#32

  let v24 : Vec F S1x1x128 .f32 ← Prog.lift (.load arg23 (Rect.unit (s := S6x20x128) (k0_off1 i 0#32) S1x1x128.size (k0_off1_inb i 0)).toLoadRect (View.loadsAt_vmem h_S1x1x128))

  let v27 : Vec F S1x1x128 .f32 ← Prog.lift (.load arg23 (Rect.unit (s := S6x20x128) (k0_off2 i 0#32) S1x1x128.size (k0_off2_inb i 0)).toLoadRect (View.loadsAt_vmem h_S1x1x128))

  let v30 : Vec F S1x1x128 .f32 ← Prog.lift (.load arg23 (Rect.unit (s := S6x20x128) (k0_off3 i 0#32) S1x1x128.size (k0_off3_inb i 0)).toLoadRect (View.loadsAt_vmem h_S1x1x128))

  pure ⟨v3, k0_pay73, k0_pay74 v7 v10, k0_pay75 v14 v16, v20, v22, k0_pay76 v24, k0_pay77 v27, k0_pay78 v30⟩

/-- The body after its first part, up to its last store. -/
def rest70 (i : grid0.Coords) (arg1 : Memref sig .tc .vmem S5x384x512 .fp8e4m3) (harg1 : arg1.IsWhole) (arg2 : Memref sig .tc .vmem S5x384 .f32) (harg2 : arg2.IsWhole) (arg3 : Memref sig .tc .vmem S5x64x384 .bf16) (harg3 : arg3.IsWhole) (arg4 : Memref sig .tc .vmem S5x2x384x128 .bf16) (harg4 : arg4.IsWhole) (arg5 : Memref sig .tc .vmem S5x2x64x384 .bf16) (harg5 : arg5.IsWhole) (arg6 : Memref sig .tc .vmem S2x512x128 .fp8e4m3) (harg6 : arg6.IsWhole) (arg7 : Memref sig .tc .vmem S20x128 .f32) (harg7 : arg7.IsWhole) (arg8 : Memref sig .tc .vmem S2x512x128 .fp8e4m3) (harg8 : arg8.IsWhole) (arg9 : Memref sig .tc .vmem S20x128 .f32) (harg9 : arg9.IsWhole) (arg10 : Memref sig .tc .vmem S13x20 .f32) (harg10 : arg10.IsWhole) (arg11 : Memref sig .tc .vmem S13x20 .f32) (harg11 : arg11.IsWhole) (arg12 : Memref sig .tc .vmem S13x20 .f32) (harg12 : arg12.IsWhole) (arg13 : Memref sig .tc .vmem S5x2x384x128 .bf16) (harg13 : arg13.IsWhole) (arg14 : Memref sig .tc .vmem S1x20 .f32) (harg14 : arg14.IsWhole) (arg15 : Memref sig .tc .vmem S1x20 .f32) (harg15 : arg15.IsWhole) (arg16 : Memref sig .tc .vmem S1x20 .f32) (harg16 : arg16.IsWhole) (arg17 : Memref sig .tc .vmem S5x2x192x384 .fp8e4m3) (harg17 : arg17.IsWhole) (arg18 : Memref sig .tc .vmem S1x20 .f32) (harg18 : arg18.IsWhole) (arg19 : Memref sig .tc .vmem S5x2x192x384 .fp8e4m3) (harg19 : arg19.IsWhole) (arg20 : Memref sig .tc .vmem S1x20 .f32) (harg20 : arg20.IsWhole) (arg21 : Memref sig .tc .vmem S5x2x384x128 .fp8e4m3) (harg21 : arg21.IsWhole) (arg22 : Memref sig .tc .vmem S1x20 .f32) (harg22 : arg22.IsWhole) (arg23 : Memref sig .tc .vmem S6x20x128 .f32) (harg23 : arg23.IsWhole) (arg24 : Memref sig .tc .vmem S5x384x128 .f32) (harg24 : arg24.IsWhole) (arg25 : Memref sig .tc .vmem S8x128 .f32) (harg25 : arg25.IsWhole) (first : Prog (TpuEff nD τ sig (Elt F) Λ₀ .tc) (Σ' (v3 : IVec S1x20 32) (v6 : IVec S128x128 1) (v13 : FVec F S256x512 .fp8e4m3) (v18 : FVec F S512x256 .fp8e4m3) (v20 : BitVec 32) (v22 : BitVec 32) (v25 : FVec F S1x128 .f32) (v28 : FVec F S1x128 .f32), FVec F S1x128 .f32)) :
    Prog (TpuEff nD τ sig (Elt F) Λ₀ .tc) (Σ' (v2100 : IVec S1x20 1) (v2113 : FVec F S1x1 .f32), Vec F S1x20 .f32) := do
  let ⟨v3, v6, v13, v18, v20, v22, v25, v28, v31⟩ : Σ' (v3 : IVec S1x20 32) (v6 : IVec S128x128 1) (v13 : FVec F S256x512 .fp8e4m3) (v18 : FVec F S512x256 .fp8e4m3) (v20 : BitVec 32) (v22 : BitVec 32) (v25 : FVec F S1x128 .f32) (v28 : FVec F S1x128 .f32), FVec F S1x128 .f32 ← first
  let ⟨v34, v37, v43, v46, v49, v52, v55, v58, v64, v67, v72⟩ : Σ' (v34 : FVec F S1x128 .f32) (v37 : FVec F S1x128 .f32) (v43 : FVec F S1x128 .f32) (v46 : FVec F S1x128 .f32) (v49 : FVec F S1x128 .f32) (v52 : FVec F S1x128 .f32) (v55 : FVec F S1x128 .f32) (v58 : FVec F S1x128 .f32) (v64 : FVec F S128x128 .f32) (v67 : FVec F S1x128 .f32), FVec F S128x128 .f32 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v20 v22
  let ⟨v73, v76, v79, v80, v81, v89, v110⟩ : Σ' (v73 : FVec F S128x128 .f32) (v76 : FVec F S1x128 .f32) (v79 : Vec F S1x384 .f32) (v80 : FVec F S256x384 .f32) (v81 : FVec F S384x256 .f32) (v89 : FVec F S1x384 .f32), FVec F S64x384 .fp8e4m3 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v13 v18 v22 v34 v58 v64 v72
  let ⟨v122, v127, v132, v134, v144, v145⟩ : Σ' (v122 : FVec F S1x128 .f32) (v127 : FVec F S384x128 .fp8e4m3) (v132 : FVec F S384x128 .bf16) (v134 : FVec F S64x384 .bf16) (v144 : FVec F S1x128 .bf16), FVec F S1x128 .bf16 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v67 v81 v110
  let ⟨v146, v177, v179, v182, v185⟩ : Σ' (v146 : FVec F S1x128 .bf16) (v177 : FVec F S384x192 .fp8e4m3) (v179 : FVec F S192x384 .fp8e4m3) (v182 : FVec F S1x128 .f32), FVec F S128x128 .f32 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v25 v28 v31 v132 v134 v144 v145
  let ⟨v227, v229, cst_110⟩ : Σ' (v227 : FVec F S128x256 .f32) (v229 : FVec F S128x1 .f32), F .f32 ← k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v37 v127 v177 v179 v182 v185
  let v272 : FVec F S128x128 .bf16 ← k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v37 v127 v177 v179 v182 v227 v229 cst_110
  let ⟨v283, v308, v309⟩ : Σ' (v283 : FVec F S1x384 .f32) (v308 : FVec F S384x128 .f32), Vec F S1x384x128 .f32 ← k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v52 v73 v79 v80 v81 v272
  let ⟨v316, v321, v328, v340, v341, v349⟩ : Σ' (v316 : FVec F S1x128 .f32) (v321 : FVec F S384x128 .fp8e4m3) (v328 : FVec F S64x384 .bf16) (v340 : FVec F S1x128 .bf16) (v341 : FVec F S1x128 .bf16), FVec F S384x128 .bf16 ← k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v46 v76 v308 v309
  let ⟨v371, v373, v376, v388⟩ : Σ' (v371 : FVec F S384x192 .fp8e4m3) (v373 : FVec F S192x384 .fp8e4m3) (v376 : FVec F S1x128 .f32), FVec F S128x128 .f32 ← k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v43 v49 v328 v341 v349
  let ⟨v430, v433⟩ : Σ' (v430 : FVec F S128x128 .f32), FVec F S128x128 .f32 ← k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v55 v321 v371 v373 v376 v388
  let v471 : FVec F S384x512 .fp8e4m3 ← k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v55 v321 v371 v373 v376 v430 v433
  let ⟨v472, v473, v474, v483, v508⟩ : Σ' (v472 : Vec F S1x384 .f32) (v473 : FVec F S256x384 .f32) (v474 : FVec F S384x256 .f32) (v483 : FVec F S1x384 .f32), FVec F S384x128 .f32 ← k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v13 v18 v34 v64 v89 v471
  let ⟨v517, v522, v529, v542, v543, cst_257, v548⟩ : Σ' (v517 : FVec F S1x128 .f32) (v522 : FVec F S384x128 .fp8e4m3) (v529 : FVec F S64x384 .bf16) (v542 : FVec F S1x128 .bf16) (v543 : FVec F S1x128 .bf16) (cst_257 : F .f32), FVec F S384x128 .bf16 ← k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v28 v67 v122 v146 v508
  let ⟨v573, v575, v578, v587, v588⟩ : Σ' (v573 : FVec F S384x192 .fp8e4m3) (v575 : FVec F S192x384 .fp8e4m3) (v578 : FVec F S1x128 .f32) (v587 : FVec F S128x128 .f32), FVec F S128x128 .f32 ← k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v25 v31 v529 v543 cst_257 v548
  let ⟨v625, v632⟩ : Σ' (v625 : FVec F S128x1 .f32), FVec F S128x128 .f32 ← k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v37 v522 v573 v575 v578 v587 v588
  let ⟨v674, v675⟩ : Σ' (v674 : FVec F S128x384 .f32), FVec F S128x384 .f32 ← k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v37 v73 v472 v473 v522 v573 v575 v578 v625 v632
  let ⟨v680, v710, v713⟩ : Σ' (v680 : FVec F S1x384 .f32) (v710 : FVec F S384x128 .f32), FVec F S1x128 .f32 ← k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v52 v76 v283 v474 v674 v675
  let ⟨v714, v719, v739, v748, v751, cst_345, v752⟩ : Σ' (v714 : FVec F S1x128 .f32) (v719 : FVec F S384x128 .fp8e4m3) (v739 : FVec F S1x128 .bf16) (v748 : FVec F S384x128 .bf16) (v751 : FVec F S64x384 .bf16) (cst_345 : F .f32), F .bf16 ← k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v46 v316 v340 v710 v713
  let ⟨v770, v772, v775, v789, cst_364, v791⟩ : Σ' (v770 : FVec F S384x192 .fp8e4m3) (v772 : FVec F S192x384 .fp8e4m3) (v775 : FVec F S1x128 .f32) (v789 : FVec F S128x1 .f32) (cst_364 : F .f32), FVec F S128x128 .f32 ← k0_part36 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v43 v49 v748 v751 cst_345 v752
  let v834 : FVec F S128x128 .bf16 ← k0_part37 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v55 v719 v770 v772 v775 v789 cst_364 v791
  let ⟨v871, v872, v873, v874⟩ : Σ' (v871 : Vec F S1x384 .f32) (v872 : FVec F S256x384 .f32) (v873 : FVec F S384x256 .f32), FVec F S128x384 .f32 ← k0_part38 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v13 v18 v55 v719 v770 v772 v775 v834
  let ⟨v882, v912, v913⟩ : Σ' (v882 : FVec F S1x384 .f32) (v912 : FVec F S384x128 .f32), FVec F S384x128 .f32 ← k0_part39 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v34 v64 v67 v483 v871 v873 v874
  let ⟨v916, v921, v941, v950, v953⟩ : Σ' (v916 : FVec F S1x128 .f32) (v921 : FVec F S384x128 .fp8e4m3) (v941 : FVec F S1x128 .bf16) (v950 : FVec F S384x128 .bf16), FVec F S64x384 .bf16 ← k0_part40 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v28 v517 v542 v912 v913
  let ⟨v972, v974, v977, v989, v991, cst_456⟩ : Σ' (v972 : FVec F S384x192 .fp8e4m3) (v974 : FVec F S192x384 .fp8e4m3) (v977 : FVec F S1x128 .f32) (v989 : FVec F S128x128 .f32) (v991 : FVec F S128x1 .f32), F .f32 ← k0_part41 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v25 v31 v950 v953
  let v1036 : FVec F S128x128 .bf16 ← k0_part42 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v37 v921 v972 v974 v977 v989 v991 cst_456
  let ⟨v1075, v1079⟩ : Σ' (v1075 : FVec F S128x384 .f32), FVec F S1x384 .f32 ← k0_part43 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v37 v73 v680 v871 v872 v921 v972 v974 v977 v1036
  let ⟨v1113, v1115, v1116⟩ : Σ' (v1113 : FVec F S1x128 .f32) (v1115 : FVec F S384x128 .f32), FVec F S384x128 .f32 ← k0_part44 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v52 v76 v714 v873 v1075
  let ⟨v1118, v1138, v1147, v1156, v1157⟩ : Σ' (v1118 : FVec F S384x128 .fp8e4m3) (v1138 : FVec F S1x128 .bf16) (v1147 : FVec F S384x128 .bf16) (v1156 : FVec F S64x384 .bf16), FVec F S128x384 .bf16 ← k0_part45 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v46 v739 v1115 v1116
  let ⟨v1169, v1171, v1174, v1188, v1195⟩ : Σ' (v1169 : FVec F S384x192 .fp8e4m3) (v1171 : FVec F S192x384 .fp8e4m3) (v1174 : FVec F S1x128 .f32) (v1188 : FVec F S128x1 .f32), FVec F S128x128 .f32 ← k0_part46 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v43 v49 v1118 v1147 v1156 v1157
  let ⟨v1237, cst_560⟩ : Σ' (v1237 : FVec F S128x192 .fp8e4m3), FVec F S128x384 .f32 ← k0_part47 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v55 v1118 v1169 v1171 v1174 v1188 v1195
  let ⟨v1270, v1271, v1272, v1277, v1278⟩ : Σ' (v1270 : Vec F S1x384 .f32) (v1271 : FVec F S256x384 .f32) (v1272 : FVec F S384x256 .f32) (v1277 : FVec F S128x384 .f32), FVec F S128x384 .f32 ← k0_part48 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v13 v18 v55 v64 v1118 v1171 v1174 v1237 cst_560
  let ⟨v1281, v1311, v1315, cst_598, cst_599⟩ : Σ' (v1281 : FVec F S1x384 .f32) (v1311 : FVec F S384x128 .f32) (v1315 : FVec F S1x128 .f32) (cst_598 : F .f32), F .f32 ← k0_part49 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v34 v67 v882 v916 v1272 v1277 v1278
  let ⟨v1320, v1340, v1349, v1355, v1356⟩ : Σ' (v1320 : FVec F S384x128 .fp8e4m3) (v1340 : FVec F S1x128 .bf16) (v1349 : FVec F S384x128 .bf16) (v1355 : FVec F S64x384 .bf16), F .bf16 ← k0_part50 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v28 v941 v1311 cst_598 cst_599
  let ⟨v1371, v1373, v1376, v1390, v1395⟩ : Σ' (v1371 : FVec F S384x192 .fp8e4m3) (v1373 : FVec F S192x384 .fp8e4m3) (v1376 : FVec F S1x128 .f32) (v1390 : FVec F S128x1 .f32), FVec F S128x128 .fp8e4m3 ← k0_part51 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v25 v31 v1349 v1355 v1356
  let v1438 : FVec F S1x1x128x128 .bf16 ← k0_part52 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v37 v1320 v1371 v1373 v1376 v1390 v1395
  let ⟨v1478, v1482⟩ : Σ' (v1478 : FVec F S1x384 .f32), FVec F S128x384 .f32 ← k0_part53 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v37 v73 v1079 v1270 v1271 v1320 v1371 v1373 v1376 v1438
  let ⟨v1512, v1517⟩ : Σ' (v1512 : FVec F S1x128 .f32), FVec F S384x128 .fp8e4m3 ← k0_part54 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v52 v76 v1113 v1272 v1482
  let ⟨v1537, v1546, v1555, v1557, v1558⟩ : Σ' (v1537 : FVec F S1x128 .bf16) (v1546 : FVec F S384x128 .bf16) (v1555 : FVec F S64x384 .bf16) (v1557 : FVec F S128x384 .fp8e4m3), Vec F S1x1x128x384 .fp8e4m3 ← k0_part55 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v46 v1138 v1517
  let ⟨v1568, v1570, v1573, v1599⟩ : Σ' (v1568 : FVec F S384x192 .fp8e4m3) (v1570 : FVec F S192x384 .fp8e4m3) (v1573 : FVec F S1x128 .f32), FVec F S128x128 .bf16 ← k0_part56 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v43 v49 v55 v1517 v1546 v1555 v1557 v1558
  let ⟨v1640, v1641⟩ : Σ' (v1640 : FVec F S128x128 .f32), FVec F S128x256 .f32 ← k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v55 v1517 v1568 v1570 v1573 v1599
  let ⟨v1669, v1670, v1671, v1676, v1680, cst_759, v1681⟩ : Σ' (v1669 : Vec F S1x384 .f32) (v1670 : FVec F S256x384 .f32) (v1671 : FVec F S384x256 .f32) (v1676 : FVec F S128x384 .f32) (v1680 : FVec F S1x384 .f32) (cst_759 : F .f32), FVec F S128x384 .f32 ← k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v13 v18 v55 v64 v1281 v1517 v1573 v1640 v1641
  let ⟨v1714, v1719⟩ : Σ' (v1714 : FVec F S1x128 .f32), FVec F S384x128 .fp8e4m3 ← k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v34 v67 v1315 v1671 v1676 cst_759 v1681
  let ⟨v1739, v1748, v1757, v1759⟩ : Σ' (v1739 : FVec F S1x128 .bf16) (v1748 : FVec F S384x128 .bf16) (v1757 : FVec F S64x384 .bf16), FVec F S128x384 .fp8e4m3 ← k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v28 v1340 v1719
  let ⟨v1770, v1772, v1775, v1796, v1799⟩ : Σ' (v1770 : FVec F S384x192 .fp8e4m3) (v1772 : FVec F S192x384 .fp8e4m3) (v1775 : FVec F S1x128 .f32) (v1796 : FVec F S128x128 .f32), FVec F S128x128 .f32 ← k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v25 v31 v37 v1719 v1748 v1757 v1759
  let ⟨v1839, v1840, cst_833⟩ : Σ' (v1839 : FVec F S128x384 .f32) (v1840 : FVec F S128x128 .f32), F .f32 ← k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v37 v1719 v1770 v1772 v1775 v1796 v1799
  let ⟨v1877, v1882, v1883⟩ : Σ' (v1877 : FVec F S1x384 .f32) (v1882 : FVec F S128x384 .fp8e4m3), Vec F S1x1x128x384 .fp8e4m3 ← k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v37 v73 v1478 v1669 v1670 v1719 v1775 v1839 v1840 cst_833
  let ⟨v1911, v1916⟩ : Σ' (v1911 : FVec F S1x128 .f32), FVec F S384x128 .fp8e4m3 ← k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v52 v76 v1512 v1671 v1882 v1883
  let ⟨v1936, v1945, v1954, v1960⟩ : Σ' (v1936 : FVec F S1x128 .bf16) (v1945 : FVec F S384x128 .bf16) (v1954 : FVec F S64x384 .bf16), FVec F S64x384 .fp8e4m3 ← k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v46 v1537
  let ⟨v1967, v1969, v1972, v2001⟩ : Σ' (v1967 : FVec F S384x192 .fp8e4m3) (v1969 : FVec F S192x384 .fp8e4m3) (v1972 : FVec F S1x128 .f32), FVec F S1x1x128x128 .bf16 ← k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v43 v49 v55 v1916 v1945 v1954 v1960
  let v2045 : FVec F S128x384 .f32 ← k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v55 v1916 v1967 v1969 v1972 v2001
  let ⟨v2067, v2076, v2080⟩ : Σ' (v2067 : IVec S1x20 1) (v2076 : FVec F S1x1 .f32), FVec F S1x1 .f32 ← k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v20 v31 v37 v55 v1680 v1714 v1739 v1916 v1972 v2045
  let ⟨v2100, v2113, v2124⟩ : Σ' (v2100 : IVec S1x20 1) (v2113 : FVec F S1x1 .f32), FVec F S1x20 .f32 ← k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v22 v49 v55 v1877 v1911 v1936 v2067 v2076 v2080
  let v2125 : Vec F S1x20 .f32 ← Prog.lift (.load arg15 (Rect.unit (s := S1x20) ![0, 0] S1x20.size inb_S1x20_S1x20_0_0).toLoadRect (View.loadsAt_vmem h_S1x20))
  Prog.lift (.store arg15 (Rect.unit (s := S1x20) ![0, 0] S1x20.size inb_S1x20_S1x20_0_0) v2124 Finset.univ (View.stores_vmem_bits_univ h_S1x20 rfl) (.inl rfl))
  let v2126 : Vec F S1x20 .f32 ← Prog.lift (.load arg16 (Rect.unit (s := S1x20) ![0, 0] S1x20.size inb_S1x20_S1x20_0_0).toLoadRect (View.loadsAt_vmem h_S1x20))
  pure ⟨v2100, v2113, v2126⟩

/-- The body after its first part. -/
def restProg (i : grid0.Coords) (arg1 : Memref sig .tc .vmem S5x384x512 .fp8e4m3) (harg1 : arg1.IsWhole) (arg2 : Memref sig .tc .vmem S5x384 .f32) (harg2 : arg2.IsWhole) (arg3 : Memref sig .tc .vmem S5x64x384 .bf16) (harg3 : arg3.IsWhole) (arg4 : Memref sig .tc .vmem S5x2x384x128 .bf16) (harg4 : arg4.IsWhole) (arg5 : Memref sig .tc .vmem S5x2x64x384 .bf16) (harg5 : arg5.IsWhole) (arg6 : Memref sig .tc .vmem S2x512x128 .fp8e4m3) (harg6 : arg6.IsWhole) (arg7 : Memref sig .tc .vmem S20x128 .f32) (harg7 : arg7.IsWhole) (arg8 : Memref sig .tc .vmem S2x512x128 .fp8e4m3) (harg8 : arg8.IsWhole) (arg9 : Memref sig .tc .vmem S20x128 .f32) (harg9 : arg9.IsWhole) (arg10 : Memref sig .tc .vmem S13x20 .f32) (harg10 : arg10.IsWhole) (arg11 : Memref sig .tc .vmem S13x20 .f32) (harg11 : arg11.IsWhole) (arg12 : Memref sig .tc .vmem S13x20 .f32) (harg12 : arg12.IsWhole) (arg13 : Memref sig .tc .vmem S5x2x384x128 .bf16) (harg13 : arg13.IsWhole) (arg14 : Memref sig .tc .vmem S1x20 .f32) (harg14 : arg14.IsWhole) (arg15 : Memref sig .tc .vmem S1x20 .f32) (harg15 : arg15.IsWhole) (arg16 : Memref sig .tc .vmem S1x20 .f32) (harg16 : arg16.IsWhole) (arg17 : Memref sig .tc .vmem S5x2x192x384 .fp8e4m3) (harg17 : arg17.IsWhole) (arg18 : Memref sig .tc .vmem S1x20 .f32) (harg18 : arg18.IsWhole) (arg19 : Memref sig .tc .vmem S5x2x192x384 .fp8e4m3) (harg19 : arg19.IsWhole) (arg20 : Memref sig .tc .vmem S1x20 .f32) (harg20 : arg20.IsWhole) (arg21 : Memref sig .tc .vmem S5x2x384x128 .fp8e4m3) (harg21 : arg21.IsWhole) (arg22 : Memref sig .tc .vmem S1x20 .f32) (harg22 : arg22.IsWhole) (arg23 : Memref sig .tc .vmem S6x20x128 .f32) (harg23 : arg23.IsWhole) (arg24 : Memref sig .tc .vmem S5x384x128 .f32) (harg24 : arg24.IsWhole) (arg25 : Memref sig .tc .vmem S8x128 .f32) (harg25 : arg25.IsWhole) (first : Prog (TpuEff nD τ sig (Elt F) Λ₀ .tc) (Σ' (v3 : IVec S1x20 32) (v6 : IVec S128x128 1) (v13 : FVec F S256x512 .fp8e4m3) (v18 : FVec F S512x256 .fp8e4m3) (v20 : BitVec 32) (v22 : BitVec 32) (v25 : FVec F S1x128 .f32) (v28 : FVec F S1x128 .f32), FVec F S1x128 .f32)) :
    Prog (TpuEff nD τ sig (Elt F) Λ₀ .tc) PUnit := do
  let ⟨v2100, v2113, v2126⟩ : Σ' (v2100 : IVec S1x20 1) (v2113 : FVec F S1x1 .f32), Vec F S1x20 .f32 ← rest70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 first
  let v2131 : Vec F S1x20 .f32 ← Prog.lift (.load arg16 (Rect.unit (s := S1x20) ![0, 0] S1x20.size inb_S1x20_S1x20_0_0).toLoadRect (View.loadsAt_vmem h_S1x20))
  Prog.lift (.store arg16 (Rect.unit (s := S1x20) ![0, 0] S1x20.size inb_S1x20_S1x20_0_0) (k0_pay1 v2100 v2113 v2126) Finset.univ (View.stores_vmem_bits_univ h_S1x20 rfl) (.inl rfl))
  pure ⟨⟩

/-- What follows the first part is a continuation of it. -/
theorem wp_restProg (c : Dev nD) (i : grid0.Coords) (arg1 : Memref sig .tc .vmem S5x384x512 .fp8e4m3) (harg1 : arg1.IsWhole) (arg2 : Memref sig .tc .vmem S5x384 .f32) (harg2 : arg2.IsWhole) (arg3 : Memref sig .tc .vmem S5x64x384 .bf16) (harg3 : arg3.IsWhole) (arg4 : Memref sig .tc .vmem S5x2x384x128 .bf16) (harg4 : arg4.IsWhole) (arg5 : Memref sig .tc .vmem S5x2x64x384 .bf16) (harg5 : arg5.IsWhole) (arg6 : Memref sig .tc .vmem S2x512x128 .fp8e4m3) (harg6 : arg6.IsWhole) (arg7 : Memref sig .tc .vmem S20x128 .f32) (harg7 : arg7.IsWhole) (arg8 : Memref sig .tc .vmem S2x512x128 .fp8e4m3) (harg8 : arg8.IsWhole) (arg9 : Memref sig .tc .vmem S20x128 .f32) (harg9 : arg9.IsWhole) (arg10 : Memref sig .tc .vmem S13x20 .f32) (harg10 : arg10.IsWhole) (arg11 : Memref sig .tc .vmem S13x20 .f32) (harg11 : arg11.IsWhole) (arg12 : Memref sig .tc .vmem S13x20 .f32) (harg12 : arg12.IsWhole) (arg13 : Memref sig .tc .vmem S5x2x384x128 .bf16) (harg13 : arg13.IsWhole) (arg14 : Memref sig .tc .vmem S1x20 .f32) (harg14 : arg14.IsWhole) (arg15 : Memref sig .tc .vmem S1x20 .f32) (harg15 : arg15.IsWhole) (arg16 : Memref sig .tc .vmem S1x20 .f32) (harg16 : arg16.IsWhole) (arg17 : Memref sig .tc .vmem S5x2x192x384 .fp8e4m3) (harg17 : arg17.IsWhole) (arg18 : Memref sig .tc .vmem S1x20 .f32) (harg18 : arg18.IsWhole) (arg19 : Memref sig .tc .vmem S5x2x192x384 .fp8e4m3) (harg19 : arg19.IsWhole) (arg20 : Memref sig .tc .vmem S1x20 .f32) (harg20 : arg20.IsWhole) (arg21 : Memref sig .tc .vmem S5x2x384x128 .fp8e4m3) (harg21 : arg21.IsWhole) (arg22 : Memref sig .tc .vmem S1x20 .f32) (harg22 : arg22.IsWhole) (arg23 : Memref sig .tc .vmem S6x20x128 .f32) (harg23 : arg23.IsWhole) (arg24 : Memref sig .tc .vmem S5x384x128 .f32) (harg24 : arg24.IsWhole) (arg25 : Memref sig .tc .vmem S8x128 .f32) (harg25 : arg25.IsWhole) (E : Set ℕ) (K : PUnit → sProp 𝕄) :
    ∃ Q, ∀ first, wp frame (wpE (defs₀ (F := F)) Variants.none c none) E (restProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 first) K
      = wp frame (wpE (defs₀ (F := F)) Variants.none c none) E first Q := by
  refine ⟨?_, fun first => ?_⟩
  rotate_left
  · unfold restProg rest70
    rw [wp_bind, wp_bind]

/-- The body is its first part and what follows it. -/
theorem body_eq (i : grid0.Coords) (arg1 : Memref sig .tc .vmem S5x384x512 .fp8e4m3) (harg1 : arg1.IsWhole) (arg2 : Memref sig .tc .vmem S5x384 .f32) (harg2 : arg2.IsWhole) (arg3 : Memref sig .tc .vmem S5x64x384 .bf16) (harg3 : arg3.IsWhole) (arg4 : Memref sig .tc .vmem S5x2x384x128 .bf16) (harg4 : arg4.IsWhole) (arg5 : Memref sig .tc .vmem S5x2x64x384 .bf16) (harg5 : arg5.IsWhole) (arg6 : Memref sig .tc .vmem S2x512x128 .fp8e4m3) (harg6 : arg6.IsWhole) (arg7 : Memref sig .tc .vmem S20x128 .f32) (harg7 : arg7.IsWhole) (arg8 : Memref sig .tc .vmem S2x512x128 .fp8e4m3) (harg8 : arg8.IsWhole) (arg9 : Memref sig .tc .vmem S20x128 .f32) (harg9 : arg9.IsWhole) (arg10 : Memref sig .tc .vmem S13x20 .f32) (harg10 : arg10.IsWhole) (arg11 : Memref sig .tc .vmem S13x20 .f32) (harg11 : arg11.IsWhole) (arg12 : Memref sig .tc .vmem S13x20 .f32) (harg12 : arg12.IsWhole) (arg13 : Memref sig .tc .vmem S5x2x384x128 .bf16) (harg13 : arg13.IsWhole) (arg14 : Memref sig .tc .vmem S1x20 .f32) (harg14 : arg14.IsWhole) (arg15 : Memref sig .tc .vmem S1x20 .f32) (harg15 : arg15.IsWhole) (arg16 : Memref sig .tc .vmem S1x20 .f32) (harg16 : arg16.IsWhole) (arg17 : Memref sig .tc .vmem S5x2x192x384 .fp8e4m3) (harg17 : arg17.IsWhole) (arg18 : Memref sig .tc .vmem S1x20 .f32) (harg18 : arg18.IsWhole) (arg19 : Memref sig .tc .vmem S5x2x192x384 .fp8e4m3) (harg19 : arg19.IsWhole) (arg20 : Memref sig .tc .vmem S1x20 .f32) (harg20 : arg20.IsWhole) (arg21 : Memref sig .tc .vmem S5x2x384x128 .fp8e4m3) (harg21 : arg21.IsWhole) (arg22 : Memref sig .tc .vmem S1x20 .f32) (harg22 : arg22.IsWhole) (arg23 : Memref sig .tc .vmem S6x20x128 .f32) (harg23 : arg23.IsWhole) (arg24 : Memref sig .tc .vmem S5x384x128 .f32) (harg24 : arg24.IsWhole) (arg25 : Memref sig .tc .vmem S8x128 .f32) (harg25 : arg25.IsWhole) :
    cc0_mla_fp8_prefill (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 = restProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) := by
  rw [cc0_mla_fp8_prefill_eq_skeleton]
  unfold cc0_mla_fp8_prefill_skel restProg
  rw [k0_part70_eq_skeleton]
  rfl

/-- At point 0 the first part of the body is its branch and then the rest. -/
theorem part17_init (i : grid0.Coords) (arg1 : Memref sig .tc .vmem S5x384x512 .fp8e4m3) (harg1 : arg1.IsWhole) (arg2 : Memref sig .tc .vmem S5x384 .f32) (harg2 : arg2.IsWhole) (arg3 : Memref sig .tc .vmem S5x64x384 .bf16) (harg3 : arg3.IsWhole) (arg4 : Memref sig .tc .vmem S5x2x384x128 .bf16) (harg4 : arg4.IsWhole) (arg5 : Memref sig .tc .vmem S5x2x64x384 .bf16) (harg5 : arg5.IsWhole) (arg6 : Memref sig .tc .vmem S2x512x128 .fp8e4m3) (harg6 : arg6.IsWhole) (arg7 : Memref sig .tc .vmem S20x128 .f32) (harg7 : arg7.IsWhole) (arg8 : Memref sig .tc .vmem S2x512x128 .fp8e4m3) (harg8 : arg8.IsWhole) (arg9 : Memref sig .tc .vmem S20x128 .f32) (harg9 : arg9.IsWhole) (arg10 : Memref sig .tc .vmem S13x20 .f32) (harg10 : arg10.IsWhole) (arg11 : Memref sig .tc .vmem S13x20 .f32) (harg11 : arg11.IsWhole) (arg12 : Memref sig .tc .vmem S13x20 .f32) (harg12 : arg12.IsWhole) (arg13 : Memref sig .tc .vmem S5x2x384x128 .bf16) (harg13 : arg13.IsWhole) (arg14 : Memref sig .tc .vmem S1x20 .f32) (harg14 : arg14.IsWhole) (arg15 : Memref sig .tc .vmem S1x20 .f32) (harg15 : arg15.IsWhole) (arg16 : Memref sig .tc .vmem S1x20 .f32) (harg16 : arg16.IsWhole) (arg17 : Memref sig .tc .vmem S5x2x192x384 .fp8e4m3) (harg17 : arg17.IsWhole) (arg18 : Memref sig .tc .vmem S1x20 .f32) (harg18 : arg18.IsWhole) (arg19 : Memref sig .tc .vmem S5x2x192x384 .fp8e4m3) (harg19 : arg19.IsWhole) (arg20 : Memref sig .tc .vmem S1x20 .f32) (harg20 : arg20.IsWhole) (arg21 : Memref sig .tc .vmem S5x2x384x128 .fp8e4m3) (harg21 : arg21.IsWhole) (arg22 : Memref sig .tc .vmem S1x20 .f32) (harg22 : arg22.IsWhole) (arg23 : Memref sig .tc .vmem S6x20x128 .f32) (harg23 : arg23.IsWhole) (arg24 : Memref sig .tc .vmem S5x384x128 .f32) (harg24 : arg24.IsWhole) (arg25 : Memref sig .tc .vmem S8x128 .f32) (harg25 : arg25.IsWhole) (hc0 : k0_cond1 i = 1#1) :
    k0_part17 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 = initThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (rest17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) := by
  rw [k0_part17_eq_skeleton]
  unfold k0_part17_skel
  exact dif_pos hc0

/-- At every other point the first part of the body is the rest of it. -/
theorem part17_rest (i : grid0.Coords) (arg1 : Memref sig .tc .vmem S5x384x512 .fp8e4m3) (harg1 : arg1.IsWhole) (arg2 : Memref sig .tc .vmem S5x384 .f32) (harg2 : arg2.IsWhole) (arg3 : Memref sig .tc .vmem S5x64x384 .bf16) (harg3 : arg3.IsWhole) (arg4 : Memref sig .tc .vmem S5x2x384x128 .bf16) (harg4 : arg4.IsWhole) (arg5 : Memref sig .tc .vmem S5x2x64x384 .bf16) (harg5 : arg5.IsWhole) (arg6 : Memref sig .tc .vmem S2x512x128 .fp8e4m3) (harg6 : arg6.IsWhole) (arg7 : Memref sig .tc .vmem S20x128 .f32) (harg7 : arg7.IsWhole) (arg8 : Memref sig .tc .vmem S2x512x128 .fp8e4m3) (harg8 : arg8.IsWhole) (arg9 : Memref sig .tc .vmem S20x128 .f32) (harg9 : arg9.IsWhole) (arg10 : Memref sig .tc .vmem S13x20 .f32) (harg10 : arg10.IsWhole) (arg11 : Memref sig .tc .vmem S13x20 .f32) (harg11 : arg11.IsWhole) (arg12 : Memref sig .tc .vmem S13x20 .f32) (harg12 : arg12.IsWhole) (arg13 : Memref sig .tc .vmem S5x2x384x128 .bf16) (harg13 : arg13.IsWhole) (arg14 : Memref sig .tc .vmem S1x20 .f32) (harg14 : arg14.IsWhole) (arg15 : Memref sig .tc .vmem S1x20 .f32) (harg15 : arg15.IsWhole) (arg16 : Memref sig .tc .vmem S1x20 .f32) (harg16 : arg16.IsWhole) (arg17 : Memref sig .tc .vmem S5x2x192x384 .fp8e4m3) (harg17 : arg17.IsWhole) (arg18 : Memref sig .tc .vmem S1x20 .f32) (harg18 : arg18.IsWhole) (arg19 : Memref sig .tc .vmem S5x2x192x384 .fp8e4m3) (harg19 : arg19.IsWhole) (arg20 : Memref sig .tc .vmem S1x20 .f32) (harg20 : arg20.IsWhole) (arg21 : Memref sig .tc .vmem S5x2x384x128 .fp8e4m3) (harg21 : arg21.IsWhole) (arg22 : Memref sig .tc .vmem S1x20 .f32) (harg22 : arg22.IsWhole) (arg23 : Memref sig .tc .vmem S6x20x128 .f32) (harg23 : arg23.IsWhole) (arg24 : Memref sig .tc .vmem S5x384x128 .f32) (harg24 : arg24.IsWhole) (arg25 : Memref sig .tc .vmem S8x128 .f32) (harg25 : arg25.IsWhole) (hc0 : ¬ k0_cond1 i = 1#1) :
    k0_part17 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 = rest17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 := by
  rw [k0_part17_eq_skeleton]
  unfold k0_part17_skel
  exact dif_neg hc0

end Cert.KernelIdeal.Val

end
-- ==== Proof.InitRun.lean ====
/- The run of the first step: the pieces it leaves in each buffer. -/
module

public import proofs.«01_k».proof.Proof.Split

@[expose] public section

set_option maxRecDepth 16384
set_option synthInstance.maxSize 4096

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2404000 in
/-- The pieces the first step leaves in the amax rows, the scale rows and the three scratch buffers, with the triple of that step. -/
noncomputable def initRun {α : Type} (c : Dev nD) (i : grid0.Coords) (arg1 : Memref sig .tc .vmem S5x384x512 .fp8e4m3) (harg1 : arg1.IsWhole) (arg2 : Memref sig .tc .vmem S5x384 .f32) (harg2 : arg2.IsWhole) (arg3 : Memref sig .tc .vmem S5x64x384 .bf16) (harg3 : arg3.IsWhole) (arg4 : Memref sig .tc .vmem S5x2x384x128 .bf16) (harg4 : arg4.IsWhole) (arg5 : Memref sig .tc .vmem S5x2x64x384 .bf16) (harg5 : arg5.IsWhole) (arg6 : Memref sig .tc .vmem S2x512x128 .fp8e4m3) (harg6 : arg6.IsWhole) (arg7 : Memref sig .tc .vmem S20x128 .f32) (harg7 : arg7.IsWhole) (arg8 : Memref sig .tc .vmem S2x512x128 .fp8e4m3) (harg8 : arg8.IsWhole) (arg9 : Memref sig .tc .vmem S20x128 .f32) (harg9 : arg9.IsWhole) (arg10 : Memref sig .tc .vmem S13x20 .f32) (harg10 : arg10.IsWhole) (arg11 : Memref sig .tc .vmem S13x20 .f32) (harg11 : arg11.IsWhole) (arg12 : Memref sig .tc .vmem S13x20 .f32) (harg12 : arg12.IsWhole) (arg13 : Memref sig .tc .vmem S5x2x384x128 .bf16) (harg13 : arg13.IsWhole) (arg14 : Memref sig .tc .vmem S1x20 .f32) (harg14 : arg14.IsWhole) (arg15 : Memref sig .tc .vmem S1x20 .f32) (harg15 : arg15.IsWhole) (arg16 : Memref sig .tc .vmem S1x20 .f32) (harg16 : arg16.IsWhole) (arg17 : Memref sig .tc .vmem S5x2x192x384 .fp8e4m3) (harg17 : arg17.IsWhole) (arg18 : Memref sig .tc .vmem S1x20 .f32) (harg18 : arg18.IsWhole) (arg19 : Memref sig .tc .vmem S5x2x192x384 .fp8e4m3) (harg19 : arg19.IsWhole) (arg20 : Memref sig .tc .vmem S1x20 .f32) (harg20 : arg20.IsWhole) (arg21 : Memref sig .tc .vmem S5x2x384x128 .fp8e4m3) (harg21 : arg21.IsWhole) (arg22 : Memref sig .tc .vmem S1x20 .f32) (harg22 : arg22.IsWhole) (arg23 : Memref sig .tc .vmem S6x20x128 .f32) (harg23 : arg23.IsWhole) (arg24 : Memref sig .tc .vmem S5x384x128 .f32) (harg24 : arg24.IsWhole) (arg25 : Memref sig .tc .vmem S8x128 .f32) (harg25 : arg25.IsWhole)
    (x2 : Vec F S5x384 .f32) (x3 : Vec F S5x64x384 .bf16) (x10 : Vec F S13x20 .f32) (x11 : Vec F S13x20 .f32) (x12 : Vec F S13x20 .f32) :
    Σ' (L14 : List (View.Piece (Elt F) S1x20 .f32)), Σ' (L15 : List (View.Piece (Elt F) S1x20 .f32)), Σ' (L16 : List (View.Piece (Elt F) S1x20 .f32)), Σ' (L18 : List (View.Piece (Elt F) S1x20 .f32)), Σ' (L20 : List (View.Piece (Elt F) S1x20 .f32)), Σ' (L22 : List (View.Piece (Elt F) S1x20 .f32)), Σ' (L23 : List (View.Piece (Elt F) S6x20x128 .f32)), Σ' (L24 : List (View.Piece (Elt F) S5x384x128 .f32)), { L25 : List (View.Piece (Elt F) S8x128 .f32) //
      ∀ (rest : Prog (TpuEff nD τ sig (Elt F) Λ₀ .tc) α) (E : Set ℕ) (K : α → sProp 𝕄),
        iprop(owns (c : Thread nD τ) arg2 fullShare x2 ∗ owns (c : Thread nD τ) arg3 fullShare x3 ∗ owns (c : Thread nD τ) arg10 fullShare x10 ∗ owns (c : Thread nD τ) arg11 fullShare x11 ∗ owns (c : Thread nD τ) arg12 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg18 fullShare d) ∗ (∃ d, owns (c : Thread nD τ) arg20 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (iprop(owns (c : Thread nD τ) arg2 fullShare x2 ∗ owns (c : Thread nD τ) arg3 fullShare x3 ∗ owns (c : Thread nD τ) arg10 fullShare x10 ∗ owns (c : Thread nD τ) arg11 fullShare x11 ∗ owns (c : Thread nD τ) arg12 fullShare x12 ∗ (∃ f, arg14.view.loc c ↦[arg14.view.set]{fullShare} arg14.view.writes (Elt F) f L14) ∗ (∃ f, arg15.view.loc c ↦[arg15.view.set]{fullShare} arg15.view.writes (Elt F) f L15) ∗ (∃ f, arg16.view.loc c ↦[arg16.view.set]{fullShare} arg16.view.writes (Elt F) f L16) ∗ (∃ f, arg18.view.loc c ↦[arg18.view.set]{fullShare} arg18.view.writes (Elt F) f L18) ∗ (∃ f, arg20.view.loc c ↦[arg20.view.set]{fullShare} arg20.view.writes (Elt F) f L20) ∗ (∃ f, arg22.view.loc c ↦[arg22.view.set]{fullShare} arg22.view.writes (Elt F) f L22) ∗ (∃ f, arg23.view.loc c ↦[arg23.view.set]{fullShare} arg23.view.writes (Elt F) f L23) ∗ (∃ f, arg24.view.loc c ↦[arg24.view.set]{fullShare} arg24.view.writes (Elt F) f L24) ∗ (∃ f, arg25.view.loc c ↦[arg25.view.set]{fullShare} arg25.view.writes (Elt F) f L25)) -∗ wp frame (wpE (defs₀ (F := F)) Variants.none c none) E rest K))
          ⊢ wp frame (wpE (defs₀ (F := F)) Variants.none c none) E (initThen (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 rest) K } := by
  refine ⟨?_, ?_, ?_, ?_, ?_, ?_, ?_, ?_, ?_, fun rest E K => ?run⟩
  case run =>
    unfold initThen
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f2, %hf2, H2⟩, ⟨%f3, %hf3, H3⟩, ⟨%f10, %hf10, H10⟩, ⟨%f11, %hf11, H11⟩, ⟨%f12, %hf12, H12⟩, ⟨%d14, %f14, %hf14, H14⟩, ⟨%d15, %f15, %hf15, H15⟩, ⟨%d16, %f16, %hf16, H16⟩, ⟨%d18, %f18, %hf18, H18⟩, ⟨%d20, %f20, %hf20, H20⟩, ⟨%d22, %f22, %hf22, H22⟩, ⟨%d23, %f23, %hf23, H23⟩, ⟨%d24, %f24, %hf24, H24⟩, ⟨%d25, %f25, %hf25, H25⟩, Hk⟩
    obtain rfl := harg2.eq_unread hf2; obtain rfl := harg3.eq_unread hf3; obtain rfl := harg10.eq_unread hf10; obtain rfl := harg11.eq_unread hf11; obtain rfl := harg12.eq_unread hf12; obtain rfl := harg14.eq_unread hf14; obtain rfl := harg15.eq_unread hf15; obtain rfl := harg16.eq_unread hf16; obtain rfl := harg18.eq_unread hf18; obtain rfl := harg20.eq_unread hf20; obtain rfl := harg22.eq_unread hf22; obtain rfl := harg23.eq_unread hf23; obtain rfl := harg24.eq_unread hf24; obtain rfl := harg25.eq_unread hf25
    sl_exec (disch := first | sl_exact hc0)
    iapply Hk
    isplitl [H2]
    · iexists _; isplitr; · ipureintro; exact harg2.read_unread _
      iexact H2
    isplitl [H3]
    · iexists _; isplitr; · ipureintro; exact harg3.read_unread _
      iexact H3
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H14]; · iexists _; iexact H14
    isplitl [H15]; · iexists _; iexact H15
    isplitl [H16]; · iexists _; iexact H16
    isplitl [H18]; · iexists _; iexact H18
    isplitl [H20]; · iexists _; iexact H20
    isplitl [H22]; · iexists _; iexact H22
    isplitl [H23]; · iexists _; iexact H23
    isplitl [H24]; · iexists _; iexact H24
    iexists _; iexact H25

end Cert.KernelIdeal.Val

end
-- ==== Proof.RestRun.lean ====
/- The run of the rest of the body: the pieces it leaves in each buffer. -/
module

public import proofs.«01_k».proof.Proof.InitRun

@[expose] public section

set_option maxRecDepth 16384
set_option synthInstance.maxSize 4096

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3404000 in
/-- The pieces the rest of the body leaves in the output blocks and the amax rows, with the triple of it. -/
noncomputable def restRun (c : Dev nD) (i : grid0.Coords) (arg1 : Memref sig .tc .vmem S5x384x512 .fp8e4m3) (harg1 : arg1.IsWhole) (arg2 : Memref sig .tc .vmem S5x384 .f32) (harg2 : arg2.IsWhole) (arg3 : Memref sig .tc .vmem S5x64x384 .bf16) (harg3 : arg3.IsWhole) (arg4 : Memref sig .tc .vmem S5x2x384x128 .bf16) (harg4 : arg4.IsWhole) (arg5 : Memref sig .tc .vmem S5x2x64x384 .bf16) (harg5 : arg5.IsWhole) (arg6 : Memref sig .tc .vmem S2x512x128 .fp8e4m3) (harg6 : arg6.IsWhole) (arg7 : Memref sig .tc .vmem S20x128 .f32) (harg7 : arg7.IsWhole) (arg8 : Memref sig .tc .vmem S2x512x128 .fp8e4m3) (harg8 : arg8.IsWhole) (arg9 : Memref sig .tc .vmem S20x128 .f32) (harg9 : arg9.IsWhole) (arg10 : Memref sig .tc .vmem S13x20 .f32) (harg10 : arg10.IsWhole) (arg11 : Memref sig .tc .vmem S13x20 .f32) (harg11 : arg11.IsWhole) (arg12 : Memref sig .tc .vmem S13x20 .f32) (harg12 : arg12.IsWhole) (arg13 : Memref sig .tc .vmem S5x2x384x128 .bf16) (harg13 : arg13.IsWhole) (arg14 : Memref sig .tc .vmem S1x20 .f32) (harg14 : arg14.IsWhole) (arg15 : Memref sig .tc .vmem S1x20 .f32) (harg15 : arg15.IsWhole) (arg16 : Memref sig .tc .vmem S1x20 .f32) (harg16 : arg16.IsWhole) (arg17 : Memref sig .tc .vmem S5x2x192x384 .fp8e4m3) (harg17 : arg17.IsWhole) (arg18 : Memref sig .tc .vmem S1x20 .f32) (harg18 : arg18.IsWhole) (arg19 : Memref sig .tc .vmem S5x2x192x384 .fp8e4m3) (harg19 : arg19.IsWhole) (arg20 : Memref sig .tc .vmem S1x20 .f32) (harg20 : arg20.IsWhole) (arg21 : Memref sig .tc .vmem S5x2x384x128 .fp8e4m3) (harg21 : arg21.IsWhole) (arg22 : Memref sig .tc .vmem S1x20 .f32) (harg22 : arg22.IsWhole) (arg23 : Memref sig .tc .vmem S6x20x128 .f32) (harg23 : arg23.IsWhole) (arg24 : Memref sig .tc .vmem S5x384x128 .f32) (harg24 : arg24.IsWhole) (arg25 : Memref sig .tc .vmem S8x128 .f32) (harg25 : arg25.IsWhole)
    (x1 : Vec F S5x384x512 .fp8e4m3) (x2 : Vec F S5x384 .f32) (x3 : Vec F S5x64x384 .bf16) (x4 : Vec F S5x2x384x128 .bf16) (x5 : Vec F S5x2x64x384 .bf16) (x6 : Vec F S2x512x128 .fp8e4m3) (x7 : Vec F S20x128 .f32) (x8 : Vec F S2x512x128 .fp8e4m3) (x9 : Vec F S20x128 .f32) (x23 : Vec F S6x20x128 .f32) (x24 : Vec F S5x384x128 .f32) (x25 : Vec F S8x128 .f32) (x14 : Vec F S1x20 .f32) (x15 : Vec F S1x20 .f32) (x16 : Vec F S1x20 .f32) :
    Σ' (L13 : List (View.Piece (Elt F) S5x2x384x128 .bf16)), Σ' (L14 : List (View.Piece (Elt F) S1x20 .f32)), Σ' (L15 : List (View.Piece (Elt F) S1x20 .f32)), Σ' (L16 : List (View.Piece (Elt F) S1x20 .f32)), Σ' (L17 : List (View.Piece (Elt F) S5x2x192x384 .fp8e4m3)), Σ' (L19 : List (View.Piece (Elt F) S5x2x192x384 .fp8e4m3)), { L21 : List (View.Piece (Elt F) S5x2x384x128 .fp8e4m3) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg13 fullShare d) ∗ owns (c : Thread nD τ) arg14 fullShare x14 ∗ owns (c : Thread nD τ) arg15 fullShare x15 ∗ owns (c : Thread nD τ) arg16 fullShare x16 ∗ (∃ d, owns (c : Thread nD τ) arg17 fullShare d) ∗ (∃ d, owns (c : Thread nD τ) arg19 fullShare d) ∗ (∃ d, owns (c : Thread nD τ) arg21 fullShare d) ∗ owns (c : Thread nD τ) arg23 fullShare x23 ∗ owns (c : Thread nD τ) arg24 fullShare x24 ∗ owns (c : Thread nD τ) arg25 fullShare x25 ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg13.view.loc c ↦[arg13.view.set]{fullShare} arg13.view.writes (Elt F) f L13) ∗ (∃ f, arg14.view.loc c ↦[arg14.view.set]{fullShare} arg14.view.writes (Elt F) f L14) ∗ (∃ f, arg15.view.loc c ↦[arg15.view.set]{fullShare} arg15.view.writes (Elt F) f L15) ∗ (∃ f, arg16.view.loc c ↦[arg16.view.set]{fullShare} arg16.view.writes (Elt F) f L16) ∗ (∃ f, arg17.view.loc c ↦[arg17.view.set]{fullShare} arg17.view.writes (Elt F) f L17) ∗ (∃ f, arg19.view.loc c ↦[arg19.view.set]{fullShare} arg19.view.writes (Elt F) f L19) ∗ (∃ f, arg21.view.loc c ↦[arg21.view.set]{fullShare} arg21.view.writes (Elt F) f L21) ∗ owns (c : Thread nD τ) arg23 fullShare x23 ∗ owns (c : Thread nD τ) arg24 fullShare x24 ∗ owns (c : Thread nD τ) arg25 fullShare x25) -∗ K ⟨⟩))
          ⊢ wp frame (wpE (defs₀ (F := F)) Variants.none c none) E (restProg (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (rest17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25)) K } := by
  refine ⟨?_, ?_, ?_, ?_, ?_, ?_, ?_, fun E K => ?run⟩
  case run =>
    unfold restProg rest70 rest17
    simp only [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d13, %f13, %hf13, H13⟩, ⟨%f14, %hf14, H14⟩, ⟨%f15, %hf15, H15⟩, ⟨%f16, %hf16, H16⟩, ⟨%d17, %f17, %hf17, H17⟩, ⟨%d19, %f19, %hf19, H19⟩, ⟨%d21, %f21, %hf21, H21⟩, ⟨%f23, %hf23, H23⟩, ⟨%f24, %hf24, H24⟩, ⟨%f25, %hf25, H25⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13; obtain rfl := harg14.eq_unread hf14; obtain rfl := harg15.eq_unread hf15; obtain rfl := harg16.eq_unread hf16; obtain rfl := harg17.eq_unread hf17; obtain rfl := harg19.eq_unread hf19; obtain rfl := harg21.eq_unread hf21; obtain rfl := harg23.eq_unread hf23; obtain rfl := harg24.eq_unread hf24; obtain rfl := harg25.eq_unread hf25
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H13]; · iexists _; iexact H13
    isplitl [H14]; · iexists _; iexact H14
    isplitl [H15]; · iexists _; iexact H15
    isplitl [H16]; · iexists _; iexact H16
    isplitl [H17]; · iexists _; iexact H17
    isplitl [H19]; · iexists _; iexact H19
    isplitl [H21]; · iexists _; iexact H21
    isplitl [H23]
    · iexists _; isplitr; · ipureintro; exact harg23.read_unread _
      iexact H23
    isplitl [H24]
    · iexists _; isplitr; · ipureintro; exact harg24.read_unread _
      iexact H24
    iexists _; isplitr; · ipureintro; exact harg25.read_unread _
    iexact H25

end Cert.KernelIdeal.Val

end
-- ==== Proof.IdealRun.lean ====
/- The body of the kernel with its constant named at any grid point: every buffer it stores into ends at some contents. -/
module

public import proofs.«01_k».proof.Proof.IdealRuns
public import proofs.«01_k».proof.Proof.RestRun

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 5292000 in
/-- The body's triple at any point, both cases of its one `scf.if` by the same steps: on whole staging memrefs — the inputs' at their contents,
    the outputs' (12 to 21) at anything, handed back at some contents nothing names — the body runs to the continuation holding the inputs' as
    they were and the scratch at some contents. -/
theorem kernelRun0 (c : Dev nD) (i : grid0.Coords) (arg1 : Memref sig .tc .vmem S5x384x512 .fp8e4m3) (harg1 : arg1.IsWhole) (arg2 : Memref sig .tc .vmem S5x384 .f32) (harg2 : arg2.IsWhole) (arg3 : Memref sig .tc .vmem S5x64x384 .bf16) (harg3 : arg3.IsWhole) (arg4 : Memref sig .tc .vmem S5x2x384x128 .bf16) (harg4 : arg4.IsWhole) (arg5 : Memref sig .tc .vmem S5x2x64x384 .bf16) (harg5 : arg5.IsWhole) (arg6 : Memref sig .tc .vmem S2x512x128 .fp8e4m3) (harg6 : arg6.IsWhole) (arg7 : Memref sig .tc .vmem S20x128 .f32) (harg7 : arg7.IsWhole) (arg8 : Memref sig .tc .vmem S2x512x128 .fp8e4m3) (harg8 : arg8.IsWhole) (arg9 : Memref sig .tc .vmem S20x128 .f32) (harg9 : arg9.IsWhole) (arg10 : Memref sig .tc .vmem S13x20 .f32) (harg10 : arg10.IsWhole) (arg11 : Memref sig .tc .vmem S13x20 .f32) (harg11 : arg11.IsWhole) (arg12 : Memref sig .tc .vmem S13x20 .f32) (harg12 : arg12.IsWhole) (arg13 : Memref sig .tc .vmem S5x2x384x128 .bf16) (harg13 : arg13.IsWhole) (arg14 : Memref sig .tc .vmem S1x20 .f32) (harg14 : arg14.IsWhole) (arg15 : Memref sig .tc .vmem S1x20 .f32) (harg15 : arg15.IsWhole) (arg16 : Memref sig .tc .vmem S1x20 .f32) (harg16 : arg16.IsWhole) (arg17 : Memref sig .tc .vmem S5x2x192x384 .fp8e4m3) (harg17 : arg17.IsWhole) (arg18 : Memref sig .tc .vmem S1x20 .f32) (harg18 : arg18.IsWhole) (arg19 : Memref sig .tc .vmem S5x2x192x384 .fp8e4m3) (harg19 : arg19.IsWhole) (arg20 : Memref sig .tc .vmem S1x20 .f32) (harg20 : arg20.IsWhole) (arg21 : Memref sig .tc .vmem S5x2x384x128 .fp8e4m3) (harg21 : arg21.IsWhole) (arg22 : Memref sig .tc .vmem S1x20 .f32) (harg22 : arg22.IsWhole) (arg23 : Memref sig .tc .vmem S6x20x128 .f32) (harg23 : arg23.IsWhole) (arg24 : Memref sig .tc .vmem S5x384x128 .f32) (harg24 : arg24.IsWhole) (arg25 : Memref sig .tc .vmem S8x128 .f32) (harg25 : arg25.IsWhole)
    (x0 : Vec F S5x384x512 .fp8e4m3) (x1 : Vec F S5x384 .f32) (x2 : Vec F S5x64x384 .bf16) (x3 : Vec F S5x2x384x128 .bf16) (x4 : Vec F S5x2x64x384 .bf16) (x5 : Vec F S2x512x128 .fp8e4m3) (x6 : Vec F S20x128 .f32) (x7 : Vec F S2x512x128 .fp8e4m3) (x8 : Vec F S20x128 .f32) (x9 : Vec F S13x20 .f32) (x10 : Vec F S13x20 .f32) (x11 : Vec F S13x20 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none c none) E (cc0_mla_fp8_prefill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    intro E K
    by_cases hc0 : cond0_0 i
    all_goals
      simp only [cc0_mla_fp8_prefill_eq_skeleton]; unfold cc0_mla_fp8_prefill_skel
      simp only [k0_part70_eq_skeleton, k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%ds1, %fs1, -, HS1⟩, ⟨%ds2, %fs2, -, HS2⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
      sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _; isplitr; · ipureintro; exact harg12.read_unread _
        iexact H11
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      isplitl [H21]
      · iexists _, _; isplitr; swap; · iexact H21
        ipureintro; rfl
      isplitl [HS0]
      · iexists _, _; isplitr; swap; · iexact HS0
        ipureintro; rfl
      isplitl [HS1]
      · iexists _, _; isplitr; swap; · iexact HS1
        ipureintro; rfl
      iexists _, _; isplitr; swap; · iexact HS2
      ipureintro; rfl

end Cert.KernelIdeal.Gen

end
-- ==== Proof.IdealFrame.lean ====
/- The frame of the kernel with its constant named: its proof data with the outputs left unnamed, the body obligation, the run. -/
module

public import proofs.«01_k».proof.Proof.IdealRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (12, 13, 14, 15, 16, 17, 18, 19, 20, 21): nothing reads what the kernel leaves in them, so nothing
    of it is named (Lib/Pipeline/Dat.lean `Dat.toRForget`). -/
def forgets0 : Fin 22 → Bool := fun w => w.val == 12 || w.val == 13 || w.val == 14 || w.val == 15 || w.val == 16 || w.val == 17 || w.val == 18 || w.val == 19 || w.val == 20 || w.val == 21

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨_ + 22, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d))

set_option maxHeartbeats 4800000 in
/-- The body at any point: the inputs' memrefs hold their blocks (`before0_W`), so the run applies; the invariant hands the body its scratch
    buffers at some contents (and the generator register) and takes them back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  simp only [Dat.leavesExact, liveAt0_0 t, liveAt0_1 t, liveAt0_2 t, liveAt0_3 t, liveAt0_4 t, liveAt0_5 t, liveAt0_6 t, liveAt0_7 t, liveAt0_8 t, liveAt0_9 t, liveAt0_10 t, liveAt0_11 t, after0_0, after0_1, after0_2, after0_3, after0_4, after0_5, after0_6, after0_7, after0_8, after0_9, after0_10, after0_11]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((kernelRun0 c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, H21, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 12, 13, 14, 15, 16, 17, 18, 19, 20, 21) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

set_option maxHeartbeats 1320000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post. -/
theorem frame_of_run (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      (Pipeline.RDat.FramePost.arr_in h c 11 rfl).trans ((hA c 11).trans (V_main_arg11 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of_run m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Gen

end
-- ==== Proof.Exponent.lean ====
/- The delayed scale of a head: the power of two read off a binary search over exponent fields (the kernel) and off the
   logarithm (the reference) are one real number, and so are the two inverses. -/
module

public import Idealize.ShloMosaic.PureOps
public import Idealize.ShloMosaic.PureOps.Ideal
public import Mathlib.Analysis.SpecialFunctions.Pow.Real

@[expose] public section

noncomputable section

namespace Cert.Mla

open Idealize.ShloMosaic

/-! ## The reference's scale -/

/-- The quotient the exponent is read off: the magnitude of the amax times the f32 nearest `1 / 448`. -/
def quo (a : EReal) : EReal := max (a * Ideal.ofBits .f32 0x3B124925#32) (-(a * Ideal.ofBits .f32 0x3B124925#32))

/-- The exponent: zero below the least normal float, else one more than the floor of the binary logarithm. -/
def expo (a : EReal) : EReal :=
  Scalar.select (Ideal.cmp .olt (quo a) (Ideal.ofBits .f32 0x00800000#32)) (Ideal.ofBits .f32 0x00000000#32)
    (Ideal.liftRound Int.floor (Ideal.div (Ideal.log (quo a)) (Ideal.log (Ideal.ofBits .f32 0x40000000#32))) + Ideal.ofBits .f32 0x3F800000#32)

/-- The scale of an amax, -/
def scaleOf (a : EReal) : EReal := Ideal.exp2 (expo a)
/-- and its inverse. -/
def invOf (a : EReal) : EReal := Ideal.exp2 (Ideal.ofBits .f32 0x00000000#32 - expo a)

/-! ## The kernel's -/

/-- What the word with exponent field `f` and nothing else denotes. -/
def word (f : BitVec 32) : EReal := Ideal.ofBits .f32 (IntOp.shli .vector f 23#32)

/-- One step of the search. -/
def step (x : EReal) (f k : BitVec 32) : BitVec 32 := Scalar.select (Ideal.cmp .olt (max x (-x)) (word (f + k))) f (f + k)

/-- The exponent field of `x`: eight steps. -/
def field (x : EReal) : BitVec 32 :=
  step x (step x (step x (step x (step x (step x (step x (step x 0#32 128#32) 64#32) 32#32) 16#32) 8#32) 4#32) 2#32) 1#32

/-- The exponent the kernel reads off the field. -/
def expoK (a : EReal) : BitVec 32 :=
  Scalar.select (IntOp.ori (Ideal.cmp .oeq a (Ideal.ofBits .f32 0x00000000#32)) (IntOp.cmpi .eq (field (a * Ideal.ofBits .f32 0x3B124925#32)) 0#32)) 0#32
    (IntOp.subi (field (a * Ideal.ofBits .f32 0x3B124925#32)) 126#32)

/-- The kernel's scale, -/
def scaleK (a : EReal) : EReal := word (IntOp.addi (expoK a) 127#32)
/-- and its inverse. -/
def invK (a : EReal) : EReal := word (IntOp.subi 127#32 (expoK a))

/-! ## The words -/

theorem ofBits_zero : Ideal.ofBits .f32 0x00000000#32 = 0 := by simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_tiny : Ideal.ofBits .f32 0x00800000#32 = (((2 : ℝ) ^ (-126 : ℤ) : ℝ) : EReal) := by
  simp [Ideal.ofBits, Ideal.ieee, -EReal.coe_mul]; norm_num
/-- The f32 nearest `1 / 448`. -/
def c448 : ℝ := 9586981 * (2 : ℝ) ^ (-32 : ℤ)
theorem ofBits_c448 : Ideal.ofBits .f32 0x3B124925#32 = ((c448 : ℝ) : EReal) := by
  simp [Ideal.ofBits, Ideal.ieee, -EReal.coe_mul, c448]

theorem field_bits : ∀ n : Fin 256, ((BitVec.ofNat 32 n.val) <<< (23#32 : BitVec 32)).extractLsb' 31 1 = 0#1
    ∧ (((BitVec.ofNat 32 n.val) <<< (23#32 : BitVec 32)).extractLsb' 23 8).toNat = n.val
    ∧ (((BitVec.ofNat 32 n.val) <<< (23#32 : BitVec 32)).extractLsb' 0 23).toNat = 0 := by decide +kernel

theorem word_ofNat (n : ℕ) (h : n < 256) :
    word (BitVec.ofNat 32 n) = if n = 255 then ⊤ else if n = 0 then 0 else (((2 : ℝ) ^ ((n : ℤ) - 127) : ℝ) : EReal) := by
  obtain ⟨h1, h2, h3⟩ := field_bits ⟨n, h⟩
  have hs : IntOp.shli .vector (BitVec.ofNat 32 n) 23#32 = (BitVec.ofNat 32 n) <<< (23#32 : BitVec 32) := by
    unfold IntOp.shli; rw [if_pos (by decide)]
  unfold word
  rw [hs]
  generalize (BitVec.ofNat 32 n) <<< (23#32 : BitVec 32) = b at h1 h2 h3
  unfold Ideal.ofBits Ideal.ieee
  dsimp only
  rw [h1, h2, h3]
  by_cases h255 : n = 255
  · simp [h255]
  by_cases h0 : n = 0
  · simp [h0]
  · rw [if_neg (by simpa using h255), if_neg h0, if_neg h255, if_neg h0]
    congr 1
    simp only [show ((0#1 : BitVec 1) == 1#1) = false from rfl]
    have e : ((n : ℤ) - 127) = 23 + ((n : ℤ) - (2 ^ (8 - 1) - 1) - (23 : ℕ)) := by norm_num
    rw [e, zpow_add₀ (by norm_num)]
    norm_num

/-! ## The search -/

/-- What the search keeps: the field found so far reads at most `x`, and the field `w` further on reads more. -/
def Kept (x : EReal) (n w : ℕ) : Prop :=
  n + w ≤ 256 ∧ word (BitVec.ofNat 32 n) ≤ x ∧ (n + w = 256 ∨ x < word (BitVec.ofNat 32 (n + w)))

theorem step_kept (x : EReal) (hx : 0 ≤ x) (n w : ℕ) (hw : 0 < w) (h : Kept x n (w + w)) :
    ∃ n', step x (BitVec.ofNat 32 n) (BitVec.ofNat 32 w) = BitVec.ofNat 32 n' ∧ Kept x n' w := by
  obtain ⟨h1, h2, h3⟩ := h
  have hm : max x (-x) = x := max_eq_left (le_trans (by simpa using EReal.neg_le_neg_iff.mpr hx) hx)
  unfold step
  rw [hm, ← BitVec.ofNat_add]
  by_cases hc : x < word (BitVec.ofNat 32 (n + w))
  · refine ⟨n, ?_, by omega, h2, .inr hc⟩
    simp [Scalar.select, Ideal.cmp, hc]
  · refine ⟨n + w, ?_, by omega, not_lt.mp hc, ?_⟩
    · simp [Scalar.select, Ideal.cmp, hc]
    · rw [show n + w + w = n + (w + w) by ring]; exact h3

theorem field_kept (x : EReal) (hx : 0 ≤ x) : ∃ n, field x = BitVec.ofNat 32 n ∧ Kept x n 1 := by
  have h0 : Kept x 0 (128 + 128) := ⟨by norm_num, by rw [word_ofNat 0 (by norm_num)]; simpa using hx, .inl rfl⟩
  obtain ⟨n1, e1, k1⟩ := step_kept x hx 0 128 (by norm_num) h0
  obtain ⟨n2, e2, k2⟩ := step_kept x hx n1 64 (by norm_num) k1
  obtain ⟨n3, e3, k3⟩ := step_kept x hx n2 32 (by norm_num) k2
  obtain ⟨n4, e4, k4⟩ := step_kept x hx n3 16 (by norm_num) k3
  obtain ⟨n5, e5, k5⟩ := step_kept x hx n4 8 (by norm_num) k4
  obtain ⟨n6, e6, k6⟩ := step_kept x hx n5 4 (by norm_num) k5
  obtain ⟨n7, e7, k7⟩ := step_kept x hx n6 2 (by norm_num) k6
  obtain ⟨n8, e8, k8⟩ := step_kept x hx n7 1 (by norm_num) k7
  refine ⟨n8, ?_, k8⟩
  unfold field
  rw [e1, e2, e3, e4, e5, e6, e7, e8]

theorem step_abs (x : EReal) (f k : BitVec 32) : step (max x (-x)) f k = step x f k := by
  have h : max (max x (-x)) (-(max x (-x))) = max x (-x) := by
    refine max_eq_left ?_
    rcases le_total 0 x with h | h
    · have h' : -x ≤ x := le_trans (by simpa using EReal.neg_le_neg_iff.mpr h) h
      rw [max_eq_left h']; exact h'
    · have h' : x ≤ -x := le_trans h (by simpa using EReal.neg_le_neg_iff.mpr h)
      rw [max_eq_right h', neg_neg]; exact h'
  unfold step; rw [h]

theorem field_abs (x : EReal) : field (max x (-x)) = field x := by
  unfold field; simp only [step_abs]

/-! ## The two scales -/

/-- For a real amax within the range of f32 the reference's scale and the kernel's are one positive real, and the two
    inverses are its inverse. -/
theorem scale_real (a : ℝ) (ha : |a| ≤ 2 ^ 128) :
    ∃ s : ℝ, 0 < s ∧ scaleOf a = s ∧ invOf a = ((s⁻¹ : ℝ) : EReal) ∧ scaleK a = s ∧ invK a = ((s⁻¹ : ℝ) : EReal) := by
  set r : ℝ := |a * c448| with hr
  have hc : 0 < c448 := by unfold c448; positivity
  have hq : quo a = (r : EReal) := by
    unfold quo
    rw [ofBits_c448, ← EReal.coe_mul, ← EReal.coe_neg, hr]
    exact (EReal.coe_strictMono.monotone.map_max).symm
  have hr0 : 0 ≤ r := abs_nonneg _
  have hrlt : r < (2 : ℝ) ^ (126 : ℤ) := by
    rw [hr, abs_mul, abs_of_pos hc]
    calc |a| * c448 ≤ 2 ^ 128 * c448 := mul_le_mul_of_nonneg_right ha hc.le
      _ < (2 : ℝ) ^ (126 : ℤ) := by unfold c448; norm_num
  obtain ⟨n, hn, hk1, hk2, hk3⟩ := field_kept (r : EReal) (by exact_mod_cast hr0)
  have hf : field ((a : EReal) * Ideal.ofBits .f32 0x3B124925#32) = BitVec.ofNat 32 n := by
    rw [← field_abs]; exact (congrArg field hq).trans hn
  have hn252 : n ≤ 252 := by
    by_contra hlt
    rw [word_ofNat n (by omega)] at hk2
    by_cases h255 : n = 255
    · rw [if_pos h255] at hk2; exact absurd hk2 (by simp)
    rw [if_neg h255, if_neg (by omega)] at hk2
    have h1 : (2 : ℝ) ^ ((n : ℤ) - 127) ≤ r := by exact_mod_cast hk2
    have h2 : (2 : ℝ) ^ (126 : ℤ) ≤ (2 : ℝ) ^ ((n : ℤ) - 127) := zpow_le_zpow_right₀ (by norm_num) (by omega)
    linarith
  have hk3' : r < (2 : ℝ) ^ ((n : ℤ) - 126) := by
    rcases hk3 with h | h
    · omega
    · rw [word_ofNat (n + 1) (by omega), if_neg (by omega), if_neg (by omega)] at h
      have h' : r < (2 : ℝ) ^ (((n + 1 : ℕ) : ℤ) - 127) := by exact_mod_cast h
      rwa [show (((n + 1 : ℕ) : ℤ) - 127) = (n : ℤ) - 126 by push_cast; ring] at h'
  by_cases h0 : n = 0
  · subst h0
    have hsm : r < (2 : ℝ) ^ (-126 : ℤ) := by simpa using hk3'
    have he : expo a = ((0 : ℝ) : EReal) := by
      unfold expo
      rw [hq, ofBits_tiny]
      have hd : (r : EReal) < (((2 : ℝ) ^ (-126 : ℤ) : ℝ) : EReal) := by exact_mod_cast hsm
      simp only [Scalar.select, Ideal.cmp, hd, decide_true]
      rw [ofBits_zero]; rfl
    have hek : expoK a = 0#32 := by
      unfold expoK
      rw [hf]
      have h1 : IntOp.cmpi .eq (BitVec.ofNat 32 0) 0#32 = 1#1 := by decide
      rw [h1]
      have h2 : ∀ b : BitVec 1, IntOp.ori b 1#1 = 1#1 := by decide
      rw [h2]; rfl
    refine ⟨1, one_pos, ?_, ?_, ?_, ?_⟩
    · unfold scaleOf; rw [he, Ideal.exp2_coe]; norm_num
    · unfold invOf; rw [he, ofBits_zero, show ((0 : EReal) - ((0 : ℝ) : EReal)) = ((0 : ℝ) : EReal) by simp, Ideal.exp2_coe]; norm_num
    · unfold scaleK; rw [hek, show IntOp.addi 0#32 127#32 = BitVec.ofNat 32 127 from rfl, word_ofNat 127 (by norm_num)]; norm_num
    · unfold invK; rw [hek, show IntOp.subi 127#32 0#32 = BitVec.ofNat 32 127 from rfl, word_ofNat 127 (by norm_num)]; norm_num
  · have hlo : (2 : ℝ) ^ ((n : ℤ) - 127) ≤ r := by
      rw [word_ofNat n (by omega), if_neg (by omega), if_neg h0] at hk2
      exact_mod_cast hk2
    have hrpos : 0 < r := lt_of_lt_of_le (by positivity) hlo
    have hl2 : 0 < Real.log 2 := Real.log_pos (by norm_num)
    have hfl : ⌊Real.log r / Real.log 2⌋ = (n : ℤ) - 127 := by
      rw [Int.floor_eq_iff]
      constructor
      · rw [le_div_iff₀ hl2]
        have := Real.log_le_log (by positivity) hlo
        rw [Real.log_zpow] at this
        exact_mod_cast this
      · rw [div_lt_iff₀ hl2]
        have := Real.log_lt_log hrpos hk3'
        rw [Real.log_zpow] at this
        push_cast at this ⊢
        linarith
    have he : expo a = ((((n : ℤ) - 126 : ℤ) : ℝ) : EReal) := by
      unfold expo
      rw [hq, ofBits_tiny, ofBits_two, ofBits_one, Ideal.log_coe, Ideal.log_coe, if_neg (not_le.mpr hrpos), if_neg (by norm_num)]
      have h2 : ¬ (r : EReal) < (((2 : ℝ) ^ (-126 : ℤ) : ℝ) : EReal) := by
        have : (2 : ℝ) ^ (-126 : ℤ) ≤ (2 : ℝ) ^ ((n : ℤ) - 127) := zpow_le_zpow_right₀ (by norm_num) (by omega)
        have h3 : (2 : ℝ) ^ (-126 : ℤ) ≤ r := this.trans hlo
        exact not_lt.mpr (by exact_mod_cast h3)
      have hd : Ideal.div ((Real.log r : ℝ) : EReal) ((Real.log 2 : ℝ) : EReal) = ((Real.log r / Real.log 2 : ℝ) : EReal) := by
        unfold Ideal.div
        rw [if_neg (by exact_mod_cast hl2.ne'), ← EReal.coe_inv, ← EReal.coe_mul, div_eq_mul_inv]
      simp only [Scalar.select, Ideal.cmp, h2, decide_false]
      rw [hd, Ideal.liftRound_coe, hfl, if_neg (by decide), ← EReal.coe_add]
      congr 1; push_cast; ring
    have hek : expoK a = BitVec.ofNat 32 n - 126#32 := by
      unfold expoK
      rw [hf]
      have ha0 : (a : EReal) ≠ 0 := by
        intro h
        have : a = 0 := by exact_mod_cast h
        rw [hr, this] at hrpos; simp at hrpos
      have h1 : IntOp.cmpi .eq (BitVec.ofNat 32 n) 0#32 = 0#1 := by
        have : BitVec.ofNat 32 n ≠ 0#32 := by
          intro h
          have := congrArg BitVec.toNat h
          simp at this; omega
        simp only [IntOp.cmpi]
        rw [beq_eq_false_iff_ne.mpr this]; rfl
      rw [h1, ofBits_zero]
      simp [Scalar.select, Ideal.cmp, ha0, IntOp.ori, IntOp.subi]
    refine ⟨(2 : ℝ) ^ ((n : ℤ) - 126), by positivity, ?_, ?_, ?_, ?_⟩
    · unfold scaleOf; rw [he, Ideal.exp2_coe]; congr 1; exact Real.rpow_intCast 2 _
    · unfold invOf
      rw [he, ofBits_zero, zero_sub, ← EReal.coe_neg, Ideal.exp2_coe]
      congr 1
      rw [← zpow_neg]
      have := Real.rpow_intCast 2 (-((n : ℤ) - 126))
      push_cast at this ⊢
      exact this
    · unfold scaleK
      have : IntOp.addi (expoK a) 127#32 = BitVec.ofNat 32 (n + 1) := by
        rw [hek]; unfold IntOp.addi
        apply BitVec.eq_of_toNat_eq; simp; omega
      rw [this, word_ofNat (n + 1) (by omega), if_neg (by omega), if_neg (by omega)]
      congr 2; push_cast; ring
    · unfold invK
      have : IntOp.subi 127#32 (expoK a) = BitVec.ofNat 32 (253 - n) := by
        rw [hek]; unfold IntOp.subi
        apply BitVec.eq_of_toNat_eq; simp; omega
      rw [this, word_ofNat (253 - n) (by omega), if_neg (by omega), if_neg (by omega), ← zpow_neg]
      congr 2; rw [Nat.cast_sub (by omega)]; push_cast; ring

end Cert.Mla

end
-- ==== Proof.Spec.lean ====
/- The ten results as functions of the arguments, index by index: what the reference's text says, the scale of a head read
   off `Exponent.lean`. Both programs are proved to compute these. -/
module

public import proofs.«01_k».proof.Proof.Exponent
public import Idealize.ShloMosaic.Lib.Pointwise

@[expose] public section

noncomputable section

namespace Cert.Mla

open Idealize.ShloMosaic

/-- The arguments. -/
structure In where
  ckv : Fin 5 → Fin 384 → Fin 512 → EReal
  cs : Fin 5 → Fin 384 → EReal
  kr : Fin 5 → Fin 384 → Fin 64 → EReal
  qn : Fin 5 → Fin 384 → Fin 20 → Fin 128 → EReal
  qr : Fin 5 → Fin 384 → Fin 20 → Fin 64 → EReal
  wuk : Fin 20 → Fin 512 → Fin 128 → EReal
  wks : Fin 20 → Fin 128 → EReal
  wuv : Fin 20 → Fin 512 → Fin 128 → EReal
  wvs : Fin 20 → Fin 128 → EReal
  qh : Fin 13 → Fin 20 → EReal
  kh : Fin 13 → Fin 20 → EReal
  vh : Fin 13 → Fin 20 → EReal

/-- The magnitude. -/
def mag (x : EReal) : EReal := max x (-x)

/-- The greatest entry of a head's history. -/
def top (h : Fin 13 → Fin 20 → EReal) (i : Fin 20) : EReal := Finset.univ.fold max (Ideal.ofBits .f32 0xFF800000#32) (fun r => h r i)

/-- The code of a value: scaled, clipped to what e4m3 holds. -/
def code (x : EReal) : EReal := min (Ideal.ofBits .f32 0x43E00000#32) (max (Ideal.ofBits .f32 0xC3E00000#32) x)

variable (I : In)

/-- The expanded key and value of a token. -/
def kn (b : Fin 5) (i : Fin 20) (t : Fin 384) (c : Fin 128) : EReal := (∑ l, I.ckv b t l * I.wuk i l c) * I.cs b t * I.wks i c
def vv (b : Fin 5) (i : Fin 20) (t : Fin 384) (c : Fin 128) : EReal := (∑ l, I.ckv b t l * I.wuv i l c) * I.cs b t * I.wvs i c

/-- The whole query and key: the rotary part after the other. -/
def qq (b : Fin 5) (i : Fin 20) (t : Fin 384) (c : Fin 192) : EReal :=
  if h : c.val < 128 then I.qn b t i ⟨c.val, h⟩ else I.qr b t i ⟨c.val - 128, by omega⟩
def kk (b : Fin 5) (i : Fin 20) (t : Fin 384) (c : Fin 192) : EReal :=
  if h : c.val < 128 then kn I b i t ⟨c.val, h⟩ else I.kr b t ⟨c.val - 128, by omega⟩

/-- The scales and their inverses. -/
def qs (i : Fin 20) : EReal := scaleOf (top I.qh i)
def ks (i : Fin 20) : EReal := scaleOf (top I.kh i)
def vs (i : Fin 20) : EReal := scaleOf (top I.vh i)
def qi (i : Fin 20) : EReal := invOf (top I.qh i)
def ki (i : Fin 20) : EReal := invOf (top I.kh i)
def vi (i : Fin 20) : EReal := invOf (top I.vh i)

/-- The codes. -/
def qc (b : Fin 5) (i : Fin 20) (t : Fin 384) (c : Fin 192) : EReal := code (qq I b i t c * qi I i)
def kc (b : Fin 5) (i : Fin 20) (t : Fin 384) (c : Fin 192) : EReal := code (kk I b i t c * ki I i)
def vc (b : Fin 5) (i : Fin 20) (t : Fin 384) (c : Fin 128) : EReal := code (vv I b i t c * vi I i)

/-- The greatest magnitude of a head. -/
def qa (i : Fin 20) : EReal := ⨆ (b : Fin 5) (t : Fin 384) (c : Fin 192), mag (qq I b i t c)
def ka (i : Fin 20) : EReal := ⨆ (b : Fin 5) (t : Fin 384) (c : Fin 192), mag (kk I b i t c)
def va (i : Fin 20) : EReal := ⨆ (b : Fin 5) (t : Fin 384) (c : Fin 128), mag (vv I b i t c)

/-- The scores: the product of codes, scaled; a later key is hidden. -/
def dot (b : Fin 5) (i : Fin 20) (t j : Fin 384) : EReal := ∑ c, qc I b i t c * kc I b i j c
def score (b : Fin 5) (i : Fin 20) (t j : Fin 384) : EReal :=
  if j ≤ t then dot I b i t j * (qs I i * ks I i * (((Real.sqrt 192)⁻¹ : ℝ) : EReal)) else ⊥
/-- The weight of a key before the division. -/
def weight (b : Fin 5) (i : Fin 20) (t j : Fin 384) : EReal :=
  Ideal.exp (score I b i t j - Finset.univ.fold max ⊥ (fun x => score I b i t x))
/-- The attention's output. -/
def oo (b : Fin 5) (i : Fin 20) (t : Fin 384) (c : Fin 128) : EReal :=
  Ideal.div ((∑ j, min (Ideal.ofBits .f32 0x43E00000#32) (max 0 (weight I b i t j)) * vc I b i j c) * vs I i) (∑ j, weight I b i t j)

/-- Every entry of the histories is finite, of the size of an f32. -/
def Bounded : Prop := (∀ r i, mag (I.qh r i) ≤ Ideal.ofBits .f32 0x7F7FFFFF#32) ∧ (∀ r i, mag (I.kh r i) ≤ Ideal.ofBits .f32 0x7F7FFFFF#32)
  ∧ ∀ r i, mag (I.vh r i) ≤ Ideal.ofBits .f32 0x7F7FFFFF#32

/-! ## Small facts -/

theorem ofBits_bot : Ideal.ofBits .f32 0xFF800000#32 = ⊥ := by simp [Ideal.ofBits, Ideal.ieee]
theorem ofBits_bot16 : Ideal.ofBits .bf16 0xFF80#16 = ⊥ := by simp [Ideal.ofBits, Ideal.ieee]
theorem ofBits_448 : Ideal.ofBits .f32 0x43E00000#32 = ((448 : ℝ) : EReal) := by
  simp [Ideal.ofBits, Ideal.ieee, -EReal.coe_mul]; norm_num
theorem ofBits_m448 : Ideal.ofBits .f32 0xC3E00000#32 = ((-448 : ℝ) : EReal) := by
  simp [Ideal.ofBits, Ideal.ieee, -EReal.coe_mul, -EReal.coe_neg]; norm_num
theorem ofBits_max : Ideal.ofBits .f32 0x7F7FFFFF#32 ≤ ((2 ^ 128 : ℝ) : EReal) ∧ Ideal.ofBits .f32 0x7F7FFFFF#32 < ⊤ := by
  have : Ideal.ofBits .f32 0x7F7FFFFF#32 = ((16777215 * (2 : ℝ) ^ (104 : ℤ) : ℝ) : EReal) := by
    simp [Ideal.ofBits, Ideal.ieee, -EReal.coe_mul]
  rw [this]
  exact ⟨by exact_mod_cast (by norm_num : (16777215 * (2 : ℝ) ^ (104 : ℤ)) ≤ 2 ^ 128), EReal.coe_lt_top _⟩

theorem mag_le {x u : EReal} : mag x ≤ u ↔ x ≤ u ∧ -x ≤ u := max_le_iff
theorem mag_nonneg (x : EReal) : 0 ≤ mag x := by
  rcases le_total 0 x with h | h
  · exact h.trans (le_max_left _ _)
  · exact (by simpa using EReal.neg_le_neg_iff.mpr h : (0 : EReal) ≤ -x).trans (le_max_right _ _)

theorem fold_le {ι : Type} [Fintype ι] (f : ι → EReal) (u : EReal) : Finset.univ.fold max ⊥ f ≤ u ↔ ∀ i, f i ≤ u := by
  rw [Finset.fold_max_le]; simp

/-- A code is a real number. -/
theorem code_real (x : EReal) : ∃ r : ℝ, code x = r := by
  have h1 : code x ≤ ((448 : ℝ) : EReal) := by unfold code; rw [ofBits_448]; exact min_le_left _ _
  have h2 : ((-448 : ℝ) : EReal) ≤ code x := by
    unfold code; rw [ofBits_448, ofBits_m448]
    exact le_min (by exact_mod_cast (by norm_num : (-448 : ℝ) ≤ 448)) (le_max_left _ _)
  refine ⟨(code x).toReal, (EReal.coe_toReal ?_ ?_).symm⟩
  · intro h; rw [h] at h1; exact absurd h1 (by simp)
  · intro h; rw [h] at h2; exact absurd h2 (by simp)

/-- Within bounds the greatest entry of a history is a real no greater than `2 ^ 128`. -/
theorem top_real (h : Fin 13 → Fin 20 → EReal) (i : Fin 20) (hb : ∀ r, mag (h r i) ≤ Ideal.ofBits .f32 0x7F7FFFFF#32) :
    ∃ a : ℝ, |a| ≤ 2 ^ 128 ∧ top h i = a := by
  obtain ⟨m1, m2⟩ := ofBits_max
  have hup : top h i ≤ ((2 ^ 128 : ℝ) : EReal) := by
    unfold top; rw [ofBits_bot, fold_le]
    exact fun r => ((mag_le.mp (hb r)).1).trans m1
  have hlo : ((-(2 ^ 128) : ℝ) : EReal) ≤ top h i := by
    have h0 : h 0 i ≤ top h i := by
      have := (fold_le (fun r => h r i) (top h i)).mp (by unfold top; rw [ofBits_bot])
      exact this 0
    refine le_trans ?_ h0
    have := ((mag_le.mp (hb 0)).2).trans m1
    rw [EReal.coe_neg]
    exact EReal.neg_le.mp this
  have e : top h i = ((top h i).toReal : EReal) := by
    refine (EReal.coe_toReal ?_ ?_).symm
    · intro h; rw [h] at hup; exact absurd hup (not_le.mpr (EReal.coe_lt_top _))
    · intro h; rw [h] at hlo; exact absurd hlo (not_le.mpr (EReal.bot_lt_coe _))
  refine ⟨(top h i).toReal, ?_, e⟩
  rw [e] at hup hlo
  rw [abs_le]
  exact ⟨by exact_mod_cast hlo, by exact_mod_cast hup⟩

/-- So each head's scale is one positive real, the same read off the search, and its inverse the inverse. -/
theorem scale_top (h : Fin 13 → Fin 20 → EReal) (i : Fin 20) (hb : ∀ r, mag (h r i) ≤ Ideal.ofBits .f32 0x7F7FFFFF#32) :
    ∃ s : ℝ, 0 < s ∧ scaleOf (top h i) = s ∧ invOf (top h i) = ((s⁻¹ : ℝ) : EReal) ∧ scaleK (top h i) = s ∧ invK (top h i) = ((s⁻¹ : ℝ) : EReal) := by
  obtain ⟨a, ha, e⟩ := top_real h i hb
  rw [e]; exact scale_real a ha

end Cert.Mla

end
-- ==== Proof.Attn.lean ====
/- One row of the attention: the softmax in base two over the keys of a row block, unscaled scores subtracted first, is the
   reference's softmax over all keys. -/
module

public import proofs.«01_k».proof.Proof.Spec

@[expose] public section

noncomputable section

namespace Cert.Mla

open Idealize.ShloMosaic

/-- A row's hidden scores over `n` keys. -/
def hid {n : ℕ} (t : Fin 384) (d : Fin n → EReal) (j : Fin n) : EReal := if j.val ≤ t.val then d j else ⊥
/-- The kernel's weight: base two, the factor applied after the maximum is taken off. -/
def weightK {n : ℕ} (t : Fin 384) (d : Fin n → EReal) (c : EReal) (j : Fin n) : EReal :=
  Ideal.exp2 ((hid t d j - Finset.univ.fold max ⊥ (hid t d)) * c)
/-- The kernel's row. -/
def rowK {n : ℕ} (t : Fin 384) (d : Fin n → EReal) (c : EReal) (v : Fin n → EReal) (s : EReal) : EReal :=
  (∑ j, min (Ideal.ofBits .f32 0x43E00000#32) (max 0 (weightK t d c j)) * v j) * Ideal.div s (∑ j, weightK t d c j)

theorem exp2_bot : Ideal.exp2 ⊥ = 0 := rfl
theorem exp_bot : Ideal.exp ⊥ = 0 := rfl

/-- A sum over the first `n` keys, the rest being zero. -/
theorem sum_first {n : ℕ} (hn : n ≤ 384) (f : Fin 384 → EReal) (h : ∀ j : Fin 384, n ≤ j.val → f j = 0) :
    ∑ j : Fin n, f (j.castLE hn) = ∑ j, f j := by
  rw [show ∑ j : Fin n, f (j.castLE hn) = ∑ j ∈ Finset.univ.map (Fin.castLEEmb hn), f j from (Finset.sum_map Finset.univ (Fin.castLEEmb hn) f).symm]
  refine Finset.sum_subset (Finset.subset_univ _) fun j _ hj => h j ?_
  by_contra hlt
  exact hj (Finset.mem_map.mpr ⟨⟨j.val, by omega⟩, Finset.mem_univ _, by ext; rfl⟩)

/-- A row whose keys all lie among the first `n` has the same maximum over those. -/
theorem max_first {n : ℕ} (hn : n ≤ 384) (t : Fin 384) (ht : t.val < n) (d : Fin 384 → EReal) :
    Finset.univ.fold max ⊥ (hid t fun j : Fin n => d (j.castLE hn)) = Finset.univ.fold max ⊥ (hid t d) := by
  refine eq_of_forall_ge_iff fun u => ?_
  rw [fold_le, fold_le]
  constructor
  · intro h j
    by_cases hj : j.val < n
    · exact h ⟨j.val, hj⟩
    · unfold hid; rw [if_neg (by omega)]; exact bot_le
  · exact fun h j => h (j.castLE hn)

/-- The maximum of a row is a real number, one of its visible scores. -/
theorem max_real (t : Fin 384) (r : Fin 384 → ℝ) :
    ∃ j : Fin 384, j ≤ t ∧ Finset.univ.fold max ⊥ (hid t fun j => (r j : EReal)) = r j := by
  obtain ⟨j, hj, hm⟩ := Finset.exists_max_image (Finset.univ.filter fun j : Fin 384 => j ≤ t) r ⟨t, by simp⟩
  refine ⟨j, by simpa using hj, eq_of_forall_ge_iff fun u => ?_⟩
  rw [fold_le]
  constructor
  · intro h
    have := h j
    unfold hid at this
    rwa [if_pos (by simpa using hj)] at this
  · intro h k
    unfold hid
    split_ifs with hk
    · exact (EReal.coe_le_coe_iff.mpr (hm k (by simpa using hk))).trans h
    · exact bot_le

/-- The weights agree, key by key. -/
theorem weight_eq (t : Fin 384) (r : Fin 384 → ℝ) (a : ℝ) (ha : 0 < a) (j : Fin 384) :
    weightK t (fun j => (r j : EReal)) ((a * ((Real.sqrt 192)⁻¹ * (Real.log 2)⁻¹) : ℝ) : EReal) j
      = Ideal.exp ((if j ≤ t then (r j : EReal) * ((a * (Real.sqrt 192)⁻¹ : ℝ) : EReal) else ⊥)
          - Finset.univ.fold max ⊥ (fun x => if x ≤ t then (r x : EReal) * ((a * (Real.sqrt 192)⁻¹ : ℝ) : EReal) else ⊥)) := by
  have hq : 0 < (Real.sqrt 192)⁻¹ := inv_pos.mpr (Real.sqrt_pos.mpr (by norm_num))
  have hl : 0 < Real.log 2 := Real.log_pos (by norm_num)
  have hc : 0 < a * (Real.sqrt 192)⁻¹ := mul_pos ha hq
  obtain ⟨k, hk, e⟩ := max_real t r
  have e' : Finset.univ.fold max ⊥ (fun x => if x ≤ t then (r x : EReal) * ((a * (Real.sqrt 192)⁻¹ : ℝ) : EReal) else ⊥)
      = ((r k * (a * (Real.sqrt 192)⁻¹) : ℝ) : EReal) := by
    have hle : ∀ x, x ≤ t → r x ≤ r k := by
      intro x hx
      have := (fold_le _ _).mp e.le x
      unfold hid at this
      rw [if_pos (by simpa using hx)] at this
      exact EReal.coe_le_coe_iff.mp this
    refine le_antisymm ((fold_le _ _).mpr fun x => ?_) ?_
    · split_ifs with hx
      · rw [← EReal.coe_mul]
        exact_mod_cast mul_le_mul_of_nonneg_right (hle x hx) hc.le
      · exact bot_le
    · have := (fold_le (fun x => if x ≤ t then (r x : EReal) * ((a * (Real.sqrt 192)⁻¹ : ℝ) : EReal) else ⊥) _).mp le_rfl k
      rw [if_pos hk, ← EReal.coe_mul] at this
      exact this
  unfold weightK
  rw [e, e']
  unfold hid
  by_cases hj : j ≤ t
  · rw [if_pos hj, if_pos (by simpa using hj), ← EReal.coe_mul, ← EReal.coe_sub, ← EReal.coe_sub, ← EReal.coe_mul, Ideal.exp2_coe, Ideal.exp_coe]
    congr 1
    refine (Real.rpow_def_of_pos (by norm_num : (0 : ℝ) < 2) _).trans ?_
    congr 1
    field_simp
  · rw [if_neg hj, if_neg (by simpa using hj), EReal.bot_sub, EReal.bot_sub, EReal.bot_mul_coe_of_pos (by positivity), exp2_bot, exp_bot]

theorem weight_nonneg (x : EReal) : 0 ≤ Ideal.exp2 x := by
  induction x with
  | bot => exact le_refl _
  | top => exact le_top
  | coe r => rw [Ideal.exp2_coe]; exact_mod_cast Real.rpow_nonneg (by norm_num) r

/-- One row: the kernel's over the first `n` keys is the reference's over all. -/
theorem row_eq {n : ℕ} (hn : n ≤ 384) (t : Fin 384) (ht : t.val < n) (d v : Fin 384 → EReal) (hd : ∀ j, ∃ r : ℝ, d j = r)
    (a : ℝ) (ha : 0 < a) (s : EReal) (w : Fin 384 → EReal)
    (hw : ∀ j, w j = Ideal.exp ((if j ≤ t then d j * ((a * (Real.sqrt 192)⁻¹ : ℝ) : EReal) else ⊥)
          - Finset.univ.fold max ⊥ (fun x => if x ≤ t then d x * ((a * (Real.sqrt 192)⁻¹ : ℝ) : EReal) else ⊥))) :
    rowK t (fun j : Fin n => d (j.castLE hn)) ((a * ((Real.sqrt 192)⁻¹ * (Real.log 2)⁻¹) : ℝ) : EReal) (fun j => v (j.castLE hn)) s
      = Ideal.div ((∑ j, min (Ideal.ofBits .f32 0x43E00000#32) (max 0 (w j)) * v j) * s) (∑ j, w j) := by
  choose r hr using hd
  obtain rfl : d = fun j => (r j : EReal) := funext hr
  replace hw : ∀ j, weightK t (fun j => (r j : EReal)) ((a * ((Real.sqrt 192)⁻¹ * (Real.log 2)⁻¹) : ℝ) : EReal) j = w j :=
    fun j => (weight_eq t r a ha j).trans (hw j).symm
  clear hr
  generalize hC : ((a * ((Real.sqrt 192)⁻¹ * (Real.log 2)⁻¹) : ℝ) : EReal) = C at hw ⊢
  have hCpos : C * ⊥ = ⊥ := by
    rw [← hC]
    refine EReal.coe_mul_bot_of_pos ?_
    have hq : 0 < (Real.sqrt 192)⁻¹ := inv_pos.mpr (Real.sqrt_pos.mpr (by norm_num))
    have hl : 0 < Real.log 2 := Real.log_pos (by norm_num)
    positivity
  have hwn : ∀ j : Fin n, weightK t (fun j : Fin n => ((r (j.castLE hn) : ℝ) : EReal)) C j = w (j.castLE hn) := by
    intro j
    rw [← hw]
    unfold weightK
    rw [max_first hn t ht fun j => (r j : EReal)]
    rfl
  obtain ⟨k, hk, e⟩ := max_real t r
  have hz : ∀ j : Fin 384, n ≤ j.val → w j = 0 := by
    intro j hj
    rw [← hw]
    unfold weightK
    rw [e]
    unfold hid
    rw [if_neg (by omega), EReal.bot_sub, mul_comm, hCpos, exp2_bot]
  have hone : w k = 1 := by
    rw [← hw]
    unfold weightK
    rw [e]
    unfold hid
    rw [if_pos (by simpa using hk), ← EReal.coe_sub, sub_self, EReal.coe_zero, zero_mul, ← EReal.coe_zero, Ideal.exp2_coe]
    norm_num
  have hl : ∑ j, w j ≠ 0 := by
    have : w k ≤ ∑ j, w j := Finset.single_le_sum (fun j _ => by rw [← hw]; exact weight_nonneg _) (Finset.mem_univ k)
    rw [hone] at this
    intro h0; rw [h0] at this
    exact absurd this (by norm_num)
  unfold rowK
  simp only [hwn]
  rw [sum_first hn w hz, sum_first hn (fun j => min (Ideal.ofBits .f32 0x43E00000#32) (max 0 (w j)) * v j) fun j hj => by
    rw [hz j hj, max_self, ofBits_448, min_eq_right (by exact_mod_cast (by norm_num : (0 : ℝ) ≤ 448)), zero_mul]]
  unfold Ideal.div
  rw [if_neg hl, if_neg hl, mul_assoc]

end Cert.Mla

end
-- ==== Proof.Read.lean ====
/- The loads of a grid point as functions of the arguments: what a point finds in its input blocks and in the scratch. -/
module

public import proofs.«01_k».proof.Proof.RestRun
public import proofs.«01_k».proof.Proof.Attn
public import Idealize.ShloMosaic.Lib.WholeRead

@[expose] public section

set_option maxRecDepth 16384

noncomputable section

namespace Cert.KernelIdeal.Val

open Cert.KernelIdeal.Gen
open Idealize.ShloMosaic Idealize.ShloMosaic.TcCoe Idealize.ShloMosaic.Tactic
open Cert.Mla

/-- Where a unit-stride load reads: offset plus index. -/
theorem idxv {s : Shape} (off size : Fin s.rank → ℕ) (inb) (j : (Rect.unit off size inb).shape.Idx) (a : Fin s.rank) :
    ((Rect.unit off size inb).toLoadRect.idx j a).val = off a + (j a).val := by
  show off a + 1 * (j a).val = _; omega

/-- The head a grid point works on: two a point. -/
def hd (i : grid0.Coords) (k : Fin 2) : Fin 20 := ⟨2 * (i 0).val + k.val, by
  have : (i 0).val < 10 := (i 0).isLt
  omega⟩

/-- The table of scales and inverses, row by row. -/
def tabs (I : In) : Fin 6 → Fin 20 → EReal := ![qs I, qi I, ks I, ki I, vs I, vi I]

/-- The greatest magnitude of the rotary keys. -/
def krMax (I : In) : EReal := ⨆ (b : Fin 5) (t : Fin 384) (c : Fin 64), mag (I.kr b t c)

/-- What a point finds: its input blocks, and the three scratch buffers as the first point left them. -/
structure Ctx (I : In) (i : grid0.Coords) (x1 : Vec Ideal S5x384x512 .fp8e4m3) (x2 : Vec Ideal S5x384 .f32) (x3 : Vec Ideal S5x64x384 .bf16) (x4 : Vec Ideal S5x2x384x128 .bf16) (x5 : Vec Ideal S5x2x64x384 .bf16) (x6 : Vec Ideal S2x512x128 .fp8e4m3) (x7 : Vec Ideal S20x128 .f32) (x8 : Vec Ideal S2x512x128 .fp8e4m3) (x9 : Vec Ideal S20x128 .f32) (x23 : Vec Ideal S6x20x128 .f32) (x24 : Vec Ideal S5x384x128 .f32) (x25 : Vec Ideal S8x128 .f32) : Prop where
  h1 : x1 = fun j => I.ckv (j 0) (j 1) (j 2)
  h2 : x2 = fun j => I.cs (j 0) (j 1)
  h3 : x3 = fun j => I.kr (j 0) (j 2) (j 1)
  h4 : x4 = fun j => I.qn (j 0) (j 2) (hd i (j 1)) (j 3)
  h5 : x5 = fun j => I.qr (j 0) (j 3) (hd i (j 1)) (j 2)
  h6 : x6 = fun j => I.wuk (hd i (j 0)) (j 1) (j 2)
  h7 : x7 = fun j => I.wks (j 0) (j 1)
  h8 : x8 = fun j => I.wuv (hd i (j 0)) (j 1) (j 2)
  h9 : x9 = fun j => I.wvs (j 0) (j 1)
  h23 : x23 = fun j => tabs I (j 0) (j 1)
  h24 : x24 = fun j => I.cs (j 0) (j 1)
  h25 : x25 = fun _ => krMax I

/-- The row of head `k` of point `i`, as the body computes it in words. -/
theorem word0 (i : grid0.Coords) : (Scalar.indexCast (Scalar.addi (Scalar.muli (BitVec.ofNat 32 (i 0).val) 2#32) 0#32)).toNat = 2 * (i 0).val + 0 := by
  have : ∀ g : Fin 10, (Scalar.indexCast (Scalar.addi (Scalar.muli (BitVec.ofNat 32 g.val) 2#32) 0#32)).toNat = 2 * g.val + 0 := by decide +kernel
  exact this (i 0)

theorem word1 (i : grid0.Coords) : (Scalar.indexCast (Scalar.addi (Scalar.muli (BitVec.ofNat 32 (i 0).val) 2#32) 1#32)).toNat = 2 * (i 0).val + 1 := by
  have : ∀ g : Fin 10, (Scalar.indexCast (Scalar.addi (Scalar.muli (BitVec.ofNat 32 g.val) 2#32) 1#32)).toNat = 2 * g.val + 1 := by decide +kernel
  exact this (i 0)

theorem off1_0 (i : grid0.Coords) : k0_off1 i 0#32 = ![0, 2 * (i 0).val + 0, 0] := congrArg (fun n => (![0, n, 0] : Fin 3 → ℕ)) (word0 i)
theorem off1_1 (i : grid0.Coords) : k0_off1 i 1#32 = ![0, 2 * (i 0).val + 1, 0] := congrArg (fun n => (![0, n, 0] : Fin 3 → ℕ)) (word1 i)
theorem off2_0 (i : grid0.Coords) : k0_off2 i 0#32 = ![1, 2 * (i 0).val + 0, 0] := congrArg (fun n => (![1, n, 0] : Fin 3 → ℕ)) (word0 i)
theorem off2_1 (i : grid0.Coords) : k0_off2 i 1#32 = ![1, 2 * (i 0).val + 1, 0] := congrArg (fun n => (![1, n, 0] : Fin 3 → ℕ)) (word1 i)
theorem off3_0 (i : grid0.Coords) : k0_off3 i 0#32 = ![2, 2 * (i 0).val + 0, 0] := congrArg (fun n => (![2, n, 0] : Fin 3 → ℕ)) (word0 i)
theorem off3_1 (i : grid0.Coords) : k0_off3 i 1#32 = ![2, 2 * (i 0).val + 1, 0] := congrArg (fun n => (![2, n, 0] : Fin 3 → ℕ)) (word1 i)
theorem off4_0 (i : grid0.Coords) : k0_off4 i 0#32 = ![3, 2 * (i 0).val + 0, 0] := congrArg (fun n => (![3, n, 0] : Fin 3 → ℕ)) (word0 i)
theorem off4_1 (i : grid0.Coords) : k0_off4 i 1#32 = ![3, 2 * (i 0).val + 1, 0] := congrArg (fun n => (![3, n, 0] : Fin 3 → ℕ)) (word1 i)
theorem off5_0 (i : grid0.Coords) : k0_off5 i 0#32 = ![4, 2 * (i 0).val + 0, 0] := congrArg (fun n => (![4, n, 0] : Fin 3 → ℕ)) (word0 i)
theorem off5_1 (i : grid0.Coords) : k0_off5 i 1#32 = ![4, 2 * (i 0).val + 1, 0] := congrArg (fun n => (![4, n, 0] : Fin 3 → ℕ)) (word1 i)
theorem off6_0 (i : grid0.Coords) : k0_off6 i 0#32 = ![5, 2 * (i 0).val + 0, 0] := congrArg (fun n => (![5, n, 0] : Fin 3 → ℕ)) (word0 i)
theorem off6_1 (i : grid0.Coords) : k0_off6 i 1#32 = ![5, 2 * (i 0).val + 1, 0] := congrArg (fun n => (![5, n, 0] : Fin 3 → ℕ)) (word1 i)
theorem off7_0 (i : grid0.Coords) : k0_off7 i 0#32 = ![2 * (i 0).val + 0, 0] := congrArg (fun n => (![n, 0] : Fin 2 → ℕ)) (word0 i)
theorem off7_1 (i : grid0.Coords) : k0_off7 i 1#32 = ![2 * (i 0).val + 1, 0] := congrArg (fun n => (![n, 0] : Fin 2 → ℕ)) (word1 i)

section
variable {I : In} {i : grid0.Coords} {x1 : Vec Ideal S5x384x512 .fp8e4m3} {x2 : Vec Ideal S5x384 .f32} {x3 : Vec Ideal S5x64x384 .bf16} {x4 : Vec Ideal S5x2x384x128 .bf16} {x5 : Vec Ideal S5x2x64x384 .bf16} {x6 : Vec Ideal S2x512x128 .fp8e4m3} {x7 : Vec Ideal S20x128 .f32} {x8 : Vec Ideal S2x512x128 .fp8e4m3} {x9 : Vec Ideal S20x128 .f32} {x23 : Vec Ideal S6x20x128 .f32} {x24 : Vec Ideal S5x384x128 .f32} {x25 : Vec Ideal S8x128 .f32}
variable (H : Ctx I i x1 x2 x3 x4 x5 x6 x7 x8 x9 x23 x24 x25)
include H

theorem ld1 {m : Memref sig .tc .vmem S5x384x512 .fp8e4m3} (hm : m.IsWhole) (b : ℕ) (size : Fin 3 → ℕ) (inb) :
    View.readAt (Elt Ideal) m.view (Rect.unit (s := S5x384x512) ![b, 0, 0] size inb).toLoadRect (hm.unread x1) = fun j => I.ckv ⟨b + (j 0).val, (Nat.add_lt_add_left (j 0).isLt _).trans_le (inb 0)⟩ ⟨0 + (j 1).val, (Nat.add_lt_add_left (j 1).isLt _).trans_le (inb 1)⟩ ⟨0 + (j 2).val, (Nat.add_lt_add_left (j 2).isLt _).trans_le (inb 2)⟩ := by
  funext j
  rw [hm.readAt_unread, H.h1]
  have e : ∀ a, ((Rect.unit (s := S5x384x512) (![b, 0, 0] : Fin 3 → ℕ) size inb).toLoadRect.idx j a).val = (![b, 0, 0] : Fin 3 → ℕ) a + (j a).val := fun a => idxv _ _ _ _ _
  exact congr (congr (congrArg I.ckv (Fin.ext (e 0))) (Fin.ext (e 1))) (Fin.ext (e 2))

theorem ld2 {m : Memref sig .tc .vmem S5x384 .f32} (hm : m.IsWhole) (b : ℕ) (p : ℕ) (size : Fin 2 → ℕ) (inb) :
    View.readAt (Elt Ideal) m.view (Rect.unit (s := S5x384) ![b, p] size inb).toLoadRect (hm.unread x2) = fun j => I.cs ⟨b + (j 0).val, (Nat.add_lt_add_left (j 0).isLt _).trans_le (inb 0)⟩ ⟨p + (j 1).val, (Nat.add_lt_add_left (j 1).isLt _).trans_le (inb 1)⟩ := by
  funext j
  rw [hm.readAt_unread, H.h2]
  have e : ∀ a, ((Rect.unit (s := S5x384) (![b, p] : Fin 2 → ℕ) size inb).toLoadRect.idx j a).val = (![b, p] : Fin 2 → ℕ) a + (j a).val := fun a => idxv _ _ _ _ _
  exact congr (congrArg I.cs (Fin.ext (e 0))) (Fin.ext (e 1))

theorem ld3 {m : Memref sig .tc .vmem S5x64x384 .bf16} (hm : m.IsWhole) (b : ℕ) (size : Fin 3 → ℕ) (inb) :
    View.readAt (Elt Ideal) m.view (Rect.unit (s := S5x64x384) ![b, 0, 0] size inb).toLoadRect (hm.unread x3) = fun j => I.kr ⟨b + (j 0).val, (Nat.add_lt_add_left (j 0).isLt _).trans_le (inb 0)⟩ ⟨0 + (j 2).val, (Nat.add_lt_add_left (j 2).isLt _).trans_le (inb 2)⟩ ⟨0 + (j 1).val, (Nat.add_lt_add_left (j 1).isLt _).trans_le (inb 1)⟩ := by
  funext j
  rw [hm.readAt_unread, H.h3]
  have e : ∀ a, ((Rect.unit (s := S5x64x384) (![b, 0, 0] : Fin 3 → ℕ) size inb).toLoadRect.idx j a).val = (![b, 0, 0] : Fin 3 → ℕ) a + (j a).val := fun a => idxv _ _ _ _ _
  exact congr (congr (congrArg I.kr (Fin.ext (e 0))) (Fin.ext (e 2))) (Fin.ext (e 1))

theorem ld4 {m : Memref sig .tc .vmem S5x2x384x128 .bf16} (hm : m.IsWhole) (b : ℕ) (p : ℕ) (size : Fin 4 → ℕ) (inb) :
    View.readAt (Elt Ideal) m.view (Rect.unit (s := S5x2x384x128) ![b, p, 0, 0] size inb).toLoadRect (hm.unread x4) = fun j => I.qn ⟨b + (j 0).val, (Nat.add_lt_add_left (j 0).isLt _).trans_le (inb 0)⟩ ⟨0 + (j 2).val, (Nat.add_lt_add_left (j 2).isLt _).trans_le (inb 2)⟩ (hd i ⟨p + (j 1).val, (Nat.add_lt_add_left (j 1).isLt _).trans_le (inb 1)⟩) ⟨0 + (j 3).val, (Nat.add_lt_add_left (j 3).isLt _).trans_le (inb 3)⟩ := by
  funext j
  rw [hm.readAt_unread, H.h4]
  have e : ∀ a, ((Rect.unit (s := S5x2x384x128) (![b, p, 0, 0] : Fin 4 → ℕ) size inb).toLoadRect.idx j a).val = (![b, p, 0, 0] : Fin 4 → ℕ) a + (j a).val := fun a => idxv _ _ _ _ _
  exact congr (congr (congr (congrArg I.qn (Fin.ext (e 0))) (Fin.ext (e 2))) (congrArg (hd i) (Fin.ext (e 1)))) (Fin.ext (e 3))

theorem ld5 {m : Memref sig .tc .vmem S5x2x64x384 .bf16} (hm : m.IsWhole) (b : ℕ) (p : ℕ) (size : Fin 4 → ℕ) (inb) :
    View.readAt (Elt Ideal) m.view (Rect.unit (s := S5x2x64x384) ![b, p, 0, 0] size inb).toLoadRect (hm.unread x5) = fun j => I.qr ⟨b + (j 0).val, (Nat.add_lt_add_left (j 0).isLt _).trans_le (inb 0)⟩ ⟨0 + (j 3).val, (Nat.add_lt_add_left (j 3).isLt _).trans_le (inb 3)⟩ (hd i ⟨p + (j 1).val, (Nat.add_lt_add_left (j 1).isLt _).trans_le (inb 1)⟩) ⟨0 + (j 2).val, (Nat.add_lt_add_left (j 2).isLt _).trans_le (inb 2)⟩ := by
  funext j
  rw [hm.readAt_unread, H.h5]
  have e : ∀ a, ((Rect.unit (s := S5x2x64x384) (![b, p, 0, 0] : Fin 4 → ℕ) size inb).toLoadRect.idx j a).val = (![b, p, 0, 0] : Fin 4 → ℕ) a + (j a).val := fun a => idxv _ _ _ _ _
  exact congr (congr (congr (congrArg I.qr (Fin.ext (e 0))) (Fin.ext (e 3))) (congrArg (hd i) (Fin.ext (e 1)))) (Fin.ext (e 2))

theorem ld6 {m : Memref sig .tc .vmem S2x512x128 .fp8e4m3} (hm : m.IsWhole) (p : ℕ) (size : Fin 3 → ℕ) (inb) :
    View.readAt (Elt Ideal) m.view (Rect.unit (s := S2x512x128) ![p, 0, 0] size inb).toLoadRect (hm.unread x6) = fun j => I.wuk (hd i ⟨p + (j 0).val, (Nat.add_lt_add_left (j 0).isLt _).trans_le (inb 0)⟩) ⟨0 + (j 1).val, (Nat.add_lt_add_left (j 1).isLt _).trans_le (inb 1)⟩ ⟨0 + (j 2).val, (Nat.add_lt_add_left (j 2).isLt _).trans_le (inb 2)⟩ := by
  funext j
  rw [hm.readAt_unread, H.h6]
  have e : ∀ a, ((Rect.unit (s := S2x512x128) (![p, 0, 0] : Fin 3 → ℕ) size inb).toLoadRect.idx j a).val = (![p, 0, 0] : Fin 3 → ℕ) a + (j a).val := fun a => idxv _ _ _ _ _
  exact congr (congr (congrArg I.wuk (congrArg (hd i) (Fin.ext (e 0)))) (Fin.ext (e 1))) (Fin.ext (e 2))

theorem ld8 {m : Memref sig .tc .vmem S2x512x128 .fp8e4m3} (hm : m.IsWhole) (p : ℕ) (size : Fin 3 → ℕ) (inb) :
    View.readAt (Elt Ideal) m.view (Rect.unit (s := S2x512x128) ![p, 0, 0] size inb).toLoadRect (hm.unread x8) = fun j => I.wuv (hd i ⟨p + (j 0).val, (Nat.add_lt_add_left (j 0).isLt _).trans_le (inb 0)⟩) ⟨0 + (j 1).val, (Nat.add_lt_add_left (j 1).isLt _).trans_le (inb 1)⟩ ⟨0 + (j 2).val, (Nat.add_lt_add_left (j 2).isLt _).trans_le (inb 2)⟩ := by
  funext j
  rw [hm.readAt_unread, H.h8]
  have e : ∀ a, ((Rect.unit (s := S2x512x128) (![p, 0, 0] : Fin 3 → ℕ) size inb).toLoadRect.idx j a).val = (![p, 0, 0] : Fin 3 → ℕ) a + (j a).val := fun a => idxv _ _ _ _ _
  exact congr (congr (congrArg I.wuv (congrArg (hd i) (Fin.ext (e 0)))) (Fin.ext (e 1))) (Fin.ext (e 2))

theorem ld24 {m : Memref sig .tc .vmem S5x384x128 .f32} (hm : m.IsWhole) (b : ℕ) (size : Fin 3 → ℕ) (inb) :
    View.readAt (Elt Ideal) m.view (Rect.unit (s := S5x384x128) ![b, 0, 0] size inb).toLoadRect (hm.unread x24) = fun j => I.cs ⟨b + (j 0).val, (Nat.add_lt_add_left (j 0).isLt _).trans_le (inb 0)⟩ ⟨0 + (j 1).val, (Nat.add_lt_add_left (j 1).isLt _).trans_le (inb 1)⟩ := by
  funext j
  rw [hm.readAt_unread, H.h24]
  have e : ∀ a, ((Rect.unit (s := S5x384x128) (![b, 0, 0] : Fin 3 → ℕ) size inb).toLoadRect.idx j a).val = (![b, 0, 0] : Fin 3 → ℕ) a + (j a).val := fun a => idxv _ _ _ _ _
  exact congr (congrArg I.cs (Fin.ext (e 0))) (Fin.ext (e 1))

theorem ld25 {m : Memref sig .tc .vmem S8x128 .f32} (hm : m.IsWhole) (off : Fin 2 → ℕ) (size : Fin 2 → ℕ) (inb) :
    View.readAt (Elt Ideal) m.view (Rect.unit (s := S8x128) off size inb).toLoadRect (hm.unread x25) = fun j => krMax I := by
  funext j
  rw [hm.readAt_unread, H.h25]

/-- A row of the table of scales. -/
theorem ld23 {m : Memref sig .tc .vmem S6x20x128 .f32} (hm : m.IsWhole) (off : Fin 3 → ℕ) (r : Fin 6) (k : Fin 2) (ho : off = ![r.val, 2 * (i 0).val + k.val, 0]) (inb) :
    View.readAt (Elt Ideal) m.view (Rect.unit (s := S6x20x128) off S1x1x128.size inb).toLoadRect (hm.unread x23) = fun j => tabs I r (hd i k) := by
  subst ho
  funext j
  rw [hm.readAt_unread, H.h23]
  have e : ∀ a, ((Rect.unit (s := S6x20x128) (![r.val, 2 * (i 0).val + k.val, 0] : Fin 3 → ℕ) S1x1x128.size inb).toLoadRect.idx j a).val = (![r.val, 2 * (i 0).val + k.val, 0] : Fin 3 → ℕ) a + (j a).val := fun a => idxv _ _ _ _ _
  have j0 : (j 0).val = 0 := by have := (j 0).isLt; change (j 0).val < 1 at this; omega
  have j1 : (j 1).val = 0 := by have := (j 1).isLt; change (j 1).val < 1 at this; omega
  exact congr (congrArg (tabs I) (Fin.ext ((e 0).trans (by rw [j0]; rfl)))) (Fin.ext ((e 1).trans (by rw [j1]; rfl)))

theorem ld23_1_0 {m : Memref sig .tc .vmem S6x20x128 .f32} (hm : m.IsWhole) (inb) :
    View.readAt (Elt Ideal) m.view (Rect.unit (s := S6x20x128) (k0_off1 i 0#32) S1x1x128.size inb).toLoadRect (hm.unread x23) = fun j => qs I (hd i 0) :=
  ld23 H hm _ 0 0 (off1_0 i) inb

theorem ld23_1_1 {m : Memref sig .tc .vmem S6x20x128 .f32} (hm : m.IsWhole) (inb) :
    View.readAt (Elt Ideal) m.view (Rect.unit (s := S6x20x128) (k0_off1 i 1#32) S1x1x128.size inb).toLoadRect (hm.unread x23) = fun j => qs I (hd i 1) :=
  ld23 H hm _ 0 1 (off1_1 i) inb

theorem ld23_2_0 {m : Memref sig .tc .vmem S6x20x128 .f32} (hm : m.IsWhole) (inb) :
    View.readAt (Elt Ideal) m.view (Rect.unit (s := S6x20x128) (k0_off2 i 0#32) S1x1x128.size inb).toLoadRect (hm.unread x23) = fun j => qi I (hd i 0) :=
  ld23 H hm _ 1 0 (off2_0 i) inb

theorem ld23_2_1 {m : Memref sig .tc .vmem S6x20x128 .f32} (hm : m.IsWhole) (inb) :
    View.readAt (Elt Ideal) m.view (Rect.unit (s := S6x20x128) (k0_off2 i 1#32) S1x1x128.size inb).toLoadRect (hm.unread x23) = fun j => qi I (hd i 1) :=
  ld23 H hm _ 1 1 (off2_1 i) inb

theorem ld23_3_0 {m : Memref sig .tc .vmem S6x20x128 .f32} (hm : m.IsWhole) (inb) :
    View.readAt (Elt Ideal) m.view (Rect.unit (s := S6x20x128) (k0_off3 i 0#32) S1x1x128.size inb).toLoadRect (hm.unread x23) = fun j => ks I (hd i 0) :=
  ld23 H hm _ 2 0 (off3_0 i) inb

theorem ld23_3_1 {m : Memref sig .tc .vmem S6x20x128 .f32} (hm : m.IsWhole) (inb) :
    View.readAt (Elt Ideal) m.view (Rect.unit (s := S6x20x128) (k0_off3 i 1#32) S1x1x128.size inb).toLoadRect (hm.unread x23) = fun j => ks I (hd i 1) :=
  ld23 H hm _ 2 1 (off3_1 i) inb

theorem ld23_4_0 {m : Memref sig .tc .vmem S6x20x128 .f32} (hm : m.IsWhole) (inb) :
    View.readAt (Elt Ideal) m.view (Rect.unit (s := S6x20x128) (k0_off4 i 0#32) S1x1x128.size inb).toLoadRect (hm.unread x23) = fun j => ki I (hd i 0) :=
  ld23 H hm _ 3 0 (off4_0 i) inb

theorem ld23_4_1 {m : Memref sig .tc .vmem S6x20x128 .f32} (hm : m.IsWhole) (inb) :
    View.readAt (Elt Ideal) m.view (Rect.unit (s := S6x20x128) (k0_off4 i 1#32) S1x1x128.size inb).toLoadRect (hm.unread x23) = fun j => ki I (hd i 1) :=
  ld23 H hm _ 3 1 (off4_1 i) inb

theorem ld23_5_0 {m : Memref sig .tc .vmem S6x20x128 .f32} (hm : m.IsWhole) (inb) :
    View.readAt (Elt Ideal) m.view (Rect.unit (s := S6x20x128) (k0_off5 i 0#32) S1x1x128.size inb).toLoadRect (hm.unread x23) = fun j => vs I (hd i 0) :=
  ld23 H hm _ 4 0 (off5_0 i) inb

theorem ld23_5_1 {m : Memref sig .tc .vmem S6x20x128 .f32} (hm : m.IsWhole) (inb) :
    View.readAt (Elt Ideal) m.view (Rect.unit (s := S6x20x128) (k0_off5 i 1#32) S1x1x128.size inb).toLoadRect (hm.unread x23) = fun j => vs I (hd i 1) :=
  ld23 H hm _ 4 1 (off5_1 i) inb

theorem ld23_6_0 {m : Memref sig .tc .vmem S6x20x128 .f32} (hm : m.IsWhole) (inb) :
    View.readAt (Elt Ideal) m.view (Rect.unit (s := S6x20x128) (k0_off6 i 0#32) S1x1x128.size inb).toLoadRect (hm.unread x23) = fun j => vi I (hd i 0) :=
  ld23 H hm _ 5 0 (off6_0 i) inb

theorem ld23_6_1 {m : Memref sig .tc .vmem S6x20x128 .f32} (hm : m.IsWhole) (inb) :
    View.readAt (Elt Ideal) m.view (Rect.unit (s := S6x20x128) (k0_off6 i 1#32) S1x1x128.size inb).toLoadRect (hm.unread x23) = fun j => vi I (hd i 1) :=
  ld23 H hm _ 5 1 (off6_1 i) inb

omit H in
/-- A row of an array of magnitudes. -/
theorem ldrow {m : Memref sig .tc .vmem S20x128 .f32} (hm : m.IsWhole) (w : Fin 20 → Fin 128 → EReal) (x : Vec Ideal S20x128 .f32) (hx : x = fun y => w (y 0) (y 1))
    (off : Fin 2 → ℕ) (k : Fin 2) (ho : off = ![2 * (i 0).val + k.val, 0]) (inb) :
    View.readAt (Elt Ideal) m.view (Rect.unit (s := S20x128) off S1x128.size inb).toLoadRect (hm.unread x)
      = fun j => w (hd i k) ⟨(j 1).val, (Nat.le_add_left _ _).trans_lt ((Nat.add_lt_add_left (j 1).isLt _).trans_le (inb 1))⟩ := by
  subst ho
  funext j
  rw [hm.readAt_unread, hx]
  have e : ∀ a, ((Rect.unit (s := S20x128) (![2 * (i 0).val + k.val, 0] : Fin 2 → ℕ) S1x128.size inb).toLoadRect.idx j a).val = (![2 * (i 0).val + k.val, 0] : Fin 2 → ℕ) a + (j a).val := fun a => idxv _ _ _ _ _
  have j0 : (j 0).val = 0 := by have := (j 0).isLt; change (j 0).val < 1 at this; omega
  exact congr (congrArg w (Fin.ext ((e 0).trans (by rw [j0]; rfl)))) (Fin.ext ((e 1).trans (Nat.zero_add _)))

theorem ld7_0 {m : Memref sig .tc .vmem S20x128 .f32} (hm : m.IsWhole) (inb) :
    View.readAt (Elt Ideal) m.view (Rect.unit (s := S20x128) (k0_off7 i 0#32) S1x128.size inb).toLoadRect (hm.unread x7)
      = fun j => I.wks (hd i 0) ⟨(j 1).val, (Nat.le_add_left _ _).trans_lt ((Nat.add_lt_add_left (j 1).isLt _).trans_le (inb 1))⟩ :=
  ldrow hm I.wks x7 H.h7 _ 0 (off7_0 i) inb

theorem ld7_1 {m : Memref sig .tc .vmem S20x128 .f32} (hm : m.IsWhole) (inb) :
    View.readAt (Elt Ideal) m.view (Rect.unit (s := S20x128) (k0_off7 i 1#32) S1x128.size inb).toLoadRect (hm.unread x7)
      = fun j => I.wks (hd i 1) ⟨(j 1).val, (Nat.le_add_left _ _).trans_lt ((Nat.add_lt_add_left (j 1).isLt _).trans_le (inb 1))⟩ :=
  ldrow hm I.wks x7 H.h7 _ 1 (off7_1 i) inb

theorem ld9_0 {m : Memref sig .tc .vmem S20x128 .f32} (hm : m.IsWhole) (inb) :
    View.readAt (Elt Ideal) m.view (Rect.unit (s := S20x128) (k0_off7 i 0#32) S1x128.size inb).toLoadRect (hm.unread x9)
      = fun j => I.wvs (hd i 0) ⟨(j 1).val, (Nat.le_add_left _ _).trans_lt ((Nat.add_lt_add_left (j 1).isLt _).trans_le (inb 1))⟩ :=
  ldrow hm I.wvs x9 H.h9 _ 0 (off7_0 i) inb

theorem ld9_1 {m : Memref sig .tc .vmem S20x128 .f32} (hm : m.IsWhole) (inb) :
    View.readAt (Elt Ideal) m.view (Rect.unit (s := S20x128) (k0_off7 i 1#32) S1x128.size inb).toLoadRect (hm.unread x9)
      = fun j => I.wvs (hd i 1) ⟨(j 1).val, (Nat.le_add_left _ _).trans_lt ((Nat.add_lt_add_left (j 1).isLt _).trans_le (inb 1))⟩ :=
  ldrow hm I.wvs x9 H.h9 _ 1 (off7_1 i) inb

end

end Cert.KernelIdeal.Val

end
-- ==== Proof.Blocks.lean ====
/- The arguments as each grid point finds them in its input blocks, and where its blocks of the results lie. -/
module

public import proofs.«01_k».proof.Proof.Read
public import proofs.«01_k».proof.Proof.IdealRuns
public import Idealize.ShloMosaic.Lib.Pipeline.Value
public import Idealize.ShloMosaic.Lib.StableHlo.RunRead
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Mla

variable (m : (ℓ : Loc nD τ sig) → Buf (Elt Ideal) ℓ)

/-- The arguments, read off the launched memory. -/
def inOf (c : Dev nD) : In where
  ckv b t l := (m ((c : Thread nD τ).loc main_arg0) : S5x384x512.Idx → EReal) (ix3 b t l)
  cs b t := (m ((c : Thread nD τ).loc main_arg1) : S5x384.Idx → EReal) (ix2 b t)
  kr b t l := (m ((c : Thread nD τ).loc main_arg2) : S5x384x64.Idx → EReal) (ix3 b t l)
  qn b t h l := (m ((c : Thread nD τ).loc main_arg3) : S5x384x20x128.Idx → EReal) (ix4 b t h l)
  qr b t h l := (m ((c : Thread nD τ).loc main_arg4) : S5x384x20x64.Idx → EReal) (ix4 b t h l)
  wuk h l c' := (m ((c : Thread nD τ).loc main_arg5) : S20x512x128.Idx → EReal) (ix3 h l c')
  wks h c' := (m ((c : Thread nD τ).loc main_arg6) : S20x128.Idx → EReal) (ix2 h c')
  wuv h l c' := (m ((c : Thread nD τ).loc main_arg7) : S20x512x128.Idx → EReal) (ix3 h l c')
  wvs h c' := (m ((c : Thread nD τ).loc main_arg8) : S20x128.Idx → EReal) (ix2 h c')
  qh r h := (m ((c : Thread nD τ).loc main_arg9) : S13x20.Idx → EReal) (ix2 r h)
  kh r h := (m ((c : Thread nD τ).loc main_arg10) : S13x20.Idx → EReal) (ix2 r h)
  vh r h := (m ((c : Thread nD τ).loc main_arg11) : S13x20.Idx → EReal) (ix2 r h)

theorem V_main_v0 (c : Dev nD) : V m c main_v0 = transpose S5x64x384 [0, 2, 1] (m ((c : Thread nD τ).loc main_arg2) : S5x384x64.Idx → EReal) transposes_S5x384x64_S5x64x384_0_2_1 := by
  show StableHlo.after hostOps0 _ (Proc.devRef .tc main_v0) = _
  after_results
theorem V_main_v1 (c : Dev nD) : V m c main_v1 = transpose S5x20x384x128 [0, 2, 1, 3] (m ((c : Thread nD τ).loc main_arg3) : S5x384x20x128.Idx → EReal) transposes_S5x384x20x128_S5x20x384x128_0_2_1_3 := by
  show StableHlo.after hostOps0 _ (Proc.devRef .tc main_v1) = _
  after_results
theorem V_main_v2 (c : Dev nD) : V m c main_v2 = transpose S5x20x64x384 [0, 2, 3, 1] (m ((c : Thread nD τ).loc main_arg4) : S5x384x20x64.Idx → EReal) transposes_S5x384x20x64_S5x20x64x384_0_2_3_1 := by
  show StableHlo.after hostOps0 _ (Proc.devRef .tc main_v2) = _
  after_results
theorem tr2 (X : S5x384x64.Idx → EReal) (y : S5x64x384.Idx) : transpose S5x64x384 [0, 2, 1] X transposes_S5x384x64_S5x64x384_0_2_1 y = X (ix3 (y 0) (y 2) (y 1)) := by
  idx_vars y
  pointwise
theorem tr3 (X : S5x384x20x128.Idx → EReal) (y : S5x20x384x128.Idx) : transpose S5x20x384x128 [0, 2, 1, 3] X transposes_S5x384x20x128_S5x20x384x128_0_2_1_3 y = X (ix4 (y 0) (y 2) (y 1) (y 3)) := by
  idx_vars y
  pointwise
theorem tr4 (X : S5x384x20x64.Idx → EReal) (y : S5x20x64x384.Idx) : transpose S5x20x64x384 [0, 2, 3, 1] X transposes_S5x384x20x64_S5x20x64x384_0_2_3_1 y = X (ix4 (y 0) (y 3) (y 1) (y 2)) := by
  idx_vars y
  pointwise

theorem idx_0 : ∀ t : Fin cfg0.N, win0_0.index t (0 : Fin 3) = 0 ∧ win0_0.index t (1 : Fin 3) = 0 ∧ win0_0.index t (2 : Fin 3) = 0 :=
  (by decide +kernel : ∀ t : Fin grid0.N, _)
theorem emb_0 (t : Fin cfg0.N) (y : S5x384x512.Idx) : ((cfg0.win 0).blk t).view.emb y = ix3 (y 0) (y 1) (y 2) := by
  obtain ⟨e0, e1, e2⟩ := idx_0 t
  exact funext fun (a : Fin 3) => Fin.ext (match a with
    | ⟨0, _⟩ => by show win0_0.index t (0 : Fin 3) * 5 + 1 * (y 0).val = (y 0).val; omega
    | ⟨1, _⟩ => by show win0_0.index t (1 : Fin 3) * 384 + 1 * (y 1).val = (y 1).val; omega
    | ⟨2, _⟩ => by show win0_0.index t (2 : Fin 3) * 512 + 1 * (y 2).val = (y 2).val; omega)

theorem idx_1 : ∀ t : Fin cfg0.N, win0_1.index t (0 : Fin 2) = 0 ∧ win0_1.index t (1 : Fin 2) = 0 :=
  (by decide +kernel : ∀ t : Fin grid0.N, _)
theorem emb_1 (t : Fin cfg0.N) (y : S5x384.Idx) : ((cfg0.win 1).blk t).view.emb y = ix2 (y 0) (y 1) := by
  obtain ⟨e0, e1⟩ := idx_1 t
  exact funext fun (a : Fin 2) => Fin.ext (match a with
    | ⟨0, _⟩ => by show win0_1.index t (0 : Fin 2) * 5 + 1 * (y 0).val = (y 0).val; omega
    | ⟨1, _⟩ => by show win0_1.index t (1 : Fin 2) * 384 + 1 * (y 1).val = (y 1).val; omega)

theorem idx_2 : ∀ t : Fin cfg0.N, win0_2.index t (0 : Fin 3) = 0 ∧ win0_2.index t (1 : Fin 3) = 0 ∧ win0_2.index t (2 : Fin 3) = 0 :=
  (by decide +kernel : ∀ t : Fin grid0.N, _)
theorem emb_2 (t : Fin cfg0.N) (y : S5x64x384.Idx) : ((cfg0.win 2).blk t).view.emb y = ix3 (y 0) (y 1) (y 2) := by
  obtain ⟨e0, e1, e2⟩ := idx_2 t
  exact funext fun (a : Fin 3) => Fin.ext (match a with
    | ⟨0, _⟩ => by show win0_2.index t (0 : Fin 3) * 5 + 1 * (y 0).val = (y 0).val; omega
    | ⟨1, _⟩ => by show win0_2.index t (1 : Fin 3) * 64 + 1 * (y 1).val = (y 1).val; omega
    | ⟨2, _⟩ => by show win0_2.index t (2 : Fin 3) * 384 + 1 * (y 2).val = (y 2).val; omega)

theorem idx_3 : ∀ t : Fin cfg0.N, win0_3.index t (0 : Fin 4) = 0 ∧ win0_3.index t (1 : Fin 4) = (grid0.coords t 0).val ∧ win0_3.index t (2 : Fin 4) = 0 ∧ win0_3.index t (3 : Fin 4) = 0 :=
  (by decide +kernel : ∀ t : Fin grid0.N, _)
theorem emb_3 (t : Fin cfg0.N) (y : S5x2x384x128.Idx) : ((cfg0.win 3).blk t).view.emb y = ix4 (y 0) (hd (grid0.coords t) (y 1)) (y 2) (y 3) := by
  obtain ⟨e0, e1, e2, e3⟩ := idx_3 t
  exact funext fun (a : Fin 4) => Fin.ext (match a with
    | ⟨0, _⟩ => by show win0_3.index t (0 : Fin 4) * 5 + 1 * (y 0).val = (y 0).val; omega
    | ⟨1, _⟩ => by show win0_3.index t (1 : Fin 4) * 2 + 1 * (y 1).val = 2 * (grid0.coords t 0).val + (y 1).val; omega
    | ⟨2, _⟩ => by show win0_3.index t (2 : Fin 4) * 384 + 1 * (y 2).val = (y 2).val; omega
    | ⟨3, _⟩ => by show win0_3.index t (3 : Fin 4) * 128 + 1 * (y 3).val = (y 3).val; omega)

theorem idx_4 : ∀ t : Fin cfg0.N, win0_4.index t (0 : Fin 4) = 0 ∧ win0_4.index t (1 : Fin 4) = (grid0.coords t 0).val ∧ win0_4.index t (2 : Fin 4) = 0 ∧ win0_4.index t (3 : Fin 4) = 0 :=
  (by decide +kernel : ∀ t : Fin grid0.N, _)
theorem emb_4 (t : Fin cfg0.N) (y : S5x2x64x384.Idx) : ((cfg0.win 4).blk t).view.emb y = ix4 (y 0) (hd (grid0.coords t) (y 1)) (y 2) (y 3) := by
  obtain ⟨e0, e1, e2, e3⟩ := idx_4 t
  exact funext fun (a : Fin 4) => Fin.ext (match a with
    | ⟨0, _⟩ => by show win0_4.index t (0 : Fin 4) * 5 + 1 * (y 0).val = (y 0).val; omega
    | ⟨1, _⟩ => by show win0_4.index t (1 : Fin 4) * 2 + 1 * (y 1).val = 2 * (grid0.coords t 0).val + (y 1).val; omega
    | ⟨2, _⟩ => by show win0_4.index t (2 : Fin 4) * 64 + 1 * (y 2).val = (y 2).val; omega
    | ⟨3, _⟩ => by show win0_4.index t (3 : Fin 4) * 384 + 1 * (y 3).val = (y 3).val; omega)

theorem idx_5 : ∀ t : Fin cfg0.N, win0_5.index t (0 : Fin 3) = (grid0.coords t 0).val ∧ win0_5.index t (1 : Fin 3) = 0 ∧ win0_5.index t (2 : Fin 3) = 0 :=
  (by decide +kernel : ∀ t : Fin grid0.N, _)
theorem emb_5 (t : Fin cfg0.N) (y : S2x512x128.Idx) : ((cfg0.win 5).blk t).view.emb y = ix3 (hd (grid0.coords t) (y 0)) (y 1) (y 2) := by
  obtain ⟨e0, e1, e2⟩ := idx_5 t
  exact funext fun (a : Fin 3) => Fin.ext (match a with
    | ⟨0, _⟩ => by show win0_5.index t (0 : Fin 3) * 2 + 1 * (y 0).val = 2 * (grid0.coords t 0).val + (y 0).val; omega
    | ⟨1, _⟩ => by show win0_5.index t (1 : Fin 3) * 512 + 1 * (y 1).val = (y 1).val; omega
    | ⟨2, _⟩ => by show win0_5.index t (2 : Fin 3) * 128 + 1 * (y 2).val = (y 2).val; omega)

theorem idx_6 : ∀ t : Fin cfg0.N, win0_6.index t (0 : Fin 2) = 0 ∧ win0_6.index t (1 : Fin 2) = 0 :=
  (by decide +kernel : ∀ t : Fin grid0.N, _)
theorem emb_6 (t : Fin cfg0.N) (y : S20x128.Idx) : ((cfg0.win 6).blk t).view.emb y = ix2 (y 0) (y 1) := by
  obtain ⟨e0, e1⟩ := idx_6 t
  exact funext fun (a : Fin 2) => Fin.ext (match a with
    | ⟨0, _⟩ => by show win0_6.index t (0 : Fin 2) * 20 + 1 * (y 0).val = (y 0).val; omega
    | ⟨1, _⟩ => by show win0_6.index t (1 : Fin 2) * 128 + 1 * (y 1).val = (y 1).val; omega)

theorem idx_7 : ∀ t : Fin cfg0.N, win0_7.index t (0 : Fin 3) = (grid0.coords t 0).val ∧ win0_7.index t (1 : Fin 3) = 0 ∧ win0_7.index t (2 : Fin 3) = 0 :=
  (by decide +kernel : ∀ t : Fin grid0.N, _)
theorem emb_7 (t : Fin cfg0.N) (y : S2x512x128.Idx) : ((cfg0.win 7).blk t).view.emb y = ix3 (hd (grid0.coords t) (y 0)) (y 1) (y 2) := by
  obtain ⟨e0, e1, e2⟩ := idx_7 t
  exact funext fun (a : Fin 3) => Fin.ext (match a with
    | ⟨0, _⟩ => by show win0_7.index t (0 : Fin 3) * 2 + 1 * (y 0).val = 2 * (grid0.coords t 0).val + (y 0).val; omega
    | ⟨1, _⟩ => by show win0_7.index t (1 : Fin 3) * 512 + 1 * (y 1).val = (y 1).val; omega
    | ⟨2, _⟩ => by show win0_7.index t (2 : Fin 3) * 128 + 1 * (y 2).val = (y 2).val; omega)

theorem idx_8 : ∀ t : Fin cfg0.N, win0_8.index t (0 : Fin 2) = 0 ∧ win0_8.index t (1 : Fin 2) = 0 :=
  (by decide +kernel : ∀ t : Fin grid0.N, _)
theorem emb_8 (t : Fin cfg0.N) (y : S20x128.Idx) : ((cfg0.win 8).blk t).view.emb y = ix2 (y 0) (y 1) := by
  obtain ⟨e0, e1⟩ := idx_8 t
  exact funext fun (a : Fin 2) => Fin.ext (match a with
    | ⟨0, _⟩ => by show win0_8.index t (0 : Fin 2) * 20 + 1 * (y 0).val = (y 0).val; omega
    | ⟨1, _⟩ => by show win0_8.index t (1 : Fin 2) * 128 + 1 * (y 1).val = (y 1).val; omega)

theorem idx_9 : ∀ t : Fin cfg0.N, win0_9.index t (0 : Fin 2) = 0 ∧ win0_9.index t (1 : Fin 2) = 0 :=
  (by decide +kernel : ∀ t : Fin grid0.N, _)
theorem emb_9 (t : Fin cfg0.N) (y : S13x20.Idx) : ((cfg0.win 9).blk t).view.emb y = ix2 (y 0) (y 1) := by
  obtain ⟨e0, e1⟩ := idx_9 t
  exact funext fun (a : Fin 2) => Fin.ext (match a with
    | ⟨0, _⟩ => by show win0_9.index t (0 : Fin 2) * 13 + 1 * (y 0).val = (y 0).val; omega
    | ⟨1, _⟩ => by show win0_9.index t (1 : Fin 2) * 20 + 1 * (y 1).val = (y 1).val; omega)

theorem idx_10 : ∀ t : Fin cfg0.N, win0_10.index t (0 : Fin 2) = 0 ∧ win0_10.index t (1 : Fin 2) = 0 :=
  (by decide +kernel : ∀ t : Fin grid0.N, _)
theorem emb_10 (t : Fin cfg0.N) (y : S13x20.Idx) : ((cfg0.win 10).blk t).view.emb y = ix2 (y 0) (y 1) := by
  obtain ⟨e0, e1⟩ := idx_10 t
  exact funext fun (a : Fin 2) => Fin.ext (match a with
    | ⟨0, _⟩ => by show win0_10.index t (0 : Fin 2) * 13 + 1 * (y 0).val = (y 0).val; omega
    | ⟨1, _⟩ => by show win0_10.index t (1 : Fin 2) * 20 + 1 * (y 1).val = (y 1).val; omega)

theorem idx_11 : ∀ t : Fin cfg0.N, win0_11.index t (0 : Fin 2) = 0 ∧ win0_11.index t (1 : Fin 2) = 0 :=
  (by decide +kernel : ∀ t : Fin grid0.N, _)
theorem emb_11 (t : Fin cfg0.N) (y : S13x20.Idx) : ((cfg0.win 11).blk t).view.emb y = ix2 (y 0) (y 1) := by
  obtain ⟨e0, e1⟩ := idx_11 t
  exact funext fun (a : Fin 2) => Fin.ext (match a with
    | ⟨0, _⟩ => by show win0_11.index t (0 : Fin 2) * 13 + 1 * (y 0).val = (y 0).val; omega
    | ⟨1, _⟩ => by show win0_11.index t (1 : Fin 2) * 20 + 1 * (y 1).val = (y 1).val; omega)

theorem idx_12 : ∀ t : Fin cfg0.N, win0_12.index t (0 : Fin 4) = 0 ∧ win0_12.index t (1 : Fin 4) = (grid0.coords t 0).val ∧ win0_12.index t (2 : Fin 4) = 0 ∧ win0_12.index t (3 : Fin 4) = 0 :=
  (by decide +kernel : ∀ t : Fin grid0.N, _)
theorem emb_12 (t : Fin cfg0.N) (y : S5x2x384x128.Idx) : ((cfg0.win 12).blk t).view.emb y = ix4 (y 0) (hd (grid0.coords t) (y 1)) (y 2) (y 3) := by
  obtain ⟨e0, e1, e2, e3⟩ := idx_12 t
  exact funext fun (a : Fin 4) => Fin.ext (match a with
    | ⟨0, _⟩ => by show win0_12.index t (0 : Fin 4) * 5 + 1 * (y 0).val = (y 0).val; omega
    | ⟨1, _⟩ => by show win0_12.index t (1 : Fin 4) * 2 + 1 * (y 1).val = 2 * (grid0.coords t 0).val + (y 1).val; omega
    | ⟨2, _⟩ => by show win0_12.index t (2 : Fin 4) * 384 + 1 * (y 2).val = (y 2).val; omega
    | ⟨3, _⟩ => by show win0_12.index t (3 : Fin 4) * 128 + 1 * (y 3).val = (y 3).val; omega)

theorem idx_13 : ∀ t : Fin cfg0.N, win0_13.index t (0 : Fin 2) = 0 ∧ win0_13.index t (1 : Fin 2) = 0 :=
  (by decide +kernel : ∀ t : Fin grid0.N, _)
theorem emb_13 (t : Fin cfg0.N) (y : S1x20.Idx) : ((cfg0.win 13).blk t).view.emb y = ix2 (y 0) (y 1) := by
  obtain ⟨e0, e1⟩ := idx_13 t
  exact funext fun (a : Fin 2) => Fin.ext (match a with
    | ⟨0, _⟩ => by show win0_13.index t (0 : Fin 2) * 1 + 1 * (y 0).val = (y 0).val; omega
    | ⟨1, _⟩ => by show win0_13.index t (1 : Fin 2) * 20 + 1 * (y 1).val = (y 1).val; omega)

theorem idx_14 : ∀ t : Fin cfg0.N, win0_14.index t (0 : Fin 2) = 0 ∧ win0_14.index t (1 : Fin 2) = 0 :=
  (by decide +kernel : ∀ t : Fin grid0.N, _)
theorem emb_14 (t : Fin cfg0.N) (y : S1x20.Idx) : ((cfg0.win 14).blk t).view.emb y = ix2 (y 0) (y 1) := by
  obtain ⟨e0, e1⟩ := idx_14 t
  exact funext fun (a : Fin 2) => Fin.ext (match a with
    | ⟨0, _⟩ => by show win0_14.index t (0 : Fin 2) * 1 + 1 * (y 0).val = (y 0).val; omega
    | ⟨1, _⟩ => by show win0_14.index t (1 : Fin 2) * 20 + 1 * (y 1).val = (y 1).val; omega)

theorem idx_15 : ∀ t : Fin cfg0.N, win0_15.index t (0 : Fin 2) = 0 ∧ win0_15.index t (1 : Fin 2) = 0 :=
  (by decide +kernel : ∀ t : Fin grid0.N, _)
theorem emb_15 (t : Fin cfg0.N) (y : S1x20.Idx) : ((cfg0.win 15).blk t).view.emb y = ix2 (y 0) (y 1) := by
  obtain ⟨e0, e1⟩ := idx_15 t
  exact funext fun (a : Fin 2) => Fin.ext (match a with
    | ⟨0, _⟩ => by show win0_15.index t (0 : Fin 2) * 1 + 1 * (y 0).val = (y 0).val; omega
    | ⟨1, _⟩ => by show win0_15.index t (1 : Fin 2) * 20 + 1 * (y 1).val = (y 1).val; omega)

theorem idx_16 : ∀ t : Fin cfg0.N, win0_16.index t (0 : Fin 4) = 0 ∧ win0_16.index t (1 : Fin 4) = (grid0.coords t 0).val ∧ win0_16.index t (2 : Fin 4) = 0 ∧ win0_16.index t (3 : Fin 4) = 0 :=
  (by decide +kernel : ∀ t : Fin grid0.N, _)
theorem emb_16 (t : Fin cfg0.N) (y : S5x2x192x384.Idx) : ((cfg0.win 16).blk t).view.emb y = ix4 (y 0) (hd (grid0.coords t) (y 1)) (y 2) (y 3) := by
  obtain ⟨e0, e1, e2, e3⟩ := idx_16 t
  exact funext fun (a : Fin 4) => Fin.ext (match a with
    | ⟨0, _⟩ => by show win0_16.index t (0 : Fin 4) * 5 + 1 * (y 0).val = (y 0).val; omega
    | ⟨1, _⟩ => by show win0_16.index t (1 : Fin 4) * 2 + 1 * (y 1).val = 2 * (grid0.coords t 0).val + (y 1).val; omega
    | ⟨2, _⟩ => by show win0_16.index t (2 : Fin 4) * 192 + 1 * (y 2).val = (y 2).val; omega
    | ⟨3, _⟩ => by show win0_16.index t (3 : Fin 4) * 384 + 1 * (y 3).val = (y 3).val; omega)

theorem idx_17 : ∀ t : Fin cfg0.N, win0_17.index t (0 : Fin 2) = 0 ∧ win0_17.index t (1 : Fin 2) = 0 :=
  (by decide +kernel : ∀ t : Fin grid0.N, _)
theorem emb_17 (t : Fin cfg0.N) (y : S1x20.Idx) : ((cfg0.win 17).blk t).view.emb y = ix2 (y 0) (y 1) := by
  obtain ⟨e0, e1⟩ := idx_17 t
  exact funext fun (a : Fin 2) => Fin.ext (match a with
    | ⟨0, _⟩ => by show win0_17.index t (0 : Fin 2) * 1 + 1 * (y 0).val = (y 0).val; omega
    | ⟨1, _⟩ => by show win0_17.index t (1 : Fin 2) * 20 + 1 * (y 1).val = (y 1).val; omega)

theorem idx_18 : ∀ t : Fin cfg0.N, win0_18.index t (0 : Fin 4) = 0 ∧ win0_18.index t (1 : Fin 4) = (grid0.coords t 0).val ∧ win0_18.index t (2 : Fin 4) = 0 ∧ win0_18.index t (3 : Fin 4) = 0 :=
  (by decide +kernel : ∀ t : Fin grid0.N, _)
theorem emb_18 (t : Fin cfg0.N) (y : S5x2x192x384.Idx) : ((cfg0.win 18).blk t).view.emb y = ix4 (y 0) (hd (grid0.coords t) (y 1)) (y 2) (y 3) := by
  obtain ⟨e0, e1, e2, e3⟩ := idx_18 t
  exact funext fun (a : Fin 4) => Fin.ext (match a with
    | ⟨0, _⟩ => by show win0_18.index t (0 : Fin 4) * 5 + 1 * (y 0).val = (y 0).val; omega
    | ⟨1, _⟩ => by show win0_18.index t (1 : Fin 4) * 2 + 1 * (y 1).val = 2 * (grid0.coords t 0).val + (y 1).val; omega
    | ⟨2, _⟩ => by show win0_18.index t (2 : Fin 4) * 192 + 1 * (y 2).val = (y 2).val; omega
    | ⟨3, _⟩ => by show win0_18.index t (3 : Fin 4) * 384 + 1 * (y 3).val = (y 3).val; omega)

theorem idx_19 : ∀ t : Fin cfg0.N, win0_19.index t (0 : Fin 2) = 0 ∧ win0_19.index t (1 : Fin 2) = 0 :=
  (by decide +kernel : ∀ t : Fin grid0.N, _)
theorem emb_19 (t : Fin cfg0.N) (y : S1x20.Idx) : ((cfg0.win 19).blk t).view.emb y = ix2 (y 0) (y 1) := by
  obtain ⟨e0, e1⟩ := idx_19 t
  exact funext fun (a : Fin 2) => Fin.ext (match a with
    | ⟨0, _⟩ => by show win0_19.index t (0 : Fin 2) * 1 + 1 * (y 0).val = (y 0).val; omega
    | ⟨1, _⟩ => by show win0_19.index t (1 : Fin 2) * 20 + 1 * (y 1).val = (y 1).val; omega)

theorem idx_20 : ∀ t : Fin cfg0.N, win0_20.index t (0 : Fin 4) = 0 ∧ win0_20.index t (1 : Fin 4) = (grid0.coords t 0).val ∧ win0_20.index t (2 : Fin 4) = 0 ∧ win0_20.index t (3 : Fin 4) = 0 :=
  (by decide +kernel : ∀ t : Fin grid0.N, _)
theorem emb_20 (t : Fin cfg0.N) (y : S5x2x384x128.Idx) : ((cfg0.win 20).blk t).view.emb y = ix4 (y 0) (hd (grid0.coords t) (y 1)) (y 2) (y 3) := by
  obtain ⟨e0, e1, e2, e3⟩ := idx_20 t
  exact funext fun (a : Fin 4) => Fin.ext (match a with
    | ⟨0, _⟩ => by show win0_20.index t (0 : Fin 4) * 5 + 1 * (y 0).val = (y 0).val; omega
    | ⟨1, _⟩ => by show win0_20.index t (1 : Fin 4) * 2 + 1 * (y 1).val = 2 * (grid0.coords t 0).val + (y 1).val; omega
    | ⟨2, _⟩ => by show win0_20.index t (2 : Fin 4) * 384 + 1 * (y 2).val = (y 2).val; omega
    | ⟨3, _⟩ => by show win0_20.index t (3 : Fin 4) * 128 + 1 * (y 3).val = (y 3).val; omega)

theorem idx_21 : ∀ t : Fin cfg0.N, win0_21.index t (0 : Fin 2) = 0 ∧ win0_21.index t (1 : Fin 2) = 0 :=
  (by decide +kernel : ∀ t : Fin grid0.N, _)
theorem emb_21 (t : Fin cfg0.N) (y : S1x20.Idx) : ((cfg0.win 21).blk t).view.emb y = ix2 (y 0) (y 1) := by
  obtain ⟨e0, e1⟩ := idx_21 t
  exact funext fun (a : Fin 2) => Fin.ext (match a with
    | ⟨0, _⟩ => by show win0_21.index t (0 : Fin 2) * 1 + 1 * (y 0).val = (y 0).val; omega
    | ⟨1, _⟩ => by show win0_21.index t (1 : Fin 2) * 20 + 1 * (y 1).val = (y 1).val; omega)

theorem blk_0 (c : Dev nD) (t : Fin cfg0.N) : iblk m c 0 t = fun j : S5x384x512.Idx => (inOf m c).ckv (j 0) (j 1) (j 2) := by
  funext j
  show (V m c main_arg0) (((cfg0.win 0).blk t).view.emb j) = _
  rw [emb_0, V_main_arg0]
  rfl

theorem blk_1 (c : Dev nD) (t : Fin cfg0.N) : iblk m c 1 t = fun j : S5x384.Idx => (inOf m c).cs (j 0) (j 1) := by
  funext j
  show (V m c main_arg1) (((cfg0.win 1).blk t).view.emb j) = _
  rw [emb_1, V_main_arg1]
  rfl

theorem blk_2 (c : Dev nD) (t : Fin cfg0.N) : iblk m c 2 t = fun j : S5x64x384.Idx => (inOf m c).kr (j 0) (j 2) (j 1) := by
  funext j
  show (V m c main_v0) (((cfg0.win 2).blk t).view.emb j) = _
  rw [emb_2, V_main_v0]
  exact tr2 _ _

theorem blk_3 (c : Dev nD) (t : Fin cfg0.N) : iblk m c 3 t = fun j : S5x2x384x128.Idx => (inOf m c).qn (j 0) (j 2) (hd (grid0.coords t) (j 1)) (j 3) := by
  funext j
  show (V m c main_v1) (((cfg0.win 3).blk t).view.emb j) = _
  rw [emb_3, V_main_v1]
  exact tr3 _ _

theorem blk_4 (c : Dev nD) (t : Fin cfg0.N) : iblk m c 4 t = fun j : S5x2x64x384.Idx => (inOf m c).qr (j 0) (j 3) (hd (grid0.coords t) (j 1)) (j 2) := by
  funext j
  show (V m c main_v2) (((cfg0.win 4).blk t).view.emb j) = _
  rw [emb_4, V_main_v2]
  exact tr4 _ _

theorem blk_5 (c : Dev nD) (t : Fin cfg0.N) : iblk m c 5 t = fun j : S2x512x128.Idx => (inOf m c).wuk (hd (grid0.coords t) (j 0)) (j 1) (j 2) := by
  funext j
  show (V m c main_arg5) (((cfg0.win 5).blk t).view.emb j) = _
  rw [emb_5, V_main_arg5]
  rfl

theorem blk_6 (c : Dev nD) (t : Fin cfg0.N) : iblk m c 6 t = fun j : S20x128.Idx => (inOf m c).wks (j 0) (j 1) := by
  funext j
  show (V m c main_arg6) (((cfg0.win 6).blk t).view.emb j) = _
  rw [emb_6, V_main_arg6]
  rfl

theorem blk_7 (c : Dev nD) (t : Fin cfg0.N) : iblk m c 7 t = fun j : S2x512x128.Idx => (inOf m c).wuv (hd (grid0.coords t) (j 0)) (j 1) (j 2) := by
  funext j
  show (V m c main_arg7) (((cfg0.win 7).blk t).view.emb j) = _
  rw [emb_7, V_main_arg7]
  rfl

theorem blk_8 (c : Dev nD) (t : Fin cfg0.N) : iblk m c 8 t = fun j : S20x128.Idx => (inOf m c).wvs (j 0) (j 1) := by
  funext j
  show (V m c main_arg8) (((cfg0.win 8).blk t).view.emb j) = _
  rw [emb_8, V_main_arg8]
  rfl

theorem blk_9 (c : Dev nD) (t : Fin cfg0.N) : iblk m c 9 t = fun j : S13x20.Idx => (inOf m c).qh (j 0) (j 1) := by
  funext j
  show (V m c main_arg9) (((cfg0.win 9).blk t).view.emb j) = _
  rw [emb_9, V_main_arg9]
  rfl

theorem blk_10 (c : Dev nD) (t : Fin cfg0.N) : iblk m c 10 t = fun j : S13x20.Idx => (inOf m c).kh (j 0) (j 1) := by
  funext j
  show (V m c main_arg10) (((cfg0.win 10).blk t).view.emb j) = _
  rw [emb_10, V_main_arg10]
  rfl

theorem blk_11 (c : Dev nD) (t : Fin cfg0.N) : iblk m c 11 t = fun j : S13x20.Idx => (inOf m c).vh (j 0) (j 1) := by
  funext j
  show (V m c main_arg11) (((cfg0.win 11).blk t).view.emb j) = _
  rw [emb_11, V_main_arg11]
  rfl

end Cert.KernelIdeal.Val

end
-- ==== Proof.Kinds.lean ====
/- The terms a grid point's payloads come to, read as entries of the results: one lemma per kind of value. -/
module

public import proofs.«01_k».proof.Proof.Read

@[expose] public section

set_option maxRecDepth 16384

noncomputable section

namespace Cert.Mla

open Idealize.ShloMosaic

variable (I : In) (b : Fin 5) (h : Fin 20) (t j : Fin 384)

/-- The key's parts of the contraction commuted, the inverse scale taken in with the weights' scale. -/
theorem kn_ki (c : Fin 128) : (∑ x, I.wuk h x c * I.ckv b t x) * I.cs b t * (I.wks h c * ki I h) = kn I b h t c * ki I h := by
  have e : ∑ x, I.wuk h x c * I.ckv b t x = ∑ l, I.ckv b t l * I.wuk h l c := Finset.sum_congr rfl fun x _ => mul_comm _ _
  unfold kn
  rw [← mul_assoc, e]

theorem vv_vi (c : Fin 128) : (∑ x, I.ckv b t x * I.wuv h x c) * I.cs b t * (I.wvs h c * vi I h) = vv I b h t c * vi I h := by
  unfold vv
  rw [← mul_assoc]

theorem kc_nope (c : Fin 128) (p : c.val < 192) :
    min (Ideal.ofBits .f32 1138753536#32) (max (Ideal.ofBits .f32 3286237184#32) ((∑ x, I.wuk h x c * I.ckv b t x) * I.cs b t * (I.wks h c * ki I h)))
      = kc I b h t ⟨c.val, p⟩ := by
  rw [kn_ki]
  unfold kc code kk
  rw [dif_pos c.isLt]

theorem kc_rope (c : Fin 64) (p : 128 + c.val < 192) :
    min (Ideal.ofBits .f32 1138753536#32) (max (Ideal.ofBits .f32 3286237184#32) (I.kr b t c * ki I h))
      = kc I b h t ⟨128 + c.val, p⟩ := by
  unfold kc code kk
  rw [dif_neg (by simp)]
  congr 4
  exact Fin.ext (Nat.add_sub_cancel_left 128 c.val).symm

theorem qc_nope (c : Fin 128) (p : c.val < 192) :
    min (Ideal.ofBits .f32 1138753536#32) (max (Ideal.ofBits .f32 3286237184#32) (I.qn b t h c * qi I h))
      = qc I b h t ⟨c.val, p⟩ := by
  unfold qc code qq
  rw [dif_pos c.isLt]

theorem qc_rope (c : Fin 64) (p : 128 + c.val < 192) :
    min (Ideal.ofBits .f32 1138753536#32) (max (Ideal.ofBits .f32 3286237184#32) (I.qr b t h c * qi I h))
      = qc I b h t ⟨128 + c.val, p⟩ := by
  unfold qc code qq
  rw [dif_neg (by simp)]
  congr 4
  exact Fin.ext (Nat.add_sub_cancel_left 128 c.val).symm

theorem vc_eq (c : Fin 128) :
    min (Ideal.ofBits .f32 1138753536#32) (max (Ideal.ofBits .f32 3286237184#32) ((∑ x, I.ckv b t x * I.wuv h x c) * I.cs b t * (I.wvs h c * vi I h)))
      = vc I b h t c := by
  rw [vv_vi]; rfl

/-- A sum over the 192 channels, the two parts apart. -/
theorem sum_parts (f : Fin 192 → EReal) (p : ∀ c : Fin 128, c.val < 192) (q : ∀ c : Fin 64, 128 + c.val < 192) :
    (∑ c : Fin 128, f ⟨c.val, p c⟩) + (∑ c : Fin 64, f ⟨128 + c.val, q c⟩) = ∑ c, f c :=
  (Fin.sum_univ_add (a := 128) (b := 64) f).symm

/-- The product of the codes, the two parts of the contraction apart. -/
theorem dot_split :
    (∑ c : Fin 128, min (Ideal.ofBits .f32 1138753536#32) (max (Ideal.ofBits .f32 3286237184#32) (I.qn b t h c * qi I h)) * kc I b h j ⟨c.val, by omega⟩)
      + (∑ c : Fin 64, min (Ideal.ofBits .f32 1138753536#32) (max (Ideal.ofBits .f32 3286237184#32) (I.qr b t h c * qi I h)) * kc I b h j ⟨128 + c.val, by omega⟩)
      = dot I b h t j := by
  have p : ∀ c : Fin 128, c.val < 192 := fun c => by omega
  have q : ∀ c : Fin 64, 128 + c.val < 192 := fun c => by omega
  unfold dot
  rw [← sum_parts _ p q]
  exact congr (congrArg _ (Finset.sum_congr rfl fun c _ => by rw [qc_nope I b h t c (p c)])) (Finset.sum_congr rfl fun c _ => by rw [qc_rope I b h t c (q c)])

/-- The same of any two sums which agree with the parts term by term. -/
theorem dot_of {A : Fin 128 → EReal} {B : Fin 64 → EReal}
    (hA : ∀ c, A c = min (Ideal.ofBits .f32 1138753536#32) (max (Ideal.ofBits .f32 3286237184#32) (I.qn b t h c * qi I h)) * kc I b h j ⟨c.val, by omega⟩)
    (hB : ∀ c, B c = min (Ideal.ofBits .f32 1138753536#32) (max (Ideal.ofBits .f32 3286237184#32) (I.qr b t h c * qi I h)) * kc I b h j ⟨128 + c.val, by omega⟩) :
    (∑ c, A c) + (∑ c, B c) = dot I b h t j :=
  Eq.trans (congrArg₂ (fun a b : EReal => a + b) (Finset.sum_congr rfl fun c _ => hA c) (Finset.sum_congr rfl fun c _ => hB c)) (dot_split I b h t j)

theorem sle_iff {x t : ℕ} (hx : x < 384) (ht : t < 384) (a b' : EReal) :
    Scalar.select (IntOp.cmpi CmpIPredicate.sle (BitVec.ofNat 32 x) (BitVec.ofNat 32 t)) a b' = if x ≤ t then a else b' := by
  have h1 : (BitVec.ofNat 32 x).toInt = (x : ℤ) := by
    have h : (BitVec.ofNat 32 x).toNat = x := by rw [BitVec.toNat_ofNat]; omega
    rw [BitVec.toInt_eq_toNat_of_lt (by omega), h]
  have h2 : (BitVec.ofNat 32 t).toInt = (t : ℤ) := by
    have h : (BitVec.ofNat 32 t).toNat = t := by rw [BitVec.toNat_ofNat]; omega
    rw [BitVec.toInt_eq_toNat_of_lt (by omega), h]
  by_cases hle : x ≤ t
  · rw [if_pos hle]
    have : IntOp.cmpi CmpIPredicate.sle (BitVec.ofNat 32 x) (BitVec.ofNat 32 t) = 1#1 := by
      simp [IntOp.cmpi, BitVec.sle, h1, h2, hle]
    rw [this]; rfl
  · rw [if_neg hle]
    have : IntOp.cmpi CmpIPredicate.sle (BitVec.ofNat 32 x) (BitVec.ofNat 32 t) = 0#1 := by
      simp [IntOp.cmpi, BitVec.sle, h1, h2, hle]
    rw [this]; rfl

/-- The hidden scores of a block of 128 rows: the mask is taken on the last 128 keys alone. -/
theorem mask0 (r x : Fin 128) :
    Scalar.select (IntOp.cmpi CmpIPredicate.sle (BitVec.ofNat 32 x.val) (BitVec.ofNat 32 r.val)) (dot I b h ⟨0 + r.val, by omega⟩ ⟨0 + x.val, by omega⟩) ⊥
      = hid ⟨0 + r.val, by omega⟩ (fun y : Fin 128 => dot I b h ⟨0 + r.val, by omega⟩ (y.castLE (by omega))) x := by
  have e : (⟨0 + x.val, by omega⟩ : Fin 384) = x.castLE (by omega) := Fin.ext (show 0 + x.val = x.val by omega)
  rw [sle_iff (by omega) (by omega), e]
  unfold hid
  by_cases hx : x.val ≤ r.val
  · rw [if_pos hx, if_pos (show x.val ≤ 0 + r.val by omega)]
  · rw [if_neg hx, if_neg (show ¬ x.val ≤ 0 + r.val by omega)]

theorem mask1 (r : Fin 128) (x : Fin 256) :
    (if h' : x.val < 128 then dot I b h ⟨128 + r.val, by omega⟩ ⟨x.val, by omega⟩ else
      Scalar.select (IntOp.cmpi CmpIPredicate.sle (BitVec.ofNat 32 (x.val - 128)) (BitVec.ofNat 32 r.val)) (dot I b h ⟨128 + r.val, by omega⟩ ⟨128 + (x.val - 128), by omega⟩) ⊥)
      = hid ⟨128 + r.val, by omega⟩ (fun y : Fin 256 => dot I b h ⟨128 + r.val, by omega⟩ (y.castLE (by omega))) x := by
  unfold hid
  by_cases hx : x.val < 128
  · rw [dif_pos hx, if_pos (show x.val ≤ 128 + r.val by omega)]; rfl
  · rw [dif_neg hx, sle_iff (by omega) (by omega)]
    have e : (⟨128 + (x.val - 128), by omega⟩ : Fin 384) = x.castLE (by omega) := Fin.ext (show 128 + (x.val - 128) = x.val by omega)
    rw [e]
    by_cases hy : x.val - 128 ≤ r.val
    · rw [if_pos hy, if_pos (show x.val ≤ 128 + r.val by omega)]
    · rw [if_neg hy, if_neg (show ¬ x.val ≤ 128 + r.val by omega)]

theorem mask2 (r : Fin 128) (x : Fin 384) :
    (if h' : x.val < 256 then dot I b h ⟨256 + r.val, by omega⟩ x else
      Scalar.select (IntOp.cmpi CmpIPredicate.sle (BitVec.ofNat 32 (x.val - 256)) (BitVec.ofNat 32 r.val)) (dot I b h ⟨256 + r.val, by omega⟩ ⟨256 + (x.val - 256), by omega⟩) ⊥)
      = hid ⟨256 + r.val, by omega⟩ (fun y : Fin 384 => dot I b h ⟨256 + r.val, by omega⟩ (y.castLE (by omega))) x := by
  unfold hid
  by_cases hx : x.val < 256
  · rw [dif_pos hx, if_pos (show x.val ≤ 256 + r.val by omega)]; rfl
  · rw [dif_neg hx, sle_iff (by omega) (by omega)]
    have e : (⟨256 + (x.val - 256), by omega⟩ : Fin 384) = x.castLE (by omega) := Fin.ext (show 256 + (x.val - 256) = x.val by omega)
    rw [e]
    by_cases hy : x.val - 256 ≤ r.val
    · rw [if_pos hy, if_pos (show x.val ≤ 256 + r.val by omega)]
    · rw [if_neg hy, if_neg (show ¬ x.val ≤ 256 + r.val by omega)]

/-- Off the diagonal every key is seen. -/
theorem hid_off1 (r x : Fin 128) :
    dot I b h ⟨128 + r.val, by omega⟩ ⟨x.val, by omega⟩
      = hid ⟨128 + r.val, by omega⟩ (fun y : Fin 256 => dot I b h ⟨128 + r.val, by omega⟩ (y.castLE (by omega))) ⟨x.val, by omega⟩ := by
  unfold hid
  rw [if_pos (show x.val ≤ 128 + r.val by omega)]; rfl

theorem hid_diag1 (r x : Fin 128) :
    Scalar.select (IntOp.cmpi CmpIPredicate.sle (BitVec.ofNat 32 x.val) (BitVec.ofNat 32 r.val)) (dot I b h ⟨128 + r.val, by omega⟩ ⟨128 + x.val, by omega⟩) ⊥
      = hid ⟨128 + r.val, by omega⟩ (fun y : Fin 256 => dot I b h ⟨128 + r.val, by omega⟩ (y.castLE (by omega))) ⟨128 + x.val, by omega⟩ := by
  rw [sle_iff (by omega) (by omega)]
  unfold hid
  by_cases hx : x.val ≤ r.val
  · rw [if_pos hx, if_pos (show 128 + x.val ≤ 128 + r.val by omega)]; rfl
  · rw [if_neg hx, if_neg (show ¬ 128 + x.val ≤ 128 + r.val by omega)]

theorem dot_real : ∃ r : ℝ, dot I b h t j = r := by
  choose f hf using fun c => code_real (qq I b h t c * qi I h)
  choose g hg using fun c => code_real (kk I b h j c * ki I h)
  refine ⟨∑ c, f c * g c, ?_⟩
  unfold dot qc kc
  simp only [hf, hg]
  push_cast
  rfl

/-- A row of the kernel's attention over the keys up to the end of its block is the row of the attention. -/
theorem oo_row (hB : Bounded I) (c : Fin 128) {n : ℕ} (hn : n ≤ 384) (ht : t.val < n) :
    rowK t (fun y : Fin n => dot I b h t (y.castLE hn)) (qs I h * ks I h * (((Real.sqrt 192)⁻¹ * (Real.log 2)⁻¹ : ℝ) : EReal))
      (fun y => vc I b h (y.castLE hn) c) (vs I h) = oo I b h t c := by
  obtain ⟨sq, hq0, hq, -⟩ := scale_top I.qh h (fun r => hB.1 r h)
  obtain ⟨sk, hk0, hk, -⟩ := scale_top I.kh h (fun r => hB.2.1 r h)
  have eq : qs I h = sq := hq
  have ek : ks I h = sk := hk
  have e1 : qs I h * ks I h * (((Real.sqrt 192)⁻¹ * (Real.log 2)⁻¹ : ℝ) : EReal) = ((sq * sk * ((Real.sqrt 192)⁻¹ * (Real.log 2)⁻¹) : ℝ) : EReal) := by
    rw [eq, ek]; push_cast; ring_nf
  rw [e1]
  refine row_eq hn t ht (dot I b h t) (fun y => vc I b h y c) (dot_real I b h t) (sq * sk) (mul_pos hq0 hk0) (vs I h) (weight I b h t) fun y => ?_
  unfold weight score
  have e2 : qs I h * ks I h * (((Real.sqrt 192)⁻¹ : ℝ) : EReal) = ((sq * sk * (Real.sqrt 192)⁻¹ : ℝ) : EReal) := by
    rw [eq, ek]; push_cast; ring_nf
  rw [e2]

end Cert.Mla

end
-- ==== Proof.Goals.lean ====
/- What a grid point writes into each block of the four large results, and where a piece of it lies. -/
module

public import proofs.«01_k».proof.Proof.Kinds

@[expose] public section

set_option maxRecDepth 16384

noncomputable section

namespace Cert.KernelIdeal.Val

open Cert.KernelIdeal.Gen
open Idealize.ShloMosaic Idealize.ShloMosaic.TcCoe Idealize.ShloMosaic.Tactic
open Cert.Mla

/-- The block of the output, of the query's, the key's and the value's codes. -/
def G13 (I : In) (i : grid0.Coords) (y : S5x2x384x128.Idx) : EReal := oo I (y 0) (hd i (y 1)) (y 2) (y 3)
def G17 (I : In) (i : grid0.Coords) (y : S5x2x192x384.Idx) : EReal := qc I (y 0) (hd i (y 1)) (y 3) (y 2)
def G19 (I : In) (i : grid0.Coords) (y : S5x2x192x384.Idx) : EReal := kc I (y 0) (hd i (y 1)) (y 3) (y 2)
def G21 (I : In) (i : grid0.Coords) (y : S5x2x384x128.Idx) : EReal := vc I (y 0) (hd i (y 1)) (y 2) (y 3)

/-- Where a piece's entry lies: offset plus index. -/
theorem embv {s : Shape} (off size : Fin s.rank → ℕ) (inb) (x : (Rect.unit off size inb).shape.Idx) (a : Fin s.rank) :
    ((Rect.unit off size inb).emb x a).val = off a + (x a).val := by
  show off a + 1 * (x a).val = _; omega

variable (I : In) (i : grid0.Coords)

theorem G13_emb (b k p q : ℕ) (size : Fin 4 → ℕ) (inb) (x) :
    G13 I i ((Rect.unit (s := S5x2x384x128) ![b, k, p, q] size inb).emb x)
      = oo I ⟨b + (x 0).val, (Nat.add_lt_add_left (x 0).isLt _).trans_le (inb 0)⟩ (hd i ⟨k + (x 1).val, (Nat.add_lt_add_left (x 1).isLt _).trans_le (inb 1)⟩)
          ⟨p + (x 2).val, (Nat.add_lt_add_left (x 2).isLt _).trans_le (inb 2)⟩ ⟨q + (x 3).val, (Nat.add_lt_add_left (x 3).isLt _).trans_le (inb 3)⟩ := by
  have e := embv (s := S5x2x384x128) ![b, k, p, q] size inb x
  exact congr (congr (congr (congrArg (oo I) (Fin.ext (e 0))) (congrArg (hd i) (Fin.ext (e 1)))) (Fin.ext (e 2))) (Fin.ext (e 3))

theorem G21_emb (b k p q : ℕ) (size : Fin 4 → ℕ) (inb) (x) :
    G21 I i ((Rect.unit (s := S5x2x384x128) ![b, k, p, q] size inb).emb x)
      = vc I ⟨b + (x 0).val, (Nat.add_lt_add_left (x 0).isLt _).trans_le (inb 0)⟩ (hd i ⟨k + (x 1).val, (Nat.add_lt_add_left (x 1).isLt _).trans_le (inb 1)⟩)
          ⟨p + (x 2).val, (Nat.add_lt_add_left (x 2).isLt _).trans_le (inb 2)⟩ ⟨q + (x 3).val, (Nat.add_lt_add_left (x 3).isLt _).trans_le (inb 3)⟩ := by
  have e := embv (s := S5x2x384x128) ![b, k, p, q] size inb x
  exact congr (congr (congr (congrArg (vc I) (Fin.ext (e 0))) (congrArg (hd i) (Fin.ext (e 1)))) (Fin.ext (e 2))) (Fin.ext (e 3))

/-- The values of a store are the array's on the rectangle stored into. -/
abbrev Fills {s : Shape} (G : s.Idx → EReal) (R : Rect s) (f : R.shape.Idx → EReal) : Prop := ∀ x, f x = G (R.emb x)

theorem G17_emb (b k p q : ℕ) (size : Fin 4 → ℕ) (inb) (x) :
    G17 I i ((Rect.unit (s := S5x2x192x384) ![b, k, p, q] size inb).emb x)
      = qc I ⟨b + (x 0).val, (Nat.add_lt_add_left (x 0).isLt _).trans_le (inb 0)⟩ (hd i ⟨k + (x 1).val, (Nat.add_lt_add_left (x 1).isLt _).trans_le (inb 1)⟩)
          ⟨q + (x 3).val, (Nat.add_lt_add_left (x 3).isLt _).trans_le (inb 3)⟩ ⟨p + (x 2).val, (Nat.add_lt_add_left (x 2).isLt _).trans_le (inb 2)⟩ := by
  have e := embv (s := S5x2x192x384) ![b, k, p, q] size inb x
  exact congr (congr (congr (congrArg (qc I) (Fin.ext (e 0))) (congrArg (hd i) (Fin.ext (e 1)))) (Fin.ext (e 3))) (Fin.ext (e 2))

theorem G19_emb (b k p q : ℕ) (size : Fin 4 → ℕ) (inb) (x) :
    G19 I i ((Rect.unit (s := S5x2x192x384) ![b, k, p, q] size inb).emb x)
      = kc I ⟨b + (x 0).val, (Nat.add_lt_add_left (x 0).isLt _).trans_le (inb 0)⟩ (hd i ⟨k + (x 1).val, (Nat.add_lt_add_left (x 1).isLt _).trans_le (inb 1)⟩)
          ⟨q + (x 3).val, (Nat.add_lt_add_left (x 3).isLt _).trans_le (inb 3)⟩ ⟨p + (x 2).val, (Nat.add_lt_add_left (x 2).isLt _).trans_le (inb 2)⟩ := by
  have e := embv (s := S5x2x192x384) ![b, k, p, q] size inb x
  exact congr (congr (congr (congrArg (kc I) (Fin.ext (e 0))) (congrArg (hd i) (Fin.ext (e 1)))) (Fin.ext (e 3))) (Fin.ext (e 2))

end Cert.KernelIdeal.Val

end
-- ==== Proof.Cover.lean ====
/- What a list of writes leaves, where every write agrees with one function and the writes cover what is read. -/
module

public import proofs.«01_k».proof.Proof.Goals

@[expose] public section

set_option maxRecDepth 16384

noncomputable section

namespace Cert.KernelIdeal.Val

open Cert.KernelIdeal.Gen
open Idealize.ShloMosaic Idealize.ShloMosaic.TcCoe Idealize.ShloMosaic.Tactic
open Cert.Mla

variable {sig : RefSig} {κ : Kind} {sp : Space} {s : Shape} {e : EltTy}

/-- A load of covered entries reads the function. -/
theorem readCov_of_pieces (v : View sig κ sp s e) (G : s.Idx → Elt Ideal e) (L : List (View.Piece (Elt Ideal) s e)) (B : LoadRect s)
    (hG : ∀ p ∈ L, ∀ x : p.1.shape.Idx, p.2 x = G (p.1.emb x)) (hc : ∀ j : B.shape.Idx, ∃ p ∈ L, B.idx j ∈ p.1.set) :
    v.readCov L B = fun j => G (B.idx j) := by
  rw [View.readCov_eq_canon']
  funext j
  rw [← View.read_writes_apply_eq_canon v v.junk (B.idx j) L (hc j)]
  exact View.read_writes_apply_of_pieces v _ G L hG _ (hc j)

/-- A covering list leaves the function. -/
theorem read_of_pieces (v : View sig κ sp s e) (f : v.ty.Contents (Elt Ideal)) (G : s.Idx → Elt Ideal e) (L : List (View.Piece (Elt Ideal) s e))
    (hG : ∀ p ∈ L, ∀ x : p.1.shape.Idx, p.2 x = G (p.1.emb x)) (hc : ∀ y : s.Idx, ∃ p ∈ L, y ∈ p.1.set) :
    v.read (Elt Ideal) (v.writes (Elt Ideal) f L) = G :=
  funext fun y => View.read_writes_apply_of_pieces v f G L hG y (hc y)

/-- A unit rectangle of four axes holds the indices within its bounds. -/
theorem mem4 {d : Fin 4 → ℕ} {b k p q b' k' p' q' : ℕ} (inb) (y : (⟨4, d⟩ : Shape).Idx)
    (h0 : b ≤ (y 0).val ∧ (y 0).val < b + b') (h1 : k ≤ (y 1).val ∧ (y 1).val < k + k')
    (h2 : p ≤ (y 2).val ∧ (y 2).val < p + p') (h3 : q ≤ (y 3).val ∧ (y 3).val < q + q') :
    y ∈ (Rect.unit (s := ⟨4, d⟩) ![b, k, p, q] ![b', k', p', q'] inb).set := by
  rw [Rect.mem_set_unit]
  intro a
  fin_cases a
  · exact h0
  · exact h1
  · exact h2
  · exact h3

/-- A head's key codes within the block. -/
theorem G19_idx (I : In) (i : grid0.Coords) (b k : ℕ) (b' : Fin 5) (k' : Fin 2) (hb : b = b'.val) (hk : k = k'.val) (inb)
    (j : (Rect.unit (s := S5x2x192x384) ![b, k, 0, 0] S1x1x192x384.size inb).shape.Idx) :
    G19 I i ((Rect.unit (s := S5x2x192x384) ![b, k, 0, 0] S1x1x192x384.size inb).toLoadRect.idx j) = kc I b' (hd i k') (j 3) (j 2) := by
  have e : ∀ a, ((Rect.unit (s := S5x2x192x384) ![b, k, 0, 0] S1x1x192x384.size inb).toLoadRect.idx j a).val = (![b, k, 0, 0] : Fin 4 → ℕ) a + (j a).val := fun a => idxv _ _ _ _ _
  have h0 : (j 0).val < 1 := (j 0).isLt
  have h1 : (j 1).val < 1 := (j 1).isLt
  have e0 : _ = b + (j 0).val := e 0
  have e1 : _ = k + (j 1).val := e 1
  have e2 : _ = 0 + (j 2).val := e 2
  have e3 : _ = 0 + (j 3).val := e 3
  exact congr (congr (congr (congrArg (kc I) (Fin.ext (by omega))) (congrArg (hd i) (Fin.ext (by omega)))) (Fin.ext (e3.trans (Nat.zero_add _)))) (Fin.ext (e2.trans (Nat.zero_add _)))

end Cert.KernelIdeal.Val

end
-- ==== Proof.Rows.lean ====
/- A row of the attention as the kernel writes it, with the scores, the factors and the values of its keys left open. -/
module

public import proofs.«01_k».proof.Proof.Kinds

@[expose] public section

set_option maxRecDepth 16384

noncomputable section

namespace Cert.Mla

open Idealize.ShloMosaic

variable (I : In) (b : Fin 5) (h : Fin 20) (t : Fin 384)

/-- The factor of a head's scores, for a power of two. -/
abbrev kfac : EReal := qs I h * ks I h * (((Real.sqrt 192)⁻¹ * (Real.log 2)⁻¹ : ℝ) : EReal)
/-- The scores of the first n keys, the hidden ones at the bottom. -/
abbrev seen {n : ℕ} (hn : n ≤ 384) : Fin n → EReal := hid t (fun y : Fin n => dot I b h t (y.castLE hn))

theorem lt0 (r : Fin 128) : r.val < 384 := by omega
theorem lt1 (r : Fin 128) : 128 + r.val < 384 := by omega
theorem lt1' (r : Fin 128) : 128 + r.val < 256 := by omega
theorem lt2 (r : Fin 128) : 256 + r.val < 384 := by omega
theorem le0 : 128 ≤ 384 := by omega
theorem le2 : 384 ≤ 384 := by omega

/-- A row whose keys come in one piece. -/
theorem rowA (hB : Bounded I) (c : Fin 128) {n : ℕ} (hn : n ≤ 384) (ht : t.val < n) {S W W' v : Fin n → EReal}
    (hS : ∀ x, S x = seen I b h t hn x) (hW : ∀ x, W x = kfac I h) (hW' : ∀ x, W' x = kfac I h)
    (hv : ∀ x, v x = vc I b h (x.castLE hn) c) :
    (∑ x, min (Ideal.ofBits .f32 1138753536#32) (max 0 (FloatOps.exp2 (F := Ideal) (φ := .f32) ((S x - Finset.univ.fold max (Ideal.ofBits .f32 4286578688#32) (fun x => S x)) * W x))) * v x)
      * Ideal.div (vs I h) (∑ x, FloatOps.exp2 (F := Ideal) (φ := .f32) ((S x - Finset.univ.fold max (Ideal.ofBits .f32 4286578688#32) (fun x => S x)) * W' x))
      = oo I b h t c := by
  obtain rfl : S = _ := funext hS
  obtain rfl : W = _ := funext hW
  obtain rfl : W' = _ := funext hW'
  obtain rfl : v = _ := funext hv
  rw [ofBits_bot]
  exact oo_row I b h t hB c hn ht

/-- A row whose keys come in two pieces of 128, the maximum over both at once. -/
theorem rowB (hB : Bounded I) (c : Fin 128) (ht : t.val < 256) {S1 S2 W1 W2 W1' W2' v1 v2 : Fin 128 → EReal} {S : Fin 256 → EReal}
    (hS : ∀ x, S x = seen I b h t (by omega : 256 ≤ 384) x)
    (hS1 : ∀ x : Fin 128, S1 x = seen I b h t (by omega : 256 ≤ 384) ⟨x.val, by omega⟩)
    (hS2 : ∀ x : Fin 128, S2 x = seen I b h t (by omega : 256 ≤ 384) ⟨128 + x.val, by omega⟩)
    (hW1 : ∀ x, W1 x = kfac I h) (hW2 : ∀ x, W2 x = kfac I h)
    (hW1' : ∀ x, W1' x = kfac I h) (hW2' : ∀ x, W2' x = kfac I h)
    (hv1 : ∀ x : Fin 128, v1 x = vc I b h ⟨x.val, by omega⟩ c) (hv2 : ∀ x : Fin 128, v2 x = vc I b h ⟨128 + x.val, by omega⟩ c) :
    ((∑ x, min (Ideal.ofBits .f32 1138753536#32) (max 0 (FloatOps.exp2 (F := Ideal) (φ := .f32) ((S1 x - Finset.univ.fold max (Ideal.ofBits .f32 4286578688#32) (fun x => S x)) * W1 x))) * v1 x)
      + ∑ x, min (Ideal.ofBits .f32 1138753536#32) (max 0 (FloatOps.exp2 (F := Ideal) (φ := .f32) ((S2 x - Finset.univ.fold max (Ideal.ofBits .f32 4286578688#32) (fun x => S x)) * W2 x))) * v2 x)
      * Ideal.div (vs I h) ((∑ x, FloatOps.exp2 (F := Ideal) (φ := .f32) ((S1 x - Finset.univ.fold max (Ideal.ofBits .f32 4286578688#32) (fun x => S x)) * W1' x))
        + ∑ x, FloatOps.exp2 (F := Ideal) (φ := .f32) ((S2 x - Finset.univ.fold max (Ideal.ofBits .f32 4286578688#32) (fun x => S x)) * W2' x))
      = oo I b h t c := by
  obtain rfl : S = _ := funext hS
  obtain rfl : S1 = _ := funext hS1
  obtain rfl : S2 = _ := funext hS2
  obtain rfl : W1 = _ := funext hW1
  obtain rfl : W2 = _ := funext hW2
  obtain rfl : W1' = _ := funext hW1'
  obtain rfl : W2' = _ := funext hW2'
  obtain rfl : v1 = _ := funext hv1
  obtain rfl : v2 = _ := funext hv2
  rw [ofBits_bot, ← oo_row I b h t hB c (by omega : 256 ≤ 384) ht]
  unfold rowK
  congr 1
  · exact (Fin.sum_univ_add (a := 128) (b := 128) (fun j : Fin 256 => min (Ideal.ofBits .f32 0x43E00000#32) (max 0 (weightK t (fun y : Fin 256 => dot I b h t (y.castLE (by omega))) (kfac I h) j)) * vc I b h (j.castLE (by omega)) c)).symm
  · congr 1
    exact (Fin.sum_univ_add (a := 128) (b := 128) (fun j : Fin 256 => weightK t (fun y : Fin 256 => dot I b h t (y.castLE (by omega))) (kfac I h) j)).symm

/-- A factor written per block of rows, every block alike. -/
theorem fac3 {P Q : Prop} [Decidable P] [Decidable Q] (a : EReal) : (if h : P then a else if h : Q then a else a) = a := by
  split_ifs <;> rfl

theorem rope3 {P Q : Prop} [Decidable P] [Decidable Q] (A B y a k : EReal) :
    min A (max B (y * (if h : P then a else if h : Q then a else a))) * k = min A (max B (y * a)) * k := by
  rw [fac3]

theorem seen0 (r x : Fin 128) {A : EReal} (hA : A = dot I b h ⟨r.val, by omega⟩ ⟨x.val, by omega⟩) :
    Scalar.select (IntOp.cmpi CmpIPredicate.sle (BitVec.ofNat 32 x.val) (BitVec.ofNat 32 r.val)) A (Ideal.ofBits .f32 4286578688#32)
      = seen I b h ⟨r.val, by omega⟩ (by omega : 128 ≤ 384) x := by
  rw [hA, sle_iff (by omega) (by omega), ofBits_bot]
  unfold seen hid
  by_cases hx : x.val ≤ r.val
  · rw [if_pos hx, if_pos hx]; rfl
  · rw [if_neg hx, if_neg hx]

theorem seen1 (r : Fin 128) (x : Fin 256) {A : x.val < 128 → EReal} {B : ¬ x.val < 128 → EReal}
    (hA : ∀ p, A p = dot I b h ⟨128 + r.val, by omega⟩ ⟨x.val, by omega⟩)
    (hB : ∀ p, B p = dot I b h ⟨128 + r.val, by omega⟩ ⟨128 + (x.val - 128), by omega⟩) :
    (if p : x.val < 128 then A p else
      Scalar.select (IntOp.cmpi CmpIPredicate.sle (BitVec.ofNat 32 (x.val - 128)) (BitVec.ofNat 32 r.val)) (B p) (Ideal.ofBits .f32 4286578688#32))
      = seen I b h ⟨128 + r.val, by omega⟩ (by omega : 256 ≤ 384) x := by
  obtain rfl : A = _ := funext hA
  obtain rfl : B = _ := funext hB
  rw [ofBits_bot]
  exact mask1 I b h r x

theorem seen1a (r x : Fin 128) {A : EReal} (hA : A = dot I b h ⟨128 + r.val, by omega⟩ ⟨x.val, by omega⟩) :
    A = seen I b h ⟨128 + r.val, by omega⟩ (by omega : 256 ≤ 384) ⟨x.val, by omega⟩ := by
  rw [hA]; exact hid_off1 I b h r x

theorem seen1b (r x : Fin 128) {A : EReal} (hA : A = dot I b h ⟨128 + r.val, by omega⟩ ⟨128 + x.val, by omega⟩) :
    Scalar.select (IntOp.cmpi CmpIPredicate.sle (BitVec.ofNat 32 x.val) (BitVec.ofNat 32 r.val)) A (Ideal.ofBits .f32 4286578688#32)
      = seen I b h ⟨128 + r.val, by omega⟩ (by omega : 256 ≤ 384) ⟨128 + x.val, by omega⟩ := by
  rw [hA, ofBits_bot]; exact hid_diag1 I b h r x

theorem seen2 (r : Fin 128) (x : Fin 384) {A : x.val < 256 → EReal} {B : ¬ x.val < 256 → EReal}
    (hA : ∀ p, A p = dot I b h ⟨256 + r.val, by omega⟩ x)
    (hB : ∀ p, B p = dot I b h ⟨256 + r.val, by omega⟩ ⟨256 + (x.val - 256), by omega⟩) :
    (if p : x.val < 256 then A p else
      Scalar.select (IntOp.cmpi CmpIPredicate.sle (BitVec.ofNat 32 (x.val - 256)) (BitVec.ofNat 32 r.val)) (B p) (Ideal.ofBits .f32 4286578688#32))
      = seen I b h ⟨256 + r.val, by omega⟩ (by omega : 384 ≤ 384) x := by
  obtain rfl : A = _ := funext hA
  obtain rfl : B = _ := funext hB
  rw [ofBits_bot]
  exact mask2 I b h r x

end Cert.Mla

end
-- ==== Proof.AmaxMath.lean ====
/- The greatest magnitudes: the kernel's nested maxima of the scaled entries against the suprema of the specification. -/
module

public import proofs.«01_k».proof.Proof.Rows

@[expose] public section

noncomputable section

namespace Cert.Mla

open Idealize.ShloMosaic

/-- The lane of a head, as the kernel finds it. -/
theorem lane0 : ∀ (m : Fin 10) (n : Fin 20), IntOp.cmpi .eq (BitVec.ofNat 32 n.val) (Scalar.addi (Scalar.muli (BitVec.ofNat 32 m.val) 2#32) 0#32) = if n.val = 2 * m.val then 1#1 else 0#1 := by decide +kernel
theorem lane1 : ∀ (m : Fin 10) (n : Fin 20), IntOp.cmpi .eq (BitVec.ofNat 32 n.val) (Scalar.addi (Scalar.muli (BitVec.ofNat 32 m.val) 2#32) 1#32) = if n.val = 2 * m.val + 1 then 1#1 else 0#1 := by decide +kernel

theorem sel0 (m : Fin 10) (n : Fin 20) {a a' b : EReal} (h : a = a') :
    Scalar.select (IntOp.cmpi .eq (BitVec.ofNat 32 n.val) (Scalar.addi (Scalar.muli (BitVec.ofNat 32 m.val) 2#32) 0#32)) a b = if n.val = 2 * m.val then a' else b := by
  rw [lane0, h]; by_cases e : n.val = 2 * m.val
  · rw [if_pos e, if_pos e]; rfl
  · rw [if_neg e, if_neg e]; rfl
theorem sel1 (m : Fin 10) (n : Fin 20) {a a' b : EReal} (h : a = a') :
    Scalar.select (IntOp.cmpi .eq (BitVec.ofNat 32 n.val) (Scalar.addi (Scalar.muli (BitVec.ofNat 32 m.val) 2#32) 1#32)) a b = if n.val = 2 * m.val + 1 then a' else b := by
  rw [lane1, h]; by_cases e : n.val = 2 * m.val + 1
  · rw [if_pos e, if_pos e]; rfl
  · rw [if_neg e, if_neg e]; rfl

theorem mag_mul (x : EReal) (r : ℝ) (hr : 0 < r) : mag (x * r) = mag x * r := by
  have h0 : (0 : EReal) ≤ (r : EReal) := by exact_mod_cast hr.le
  unfold mag
  rw [← EReal.neg_mul]
  rcases le_total x (-x) with h | h
  · rw [max_eq_right h, max_eq_right (mul_le_mul_of_nonneg_right h h0)]
  · rw [max_eq_left h, max_eq_left (mul_le_mul_of_nonneg_right h h0)]

/-- Scaling down, taking the magnitude and scaling back. -/
theorem mag_back (x u : EReal) (s : ℝ) (hs : 0 < s) : mag (x * ((s⁻¹ : ℝ) : EReal)) ≤ u / (s : EReal) ↔ mag x ≤ u := by
  rw [EReal.le_div_iff_mul_le (by exact_mod_cast hs) (EReal.coe_ne_top s), mag_mul x _ (inv_pos.mpr hs), mul_assoc, ← EReal.coe_mul,
    inv_mul_cancel₀ hs.ne', EReal.coe_one, mul_one]

theorem scale_le (x u : EReal) (s : ℝ) (hs : 0 < s) : x * (s : EReal) ≤ u ↔ x ≤ u / (s : EReal) :=
  (EReal.le_div_iff_mul_le (by exact_mod_cast hs) (EReal.coe_ne_top s)).symm

theorem fold5 {m n : ℕ} (f : Fin 5 → Fin m → Fin n → EReal) (u : EReal) :
    Finset.univ.fold max (Ideal.ofBits .f32 0xFF800000#32) (fun x => (max (max (max (max (Finset.univ.fold max (Ideal.ofBits .f32 0xFF800000#32) (fun y => f 0 x y)) (Finset.univ.fold max (Ideal.ofBits .f32 0xFF800000#32) (fun y => f 1 x y))) (Finset.univ.fold max (Ideal.ofBits .f32 0xFF800000#32) (fun y => f 2 x y))) (Finset.univ.fold max (Ideal.ofBits .f32 0xFF800000#32) (fun y => f 3 x y))) (Finset.univ.fold max (Ideal.ofBits .f32 0xFF800000#32) (fun y => f 4 x y)))) ≤ u ↔ ∀ b x y, f b x y ≤ u := by
  rw [ofBits_bot]
  simp only [fold_le, max_le_iff]
  constructor
  · intro H b x y
    obtain ⟨⟨⟨⟨h0, h1⟩, h2⟩, h3⟩, h4⟩ := H x
    fin_cases b
    · exact h0 y
    · exact h1 y
    · exact h2 y
    · exact h3 y
    · exact h4 y
  · intro H x
    exact ⟨⟨⟨⟨H 0 x, H 1 x⟩, H 2 x⟩, H 3 x⟩, H 4 x⟩

theorem forall192 (P : EReal → Prop) (f : Fin 128 → EReal) (g : Fin 64 → EReal) :
    (∀ c : Fin 192, P (if h : c.val < 128 then f ⟨c.val, h⟩ else g ⟨c.val - 128, by omega⟩)) ↔ (∀ c, P (f c)) ∧ ∀ c, P (g c) := by
  constructor
  · intro H
    refine ⟨fun c => ?_, fun c => ?_⟩
    · have := H ⟨c.val, by omega⟩
      rwa [dif_pos c.isLt] at this
    · have h := H ⟨128 + c.val, by omega⟩
      rw [dif_neg (by simp)] at h
      have e : (⟨128 + c.val - 128, by omega⟩ : Fin 64) = c := Fin.ext (by simp)
      simpa only [e] using h
  · rintro ⟨H, H'⟩ c
    by_cases h : c.val < 128
    · rw [dif_pos h]; exact H _
    · rw [dif_neg h]; exact H' _

variable (I : In)

theorem qa_le (i : Fin 20) (u : EReal) : qa I i ≤ u ↔ (∀ b t c, mag (I.qn b t i c) ≤ u) ∧ ∀ b t c, mag (I.qr b t i c) ≤ u := by
  unfold qa
  simp only [iSup_le_iff]
  constructor
  · intro H
    exact ⟨fun b t => ((forall192 (fun x => mag x ≤ u) (fun c => I.qn b t i c) (fun c => I.qr b t i c)).1 (H b t)).1,
      fun b t => ((forall192 (fun x => mag x ≤ u) (fun c => I.qn b t i c) (fun c => I.qr b t i c)).1 (H b t)).2⟩
  · rintro ⟨H, H'⟩ b t
    exact (forall192 (fun x => mag x ≤ u) (fun c => I.qn b t i c) (fun c => I.qr b t i c)).2 ⟨H b t, H' b t⟩

theorem ka_le (i : Fin 20) (u : EReal) : ka I i ≤ u ↔ (∀ b t c, mag (kn I b i t c) ≤ u) ∧ ∀ b t c, mag (I.kr b t c) ≤ u := by
  unfold ka
  simp only [iSup_le_iff]
  constructor
  · intro H
    exact ⟨fun b t => ((forall192 (fun x => mag x ≤ u) (fun c => kn I b i t c) (fun c => I.kr b t c)).1 (H b t)).1,
      fun b t => ((forall192 (fun x => mag x ≤ u) (fun c => kn I b i t c) (fun c => I.kr b t c)).1 (H b t)).2⟩
  · rintro ⟨H, H'⟩ b t
    exact (forall192 (fun x => mag x ≤ u) (fun c => kn I b i t c) (fun c => I.kr b t c)).2 ⟨H b t, H' b t⟩

theorem va_le (i : Fin 20) (u : EReal) : va I i ≤ u ↔ ∀ b t c, mag (vv I b i t c) ≤ u := by
  unfold va; simp only [iSup_le_iff]

theorem w0 (x : Fin 128) : x.val < 384 := by omega
theorem w1 (x : Fin 128) : 128 + x.val < 384 := by omega
theorem w2 (x : Fin 128) : 256 + x.val < 384 := by omega

theorem fold20 (p : Fin 5 → Fin 384 → Fin 128 → EReal) (q : Fin 5 → Fin 384 → Fin 64 → EReal) (u : EReal) :
    Finset.univ.fold max (Ideal.ofBits .f32 0xFF800000#32) (fun x : Fin 128 => (max (max (max (max (max (max (max (max (max (max (max (max (max (max (max (max (max (max (max (Finset.univ.fold max (Ideal.ofBits .bf16 0xFF80#16) (fun t : Fin 384 => p 0 t x)) (Finset.univ.fold max (Ideal.ofBits .bf16 0xFF80#16) (fun c : Fin 64 => q 0 ⟨x.val, (w0 x)⟩ c))) (Finset.univ.fold max (Ideal.ofBits .bf16 0xFF80#16) (fun c : Fin 64 => q 0 ⟨128 + x.val, (w1 x)⟩ c))) (Finset.univ.fold max (Ideal.ofBits .bf16 0xFF80#16) (fun c : Fin 64 => q 0 ⟨256 + x.val, (w2 x)⟩ c))) (Finset.univ.fold max (Ideal.ofBits .bf16 0xFF80#16) (fun t : Fin 384 => p 1 t x))) (Finset.univ.fold max (Ideal.ofBits .bf16 0xFF80#16) (fun c : Fin 64 => q 1 ⟨x.val, (w0 x)⟩ c))) (Finset.univ.fold max (Ideal.ofBits .bf16 0xFF80#16) (fun c : Fin 64 => q 1 ⟨128 + x.val, (w1 x)⟩ c))) (Finset.univ.fold max (Ideal.ofBits .bf16 0xFF80#16) (fun c : Fin 64 => q 1 ⟨256 + x.val, (w2 x)⟩ c))) (Finset.univ.fold max (Ideal.ofBits .bf16 0xFF80#16) (fun t : Fin 384 => p 2 t x))) (Finset.univ.fold max (Ideal.ofBits .bf16 0xFF80#16) (fun c : Fin 64 => q 2 ⟨x.val, (w0 x)⟩ c))) (Finset.univ.fold max (Ideal.ofBits .bf16 0xFF80#16) (fun c : Fin 64 => q 2 ⟨128 + x.val, (w1 x)⟩ c))) (Finset.univ.fold max (Ideal.ofBits .bf16 0xFF80#16) (fun c : Fin 64 => q 2 ⟨256 + x.val, (w2 x)⟩ c))) (Finset.univ.fold max (Ideal.ofBits .bf16 0xFF80#16) (fun t : Fin 384 => p 3 t x))) (Finset.univ.fold max (Ideal.ofBits .bf16 0xFF80#16) (fun c : Fin 64 => q 3 ⟨x.val, (w0 x)⟩ c))) (Finset.univ.fold max (Ideal.ofBits .bf16 0xFF80#16) (fun c : Fin 64 => q 3 ⟨128 + x.val, (w1 x)⟩ c))) (Finset.univ.fold max (Ideal.ofBits .bf16 0xFF80#16) (fun c : Fin 64 => q 3 ⟨256 + x.val, (w2 x)⟩ c))) (Finset.univ.fold max (Ideal.ofBits .bf16 0xFF80#16) (fun t : Fin 384 => p 4 t x))) (Finset.univ.fold max (Ideal.ofBits .bf16 0xFF80#16) (fun c : Fin 64 => q 4 ⟨x.val, (w0 x)⟩ c))) (Finset.univ.fold max (Ideal.ofBits .bf16 0xFF80#16) (fun c : Fin 64 => q 4 ⟨128 + x.val, (w1 x)⟩ c))) (Finset.univ.fold max (Ideal.ofBits .bf16 0xFF80#16) (fun c : Fin 64 => q 4 ⟨256 + x.val, (w2 x)⟩ c)))) ≤ u
      ↔ (∀ b t c, p b t c ≤ u) ∧ ∀ b t c, q b t c ≤ u := by
  rw [ofBits_bot, ofBits_bot16]
  simp only [fold_le, max_le_iff]
  constructor
  · intro H
    refine ⟨fun b t c => ?_, fun b t c => ?_⟩
    · obtain ⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩ := H c
      fin_cases b
      · exact h0 t
      · exact h4 t
      · exact h8 t
      · exact h12 t
      · exact h16 t
    · by_cases l1 : t.val < 128
      · obtain ⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩ := H ⟨t.val, l1⟩
        fin_cases b
        · exact h1 c
        · exact h5 c
        · exact h9 c
        · exact h13 c
        · exact h17 c
      · by_cases l2 : t.val < 256
        · have e : (⟨128 + (t.val - 128), by omega⟩ : Fin 384) = t := Fin.ext (by simp only []; omega)
          obtain ⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩ := H ⟨t.val - 128, by omega⟩
          simp only [e] at h2 h6 h10 h14 h18
          fin_cases b
          · exact h2 c
          · exact h6 c
          · exact h10 c
          · exact h14 c
          · exact h18 c
        · have e : (⟨256 + (t.val - 256), by omega⟩ : Fin 384) = t := Fin.ext (by simp only []; omega)
          obtain ⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩ := H ⟨t.val - 256, by omega⟩
          simp only [e] at h3 h7 h11 h15 h19
          fin_cases b
          · exact h3 c
          · exact h7 c
          · exact h11 c
          · exact h15 c
          · exact h19 c
  · rintro ⟨H, H'⟩ x
    exact ⟨⟨⟨⟨⟨⟨⟨⟨⟨⟨⟨⟨⟨⟨⟨⟨⟨⟨⟨fun t => H 0 t x, fun c => H' 0 _ c⟩, fun c => H' 0 _ c⟩, fun c => H' 0 _ c⟩, fun t => H 1 t x⟩, fun c => H' 1 _ c⟩, fun c => H' 1 _ c⟩, fun c => H' 1 _ c⟩, fun t => H 2 t x⟩, fun c => H' 2 _ c⟩, fun c => H' 2 _ c⟩, fun c => H' 2 _ c⟩, fun t => H 3 t x⟩, fun c => H' 3 _ c⟩, fun c => H' 3 _ c⟩, fun c => H' 3 _ c⟩, fun t => H 4 t x⟩, fun c => H' 4 _ c⟩, fun c => H' 4 _ c⟩, fun c => H' 4 _ c⟩

theorem qa_raw (h : Fin 20) :
    Finset.univ.fold max (Ideal.ofBits .f32 0xFF800000#32) (fun x : Fin 128 => (max (max (max (max (max (max (max (max (max (max (max (max (max (max (max (max (max (max (max (Finset.univ.fold max (Ideal.ofBits .bf16 0xFF80#16) (fun t : Fin 384 => FloatOps.absf (F := Ideal) (φ := .bf16) (I.qn 0 t h x))) (Finset.univ.fold max (Ideal.ofBits .bf16 0xFF80#16) (fun c : Fin 64 => FloatOps.absf (F := Ideal) (φ := .bf16) (I.qr 0 ⟨x.val, w0 x⟩ h c)))) (Finset.univ.fold max (Ideal.ofBits .bf16 0xFF80#16) (fun c : Fin 64 => FloatOps.absf (F := Ideal) (φ := .bf16) (I.qr 0 ⟨128 + x.val, w1 x⟩ h c)))) (Finset.univ.fold max (Ideal.ofBits .bf16 0xFF80#16) (fun c : Fin 64 => FloatOps.absf (F := Ideal) (φ := .bf16) (I.qr 0 ⟨256 + x.val, w2 x⟩ h c)))) (Finset.univ.fold max (Ideal.ofBits .bf16 0xFF80#16) (fun t : Fin 384 => FloatOps.absf (F := Ideal) (φ := .bf16) (I.qn 1 t h x)))) (Finset.univ.fold max (Ideal.ofBits .bf16 0xFF80#16) (fun c : Fin 64 => FloatOps.absf (F := Ideal) (φ := .bf16) (I.qr 1 ⟨x.val, w0 x⟩ h c)))) (Finset.univ.fold max (Ideal.ofBits .bf16 0xFF80#16) (fun c : Fin 64 => FloatOps.absf (F := Ideal) (φ := .bf16) (I.qr 1 ⟨128 + x.val, w1 x⟩ h c)))) (Finset.univ.fold max (Ideal.ofBits .bf16 0xFF80#16) (fun c : Fin 64 => FloatOps.absf (F := Ideal) (φ := .bf16) (I.qr 1 ⟨256 + x.val, w2 x⟩ h c)))) (Finset.univ.fold max (Ideal.ofBits .bf16 0xFF80#16) (fun t : Fin 384 => FloatOps.absf (F := Ideal) (φ := .bf16) (I.qn 2 t h x)))) (Finset.univ.fold max (Ideal.ofBits .bf16 0xFF80#16) (fun c : Fin 64 => FloatOps.absf (F := Ideal) (φ := .bf16) (I.qr 2 ⟨x.val, w0 x⟩ h c)))) (Finset.univ.fold max (Ideal.ofBits .bf16 0xFF80#16) (fun c : Fin 64 => FloatOps.absf (F := Ideal) (φ := .bf16) (I.qr 2 ⟨128 + x.val, w1 x⟩ h c)))) (Finset.univ.fold max (Ideal.ofBits .bf16 0xFF80#16) (fun c : Fin 64 => FloatOps.absf (F := Ideal) (φ := .bf16) (I.qr 2 ⟨256 + x.val, w2 x⟩ h c)))) (Finset.univ.fold max (Ideal.ofBits .bf16 0xFF80#16) (fun t : Fin 384 => FloatOps.absf (F := Ideal) (φ := .bf16) (I.qn 3 t h x)))) (Finset.univ.fold max (Ideal.ofBits .bf16 0xFF80#16) (fun c : Fin 64 => FloatOps.absf (F := Ideal) (φ := .bf16) (I.qr 3 ⟨x.val, w0 x⟩ h c)))) (Finset.univ.fold max (Ideal.ofBits .bf16 0xFF80#16) (fun c : Fin 64 => FloatOps.absf (F := Ideal) (φ := .bf16) (I.qr 3 ⟨128 + x.val, w1 x⟩ h c)))) (Finset.univ.fold max (Ideal.ofBits .bf16 0xFF80#16) (fun c : Fin 64 => FloatOps.absf (F := Ideal) (φ := .bf16) (I.qr 3 ⟨256 + x.val, w2 x⟩ h c)))) (Finset.univ.fold max (Ideal.ofBits .bf16 0xFF80#16) (fun t : Fin 384 => FloatOps.absf (F := Ideal) (φ := .bf16) (I.qn 4 t h x)))) (Finset.univ.fold max (Ideal.ofBits .bf16 0xFF80#16) (fun c : Fin 64 => FloatOps.absf (F := Ideal) (φ := .bf16) (I.qr 4 ⟨x.val, w0 x⟩ h c)))) (Finset.univ.fold max (Ideal.ofBits .bf16 0xFF80#16) (fun c : Fin 64 => FloatOps.absf (F := Ideal) (φ := .bf16) (I.qr 4 ⟨128 + x.val, w1 x⟩ h c)))) (Finset.univ.fold max (Ideal.ofBits .bf16 0xFF80#16) (fun c : Fin 64 => FloatOps.absf (F := Ideal) (φ := .bf16) (I.qr 4 ⟨256 + x.val, w2 x⟩ h c))))) = qa I h :=
  eq_of_forall_ge_iff fun u => (fold20 (fun b t c => mag (I.qn b t h c)) (fun b t c => mag (I.qr b t h c)) u).trans (qa_le I h u).symm

theorem va_raw (h : Fin 20) (s : ℝ) (hs : 0 < s) (e : vs I h = s) (e' : vi I h = ((s⁻¹ : ℝ) : EReal)) :
    Finset.univ.fold max (Ideal.ofBits .f32 0xFF800000#32) (fun c : Fin 128 => (max (max (max (max (Finset.univ.fold max (Ideal.ofBits .f32 0xFF800000#32) (fun t : Fin 384 => FloatOps.absf (F := Ideal) (φ := .f32) ((∑ l, I.ckv 0 t l * I.wuv h l c) * I.cs 0 t * (I.wvs h c * vi I h)))) (Finset.univ.fold max (Ideal.ofBits .f32 0xFF800000#32) (fun t : Fin 384 => FloatOps.absf (F := Ideal) (φ := .f32) ((∑ l, I.ckv 1 t l * I.wuv h l c) * I.cs 1 t * (I.wvs h c * vi I h))))) (Finset.univ.fold max (Ideal.ofBits .f32 0xFF800000#32) (fun t : Fin 384 => FloatOps.absf (F := Ideal) (φ := .f32) ((∑ l, I.ckv 2 t l * I.wuv h l c) * I.cs 2 t * (I.wvs h c * vi I h))))) (Finset.univ.fold max (Ideal.ofBits .f32 0xFF800000#32) (fun t : Fin 384 => FloatOps.absf (F := Ideal) (φ := .f32) ((∑ l, I.ckv 3 t l * I.wuv h l c) * I.cs 3 t * (I.wvs h c * vi I h))))) (Finset.univ.fold max (Ideal.ofBits .f32 0xFF800000#32) (fun t : Fin 384 => FloatOps.absf (F := Ideal) (φ := .f32) ((∑ l, I.ckv 4 t l * I.wuv h l c) * I.cs 4 t * (I.wvs h c * vi I h)))))) * vs I h = va I h := by
  refine eq_of_forall_ge_iff fun u => ?_
  rw [va_le, e, scale_le _ _ _ hs]
  refine (fold5 (fun b c t => FloatOps.absf (F := Ideal) (φ := .f32) ((∑ l, I.ckv b t l * I.wuv h l c) * I.cs b t * (I.wvs h c * vi I h))) (u / (s : EReal))).trans ?_
  have key : ∀ b c t, FloatOps.absf (F := Ideal) (φ := .f32) ((∑ l, I.ckv b t l * I.wuv h l c) * I.cs b t * (I.wvs h c * vi I h)) ≤ u / (s : EReal) ↔ mag (vv I b h t c) ≤ u := by
    intro b c t
    rw [← mag_back (vv I b h t c) u s hs, ← e', show vv I b h t c * vi I h = (∑ l, I.ckv b t l * I.wuv h l c) * I.cs b t * (I.wvs h c * vi I h) from mul_assoc _ _ _]
    rfl
  simp only [key]
  exact ⟨fun H b t c => H b c t, fun H b c t => H b t c⟩

theorem ka_raw (h : Fin 20) (s : ℝ) (hs : 0 < s) (e : ks I h = s) (e' : ki I h = ((s⁻¹ : ℝ) : EReal)) :
    max (Finset.univ.fold max (Ideal.ofBits .f32 0xFF800000#32) (fun t : Fin 384 => (max (max (max (max (Finset.univ.fold max (Ideal.ofBits .f32 0xFF800000#32) (fun c : Fin 128 => FloatOps.absf (F := Ideal) (φ := .f32) ((∑ l, I.wuk h l c * I.ckv 0 t l) * I.cs 0 t * (if _ : t.val < 128 then I.wks h c * ki I h else if _ : t.val - 128 < 128 then I.wks h c * ki I h else I.wks h c * ki I h)))) (Finset.univ.fold max (Ideal.ofBits .f32 0xFF800000#32) (fun c : Fin 128 => FloatOps.absf (F := Ideal) (φ := .f32) ((∑ l, I.wuk h l c * I.ckv 1 t l) * I.cs 1 t * (if _ : t.val < 128 then I.wks h c * ki I h else if _ : t.val - 128 < 128 then I.wks h c * ki I h else I.wks h c * ki I h))))) (Finset.univ.fold max (Ideal.ofBits .f32 0xFF800000#32) (fun c : Fin 128 => FloatOps.absf (F := Ideal) (φ := .f32) ((∑ l, I.wuk h l c * I.ckv 2 t l) * I.cs 2 t * (if _ : t.val < 128 then I.wks h c * ki I h else if _ : t.val - 128 < 128 then I.wks h c * ki I h else I.wks h c * ki I h))))) (Finset.univ.fold max (Ideal.ofBits .f32 0xFF800000#32) (fun c : Fin 128 => FloatOps.absf (F := Ideal) (φ := .f32) ((∑ l, I.wuk h l c * I.ckv 3 t l) * I.cs 3 t * (if _ : t.val < 128 then I.wks h c * ki I h else if _ : t.val - 128 < 128 then I.wks h c * ki I h else I.wks h c * ki I h))))) (Finset.univ.fold max (Ideal.ofBits .f32 0xFF800000#32) (fun c : Fin 128 => FloatOps.absf (F := Ideal) (φ := .f32) ((∑ l, I.wuk h l c * I.ckv 4 t l) * I.cs 4 t * (if _ : t.val < 128 then I.wks h c * ki I h else if _ : t.val - 128 < 128 then I.wks h c * ki I h else I.wks h c * ki I h)))))) * ks I h)
      (⨆ (b : Fin 5) (t : Fin 384) (c : Fin 64), mag (I.kr b t c)) = ka I h := by
  refine eq_of_forall_ge_iff fun u => ?_
  rw [ka_le, e, max_le_iff, scale_le _ _ _ hs]
  refine and_congr ((fold5 (fun b t c => FloatOps.absf (F := Ideal) (φ := .f32) ((∑ l, I.wuk h l c * I.ckv b t l) * I.cs b t * (if _ : t.val < 128 then I.wks h c * ki I h else if _ : t.val - 128 < 128 then I.wks h c * ki I h else I.wks h c * ki I h))) (u / (s : EReal))).trans ?_) (by simp only [iSup_le_iff])
  have key : ∀ b t c, FloatOps.absf (F := Ideal) (φ := .f32) ((∑ l, I.wuk h l c * I.ckv b t l) * I.cs b t * (if _ : t.val < 128 then I.wks h c * ki I h else if _ : t.val - 128 < 128 then I.wks h c * ki I h else I.wks h c * ki I h)) ≤ u / (s : EReal) ↔ mag (kn I b h t c) ≤ u := by
    intro b t c
    have e2 : (∑ l, I.wuk h l c * I.ckv b t l) = ∑ l, I.ckv b t l * I.wuk h l c := Finset.sum_congr rfl fun l _ => mul_comm _ _
    rw [← mag_back (kn I b h t c) u s hs, ← e', show kn I b h t c * ki I h = (∑ l, I.ckv b t l * I.wuk h l c) * I.cs b t * (I.wks h c * ki I h) from mul_assoc _ _ _, e2]
    simp only [dite_eq_ite, ite_self]
    rfl
  simp only [key]

theorem va_raw' (h : Fin 20) (HB : Bounded I) :
    Finset.univ.fold max (Ideal.ofBits .f32 0xFF800000#32) (fun c : Fin 128 => (max (max (max (max (Finset.univ.fold max (Ideal.ofBits .f32 0xFF800000#32) (fun t : Fin 384 => FloatOps.absf (F := Ideal) (φ := .f32) ((∑ l, I.ckv 0 t l * I.wuv h l c) * I.cs 0 t * (I.wvs h c * vi I h)))) (Finset.univ.fold max (Ideal.ofBits .f32 0xFF800000#32) (fun t : Fin 384 => FloatOps.absf (F := Ideal) (φ := .f32) ((∑ l, I.ckv 1 t l * I.wuv h l c) * I.cs 1 t * (I.wvs h c * vi I h))))) (Finset.univ.fold max (Ideal.ofBits .f32 0xFF800000#32) (fun t : Fin 384 => FloatOps.absf (F := Ideal) (φ := .f32) ((∑ l, I.ckv 2 t l * I.wuv h l c) * I.cs 2 t * (I.wvs h c * vi I h))))) (Finset.univ.fold max (Ideal.ofBits .f32 0xFF800000#32) (fun t : Fin 384 => FloatOps.absf (F := Ideal) (φ := .f32) ((∑ l, I.ckv 3 t l * I.wuv h l c) * I.cs 3 t * (I.wvs h c * vi I h))))) (Finset.univ.fold max (Ideal.ofBits .f32 0xFF800000#32) (fun t : Fin 384 => FloatOps.absf (F := Ideal) (φ := .f32) ((∑ l, I.ckv 4 t l * I.wuv h l c) * I.cs 4 t * (I.wvs h c * vi I h)))))) * vs I h = va I h := by
  obtain ⟨s, hs, e, e', _⟩ := scale_top I.vh h (fun r => HB.2.2 r h)
  exact va_raw I h s hs e e'

theorem ka_raw' (h : Fin 20) (HB : Bounded I) :
    max (Finset.univ.fold max (Ideal.ofBits .f32 0xFF800000#32) (fun t : Fin 384 => (max (max (max (max (Finset.univ.fold max (Ideal.ofBits .f32 0xFF800000#32) (fun c : Fin 128 => FloatOps.absf (F := Ideal) (φ := .f32) ((∑ l, I.wuk h l c * I.ckv 0 t l) * I.cs 0 t * (if _ : t.val < 128 then I.wks h c * ki I h else if _ : t.val - 128 < 128 then I.wks h c * ki I h else I.wks h c * ki I h)))) (Finset.univ.fold max (Ideal.ofBits .f32 0xFF800000#32) (fun c : Fin 128 => FloatOps.absf (F := Ideal) (φ := .f32) ((∑ l, I.wuk h l c * I.ckv 1 t l) * I.cs 1 t * (if _ : t.val < 128 then I.wks h c * ki I h else if _ : t.val - 128 < 128 then I.wks h c * ki I h else I.wks h c * ki I h))))) (Finset.univ.fold max (Ideal.ofBits .f32 0xFF800000#32) (fun c : Fin 128 => FloatOps.absf (F := Ideal) (φ := .f32) ((∑ l, I.wuk h l c * I.ckv 2 t l) * I.cs 2 t * (if _ : t.val < 128 then I.wks h c * ki I h else if _ : t.val - 128 < 128 then I.wks h c * ki I h else I.wks h c * ki I h))))) (Finset.univ.fold max (Ideal.ofBits .f32 0xFF800000#32) (fun c : Fin 128 => FloatOps.absf (F := Ideal) (φ := .f32) ((∑ l, I.wuk h l c * I.ckv 3 t l) * I.cs 3 t * (if _ : t.val < 128 then I.wks h c * ki I h else if _ : t.val - 128 < 128 then I.wks h c * ki I h else I.wks h c * ki I h))))) (Finset.univ.fold max (Ideal.ofBits .f32 0xFF800000#32) (fun c : Fin 128 => FloatOps.absf (F := Ideal) (φ := .f32) ((∑ l, I.wuk h l c * I.ckv 4 t l) * I.cs 4 t * (if _ : t.val < 128 then I.wks h c * ki I h else if _ : t.val - 128 < 128 then I.wks h c * ki I h else I.wks h c * ki I h)))))) * ks I h)
      (⨆ (b : Fin 5) (t : Fin 384) (c : Fin 64), mag (I.kr b t c)) = ka I h := by
  obtain ⟨s, hs, e, e', _⟩ := scale_top I.kh h (fun r => HB.2.1 r h)
  exact ka_raw I h s hs e e'

end Cert.Mla

end
-- ==== Proof.InitVal.lean ====
/- What the first grid point leaves in the buffers it fills once: the scales, the table, the spread column scale, the rotary maximum. -/
module

public import proofs.«01_k».proof.Proof.Cover
public import proofs.«01_k».proof.Proof.AmaxMath
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Mla
/-- One step of the search, entry by entry. -/
def stepV {s : Shape} (x : FVec Ideal s .f32) (f : IVec s 32) (k : BitVec 32) : IVec s 32 := fun j => step (x j) (f j) k
theorem vstep {s : Shape} (x : FVec Ideal s .f32) (f : IVec s 32) (k : BitVec 32) :
    select (cmpf .olt (absf x) (bitcastToFloat .f32 (shli (addi f (broadcast s k) : IVec s 32) (broadcast s (23#32 : BitVec 32)) : IVec s 32))) f (addi f (broadcast s k) : IVec s 32) = stepV x f k := rfl

theorem fieldQ (v : Vec Ideal S13x20 .f32) (j : S1x20.Idx) : k0_pay7 (F := Ideal) (k0_pay2 v) (k0_pay3 v) (k0_pay4 v) (k0_pay5 v) (k0_pay6 v) j = scaleK (k0_pay2 (F := Ideal) v j) := by
  delta k0_pay7 k0_pay6 k0_pay5 k0_pay4 k0_pay3
  dsimp only
  simp only [vstep]
  rfl

theorem fieldK (v : Vec Ideal S13x20 .f32) (j : S1x20.Idx) : k0_pay28 (F := Ideal) (k0_pay26 (k0_pay21 v) (k0_pay22 v) (k0_pay23 v) (k0_pay24 v) (k0_pay25 v) 23#32) k0_pay27 j = scaleK (k0_pay21 (F := Ideal) v j) := by
  delta k0_pay28 k0_pay27 k0_pay26 k0_pay25 k0_pay24 k0_pay23 k0_pay22
  dsimp only
  simp only [vstep]
  rfl

theorem fieldV (v : Vec Ideal S13x20 .f32) (j : S1x20.Idx) : k0_pay40 (F := Ideal) (k0_pay36 v) (k0_pay39 (k0_pay37 v) (k0_pay38 v) 32#32) (FloatOps.ofBits FTy.f32 0#32) j = scaleK (k0_pay36 (F := Ideal) v j) := by
  delta k0_pay40 k0_pay39 k0_pay38 k0_pay37
  dsimp only
  simp only [vstep]
  rfl

theorem tabQ (w : IVec S20x20 1) (u : FVec Ideal S20x20 .f32) (j : S20x128.Idx) : k0_pay17 (F := Ideal) (k0_pay10 w u) (k0_pay11 w u) (k0_pay12 w u) (k0_pay13 w u) (k0_pay14 w u) (k0_pay15 w u) j = scaleK (k0_pay10 (F := Ideal) w u j) := by
  delta k0_pay17 k0_pay16 k0_pay15 k0_pay14 k0_pay13 k0_pay12 k0_pay11
  dsimp only
  simp only [vstep]
  rfl

theorem tabQi (w : IVec S20x20 1) (u : FVec Ideal S20x20 .f32) (j : S20x128.Idx) : k0_pay18 (F := Ideal) (k0_pay10 w u) (k0_pay11 w u) (k0_pay12 w u) (k0_pay13 w u) (k0_pay14 w u) (k0_pay15 w u) j = invK (k0_pay10 (F := Ideal) w u j) := by
  delta k0_pay18 k0_pay16 k0_pay15 k0_pay14 k0_pay13 k0_pay12 k0_pay11
  dsimp only
  simp only [vstep]
  rfl

theorem tabK (u : FVec Ideal S1x20 .f32) (j : S20x128.Idx) : k0_pay33 (F := Ideal) (k0_pay29 u) (k0_pay30 u) (k0_pay31 u) (k0_pay32 u) j = expoK (k0_pay29 (F := Ideal) u j) := by
  delta k0_pay33 k0_pay32 k0_pay31 k0_pay30
  dsimp only
  simp only [vstep]
  rfl

theorem tabV (u : FVec Ideal S1x20 .f32) (j : S20x128.Idx) : k0_pay49 (F := Ideal) (k0_pay41 u) (k0_pay46 (k0_pay42 u) (k0_pay43 u) (k0_pay44 u) (k0_pay45 u)) (k0_pay47 (k0_pay42 u) (k0_pay43 u) (k0_pay44 u) (k0_pay45 u)) (k0_pay48 (k0_pay42 u) (k0_pay43 u) (k0_pay44 u) (k0_pay45 u)) j = expoK (k0_pay41 (F := Ideal) u j) := by
  delta k0_pay49 k0_pay48 k0_pay47 k0_pay46 k0_pay45 k0_pay44 k0_pay43 k0_pay42
  dsimp only
  simp only [vstep]
  rfl

/-- A load of a whole buffer. -/
theorem ldw {s : Shape} {e : EltTy} {arg : Memref sig .tc .vmem s e} (h : arg.IsWhole) (X : Vec Ideal s e) (off : Fin s.rank → ℕ) (size : Fin s.rank → ℕ)
    (hs : size = s.size) (ho : ∀ a, off a = 0) (inb) (j) :
    View.readAt (Elt Ideal) arg.view (Rect.unit (s := s) off size inb).toLoadRect (h.unread X) j = X (fun a => ⟨(j a).val, hs ▸ (j a).isLt⟩) :=
  (h.readAt_unread X _ j).trans (congrArg X (funext fun a => Fin.ext (by rw [idxv, ho, Nat.zero_add])))

theorem ldh {arg : Memref sig .tc .vmem S13x20 .f32} (h : arg.IsWhole) (X : Vec Ideal S13x20 .f32) (inb) :
    View.readAt (Elt Ideal) arg.view (Rect.unit (s := S13x20) ![0, 0] S13x20.size inb).toLoadRect (h.unread X) = X :=
  funext fun j => ldw h X _ _ rfl (fun a => by fin_cases a <;> rfl) inb j

/-! ## The scales -/

theorem top2 (h : Fin 13 → Fin 20 → EReal) (x : S1x20.Idx) : k0_pay2 (F := Ideal) (fun j : S13x20.Idx => h (j 0) (j 1)) x = top h (x 1) := by
  idx_vars x
  pointwise [k0_pay2]
  rfl
theorem top21 (h : Fin 13 → Fin 20 → EReal) (x : S1x20.Idx) : k0_pay21 (F := Ideal) (fun j : S13x20.Idx => h (j 0) (j 1)) x = top h (x 1) := by
  idx_vars x
  pointwise [k0_pay21]
  rfl
theorem top36 (h : Fin 13 → Fin 20 → EReal) (x : S1x20.Idx) : k0_pay36 (F := Ideal) (fun j : S13x20.Idx => h (j 0) (j 1)) x = top h (x 1) := by
  idx_vars x
  pointwise [k0_pay36]
  rfl

/-- The diagonal of a row repeated downwards. -/
theorem diag20 : ∀ r k : Fin 20, IntOp.cmpi .eq (BitVec.ofNat 32 r.val) (BitVec.ofNat 32 k.val) = if k = r then 1#1 else 0#1 := by decide +kernel
theorem diag_sum (r : Fin 20) (w : Fin 20 → EReal) :
    ∑ k : Fin 20, Scalar.select (IntOp.cmpi .eq (BitVec.ofNat 32 r.val) (BitVec.ofNat 32 k.val)) (w k) (0 : EReal) = w r := by
  have : ∀ k, Scalar.select (IntOp.cmpi .eq (BitVec.ofNat 32 r.val) (BitVec.ofNat 32 k.val)) (w k) (0 : EReal) = if k = r then w k else 0 := by
    intro k
    rw [diag20]
    by_cases e : k = r
    · rw [if_pos e, if_pos e]; rfl
    · rw [if_neg e, if_neg e]; rfl
  simp only [this, Finset.sum_ite_eq', Finset.mem_univ, if_true]

theorem diag10 (w : FVec Ideal S1x20 .f32) (x : S20x128.Idx) : k0_pay10 (F := Ideal) k0_pay8 (k0_pay9 (F := Ideal) w) x = w (ix2 0 (x 0)) := by
  idx_vars x
  pointwise [k0_pay10, k0_pay8, k0_pay9]
  exact diag_sum _ _
theorem diag29 (w : FVec Ideal S1x20 .f32) (x : S20x128.Idx) : k0_pay29 (F := Ideal) w x = w (ix2 0 (x 0)) := by
  idx_vars x
  pointwise [k0_pay29]
  exact diag_sum _ _
theorem diag41 (w : FVec Ideal S1x20 .f32) (x : S20x128.Idx) : k0_pay41 (F := Ideal) w x = w (ix2 0 (x 0)) := by
  idx_vars x
  pointwise [k0_pay41]
  exact diag_sum _ _

theorem at19 (u : FVec Ideal S20x128 .f32) (x : S1x20x128.Idx) : k0_pay19 (F := Ideal) u x = u (ix2 (x 1) (x 2)) := by
  idx_vars x
  pointwise [k0_pay19]
theorem at20 (u : FVec Ideal S20x128 .f32) (x : S1x20x128.Idx) : k0_pay20 (F := Ideal) u x = u (ix2 (x 1) (x 2)) := by
  idx_vars x
  pointwise [k0_pay20]
theorem at34 (u : IVec S20x128 32) (x : S1x20x128.Idx) : k0_pay34 (F := Ideal) u x = word (IntOp.addi (u (ix2 (x 1) (x 2))) 127#32) := by
  idx_vars x
  pointwise [k0_pay34]
  rfl
theorem at35 (u : IVec S20x128 32) (x : S1x20x128.Idx) : k0_pay35 (F := Ideal) u x = word (IntOp.subi 127#32 (u (ix2 (x 1) (x 2)))) := by
  idx_vars x
  pointwise [k0_pay35]
  rfl
theorem at50 (a : FVec Ideal S20x128 .f32) (b d : IVec S20x128 32) (e : IVec S20x128 1) (x : S1x20x128.Idx) :
    k0_pay50 (F := Ideal) a b d e x = word (IntOp.addi (k0_pay49 (F := Ideal) a b d e (ix2 (x 1) (x 2))) 127#32) := by
  idx_vars x
  delta k0_pay50
  generalize k0_pay49 (F := Ideal) a b d e = u
  pointwise []
  rfl
theorem at51 (a : FVec Ideal S20x128 .f32) (b d : IVec S20x128 32) (e : IVec S20x128 1) (x : S1x20x128.Idx) :
    k0_pay51 (F := Ideal) a b d e x = word (IntOp.subi 127#32 (k0_pay49 (F := Ideal) a b d e (ix2 (x 1) (x 2)))) := by
  idx_vars x
  delta k0_pay51
  generalize k0_pay49 (F := Ideal) a b d e = u
  pointwise []
  rfl

variable {I : In}
theorem scaleQ (HB : Bounded I) (l : Fin 20) : scaleK (top I.qh l) = qs I l ∧ invK (top I.qh l) = qi I l := by
  obtain ⟨s, _, e1, e2, e3, e4⟩ := scale_top I.qh l (fun r => HB.1 r l)
  exact ⟨e3.trans e1.symm, e4.trans e2.symm⟩
theorem scaleKK (HB : Bounded I) (l : Fin 20) : scaleK (top I.kh l) = ks I l ∧ invK (top I.kh l) = ki I l := by
  obtain ⟨s, _, e1, e2, e3, e4⟩ := scale_top I.kh l (fun r => HB.2.1 r l)
  exact ⟨e3.trans e1.symm, e4.trans e2.symm⟩
theorem scaleV (HB : Bounded I) (l : Fin 20) : scaleK (top I.vh l) = vs I l ∧ invK (top I.vh l) = vi I l := by
  obtain ⟨s, _, e1, e2, e3, e4⟩ := scale_top I.vh l (fun r => HB.2.2 r l)
  exact ⟨e3.trans e1.symm, e4.trans e2.symm⟩

/-! ## What the first point writes -/

def G18 (I : In) (y : S1x20.Idx) : EReal := qs I (y 1)
def G20 (I : In) (y : S1x20.Idx) : EReal := ks I (y 1)
def G22 (I : In) (y : S1x20.Idx) : EReal := vs I (y 1)
def G23 (I : In) (y : S6x20x128.Idx) : EReal := tabs I (y 0) (y 1)
def G24 (I : In) (y : S5x384x128.Idx) : EReal := I.cs (y 0) (y 1)

theorem G23_emb (k : Fin 6) (size : Fin 3 → ℕ) (hs : size = S1x20x128.size) (inb) (x : (Rect.unit (s := S6x20x128) ![k.val, 0, 0] size inb).shape.Idx) :
    G23 I ((Rect.unit (s := S6x20x128) ![k.val, 0, 0] size inb).emb x) = tabs I k ⟨(x 1).val, by subst hs; exact (x 1).isLt⟩ := by
  subst hs
  have h0 : (x 0).val < 1 := (x 0).isLt
  have e0 : _ = k.val + (x 0).val := embv (s := S6x20x128) ![k.val, 0, 0] S1x20x128.size inb x 0
  have e1 : _ = 0 + (x 1).val := embv (s := S6x20x128) ![k.val, 0, 0] S1x20x128.size inb x 1
  exact congr (congrArg (tabs I) (Fin.ext (by omega))) (Fin.ext (e1.trans (Nat.zero_add _)))
theorem G24_emb (b : Fin 5) (n : ℕ) (hn : n + 128 ≤ 384) (inb) (x : (Rect.unit (s := S5x384x128) ![b.val, n, 0] S1x128x128.size inb).shape.Idx) :
    G24 I ((Rect.unit (s := S5x384x128) ![b.val, n, 0] S1x128x128.size inb).emb x) = I.cs b ⟨n + (x 1).val, by have : (x 1).val < 128 := (x 1).isLt; omega⟩ := by
  have h0 : (x 0).val < 1 := (x 0).isLt
  have e0 : _ = b.val + (x 0).val := embv (s := S5x384x128) ![b.val, n, 0] S1x128x128.size inb x 0
  have e1 : _ = n + (x 1).val := embv (s := S5x384x128) ![b.val, n, 0] S1x128x128.size inb x 1
  exact congr (congrArg I.cs (Fin.ext (by omega))) (Fin.ext e1)

theorem ldc {arg2 : Memref sig .tc .vmem S5x384 .f32} (h : arg2.IsWhole) (b : ℕ) (hb : b < 5) (n : ℕ) (hn : n + 128 ≤ 384) (inb) :
    View.readAt (Elt Ideal) arg2.view (Rect.unit (s := S5x384) ![b, n] S1x128.size inb).toLoadRect (h.unread fun j => I.cs (j 0) (j 1))
      = fun x : S1x128.Idx => I.cs ⟨b, hb⟩ ⟨n + (x 1).val, by have : (x 1).val < 128 := (x 1).isLt; omega⟩ := by
  funext x
  rw [h.readAt_unread]
  have h0 : (x 0).val < 1 := (x 0).isLt
  have e0 : _ = b + (x 0).val := idxv (s := S5x384) ![b, n] S1x128.size inb x 0
  have e1 : _ = n + (x 1).val := idxv (s := S5x384) ![b, n] S1x128.size inb x 1
  exact congr (congrArg I.cs (Fin.ext (e0.trans (by omega : b + (x 0).val = b)))) (Fin.ext e1)

theorem kr_raw (I : In) : Finset.univ.fold max (Ideal.ofBits .f32 0xFF800000#32) (fun t : Fin 384 => Finset.univ.fold max (Ideal.ofBits .f32 0xFF800000#32) (fun c : Fin 64 => Finset.univ.fold max (Ideal.ofBits .f32 0xFF800000#32) (fun b : Fin 5 => FloatOps.absf (F := Ideal) (φ := .f32) (I.kr b t c)))) = krMax I := by
  refine eq_of_forall_ge_iff fun u => ?_
  unfold krMax
  rw [ofBits_bot]
  simp only [fold_le, iSup_le_iff]
  exact ⟨fun H b t c => H t c b, fun H t c b => H b t c⟩

theorem ldk {arg3 : Memref sig .tc .vmem S5x64x384 .bf16} (h : arg3.IsWhole) (X : Vec Ideal S5x64x384 .bf16) (inb) :
    View.readAt (Elt Ideal) arg3.view (Rect.unit (s := S5x64x384) ![0, 0, 0] ![5, 64, 384] inb).toLoadRect (h.unread X) = X :=
  funext fun j => ldw h X _ _ (funext fun a => by fin_cases a <;> rfl) (fun a => by fin_cases a <;> rfl) inb j
variable {c : Dev nD} {arg2 : Memref sig .tc .vmem S5x384 .f32} {harg2 : arg2.IsWhole} {arg3 : Memref sig .tc .vmem S5x64x384 .bf16} {harg3 : arg3.IsWhole} {arg10 : Memref sig .tc .vmem S13x20 .f32} {harg10 : arg10.IsWhole} {arg11 : Memref sig .tc .vmem S13x20 .f32} {harg11 : arg11.IsWhole} {arg12 : Memref sig .tc .vmem S13x20 .f32} {harg12 : arg12.IsWhole}
variable (HB : Bounded I)
include HB

theorem init18 (x : S1x20.Idx) : ((k0_pay7 (F := Ideal)) ((initRun.sl.r (F := Ideal)) c arg10 harg10 (fun j => I.qh (j 0) (j 1))) ((initRun.sl.r_1 (F := Ideal)) c arg10 harg10 (fun j => I.qh (j 0) (j 1))) ((initRun.sl.r_2 (F := Ideal)) c arg10 harg10 (fun j => I.qh (j 0) (j 1))) ((initRun.sl.r_3 (F := Ideal)) c arg10 harg10 (fun j => I.qh (j 0) (j 1))) ((initRun.sl.r_4 (F := Ideal)) c arg10 harg10 (fun j => I.qh (j 0) (j 1)))) x = qs I (x 1) := by
  delta initRun.sl.r_4 initRun.sl.r_3 initRun.sl.r_2 initRun.sl.r_1 initRun.sl.r
  beta_reduce
  rw [ldh]
  exact (fieldQ _ x).trans ((congrArg scaleK (top2 I.qh x)).trans (scaleQ HB _).1)

theorem init20 (x : S1x20.Idx) : ((k0_pay28 (F := Ideal)) ((initRun.sl.r_19 (F := Ideal)) c arg11 harg11 (fun j => I.kh (j 0) (j 1))) k0_pay27) x = ks I (x 1) := by
  delta initRun.sl.r_19 initRun.sl.r_18 initRun.sl.r_17 initRun.sl.r_16 initRun.sl.r_15 initRun.sl.r_14
  beta_reduce
  rw [ldh]
  exact (fieldK _ x).trans ((congrArg scaleK (top21 I.kh x)).trans (scaleKK HB _).1)

theorem init22 (x : S1x20.Idx) : ((k0_pay40 (F := Ideal)) ((initRun.sl.r_25 (F := Ideal)) c arg12 harg12 (fun j => I.vh (j 0) (j 1))) ((initRun.sl.r_28 (F := Ideal)) c arg12 harg12 (fun j => I.vh (j 0) (j 1))) (initRun.sl.cst_1101 (F := Ideal))) x = vs I (x 1) := by
  delta initRun.sl.cst_1101 initRun.sl.r_28 initRun.sl.r_27 initRun.sl.r_26 initRun.sl.r_25
  beta_reduce
  rw [ldh]
  exact (fieldV _ x).trans ((congrArg scaleK (top36 I.vh x)).trans (scaleV HB _).1)

theorem init23_5 (x : S1x20x128.Idx) : ((k0_pay51 (F := Ideal)) ((initRun.sl.r_29 (F := Ideal)) c arg12 harg12 (fun j => I.vh (j 0) (j 1))) ((initRun.sl.r_34 (F := Ideal)) c arg12 harg12 (fun j => I.vh (j 0) (j 1))) ((initRun.sl.r_35 (F := Ideal)) c arg12 harg12 (fun j => I.vh (j 0) (j 1))) ((initRun.sl.r_36 (F := Ideal)) c arg12 harg12 (fun j => I.vh (j 0) (j 1)))) x = tabs I 5 (x 1) := by
  delta initRun.sl.r_36 initRun.sl.r_35 initRun.sl.r_34 initRun.sl.r_33 initRun.sl.r_32 initRun.sl.r_31 initRun.sl.r_30 initRun.sl.r_29 initRun.sl.r_25
  beta_reduce
  rw [ldh]
  exact (at51 _ _ _ _ x).trans ((congrArg (fun e => word (IntOp.subi 127#32 e)) ((tabV _ _).trans (congrArg expoK ((diag41 _ _).trans (top36 I.vh _))))).trans (scaleV HB _).2)

theorem init23_4 (x : S1x20x128.Idx) : ((k0_pay50 (F := Ideal)) ((initRun.sl.r_29 (F := Ideal)) c arg12 harg12 (fun j => I.vh (j 0) (j 1))) ((initRun.sl.r_34 (F := Ideal)) c arg12 harg12 (fun j => I.vh (j 0) (j 1))) ((initRun.sl.r_35 (F := Ideal)) c arg12 harg12 (fun j => I.vh (j 0) (j 1))) ((initRun.sl.r_36 (F := Ideal)) c arg12 harg12 (fun j => I.vh (j 0) (j 1)))) x = tabs I 4 (x 1) := by
  delta initRun.sl.r_36 initRun.sl.r_35 initRun.sl.r_34 initRun.sl.r_33 initRun.sl.r_32 initRun.sl.r_31 initRun.sl.r_30 initRun.sl.r_29 initRun.sl.r_25
  beta_reduce
  rw [ldh]
  exact (at50 _ _ _ _ x).trans ((congrArg (fun e => word (IntOp.addi e 127#32)) ((tabV _ _).trans (congrArg expoK ((diag41 _ _).trans (top36 I.vh _))))).trans (scaleV HB _).1)

theorem init23_3 (x : S1x20x128.Idx) : ((k0_pay35 (F := Ideal)) ((initRun.sl.r_24 (F := Ideal)) c arg11 harg11 (fun j => I.kh (j 0) (j 1)))) x = tabs I 3 (x 1) := by
  delta initRun.sl.r_24 initRun.sl.r_23 initRun.sl.r_22 initRun.sl.r_21 initRun.sl.r_20 initRun.sl.r_14
  beta_reduce
  rw [ldh]
  exact (at35 _ x).trans ((congrArg (fun e => word (IntOp.subi 127#32 e)) ((tabK _ _).trans (congrArg expoK ((diag29 _ _).trans (top21 I.kh _))))).trans (scaleKK HB _).2)

theorem init23_2 (x : S1x20x128.Idx) : ((k0_pay34 (F := Ideal)) ((initRun.sl.r_24 (F := Ideal)) c arg11 harg11 (fun j => I.kh (j 0) (j 1)))) x = tabs I 2 (x 1) := by
  delta initRun.sl.r_24 initRun.sl.r_23 initRun.sl.r_22 initRun.sl.r_21 initRun.sl.r_20 initRun.sl.r_14
  beta_reduce
  rw [ldh]
  exact (at34 _ x).trans ((congrArg (fun e => word (IntOp.addi e 127#32)) ((tabK _ _).trans (congrArg expoK ((diag29 _ _).trans (top21 I.kh _))))).trans (scaleKK HB _).1)

theorem init23_1 (x : S1x20x128.Idx) : ((k0_pay20 (F := Ideal)) ((initRun.sl.r_13 (F := Ideal)) c arg10 harg10 (fun j => I.qh (j 0) (j 1)))) x = tabs I 1 (x 1) := by
  delta initRun.sl.r_13 initRun.sl.r_11 initRun.sl.r_10 initRun.sl.r_9 initRun.sl.r_8 initRun.sl.r_7 initRun.sl.r_6 initRun.sl.r_5 initRun.sl.r
  beta_reduce
  rw [ldh]
  exact (at20 _ x).trans ((tabQi _ _ _).trans ((congrArg invK ((diag10 _ _).trans (top2 I.qh _))).trans (scaleQ HB _).2))

theorem init23_0 (x : S1x20x128.Idx) : ((k0_pay19 (F := Ideal)) ((initRun.sl.r_12 (F := Ideal)) c arg10 harg10 (fun j => I.qh (j 0) (j 1)))) x = tabs I 0 (x 1) := by
  delta initRun.sl.r_12 initRun.sl.r_11 initRun.sl.r_10 initRun.sl.r_9 initRun.sl.r_8 initRun.sl.r_7 initRun.sl.r_6 initRun.sl.r_5 initRun.sl.r
  beta_reduce
  rw [ldh]
  exact (at19 _ x).trans ((tabQ _ _ _).trans ((congrArg scaleK ((diag10 _ _).trans (top2 I.qh _))).trans (scaleQ HB _).1))

omit HB in
theorem init25 (x : S8x128.Idx) : ((k0_pay69 (F := Ideal)) (View.readAt (Elt Ideal) arg3.view (Rect.unit (s := S5x64x384) ![0, 0, 0] ![5, 64, 384] inb_S5x64x384_S5x64x384_0_0_0).toLoadRect (harg3.unread (fun j => I.kr (j 0) (j 2) (j 1))))) x = krMax I := by
  idx_vars x
  rw [ldk]
  pointwise [k0_pay69]
  exact kr_raw I

omit HB in
theorem init24_4_256 (x : S1x128x128.Idx) : ((k0_pay68 (F := Ideal)) (View.readAt (Elt Ideal) arg2.view (Rect.unit (s := S5x384) ![4, 256] S1x128.size inb_S5x384_S1x128_4_256).toLoadRect (harg2.unread (fun j => I.cs (j 0) (j 1))))) x = I.cs 4 ⟨256 + (x 1).val, by have : (x 1).val < 128 := (x 1).isLt; omega⟩ := by
  rw [ldc (I := I) harg2 4 (by norm_num) 256 (by norm_num)]
  idx_vars x
  pointwise [k0_pay68]

omit HB in
theorem init24_4_128 (x : S1x128x128.Idx) : ((k0_pay67 (F := Ideal)) (View.readAt (Elt Ideal) arg2.view (Rect.unit (s := S5x384) ![4, 128] S1x128.size inb_S5x384_S1x128_4_128).toLoadRect (harg2.unread (fun j => I.cs (j 0) (j 1))))) x = I.cs 4 ⟨128 + (x 1).val, by have : (x 1).val < 128 := (x 1).isLt; omega⟩ := by
  rw [ldc (I := I) harg2 4 (by norm_num) 128 (by norm_num)]
  idx_vars x
  pointwise [k0_pay67]

omit HB in
theorem init24_4_0 (x : S1x128x128.Idx) : ((k0_pay66 (F := Ideal)) (View.readAt (Elt Ideal) arg2.view (Rect.unit (s := S5x384) ![4, 0] S1x128.size inb_S5x384_S1x128_4_0).toLoadRect (harg2.unread (fun j => I.cs (j 0) (j 1))))) x = I.cs 4 ⟨0 + (x 1).val, by have : (x 1).val < 128 := (x 1).isLt; omega⟩ := by
  rw [ldc (I := I) harg2 4 (by norm_num) 0 (by norm_num)]
  idx_vars x
  pointwise [k0_pay66]

omit HB in
theorem init24_3_256 (x : S1x128x128.Idx) : ((k0_pay65 (F := Ideal)) (View.readAt (Elt Ideal) arg2.view (Rect.unit (s := S5x384) ![3, 256] S1x128.size inb_S5x384_S1x128_3_256).toLoadRect (harg2.unread (fun j => I.cs (j 0) (j 1))))) x = I.cs 3 ⟨256 + (x 1).val, by have : (x 1).val < 128 := (x 1).isLt; omega⟩ := by
  rw [ldc (I := I) harg2 3 (by norm_num) 256 (by norm_num)]
  idx_vars x
  pointwise [k0_pay65]

omit HB in
theorem init24_3_128 (x : S1x128x128.Idx) : ((k0_pay64 (F := Ideal)) (initRun.sl.r_38 c arg2 harg2 (fun j => I.cs (j 0) (j 1)))) x = I.cs 3 ⟨128 + (x 1).val, by have : (x 1).val < 128 := (x 1).isLt; omega⟩ := by
  delta initRun.sl.r_38
  beta_reduce
  rw [ldc (I := I) harg2 3 (by norm_num) 128 (by norm_num)]
  idx_vars x
  pointwise [k0_pay63, k0_pay64]

omit HB in
theorem init24_3_0 (x : S1x128x128.Idx) : ((k0_pay62 (F := Ideal)) (View.readAt (Elt Ideal) arg2.view (Rect.unit (s := S5x384) ![3, 0] S1x128.size inb_S5x384_S1x128_3_0).toLoadRect (harg2.unread (fun j => I.cs (j 0) (j 1))))) x = I.cs 3 ⟨0 + (x 1).val, by have : (x 1).val < 128 := (x 1).isLt; omega⟩ := by
  rw [ldc (I := I) harg2 3 (by norm_num) 0 (by norm_num)]
  idx_vars x
  pointwise [k0_pay62]

omit HB in
theorem init24_2_256 (x : S1x128x128.Idx) : ((k0_pay61 (F := Ideal)) (View.readAt (Elt Ideal) arg2.view (Rect.unit (s := S5x384) ![2, 256] S1x128.size inb_S5x384_S1x128_2_256).toLoadRect (harg2.unread (fun j => I.cs (j 0) (j 1))))) x = I.cs 2 ⟨256 + (x 1).val, by have : (x 1).val < 128 := (x 1).isLt; omega⟩ := by
  rw [ldc (I := I) harg2 2 (by norm_num) 256 (by norm_num)]
  idx_vars x
  pointwise [k0_pay61]

omit HB in
theorem init24_2_128 (x : S1x128x128.Idx) : ((k0_pay60 (F := Ideal)) (View.readAt (Elt Ideal) arg2.view (Rect.unit (s := S5x384) ![2, 128] S1x128.size inb_S5x384_S1x128_2_128).toLoadRect (harg2.unread (fun j => I.cs (j 0) (j 1))))) x = I.cs 2 ⟨128 + (x 1).val, by have : (x 1).val < 128 := (x 1).isLt; omega⟩ := by
  rw [ldc (I := I) harg2 2 (by norm_num) 128 (by norm_num)]
  idx_vars x
  pointwise [k0_pay60]

omit HB in
theorem init24_2_0 (x : S1x128x128.Idx) : ((k0_pay59 (F := Ideal)) (View.readAt (Elt Ideal) arg2.view (Rect.unit (s := S5x384) ![2, 0] S1x128.size inb_S5x384_S1x128_2_0).toLoadRect (harg2.unread (fun j => I.cs (j 0) (j 1))))) x = I.cs 2 ⟨0 + (x 1).val, by have : (x 1).val < 128 := (x 1).isLt; omega⟩ := by
  rw [ldc (I := I) harg2 2 (by norm_num) 0 (by norm_num)]
  idx_vars x
  pointwise [k0_pay59]

omit HB in
theorem init24_1_256 (x : S1x128x128.Idx) : ((k0_pay58 (F := Ideal)) (View.readAt (Elt Ideal) arg2.view (Rect.unit (s := S5x384) ![1, 256] S1x128.size inb_S5x384_S1x128_1_256).toLoadRect (harg2.unread (fun j => I.cs (j 0) (j 1))))) x = I.cs 1 ⟨256 + (x 1).val, by have : (x 1).val < 128 := (x 1).isLt; omega⟩ := by
  rw [ldc (I := I) harg2 1 (by norm_num) 256 (by norm_num)]
  idx_vars x
  pointwise [k0_pay58]

omit HB in
theorem init24_1_128 (x : S1x128x128.Idx) : ((k0_pay57 (F := Ideal)) (View.readAt (Elt Ideal) arg2.view (Rect.unit (s := S5x384) ![1, 128] S1x128.size inb_S5x384_S1x128_1_128).toLoadRect (harg2.unread (fun j => I.cs (j 0) (j 1))))) x = I.cs 1 ⟨128 + (x 1).val, by have : (x 1).val < 128 := (x 1).isLt; omega⟩ := by
  rw [ldc (I := I) harg2 1 (by norm_num) 128 (by norm_num)]
  idx_vars x
  pointwise [k0_pay57]

omit HB in
theorem init24_1_0 (x : S1x128x128.Idx) : ((k0_pay56 (F := Ideal)) (View.readAt (Elt Ideal) arg2.view (Rect.unit (s := S5x384) ![1, 0] S1x128.size inb_S5x384_S1x128_1_0).toLoadRect (harg2.unread (fun j => I.cs (j 0) (j 1))))) x = I.cs 1 ⟨0 + (x 1).val, by have : (x 1).val < 128 := (x 1).isLt; omega⟩ := by
  rw [ldc (I := I) harg2 1 (by norm_num) 0 (by norm_num)]
  idx_vars x
  pointwise [k0_pay56]

omit HB in
theorem init24_0_256 (x : S1x128x128.Idx) : ((k0_pay55 (F := Ideal)) (View.readAt (Elt Ideal) arg2.view (Rect.unit (s := S5x384) ![0, 256] S1x128.size inb_S5x384_S1x128_0_256).toLoadRect (harg2.unread (fun j => I.cs (j 0) (j 1))))) x = I.cs 0 ⟨256 + (x 1).val, by have : (x 1).val < 128 := (x 1).isLt; omega⟩ := by
  rw [ldc (I := I) harg2 0 (by norm_num) 256 (by norm_num)]
  idx_vars x
  pointwise [k0_pay55]

omit HB in
theorem init24_0_128 (x : S1x128x128.Idx) : ((k0_pay54 (F := Ideal)) (initRun.sl.r_37 c arg2 harg2 (fun j => I.cs (j 0) (j 1)))) x = I.cs 0 ⟨128 + (x 1).val, by have : (x 1).val < 128 := (x 1).isLt; omega⟩ := by
  delta initRun.sl.r_37
  beta_reduce
  rw [ldc (I := I) harg2 0 (by norm_num) 128 (by norm_num)]
  idx_vars x
  pointwise [k0_pay53, k0_pay54]

omit HB in
theorem init24_0_0 (x : S1x128x128.Idx) : ((k0_pay52 (F := Ideal)) (View.readAt (Elt Ideal) arg2.view (Rect.unit (s := S5x384) ![0, 0] S1x128.size inb_S5x384_S1x128_0_0).toLoadRect (harg2.unread (fun j => I.cs (j 0) (j 1))))) x = I.cs 0 ⟨0 + (x 1).val, by have : (x 1).val < 128 := (x 1).isLt; omega⟩ := by
  rw [ldc (I := I) harg2 0 (by norm_num) 0 (by norm_num)]
  idx_vars x
  pointwise [k0_pay52]

end Cert.KernelIdeal.Val

end
-- ==== Proof.AmaxQ.lean ====
/- The greatest magnitudes of a head of the queries, as a grid point computes them. -/
module

public import proofs.«01_k».proof.Proof.Cover
public import proofs.«01_k».proof.Proof.AmaxMath
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Mla
variable {I : In} {i : grid0.Coords} {x1 : Vec Ideal S5x384x512 .fp8e4m3} {x2 : Vec Ideal S5x384 .f32} {x3 : Vec Ideal S5x64x384 .bf16} {x4 : Vec Ideal S5x2x384x128 .bf16} {x5 : Vec Ideal S5x2x64x384 .bf16} {x6 : Vec Ideal S2x512x128 .fp8e4m3} {x7 : Vec Ideal S20x128 .f32} {x8 : Vec Ideal S2x512x128 .fp8e4m3} {x9 : Vec Ideal S20x128 .f32} {x23 : Vec Ideal S6x20x128 .f32} {x24 : Vec Ideal S5x384x128 .f32} {x25 : Vec Ideal S8x128 .f32}
variable {c : Dev nD} {arg4 : Memref sig .tc .vmem S5x2x384x128 .bf16} {harg4 : arg4.IsWhole} {arg5 : Memref sig .tc .vmem S5x2x64x384 .bf16} {harg5 : arg5.IsWhole}
variable (H : Ctx I i x1 x2 x3 x4 x5 x6 x7 x8 x9 x23 x24 x25) (HB : Bounded I)
include H HB

theorem amaxQ0 (w : Vec Ideal S1x20 .f32) (x : S1x20.Idx) : ((k0_pay394 (F := Ideal)) (iota Kind.tc S1x20 32 [1] iota_S1x20_d1_w32) (Scalar.addi (Scalar.muli (BitVec.ofNat 32 ↑(i 0)) 2#32) 0#32) ((restRun.sl.r_154 (F := Ideal)) c arg4 harg4 arg5 harg5 x4 x5) w) x = if (x 1).val = 2 * (i 0).val then qa I (hd i 0) else w x := by
  idx_vars x
  delta restRun.sl.r_154 restRun.sl.r_124 restRun.sl.r_91 restRun.sl.r_56 restRun.sl.r_24 restRun.sl.r_23 restRun.sl.r_22
  beta_reduce
  simp only [ld4 H, ld5 H]
  pointwise [k0_pay104, k0_pay105, k0_pay106, k0_pay107, k0_pay108, k0_pay109, k0_pay164, k0_pay165, k0_pay166, k0_pay228, k0_pay229, k0_pay230, k0_pay287, k0_pay288, k0_pay289, k0_pay346, k0_pay347, k0_pay348, k0_pay391, k0_pay394]
  exact sel0 (i 0) x1 (qa_raw I (hd i 0))

theorem amaxQ1 (w : Vec Ideal S1x20 .f32) (x : S1x20.Idx) : ((k0_pay399 (F := Ideal)) (iota Kind.tc S1x20 32 [1] iota_S1x20_d1_w32) (Scalar.addi (Scalar.muli (BitVec.ofNat 32 ↑(i 0)) 2#32) 1#32) ((restRun.sl.r_169 (F := Ideal)) c arg4 harg4 arg5 harg5 x4 x5) w) x = if (x 1).val = 2 * (i 0).val + 1 then qa I (hd i 1) else w x := by
  idx_vars x
  delta restRun.sl.r_169 restRun.sl.r_137 restRun.sl.r_105 restRun.sl.r_73 restRun.sl.r_38
  beta_reduce
  simp only [ld4 H, ld5 H]
  pointwise [k0_pay134, k0_pay135, k0_pay136, k0_pay195, k0_pay196, k0_pay197, k0_pay256, k0_pay257, k0_pay258, k0_pay315, k0_pay316, k0_pay317, k0_pay375, k0_pay376, k0_pay377, k0_pay397, k0_pay399]
  exact sel1 (i 0) x1 (qa_raw I (hd i 1))

end Cert.KernelIdeal.Val

end
-- ==== Proof.AmaxK.lean ====
/- The greatest magnitudes of a head of the keys, as a grid point computes them. -/
module

public import proofs.«01_k».proof.Proof.Cover
public import proofs.«01_k».proof.Proof.AmaxMath
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Mla
variable {I : In} {i : grid0.Coords} {x1 : Vec Ideal S5x384x512 .fp8e4m3} {x2 : Vec Ideal S5x384 .f32} {x3 : Vec Ideal S5x64x384 .bf16} {x4 : Vec Ideal S5x2x384x128 .bf16} {x5 : Vec Ideal S5x2x64x384 .bf16} {x6 : Vec Ideal S2x512x128 .fp8e4m3} {x7 : Vec Ideal S20x128 .f32} {x8 : Vec Ideal S2x512x128 .fp8e4m3} {x9 : Vec Ideal S20x128 .f32} {x23 : Vec Ideal S6x20x128 .f32} {x24 : Vec Ideal S5x384x128 .f32} {x25 : Vec Ideal S8x128 .f32}
variable {c : Dev nD} {arg1 : Memref sig .tc .vmem S5x384x512 .fp8e4m3} {harg1 : arg1.IsWhole} {arg2 : Memref sig .tc .vmem S5x384 .f32} {harg2 : arg2.IsWhole} {arg6 : Memref sig .tc .vmem S2x512x128 .fp8e4m3} {harg6 : arg6.IsWhole} {arg7 : Memref sig .tc .vmem S20x128 .f32} {harg7 : arg7.IsWhole} {arg23 : Memref sig .tc .vmem S6x20x128 .f32} {harg23 : arg23.IsWhole} {arg25 : Memref sig .tc .vmem S8x128 .f32} {harg25 : arg25.IsWhole}
variable (H : Ctx I i x1 x2 x3 x4 x5 x6 x7 x8 x9 x23 x24 x25) (HB : Bounded I)
include H HB

theorem amaxK0 (w : Vec Ideal S1x20 .f32) (x : S1x20.Idx) : ((k0_pay395 (F := Ideal)) (restRun.sl.r_178 i) ((restRun.sl.r_179 (F := Ideal)) c i arg1 harg1 arg2 harg2 arg6 harg6 arg7 harg7 arg23 harg23 arg25 harg25 x1 x2 x6 x7 x23 x25) w) x = if (x 1).val = 2 * (i 0).val then ka I (hd i 0) else w x := by
  idx_vars x
  delta restRun.sl.r_179 restRun.sl.r_151 restRun.sl.r_120 restRun.sl.r_119 restRun.sl.r_86 restRun.sl.r_85 restRun.sl.r_82 restRun.sl.r_51 restRun.sl.r_47 restRun.sl.r_16 restRun.sl.r_8 restRun.sl.r_178
  beta_reduce
  simp only [ld1 H, ld2 H, ld6 H, ld25 H, ld23_3_0 H, ld23_4_0 H, ld7_0 H]
  pointwise [k0_pay74, k0_pay78, k0_pay79, k0_pay87, k0_pay92, k0_pay93, k0_pay95, k0_pay96, k0_pay152, k0_pay153, k0_pay155, k0_pay156, k0_pay215, k0_pay216, k0_pay218, k0_pay219, k0_pay220, k0_pay275, k0_pay276, k0_pay278, k0_pay279, k0_pay280, k0_pay334, k0_pay335, k0_pay337, k0_pay338, k0_pay391, k0_pay392, k0_pay395]
  exact sel0 (i 0) x1 (ka_raw' I (hd i 0) HB)

theorem amaxK1 (w : Vec Ideal S1x20 .f32) (x : S1x20.Idx) : ((k0_pay400 (F := Ideal)) (iota Kind.tc S1x20 32 [1] iota_S1x20_d1_w32) (Scalar.addi (Scalar.muli (BitVec.ofNat 32 ↑(i 0)) 2#32) 1#32) ((restRun.sl.r_4 (F := Ideal)) c i arg23 harg23 x23) ((restRun.sl.r_165 (F := Ideal)) c i arg1 harg1 arg2 harg2 arg6 harg6 arg7 harg7 arg23 harg23 x1 x2 x6 x7 x23) (View.readAt (Elt Ideal) arg25.view (Rect.unit (s := S8x128) ![0, 0] S1x1.size inb_S8x128_S1x1_0_0).toLoadRect (harg25.unread x25)) w) x = if (x 1).val = 2 * (i 0).val + 1 then ka I (hd i 1) else w x := by
  idx_vars x
  delta restRun.sl.r_165 restRun.sl.r_148 restRun.sl.r_147 restRun.sl.r_133 restRun.sl.r_116 restRun.sl.r_115 restRun.sl.r_101 restRun.sl.r_83 restRun.sl.r_82 restRun.sl.r_68 restRun.sl.r_67 restRun.sl.r_66 restRun.sl.r_49 restRun.sl.r_47 restRun.sl.r_48 restRun.sl.r_32 restRun.sl.r_14 restRun.sl.r_13 restRun.sl.r_11 restRun.sl.r_10 restRun.sl.r_4
  beta_reduce
  simp only [ld1 H, ld2 H, ld6 H, ld25 H, ld23_3_1 H, ld23_4_1 H, ld7_1 H]
  pointwise [k0_pay74, k0_pay83, k0_pay84, k0_pay89, k0_pay90, k0_pay92, k0_pay93, k0_pay125, k0_pay126, k0_pay152, k0_pay153, k0_pay184, k0_pay185, k0_pay186, k0_pay187, k0_pay215, k0_pay216, k0_pay246, k0_pay247, k0_pay275, k0_pay276, k0_pay306, k0_pay307, k0_pay334, k0_pay335, k0_pay366, k0_pay367, k0_pay397, k0_pay400]
  exact sel1 (i 0) x1 (ka_raw' I (hd i 1) HB)

end Cert.KernelIdeal.Val

end
-- ==== Proof.AmaxV.lean ====
/- The greatest magnitudes of a head of the values, as a grid point computes them. -/
module

public import proofs.«01_k».proof.Proof.Cover
public import proofs.«01_k».proof.Proof.AmaxMath
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Mla
variable {I : In} {i : grid0.Coords} {x1 : Vec Ideal S5x384x512 .fp8e4m3} {x2 : Vec Ideal S5x384 .f32} {x3 : Vec Ideal S5x64x384 .bf16} {x4 : Vec Ideal S5x2x384x128 .bf16} {x5 : Vec Ideal S5x2x64x384 .bf16} {x6 : Vec Ideal S2x512x128 .fp8e4m3} {x7 : Vec Ideal S20x128 .f32} {x8 : Vec Ideal S2x512x128 .fp8e4m3} {x9 : Vec Ideal S20x128 .f32} {x23 : Vec Ideal S6x20x128 .f32} {x24 : Vec Ideal S5x384x128 .f32} {x25 : Vec Ideal S8x128 .f32}
variable {c : Dev nD} {arg1 : Memref sig .tc .vmem S5x384x512 .fp8e4m3} {harg1 : arg1.IsWhole} {arg8 : Memref sig .tc .vmem S2x512x128 .fp8e4m3} {harg8 : arg8.IsWhole} {arg9 : Memref sig .tc .vmem S20x128 .f32} {harg9 : arg9.IsWhole} {arg23 : Memref sig .tc .vmem S6x20x128 .f32} {harg23 : arg23.IsWhole} {arg24 : Memref sig .tc .vmem S5x384x128 .f32} {harg24 : arg24.IsWhole}
variable (H : Ctx I i x1 x2 x3 x4 x5 x6 x7 x8 x9 x23 x24 x25) (HB : Bounded I)
include H HB

theorem amaxV0 (w : Vec Ideal S1x20 .f32) (x : S1x20.Idx) : ((k0_pay396 (F := Ideal)) (restRun.sl.r_178 i) ((restRun.sl.r_180 (F := Ideal)) c i arg1 harg1 arg8 harg8 arg9 harg9 arg23 harg23 arg24 harg24 x1 x8 x9 x23 x24) w) x = if (x 1).val = 2 * (i 0).val then va I (hd i 0) else w x := by
  idx_vars x
  delta restRun.sl.r_180 restRun.sl.r_152 restRun.sl.r_149 restRun.sl.r_122 restRun.sl.r_117 restRun.sl.r_89 restRun.sl.r_88 restRun.sl.r_84 restRun.sl.r_53 restRun.sl.r_52 restRun.sl.r_47 restRun.sl.r_18 restRun.sl.r_15 restRun.sl.r_9 restRun.sl.r_1 restRun.sl.r_178
  beta_reduce
  simp only [ld1 H, ld8 H, ld24 H, ld23_5_0 H, ld23_6_0 H, ld9_0 H]
  pointwise [k0_pay75, k0_pay80, k0_pay88, k0_pay92, k0_pay94, k0_pay100, k0_pay101, k0_pay152, k0_pay154, k0_pay159, k0_pay160, k0_pay161, k0_pay215, k0_pay217, k0_pay223, k0_pay224, k0_pay225, k0_pay275, k0_pay277, k0_pay283, k0_pay284, k0_pay334, k0_pay336, k0_pay342, k0_pay343, k0_pay391, k0_pay393, k0_pay396]
  exact sel0 (i 0) x1 (va_raw' I (hd i 0) HB)

theorem amaxV1 (w : Vec Ideal S1x20 .f32) (x : S1x20.Idx) : ((k0_pay1 (F := Ideal)) (restRun.sl.r_181 i) ((restRun.sl.r_182 (F := Ideal)) c i arg1 harg1 arg8 harg8 arg9 harg9 arg23 harg23 arg24 harg24 x1 x8 x9 x23 x24) w) x = if (x 1).val = 2 * (i 0).val + 1 then va I (hd i 1) else w x := by
  idx_vars x
  delta restRun.sl.r_182 restRun.sl.r_167 restRun.sl.r_149 restRun.sl.r_135 restRun.sl.r_117 restRun.sl.r_102 restRun.sl.r_84 restRun.sl.r_71 restRun.sl.r_70 restRun.sl.r_50 restRun.sl.r_47 restRun.sl.r_35 restRun.sl.r_34 restRun.sl.r_33 restRun.sl.r_15 restRun.sl.r_12 restRun.sl.r_7 restRun.sl.r_6 restRun.sl.r_181
  beta_reduce
  simp only [ld1 H, ld8 H, ld24 H, ld23_5_1 H, ld23_6_1 H, ld9_1 H]
  pointwise [k0_pay1, k0_pay75, k0_pay85, k0_pay86, k0_pay91, k0_pay92, k0_pay94, k0_pay129, k0_pay130, k0_pay131, k0_pay152, k0_pay154, k0_pay190, k0_pay191, k0_pay192, k0_pay215, k0_pay217, k0_pay250, k0_pay251, k0_pay275, k0_pay277, k0_pay311, k0_pay312, k0_pay334, k0_pay336, k0_pay371, k0_pay372, k0_pay397, k0_pay398]
  exact sel1 (i 0) x1 (va_raw' I (hd i 1) HB)

end Cert.KernelIdeal.Val

end
-- ==== Proof.PieceQ.lean ====
/- The pieces of the block of query codes. -/
module

public import proofs.«01_k».proof.Proof.Cover
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Mla
variable {I : In} {i : grid0.Coords} {x1 : Vec Ideal S5x384x512 .fp8e4m3} {x2 : Vec Ideal S5x384 .f32} {x3 : Vec Ideal S5x64x384 .bf16} {x4 : Vec Ideal S5x2x384x128 .bf16} {x5 : Vec Ideal S5x2x64x384 .bf16} {x6 : Vec Ideal S2x512x128 .fp8e4m3} {x7 : Vec Ideal S20x128 .f32} {x8 : Vec Ideal S2x512x128 .fp8e4m3} {x9 : Vec Ideal S20x128 .f32} {x23 : Vec Ideal S6x20x128 .f32} {x24 : Vec Ideal S5x384x128 .f32} {x25 : Vec Ideal S8x128 .f32}
variable {c : Dev nD} {arg4 : Memref sig .tc .vmem S5x2x384x128 .bf16} {harg4 : arg4.IsWhole} {arg5 : Memref sig .tc .vmem S5x2x64x384 .bf16} {harg5 : arg5.IsWhole} {arg23 : Memref sig .tc .vmem S6x20x128 .f32} {harg23 : arg23.IsWhole}
variable (H : Ctx I i x1 x2 x3 x4 x5 x6 x7 x8 x9 x23 x24 x25)
include H

theorem piece17_4_1_128 : Fills (G17 I i) (Rect.unit (s := S5x2x192x384) ![4, 1, 128, 0] S1x1x64x384.size inb_S5x2x192x384_S1x1x64x384_4_1_128_0) ((k0_pay383 (F := Ideal)) ((restRun.sl.r_172 (F := Ideal)) c i arg5 harg5 arg23 harg23 x5 x23)) := by
  intro x
  rw [G17_emb]
  idx_vars x
  delta restRun.sl.r_172 restRun.sl.r_3
  beta_reduce
  simp only [ld5 H, ld23_2_1 H]
  pointwise [k0_pay82, k0_pay376, k0_pay378, k0_pay380, k0_pay382, k0_pay383]
  try simp only [dite_eq_ite, ite_self]
  exact qc_rope ..

theorem piece17_4_1_0 : Fills (G17 I i) (Rect.unit (s := S5x2x192x384) ![4, 1, 0, 0] S1x1x128x384.size inb_S5x2x192x384_S1x1x128x384_4_1_0_0) ((k0_pay381 (F := Ideal)) ((restRun.sl.r_3 (F := Ideal)) c i arg23 harg23 x23) (View.readAt (Elt Ideal) arg4.view (Rect.unit (s := S5x2x384x128) ![4, 1, 0, 0] S1x1x384x128.size inb_S5x2x384x128_S1x1x384x128_4_1_0_0).toLoadRect (harg4.unread x4))) := by
  intro x
  rw [G17_emb]
  idx_vars x
  delta restRun.sl.r_3
  beta_reduce
  simp only [ld4 H, ld23_2_1 H]
  pointwise [k0_pay82, k0_pay375, k0_pay378, k0_pay379, k0_pay381]
  try simp only [dite_eq_ite, ite_self]
  exact qc_nope ..

theorem piece17_4_0_128 : Fills (G17 I i) (Rect.unit (s := S5x2x192x384) ![4, 0, 128, 0] S1x1x64x384.size inb_S5x2x192x384_S1x1x64x384_4_0_128_0) ((k0_pay354 (F := Ideal)) ((restRun.sl.r_156 (F := Ideal)) c i arg5 harg5 arg23 harg23 x5 x23)) := by
  intro x
  rw [G17_emb]
  idx_vars x
  delta restRun.sl.r_156
  beta_reduce
  simp only [ld5 H, ld23_2_0 H]
  pointwise [k0_pay77, k0_pay347, k0_pay349, k0_pay351, k0_pay354]
  try simp only [dite_eq_ite, ite_self]
  exact qc_rope ..

theorem piece17_4_0_0 : Fills (G17 I i) (Rect.unit (s := S5x2x192x384) ![4, 0, 0, 0] S1x1x128x384.size inb_S5x2x192x384_S1x1x128x384_4_0_0_0) ((k0_pay353 (F := Ideal)) ((restRun.sl.r_157 (F := Ideal)) c i arg4 harg4 arg23 harg23 x4 x23)) := by
  intro x
  rw [G17_emb]
  idx_vars x
  delta restRun.sl.r_157
  beta_reduce
  simp only [ld4 H, ld23_2_0 H]
  pointwise [k0_pay77, k0_pay346, k0_pay349, k0_pay350, k0_pay352, k0_pay353]
  try simp only [dite_eq_ite, ite_self]
  exact qc_nope ..

theorem piece17_3_1_128 : Fills (G17 I i) (Rect.unit (s := S5x2x192x384) ![3, 1, 128, 0] S1x1x64x384.size inb_S5x2x192x384_S1x1x64x384_3_1_128_0) ((k0_pay323 (F := Ideal)) ((restRun.sl.r_139 (F := Ideal)) c i arg5 harg5 arg23 harg23 x5 x23)) := by
  intro x
  rw [G17_emb]
  idx_vars x
  delta restRun.sl.r_139 restRun.sl.r_3
  beta_reduce
  simp only [ld5 H, ld23_2_1 H]
  pointwise [k0_pay82, k0_pay316, k0_pay318, k0_pay320, k0_pay323]
  try simp only [dite_eq_ite, ite_self]
  exact qc_rope ..

theorem piece17_3_1_0 : Fills (G17 I i) (Rect.unit (s := S5x2x192x384) ![3, 1, 0, 0] S1x1x128x384.size inb_S5x2x192x384_S1x1x128x384_3_1_0_0) ((k0_pay322 (F := Ideal)) ((restRun.sl.r_140 (F := Ideal)) c i arg4 harg4 arg23 harg23 x4 x23)) := by
  intro x
  rw [G17_emb]
  idx_vars x
  delta restRun.sl.r_140 restRun.sl.r_3
  beta_reduce
  simp only [ld4 H, ld23_2_1 H]
  pointwise [k0_pay82, k0_pay315, k0_pay318, k0_pay319, k0_pay321, k0_pay322]
  try simp only [dite_eq_ite, ite_self]
  exact qc_nope ..

theorem piece17_3_0_128 : Fills (G17 I i) (Rect.unit (s := S5x2x192x384) ![3, 0, 128, 0] S1x1x64x384.size inb_S5x2x192x384_S1x1x64x384_3_0_128_0) ((k0_pay296 (F := Ideal)) ((restRun.sl.r_126 (F := Ideal)) c i arg5 harg5 arg23 harg23 x5 x23) (k0_pay293 (F := Ideal))) := by
  intro x
  rw [G17_emb]
  idx_vars x
  delta restRun.sl.r_126
  beta_reduce
  simp only [ld5 H, ld23_2_0 H]
  pointwise [k0_pay77, k0_pay288, k0_pay290, k0_pay292, k0_pay293, k0_pay294, k0_pay296]
  try simp only [dite_eq_ite, ite_self]
  exact qc_rope ..

theorem piece17_3_0_0 : Fills (G17 I i) (Rect.unit (s := S5x2x192x384) ![3, 0, 0, 0] S1x1x128x384.size inb_S5x2x192x384_S1x1x128x384_3_0_0_0) ((k0_pay295 (F := Ideal)) ((restRun.sl.r_125 (F := Ideal)) c i arg4 harg4 arg23 harg23 x4 x23)) := by
  intro x
  rw [G17_emb]
  idx_vars x
  delta restRun.sl.r_125
  beta_reduce
  simp only [ld4 H, ld23_2_0 H]
  pointwise [k0_pay77, k0_pay287, k0_pay290, k0_pay291, k0_pay295]
  try simp only [dite_eq_ite, ite_self]
  exact qc_nope ..

theorem piece17_2_1_128 : Fills (G17 I i) (Rect.unit (s := S5x2x192x384) ![2, 1, 128, 0] S1x1x64x384.size inb_S5x2x192x384_S1x1x64x384_2_1_128_0) ((k0_pay264 (F := Ideal)) ((restRun.sl.r_107 (F := Ideal)) c i arg5 harg5 arg23 harg23 x5 x23)) := by
  intro x
  rw [G17_emb]
  idx_vars x
  delta restRun.sl.r_107 restRun.sl.r_3
  beta_reduce
  simp only [ld5 H, ld23_2_1 H]
  pointwise [k0_pay82, k0_pay257, k0_pay259, k0_pay261, k0_pay264]
  try simp only [dite_eq_ite, ite_self]
  exact qc_rope ..

theorem piece17_2_1_0 : Fills (G17 I i) (Rect.unit (s := S5x2x192x384) ![2, 1, 0, 0] S1x1x128x384.size inb_S5x2x192x384_S1x1x128x384_2_1_0_0) ((k0_pay263 (F := Ideal)) ((restRun.sl.r_108 (F := Ideal)) c i arg4 harg4 arg23 harg23 x4 x23)) := by
  intro x
  rw [G17_emb]
  idx_vars x
  delta restRun.sl.r_108 restRun.sl.r_3
  beta_reduce
  simp only [ld4 H, ld23_2_1 H]
  pointwise [k0_pay82, k0_pay256, k0_pay259, k0_pay260, k0_pay262, k0_pay263]
  try simp only [dite_eq_ite, ite_self]
  exact qc_nope ..

theorem piece17_2_0_128 : Fills (G17 I i) (Rect.unit (s := S5x2x192x384) ![2, 0, 128, 0] S1x1x64x384.size inb_S5x2x192x384_S1x1x64x384_2_0_128_0) ((k0_pay236 (F := Ideal)) ((restRun.sl.r_93 (F := Ideal)) c i arg5 harg5 arg23 harg23 x5 x23)) := by
  intro x
  rw [G17_emb]
  idx_vars x
  delta restRun.sl.r_93
  beta_reduce
  simp only [ld5 H, ld23_2_0 H]
  pointwise [k0_pay77, k0_pay229, k0_pay231, k0_pay233, k0_pay234, k0_pay236]
  try simp only [dite_eq_ite, ite_self]
  exact qc_rope ..

theorem piece17_2_0_0 : Fills (G17 I i) (Rect.unit (s := S5x2x192x384) ![2, 0, 0, 0] S1x1x128x384.size inb_S5x2x192x384_S1x1x128x384_2_0_0_0) ((k0_pay235 (F := Ideal)) ((restRun.sl.r_92 (F := Ideal)) c i arg4 harg4 arg23 harg23 x4 x23)) := by
  intro x
  rw [G17_emb]
  idx_vars x
  delta restRun.sl.r_92
  beta_reduce
  simp only [ld4 H, ld23_2_0 H]
  pointwise [k0_pay77, k0_pay228, k0_pay231, k0_pay232, k0_pay235]
  try simp only [dite_eq_ite, ite_self]
  exact qc_nope ..

theorem piece17_1_1_128 : Fills (G17 I i) (Rect.unit (s := S5x2x192x384) ![1, 1, 128, 0] S1x1x64x384.size inb_S5x2x192x384_S1x1x64x384_1_1_128_0) ((k0_pay204 (F := Ideal)) ((restRun.sl.r_75 (F := Ideal)) c i arg5 harg5 arg23 harg23 x5 x23) (restRun.sl.cst_257 (F := Ideal)) (k0_pay201 (F := Ideal))) := by
  intro x
  rw [G17_emb]
  idx_vars x
  delta restRun.sl.cst_257 restRun.sl.r_75 restRun.sl.r_3
  beta_reduce
  simp only [ld5 H, ld23_2_1 H]
  pointwise [k0_pay82, k0_pay196, k0_pay198, k0_pay200, k0_pay201, k0_pay202, k0_pay204]
  try simp only [dite_eq_ite, ite_self]
  exact qc_rope ..

theorem piece17_1_1_0 : Fills (G17 I i) (Rect.unit (s := S5x2x192x384) ![1, 1, 0, 0] S1x1x128x384.size inb_S5x2x192x384_S1x1x128x384_1_1_0_0) ((k0_pay203 (F := Ideal)) ((restRun.sl.r_74 (F := Ideal)) c i arg4 harg4 arg23 harg23 x4 x23)) := by
  intro x
  rw [G17_emb]
  idx_vars x
  delta restRun.sl.r_74 restRun.sl.r_3
  beta_reduce
  simp only [ld4 H, ld23_2_1 H]
  pointwise [k0_pay82, k0_pay195, k0_pay198, k0_pay199, k0_pay203]
  try simp only [dite_eq_ite, ite_self]
  exact qc_nope ..

theorem piece17_1_0_128 : Fills (G17 I i) (Rect.unit (s := S5x2x192x384) ![1, 0, 128, 0] S1x1x64x384.size inb_S5x2x192x384_S1x1x64x384_1_0_128_0) ((k0_pay172 (F := Ideal)) ((restRun.sl.r_55 (F := Ideal)) c arg5 harg5 x5) ((restRun.sl.r_57 (F := Ideal)) c i arg23 harg23 x23)) := by
  intro x
  rw [G17_emb]
  idx_vars x
  delta restRun.sl.r_57 restRun.sl.r_55
  beta_reduce
  simp only [ld5 H, ld23_2_0 H]
  pointwise [k0_pay77, k0_pay165, k0_pay167, k0_pay170, k0_pay172]
  try simp only [dite_eq_ite, ite_self]
  exact qc_rope ..

theorem piece17_1_0_0 : Fills (G17 I i) (Rect.unit (s := S5x2x192x384) ![1, 0, 0, 0] S1x1x128x384.size inb_S5x2x192x384_S1x1x128x384_1_0_0_0) ((k0_pay171 (F := Ideal)) (restRun.sl.cst_257 (F := Ideal)) ((restRun.sl.r_58 (F := Ideal)) c i arg4 harg4 arg23 harg23 x4 x23)) := by
  intro x
  rw [G17_emb]
  idx_vars x
  delta restRun.sl.r_58 restRun.sl.cst_257
  beta_reduce
  simp only [ld4 H, ld23_2_0 H]
  pointwise [k0_pay77, k0_pay164, k0_pay167, k0_pay168, k0_pay169, k0_pay171]
  try simp only [dite_eq_ite, ite_self]
  exact qc_nope ..

theorem piece17_0_1_128 : Fills (G17 I i) (Rect.unit (s := S5x2x192x384) ![0, 1, 128, 0] S1x1x64x384.size inb_S5x2x192x384_S1x1x64x384_0_1_128_0) ((k0_pay141 (F := Ideal)) ((restRun.sl.r_37 (F := Ideal)) c arg5 harg5 x5) ((restRun.sl.r_39 (F := Ideal)) c i arg23 harg23 x23)) := by
  intro x
  rw [G17_emb]
  idx_vars x
  delta restRun.sl.r_39 restRun.sl.r_3 restRun.sl.r_37
  beta_reduce
  simp only [ld5 H, ld23_2_1 H]
  pointwise [k0_pay82, k0_pay135, k0_pay137, k0_pay139, k0_pay141]
  try simp only [dite_eq_ite, ite_self]
  exact qc_rope ..

theorem piece17_0_1_0 : Fills (G17 I i) (Rect.unit (s := S5x2x192x384) ![0, 1, 0, 0] S1x1x128x384.size inb_S5x2x192x384_S1x1x128x384_0_1_0_0) ((k0_pay140 (F := Ideal)) ((restRun.sl.r_40 (F := Ideal)) c i arg4 harg4 arg23 harg23 x4 x23)) := by
  intro x
  rw [G17_emb]
  idx_vars x
  delta restRun.sl.r_40 restRun.sl.r_3
  beta_reduce
  simp only [ld4 H, ld23_2_1 H]
  pointwise [k0_pay82, k0_pay134, k0_pay137, k0_pay138, k0_pay140]
  try simp only [dite_eq_ite, ite_self]
  exact qc_nope ..

theorem piece17_0_0_128 : Fills (G17 I i) (Rect.unit (s := S5x2x192x384) ![0, 0, 128, 0] S1x1x64x384.size inb_S5x2x192x384_S1x1x64x384_0_0_128_0) ((k0_pay114 (F := Ideal)) ((k0_pay77 (F := Ideal)) (View.readAt (Elt Ideal) arg23.view (Rect.unit (s := S6x20x128) (k0_off2 i 0#32) ![1, 1, 128] (k0_off2_inb i 0)).toLoadRect (harg23.unread x23))) ((restRun.sl.r_21 (F := Ideal)) c arg5 harg5 x5)) := by
  intro x
  rw [G17_emb]
  idx_vars x
  delta restRun.sl.r_21
  beta_reduce
  simp only [ld5 H, ld23_2_0 H]
  pointwise [k0_pay77, k0_pay105, k0_pay110, k0_pay112, k0_pay114]
  try simp only [dite_eq_ite, ite_self]
  exact qc_rope ..

theorem piece17_0_0_0 : Fills (G17 I i) (Rect.unit (s := S5x2x192x384) ![0, 0, 0, 0] S1x1x128x384.size inb_S5x2x192x384_S1x1x128x384_0_0_0_0) ((k0_pay113 (F := Ideal)) ((k0_pay77 (F := Ideal)) (View.readAt (Elt Ideal) arg23.view (Rect.unit (s := S6x20x128) (k0_off2 i 0#32) ![1, 1, 128] (k0_off2_inb i 0)).toLoadRect (harg23.unread x23))) ((restRun.sl.r_20 (F := Ideal)) c arg4 harg4 x4)) := by
  intro x
  rw [G17_emb]
  idx_vars x
  delta restRun.sl.r_20
  beta_reduce
  simp only [ld4 H, ld23_2_0 H]
  pointwise [k0_pay77, k0_pay104, k0_pay110, k0_pay111, k0_pay113]
  try simp only [dite_eq_ite, ite_self]
  exact qc_nope ..

end Cert.KernelIdeal.Val

end
-- ==== Proof.PieceV.lean ====
/- The pieces of the block of value codes. -/
module

public import proofs.«01_k».proof.Proof.Cover
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Mla
variable {I : In} {i : grid0.Coords} {x1 : Vec Ideal S5x384x512 .fp8e4m3} {x2 : Vec Ideal S5x384 .f32} {x3 : Vec Ideal S5x64x384 .bf16} {x4 : Vec Ideal S5x2x384x128 .bf16} {x5 : Vec Ideal S5x2x64x384 .bf16} {x6 : Vec Ideal S2x512x128 .fp8e4m3} {x7 : Vec Ideal S20x128 .f32} {x8 : Vec Ideal S2x512x128 .fp8e4m3} {x9 : Vec Ideal S20x128 .f32} {x23 : Vec Ideal S6x20x128 .f32} {x24 : Vec Ideal S5x384x128 .f32} {x25 : Vec Ideal S8x128 .f32}
variable {c : Dev nD} {arg1 : Memref sig .tc .vmem S5x384x512 .fp8e4m3} {harg1 : arg1.IsWhole} {arg8 : Memref sig .tc .vmem S2x512x128 .fp8e4m3} {harg8 : arg8.IsWhole} {arg9 : Memref sig .tc .vmem S20x128 .f32} {harg9 : arg9.IsWhole} {arg23 : Memref sig .tc .vmem S6x20x128 .f32} {harg23 : arg23.IsWhole} {arg24 : Memref sig .tc .vmem S5x384x128 .f32} {harg24 : arg24.IsWhole}
variable (H : Ctx I i x1 x2 x3 x4 x5 x6 x7 x8 x9 x23 x24 x25)
include H

theorem piece21_4_1_0 : Fills (G21 I i) (Rect.unit (s := S5x2x384x128) ![4, 1, 0, 0] S1x1x384x128.size inb_S5x2x384x128_S1x1x384x128_4_1_0_0) ((k0_pay374 (F := Ideal)) ((restRun.sl.r_12 (F := Ideal)) c i arg9 harg9 arg23 harg23 x9 x23) ((restRun.sl.r_149 (F := Ideal)) c arg1 harg1 arg8 harg8 x1 x8) (View.readAt (Elt Ideal) arg24.view (Rect.unit (s := S5x384x128) ![4, 0, 0] S1x384x128.size inb_S5x384x128_S1x384x128_4_0_0).toLoadRect (harg24.unread x24))) := by
  intro x
  rw [G21_emb]
  idx_vars x
  delta restRun.sl.r_149 restRun.sl.r_12 restRun.sl.r_7
  beta_reduce
  simp only [ld1 H, ld8 H, ld24 H, ld23_6_1 H, ld9_1 H]
  pointwise [k0_pay75, k0_pay86, k0_pay91, k0_pay334, k0_pay336, k0_pay371, k0_pay373, k0_pay374]
  try simp only [dite_eq_ite, ite_self]
  exact vc_eq ..

theorem piece21_4_0_0 : Fills (G21 I i) (Rect.unit (s := S5x2x384x128) ![4, 0, 0, 0] S1x1x384x128.size inb_S5x2x384x128_S1x1x384x128_4_0_0_0) ((k0_pay345 (F := Ideal)) ((restRun.sl.r_153 (F := Ideal)) c i arg1 harg1 arg8 harg8 arg9 harg9 arg23 harg23 arg24 harg24 x1 x8 x9 x23 x24)) := by
  intro x
  rw [G21_emb]
  idx_vars x
  delta restRun.sl.r_153 restRun.sl.r_149 restRun.sl.r_9
  beta_reduce
  simp only [ld1 H, ld8 H, ld24 H, ld23_6_0 H, ld9_0 H]
  pointwise [k0_pay75, k0_pay88, k0_pay334, k0_pay336, k0_pay342, k0_pay344, k0_pay345]
  try simp only [dite_eq_ite, ite_self]
  exact vc_eq ..

theorem piece21_3_1_0 : Fills (G21 I i) (Rect.unit (s := S5x2x384x128) ![3, 1, 0, 0] S1x1x384x128.size inb_S5x2x384x128_S1x1x384x128_3_1_0_0) ((k0_pay314 (F := Ideal)) ((restRun.sl.r_136 (F := Ideal)) c i arg1 harg1 arg8 harg8 arg9 harg9 arg23 harg23 arg24 harg24 x1 x8 x9 x23 x24)) := by
  intro x
  rw [G21_emb]
  idx_vars x
  delta restRun.sl.r_136 restRun.sl.r_117 restRun.sl.r_12 restRun.sl.r_7
  beta_reduce
  simp only [ld1 H, ld8 H, ld24 H, ld23_6_1 H, ld9_1 H]
  pointwise [k0_pay75, k0_pay86, k0_pay91, k0_pay275, k0_pay277, k0_pay311, k0_pay313, k0_pay314]
  try simp only [dite_eq_ite, ite_self]
  exact vc_eq ..

theorem piece21_3_0_0 : Fills (G21 I i) (Rect.unit (s := S5x2x384x128) ![3, 0, 0, 0] S1x1x384x128.size inb_S5x2x384x128_S1x1x384x128_3_0_0_0) ((k0_pay286 (F := Ideal)) ((restRun.sl.r_121 (F := Ideal)) c i arg1 harg1 arg8 harg8 arg9 harg9 arg23 harg23 arg24 harg24 x1 x8 x9 x23 x24) (restRun.sl.cst_598 (F := Ideal)) (restRun.sl.cst_257 (F := Ideal))) := by
  intro x
  rw [G21_emb]
  idx_vars x
  delta restRun.sl.cst_257 restRun.sl.cst_598 restRun.sl.r_121 restRun.sl.r_117 restRun.sl.r_9
  beta_reduce
  simp only [ld1 H, ld8 H, ld24 H, ld23_6_0 H, ld9_0 H]
  pointwise [k0_pay75, k0_pay88, k0_pay275, k0_pay277, k0_pay283, k0_pay285, k0_pay286]
  try simp only [dite_eq_ite, ite_self]
  exact vc_eq ..

theorem piece21_2_1_0 : Fills (G21 I i) (Rect.unit (s := S5x2x384x128) ![2, 1, 0, 0] S1x1x384x128.size inb_S5x2x384x128_S1x1x384x128_2_1_0_0) ((k0_pay255 (F := Ideal)) ((restRun.sl.r_103 (F := Ideal)) c i arg1 harg1 arg8 harg8 arg9 harg9 arg23 harg23 arg24 harg24 x1 x8 x9 x23 x24) (k0_pay253 (F := Ideal))) := by
  intro x
  rw [G21_emb]
  idx_vars x
  delta restRun.sl.r_103 restRun.sl.r_84 restRun.sl.r_12 restRun.sl.r_7
  beta_reduce
  simp only [ld1 H, ld8 H, ld24 H, ld23_6_1 H, ld9_1 H]
  pointwise [k0_pay75, k0_pay86, k0_pay91, k0_pay215, k0_pay217, k0_pay250, k0_pay252, k0_pay253, k0_pay254, k0_pay255]
  try simp only [dite_eq_ite, ite_self]
  exact vc_eq ..

theorem piece21_2_0_0 : Fills (G21 I i) (Rect.unit (s := S5x2x384x128) ![2, 0, 0, 0] S1x1x384x128.size inb_S5x2x384x128_S1x1x384x128_2_0_0_0) ((k0_pay227 (F := Ideal)) ((restRun.sl.r_87 (F := Ideal)) c i arg1 harg1 arg8 harg8 arg9 harg9 arg23 harg23 arg24 harg24 x1 x8 x9 x23 x24)) := by
  intro x
  rw [G21_emb]
  idx_vars x
  delta restRun.sl.r_87 restRun.sl.r_84 restRun.sl.r_9
  beta_reduce
  simp only [ld1 H, ld8 H, ld24 H, ld23_6_0 H, ld9_0 H]
  pointwise [k0_pay75, k0_pay88, k0_pay215, k0_pay217, k0_pay223, k0_pay226, k0_pay227]
  try simp only [dite_eq_ite, ite_self]
  exact vc_eq ..

theorem piece21_1_1_0 : Fills (G21 I i) (Rect.unit (s := S5x2x384x128) ![1, 1, 0, 0] S1x1x384x128.size inb_S5x2x384x128_S1x1x384x128_1_1_0_0) ((k0_pay194 (F := Ideal)) ((restRun.sl.r_69 (F := Ideal)) c i arg1 harg1 arg8 harg8 arg9 harg9 arg23 harg23 arg24 harg24 x1 x8 x9 x23 x24)) := by
  intro x
  rw [G21_emb]
  idx_vars x
  delta restRun.sl.r_69 restRun.sl.r_50 restRun.sl.r_47 restRun.sl.r_12 restRun.sl.r_7
  beta_reduce
  simp only [ld1 H, ld8 H, ld24 H, ld23_6_1 H, ld9_1 H]
  pointwise [k0_pay75, k0_pay86, k0_pay91, k0_pay152, k0_pay154, k0_pay190, k0_pay193, k0_pay194]
  try simp only [dite_eq_ite, ite_self]
  exact vc_eq ..

theorem piece21_1_0_0 : Fills (G21 I i) (Rect.unit (s := S5x2x384x128) ![1, 0, 0, 0] S1x1x384x128.size inb_S5x2x384x128_S1x1x384x128_1_0_0_0) ((k0_pay163 (F := Ideal)) ((restRun.sl.r_9 (F := Ideal)) c i arg9 harg9 arg23 harg23 x9 x23) ((restRun.sl.r_52 (F := Ideal)) c arg1 harg1 arg8 harg8 x1 x8) (View.readAt (Elt Ideal) arg24.view (Rect.unit (s := S5x384x128) ![1, 0, 0] S1x384x128.size inb_S5x384x128_S1x384x128_1_0_0).toLoadRect (harg24.unread x24))) := by
  intro x
  rw [G21_emb]
  idx_vars x
  delta restRun.sl.r_52 restRun.sl.r_47 restRun.sl.r_9
  beta_reduce
  simp only [ld1 H, ld8 H, ld24 H, ld23_6_0 H, ld9_0 H]
  pointwise [k0_pay75, k0_pay88, k0_pay152, k0_pay154, k0_pay159, k0_pay160, k0_pay162, k0_pay163]
  try simp only [dite_eq_ite, ite_self]
  exact vc_eq ..

theorem piece21_0_1_0 : Fills (G21 I i) (Rect.unit (s := S5x2x384x128) ![0, 1, 0, 0] S1x1x384x128.size inb_S5x2x384x128_S1x1x384x128_0_1_0_0) ((k0_pay133 (F := Ideal)) ((restRun.sl.r_12 (F := Ideal)) c i arg9 harg9 arg23 harg23 x9 x23) ((restRun.sl.r_33 (F := Ideal)) c arg1 harg1 arg8 harg8 x1 x8) ((restRun.sl.r_34 (F := Ideal)) c arg24 harg24 x24)) := by
  intro x
  rw [G21_emb]
  idx_vars x
  delta restRun.sl.r_34 restRun.sl.r_33 restRun.sl.r_15 restRun.sl.r_12 restRun.sl.r_7
  beta_reduce
  simp only [ld1 H, ld8 H, ld24 H, ld23_6_1 H, ld9_1 H]
  pointwise [k0_pay75, k0_pay86, k0_pay91, k0_pay92, k0_pay94, k0_pay129, k0_pay130, k0_pay132, k0_pay133]
  try simp only [dite_eq_ite, ite_self]
  exact vc_eq ..

theorem piece21_0_0_0 : Fills (G21 I i) (Rect.unit (s := S5x2x384x128) ![0, 0, 0, 0] S1x1x384x128.size inb_S5x2x384x128_S1x1x384x128_0_0_0_0) ((k0_pay103 (F := Ideal)) ((restRun.sl.r_9 (F := Ideal)) c i arg9 harg9 arg23 harg23 x9 x23) ((restRun.sl.r_15 (F := Ideal)) c arg1 harg1 arg8 harg8 x1 x8) (View.readAt (Elt Ideal) arg24.view (Rect.unit (s := S5x384x128) ![0, 0, 0] S1x384x128.size inb_S5x384x128_S1x384x128_0_0_0).toLoadRect (harg24.unread x24))) := by
  intro x
  rw [G21_emb]
  idx_vars x
  delta restRun.sl.r_15 restRun.sl.r_9
  beta_reduce
  simp only [ld1 H, ld8 H, ld24 H, ld23_6_0 H, ld9_0 H]
  pointwise [k0_pay75, k0_pay88, k0_pay92, k0_pay94, k0_pay100, k0_pay102, k0_pay103]
  try simp only [dite_eq_ite, ite_self]
  exact vc_eq ..

end Cert.KernelIdeal.Val

end
-- ==== Proof.PieceK.lean ====
/- The pieces of the block of key codes. -/
module

public import proofs.«01_k».proof.Proof.Cover
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Mla
variable {I : In} {i : grid0.Coords} {x1 : Vec Ideal S5x384x512 .fp8e4m3} {x2 : Vec Ideal S5x384 .f32} {x3 : Vec Ideal S5x64x384 .bf16} {x4 : Vec Ideal S5x2x384x128 .bf16} {x5 : Vec Ideal S5x2x64x384 .bf16} {x6 : Vec Ideal S2x512x128 .fp8e4m3} {x7 : Vec Ideal S20x128 .f32} {x8 : Vec Ideal S2x512x128 .fp8e4m3} {x9 : Vec Ideal S20x128 .f32} {x23 : Vec Ideal S6x20x128 .f32} {x24 : Vec Ideal S5x384x128 .f32} {x25 : Vec Ideal S8x128 .f32}
variable {c : Dev nD} {arg1 : Memref sig .tc .vmem S5x384x512 .fp8e4m3} {harg1 : arg1.IsWhole} {arg2 : Memref sig .tc .vmem S5x384 .f32} {harg2 : arg2.IsWhole} {arg3 : Memref sig .tc .vmem S5x64x384 .bf16} {harg3 : arg3.IsWhole} {arg6 : Memref sig .tc .vmem S2x512x128 .fp8e4m3} {harg6 : arg6.IsWhole} {arg7 : Memref sig .tc .vmem S20x128 .f32} {harg7 : arg7.IsWhole} {arg23 : Memref sig .tc .vmem S6x20x128 .f32} {harg23 : arg23.IsWhole}
variable (H : Ctx I i x1 x2 x3 x4 x5 x6 x7 x8 x9 x23 x24 x25)
include H

theorem piece19_4_1_128 : Fills (G19 I i) (Rect.unit (s := S5x2x192x384) ![4, 1, 128, 0] S1x1x64x384.size inb_S5x2x192x384_S1x1x64x384_4_1_128_0) ((k0_pay370 (F := Ideal)) ((restRun.sl.r_5 (F := Ideal)) c i arg23 harg23 x23) (View.readAt (Elt Ideal) arg3.view (Rect.unit (s := S5x64x384) ![4, 0, 0] S1x64x384.size inb_S5x64x384_S1x64x384_4_0_0).toLoadRect (harg3.unread x3))) := by
  intro x
  rw [G19_emb]
  idx_vars x
  delta restRun.sl.r_5
  beta_reduce
  simp only [ld3 H, ld23_4_1 H]
  pointwise [k0_pay84, k0_pay370]
  try simp only [dite_eq_ite, ite_self]
  exact kc_rope ..

theorem piece19_4_1_0 : Fills (G19 I i) (Rect.unit (s := S5x2x192x384) ![4, 1, 0, 0] S1x1x128x384.size inb_S5x2x192x384_S1x1x128x384_4_1_0_0) ((k0_pay369 (F := Ideal)) ((restRun.sl.r_166 (F := Ideal)) c i arg1 harg1 arg2 harg2 arg6 harg6 arg7 harg7 arg23 harg23 x1 x2 x6 x7 x23)) := by
  intro x
  rw [G19_emb]
  idx_vars x
  delta restRun.sl.r_166 restRun.sl.r_148 restRun.sl.r_147 restRun.sl.r_11 restRun.sl.r_10
  beta_reduce
  simp only [ld1 H, ld2 H, ld6 H, ld23_4_1 H, ld7_1 H]
  pointwise [k0_pay74, k0_pay84, k0_pay89, k0_pay90, k0_pay334, k0_pay335, k0_pay366, k0_pay368, k0_pay369]
  try simp only [dite_eq_ite, ite_self]
  exact kc_nope ..

theorem piece19_4_0_128 : Fills (G19 I i) (Rect.unit (s := S5x2x192x384) ![4, 0, 128, 0] S1x1x64x384.size inb_S5x2x192x384_S1x1x64x384_4_0_128_0) ((k0_pay341 (F := Ideal)) ((restRun.sl.r (F := Ideal)) c i arg23 harg23 x23) (View.readAt (Elt Ideal) arg3.view (Rect.unit (s := S5x64x384) ![4, 0, 0] S1x64x384.size inb_S5x64x384_S1x64x384_4_0_0).toLoadRect (harg3.unread x3))) := by
  intro x
  rw [G19_emb]
  idx_vars x
  delta restRun.sl.r
  beta_reduce
  simp only [ld3 H, ld23_4_0 H]
  pointwise [k0_pay79, k0_pay341]
  try simp only [dite_eq_ite, ite_self]
  exact kc_rope ..

theorem piece19_4_0_0 : Fills (G19 I i) (Rect.unit (s := S5x2x192x384) ![4, 0, 0, 0] S1x1x128x384.size inb_S5x2x192x384_S1x1x128x384_4_0_0_0) ((k0_pay340 (F := Ideal)) ((restRun.sl.r_150 (F := Ideal)) c i arg1 harg1 arg2 harg2 arg6 harg6 arg7 harg7 arg23 harg23 x1 x2 x6 x7 x23) (restRun.sl.cst_257 (F := Ideal)) (k0_pay339 (F := Ideal))) := by
  intro x
  rw [G19_emb]
  idx_vars x
  delta restRun.sl.cst_257 restRun.sl.r_150 restRun.sl.r_8
  beta_reduce
  simp only [ld1 H, ld2 H, ld6 H, ld23_4_0 H, ld7_0 H]
  pointwise [k0_pay74, k0_pay79, k0_pay87, k0_pay334, k0_pay335, k0_pay337, k0_pay339, k0_pay340]
  try simp only [dite_eq_ite, ite_self]
  exact kc_nope ..

theorem piece19_3_1_128 : Fills (G19 I i) (Rect.unit (s := S5x2x192x384) ![3, 1, 128, 0] S1x1x64x384.size inb_S5x2x192x384_S1x1x64x384_3_1_128_0) ((k0_pay310 (F := Ideal)) ((restRun.sl.r_5 (F := Ideal)) c i arg23 harg23 x23) (View.readAt (Elt Ideal) arg3.view (Rect.unit (s := S5x64x384) ![3, 0, 0] S1x64x384.size inb_S5x64x384_S1x64x384_3_0_0).toLoadRect (harg3.unread x3))) := by
  intro x
  rw [G19_emb]
  idx_vars x
  delta restRun.sl.r_5
  beta_reduce
  simp only [ld3 H, ld23_4_1 H]
  pointwise [k0_pay84, k0_pay310]
  try simp only [dite_eq_ite, ite_self]
  exact kc_rope ..

theorem piece19_3_1_0 : Fills (G19 I i) (Rect.unit (s := S5x2x192x384) ![3, 1, 0, 0] S1x1x128x384.size inb_S5x2x192x384_S1x1x128x384_3_1_0_0) ((k0_pay309 (F := Ideal)) ((restRun.sl.r_134 (F := Ideal)) c i arg1 harg1 arg2 harg2 arg6 harg6 arg7 harg7 arg23 harg23 x1 x2 x6 x7 x23)) := by
  intro x
  rw [G19_emb]
  idx_vars x
  delta restRun.sl.r_134 restRun.sl.r_116 restRun.sl.r_115 restRun.sl.r_11 restRun.sl.r_10
  beta_reduce
  simp only [ld1 H, ld2 H, ld6 H, ld23_4_1 H, ld7_1 H]
  pointwise [k0_pay74, k0_pay84, k0_pay89, k0_pay90, k0_pay275, k0_pay276, k0_pay306, k0_pay308, k0_pay309]
  try simp only [dite_eq_ite, ite_self]
  exact kc_nope ..

theorem piece19_3_0_128 : Fills (G19 I i) (Rect.unit (s := S5x2x192x384) ![3, 0, 128, 0] S1x1x64x384.size inb_S5x2x192x384_S1x1x64x384_3_0_128_0) ((k0_pay282 (F := Ideal)) ((restRun.sl.r (F := Ideal)) c i arg23 harg23 x23) (View.readAt (Elt Ideal) arg3.view (Rect.unit (s := S5x64x384) ![3, 0, 0] S1x64x384.size inb_S5x64x384_S1x64x384_3_0_0).toLoadRect (harg3.unread x3))) := by
  intro x
  rw [G19_emb]
  idx_vars x
  delta restRun.sl.r
  beta_reduce
  simp only [ld3 H, ld23_4_0 H]
  pointwise [k0_pay79, k0_pay282]
  try simp only [dite_eq_ite, ite_self]
  exact kc_rope ..

theorem piece19_3_0_0 : Fills (G19 I i) (Rect.unit (s := S5x2x192x384) ![3, 0, 0, 0] S1x1x128x384.size inb_S5x2x192x384_S1x1x128x384_3_0_0_0) ((k0_pay281 (F := Ideal)) ((restRun.sl.r_118 (F := Ideal)) c i arg1 harg1 arg2 harg2 arg6 harg6 arg7 harg7 arg23 harg23 x1 x2 x6 x7 x23)) := by
  intro x
  rw [G19_emb]
  idx_vars x
  delta restRun.sl.r_118 restRun.sl.r_8
  beta_reduce
  simp only [ld1 H, ld2 H, ld6 H, ld23_4_0 H, ld7_0 H]
  pointwise [k0_pay74, k0_pay79, k0_pay87, k0_pay275, k0_pay276, k0_pay278, k0_pay281]
  try simp only [dite_eq_ite, ite_self]
  exact kc_nope ..

theorem piece19_2_1_128 : Fills (G19 I i) (Rect.unit (s := S5x2x192x384) ![2, 1, 128, 0] S1x1x64x384.size inb_S5x2x192x384_S1x1x64x384_2_1_128_0) ((k0_pay249 (F := Ideal)) ((restRun.sl.r_5 (F := Ideal)) c i arg23 harg23 x23) (View.readAt (Elt Ideal) arg3.view (Rect.unit (s := S5x64x384) ![2, 0, 0] S1x64x384.size inb_S5x64x384_S1x64x384_2_0_0).toLoadRect (harg3.unread x3))) := by
  intro x
  rw [G19_emb]
  idx_vars x
  delta restRun.sl.r_5
  beta_reduce
  simp only [ld3 H, ld23_4_1 H]
  pointwise [k0_pay84, k0_pay249]
  try simp only [dite_eq_ite, ite_self]
  exact kc_rope ..

theorem piece19_2_1_0 : Fills (G19 I i) (Rect.unit (s := S5x2x192x384) ![2, 1, 0, 0] S1x1x128x384.size inb_S5x2x192x384_S1x1x128x384_2_1_0_0) ((k0_pay248 (F := Ideal)) ((restRun.sl.r_100 (F := Ideal)) c i arg1 harg1 arg2 harg2 arg6 harg6 arg7 harg7 arg23 harg23 x1 x2 x6 x7 x23)) := by
  intro x
  rw [G19_emb]
  idx_vars x
  delta restRun.sl.r_100 restRun.sl.r_83 restRun.sl.r_82 restRun.sl.r_11 restRun.sl.r_10
  beta_reduce
  simp only [ld1 H, ld2 H, ld6 H, ld23_4_1 H, ld7_1 H]
  pointwise [k0_pay74, k0_pay84, k0_pay89, k0_pay90, k0_pay215, k0_pay216, k0_pay246, k0_pay248]
  try simp only [dite_eq_ite, ite_self]
  exact kc_nope ..

theorem piece19_2_0_128 : Fills (G19 I i) (Rect.unit (s := S5x2x192x384) ![2, 0, 128, 0] S1x1x64x384.size inb_S5x2x192x384_S1x1x64x384_2_0_128_0) ((k0_pay222 (F := Ideal)) ((restRun.sl.r (F := Ideal)) c i arg23 harg23 x23) (View.readAt (Elt Ideal) arg3.view (Rect.unit (s := S5x64x384) ![2, 0, 0] S1x64x384.size inb_S5x64x384_S1x64x384_2_0_0).toLoadRect (harg3.unread x3))) := by
  intro x
  rw [G19_emb]
  idx_vars x
  delta restRun.sl.r
  beta_reduce
  simp only [ld3 H, ld23_4_0 H]
  pointwise [k0_pay79, k0_pay222]
  try simp only [dite_eq_ite, ite_self]
  exact kc_rope ..

theorem piece19_2_0_0 : Fills (G19 I i) (Rect.unit (s := S5x2x192x384) ![2, 0, 0, 0] S1x1x128x384.size inb_S5x2x192x384_S1x1x128x384_2_0_0_0) ((k0_pay221 (F := Ideal)) ((restRun.sl.r_8 (F := Ideal)) c i arg7 harg7 arg23 harg23 x7 x23) ((restRun.sl.r_82 (F := Ideal)) c arg2 harg2 x2) ((restRun.sl.r_85 (F := Ideal)) c arg1 harg1 arg6 harg6 x1 x6)) := by
  intro x
  rw [G19_emb]
  idx_vars x
  delta restRun.sl.r_85 restRun.sl.r_82 restRun.sl.r_8
  beta_reduce
  simp only [ld1 H, ld2 H, ld6 H, ld23_4_0 H, ld7_0 H]
  pointwise [k0_pay74, k0_pay79, k0_pay87, k0_pay215, k0_pay216, k0_pay218, k0_pay219, k0_pay221]
  try simp only [dite_eq_ite, ite_self]
  exact kc_nope ..

theorem piece19_1_1_128 : Fills (G19 I i) (Rect.unit (s := S5x2x192x384) ![1, 1, 128, 0] S1x1x64x384.size inb_S5x2x192x384_S1x1x64x384_1_1_128_0) ((k0_pay189 (F := Ideal)) ((restRun.sl.r_5 (F := Ideal)) c i arg23 harg23 x23) (View.readAt (Elt Ideal) arg3.view (Rect.unit (s := S5x64x384) ![1, 0, 0] S1x64x384.size inb_S5x64x384_S1x64x384_1_0_0).toLoadRect (harg3.unread x3))) := by
  intro x
  rw [G19_emb]
  idx_vars x
  delta restRun.sl.r_5
  beta_reduce
  simp only [ld3 H, ld23_4_1 H]
  pointwise [k0_pay84, k0_pay189]
  try simp only [dite_eq_ite, ite_self]
  exact kc_rope ..

theorem piece19_1_1_0 : Fills (G19 I i) (Rect.unit (s := S5x2x192x384) ![1, 1, 0, 0] S1x1x128x384.size inb_S5x2x192x384_S1x1x128x384_1_1_0_0) ((k0_pay188 (F := Ideal)) ((restRun.sl.r_66 (F := Ideal)) c arg1 harg1 arg2 harg2 arg6 harg6 x1 x2 x6) ((restRun.sl.r_67 (F := Ideal)) c i arg7 harg7 arg23 harg23 x7 x23)) := by
  intro x
  rw [G19_emb]
  idx_vars x
  delta restRun.sl.r_67 restRun.sl.r_11 restRun.sl.r_10 restRun.sl.r_66 restRun.sl.r_49 restRun.sl.r_47 restRun.sl.r_48
  beta_reduce
  simp only [ld1 H, ld2 H, ld6 H, ld23_4_1 H, ld7_1 H]
  pointwise [k0_pay74, k0_pay84, k0_pay89, k0_pay90, k0_pay152, k0_pay153, k0_pay184, k0_pay185, k0_pay186, k0_pay188]
  try simp only [dite_eq_ite, ite_self]
  exact kc_nope ..

theorem piece19_1_0_128 : Fills (G19 I i) (Rect.unit (s := S5x2x192x384) ![1, 0, 128, 0] S1x1x64x384.size inb_S5x2x192x384_S1x1x64x384_1_0_128_0) ((k0_pay158 (F := Ideal)) ((restRun.sl.r (F := Ideal)) c i arg23 harg23 x23) (View.readAt (Elt Ideal) arg3.view (Rect.unit (s := S5x64x384) ![1, 0, 0] S1x64x384.size inb_S5x64x384_S1x64x384_1_0_0).toLoadRect (harg3.unread x3))) := by
  intro x
  rw [G19_emb]
  idx_vars x
  delta restRun.sl.r
  beta_reduce
  simp only [ld3 H, ld23_4_0 H]
  pointwise [k0_pay79, k0_pay158]
  try simp only [dite_eq_ite, ite_self]
  exact kc_rope ..

theorem piece19_1_0_0 : Fills (G19 I i) (Rect.unit (s := S5x2x192x384) ![1, 0, 0, 0] S1x1x128x384.size inb_S5x2x192x384_S1x1x128x384_1_0_0_0) ((k0_pay157 (F := Ideal)) ((k0_pay74 (F := Ideal)) (View.readAt (Elt Ideal) arg6.view (Rect.unit (s := S2x512x128) ![0, 0, 0] ![1, 512, 128] inb_S2x512x128_S1x512x128_0_0_0).toLoadRect (harg6.unread x6)) (View.readAt (Elt Ideal) arg6.view (Rect.unit (s := S2x512x128) ![1, 0, 0] ![1, 512, 128] inb_S2x512x128_S1x512x128_1_0_0).toLoadRect (harg6.unread x6))) ((restRun.sl.r_8 (F := Ideal)) c i arg7 harg7 arg23 harg23 x7 x23) ((restRun.sl.r_47 (F := Ideal)) c arg1 harg1 x1) (View.readAt (Elt Ideal) arg2.view (Rect.unit (s := S5x384) ![1, 0] S1x384.size inb_S5x384_S1x384_1_0).toLoadRect (harg2.unread x2))) := by
  intro x
  rw [G19_emb]
  idx_vars x
  delta restRun.sl.r_47 restRun.sl.r_8
  beta_reduce
  simp only [ld1 H, ld2 H, ld6 H, ld23_4_0 H, ld7_0 H]
  pointwise [k0_pay74, k0_pay79, k0_pay87, k0_pay152, k0_pay153, k0_pay155, k0_pay157]
  try simp only [dite_eq_ite, ite_self]
  exact kc_nope ..

theorem piece19_0_1_128 : Fills (G19 I i) (Rect.unit (s := S5x2x192x384) ![0, 1, 128, 0] S1x1x64x384.size inb_S5x2x192x384_S1x1x64x384_0_1_128_0) ((k0_pay128 (F := Ideal)) ((restRun.sl.r_5 (F := Ideal)) c i arg23 harg23 x23) (View.readAt (Elt Ideal) arg3.view (Rect.unit (s := S5x64x384) ![0, 0, 0] S1x64x384.size inb_S5x64x384_S1x64x384_0_0_0).toLoadRect (harg3.unread x3))) := by
  intro x
  rw [G19_emb]
  idx_vars x
  delta restRun.sl.r_5
  beta_reduce
  simp only [ld3 H, ld23_4_1 H]
  pointwise [k0_pay84, k0_pay128]
  try simp only [dite_eq_ite, ite_self]
  exact kc_rope ..

theorem piece19_0_1_0 : Fills (G19 I i) (Rect.unit (s := S5x2x192x384) ![0, 1, 0, 0] S1x1x128x384.size inb_S5x2x192x384_S1x1x128x384_0_1_0_0) ((k0_pay127 (F := Ideal)) ((restRun.sl.r_11 (F := Ideal)) c i arg7 harg7 arg23 harg23 x7 x23) ((restRun.sl.r_13 (F := Ideal)) c arg2 harg2 x2) ((restRun.sl.r_14 (F := Ideal)) c arg1 harg1 arg6 harg6 x1 x6)) := by
  intro x
  rw [G19_emb]
  idx_vars x
  delta restRun.sl.r_14 restRun.sl.r_13 restRun.sl.r_11 restRun.sl.r_10
  beta_reduce
  simp only [ld1 H, ld2 H, ld6 H, ld23_4_1 H, ld7_1 H]
  pointwise [k0_pay74, k0_pay84, k0_pay89, k0_pay90, k0_pay92, k0_pay93, k0_pay125, k0_pay127]
  try simp only [dite_eq_ite, ite_self]
  exact kc_nope ..

theorem piece19_0_0_128 : Fills (G19 I i) (Rect.unit (s := S5x2x192x384) ![0, 0, 128, 0] S1x1x64x384.size inb_S5x2x192x384_S1x1x64x384_0_0_128_0) ((k0_pay99 (F := Ideal)) ((restRun.sl.r_17 (F := Ideal)) c i arg3 harg3 arg23 harg23 x3 x23)) := by
  intro x
  rw [G19_emb]
  idx_vars x
  delta restRun.sl.r_17 restRun.sl.r
  beta_reduce
  simp only [ld3 H, ld23_4_0 H]
  pointwise [k0_pay79, k0_pay98, k0_pay99]
  try simp only [dite_eq_ite, ite_self]
  exact kc_rope ..

theorem piece19_0_0_0 : Fills (G19 I i) (Rect.unit (s := S5x2x192x384) ![0, 0, 0, 0] S1x1x128x384.size inb_S5x2x192x384_S1x1x128x384_0_0_0_0) ((k0_pay97 (F := Ideal)) ((k0_pay74 (F := Ideal)) (View.readAt (Elt Ideal) arg6.view (Rect.unit (s := S2x512x128) ![0, 0, 0] ![1, 512, 128] inb_S2x512x128_S1x512x128_0_0_0).toLoadRect (harg6.unread x6)) (View.readAt (Elt Ideal) arg6.view (Rect.unit (s := S2x512x128) ![1, 0, 0] ![1, 512, 128] inb_S2x512x128_S1x512x128_1_0_0).toLoadRect (harg6.unread x6))) ((restRun.sl.r_8 (F := Ideal)) c i arg7 harg7 arg23 harg23 x7 x23) (View.readAt (Elt Ideal) arg1.view (Rect.unit (s := S5x384x512) ![0, 0, 0] S1x384x512.size inb_S5x384x512_S1x384x512_0_0_0).toLoadRect (harg1.unread x1)) (View.readAt (Elt Ideal) arg2.view (Rect.unit (s := S5x384) ![0, 0] S1x384.size inb_S5x384_S1x384_0_0).toLoadRect (harg2.unread x2))) := by
  intro x
  rw [G19_emb]
  idx_vars x
  delta restRun.sl.r_8
  beta_reduce
  simp only [ld1 H, ld2 H, ld6 H, ld23_4_0 H, ld7_0 H]
  pointwise [k0_pay74, k0_pay79, k0_pay87, k0_pay92, k0_pay93, k0_pay95, k0_pay97]
  try simp only [dite_eq_ite, ite_self]
  exact kc_nope ..

end Cert.KernelIdeal.Val

end
-- ==== Proof.KeyRead.lean ====
/- The key codes a grid point reads back after it has written them. -/
module

public import proofs.«01_k».proof.Proof.PieceK
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Mla
/-- Where an index of the slab of group `A`, head `B`, lies in the whole buffer. -/
theorem at4 (A B : ℕ) (inb) (j : S1x1x192x384.Idx) :
    ((Rect.unit (s := S5x2x192x384) ![A, B, 0, 0] S1x1x192x384.size inb).toLoadRect.idx j 0).val = A + (j 0).val
    ∧ ((Rect.unit (s := S5x2x192x384) ![A, B, 0, 0] S1x1x192x384.size inb).toLoadRect.idx j 1).val = B + (j 1).val
    ∧ ((Rect.unit (s := S5x2x192x384) ![A, B, 0, 0] S1x1x192x384.size inb).toLoadRect.idx j 2).val = 0 + (j 2).val
    ∧ ((Rect.unit (s := S5x2x192x384) ![A, B, 0, 0] S1x1x192x384.size inb).toLoadRect.idx j 3).val = 0 + (j 3).val :=
  ⟨idxv _ _ _ _ _, idxv _ _ _ _ _, idxv _ _ _ _ _, idxv _ _ _ _ _⟩

variable {I : In} {i : grid0.Coords} {x1 : Vec Ideal S5x384x512 .fp8e4m3} {x2 : Vec Ideal S5x384 .f32} {x3 : Vec Ideal S5x64x384 .bf16} {x4 : Vec Ideal S5x2x384x128 .bf16} {x5 : Vec Ideal S5x2x64x384 .bf16} {x6 : Vec Ideal S2x512x128 .fp8e4m3} {x7 : Vec Ideal S20x128 .f32} {x8 : Vec Ideal S2x512x128 .fp8e4m3} {x9 : Vec Ideal S20x128 .f32} {x23 : Vec Ideal S6x20x128 .f32} {x24 : Vec Ideal S5x384x128 .f32} {x25 : Vec Ideal S8x128 .f32}
variable {c : Dev nD} {arg1 : Memref sig .tc .vmem S5x384x512 .fp8e4m3} {harg1 : arg1.IsWhole} {arg2 : Memref sig .tc .vmem S5x384 .f32} {harg2 : arg2.IsWhole} {arg3 : Memref sig .tc .vmem S5x64x384 .bf16} {harg3 : arg3.IsWhole} {arg6 : Memref sig .tc .vmem S2x512x128 .fp8e4m3} {harg6 : arg6.IsWhole} {arg7 : Memref sig .tc .vmem S20x128 .f32} {harg7 : arg7.IsWhole} {arg19 : Memref sig .tc .vmem S5x2x192x384 .fp8e4m3} {harg19 : arg19.IsWhole} {arg23 : Memref sig .tc .vmem S6x20x128 .f32} {harg23 : arg23.IsWhole}
variable (H : Ctx I i x1 x2 x3 x4 x5 x6 x7 x8 x9 x23 x24 x25)
include H

theorem keys_2 : ∀ p ∈ restRun.sl.H19_2 (F := Ideal) c i arg1 harg1 arg2 harg2 arg3 harg3 arg6 harg6 arg7 harg7 arg23 harg23 x1 x2 x3 x6 x7 x23, ∀ x, p.2 x = G19 I i (p.1.emb x) := by
  delta restRun.sl.H19_2
  exact List.forall_mem_cons.2 ⟨piece19_0_0_128 H, List.forall_mem_cons.2 ⟨piece19_0_0_0 H, (fun _ h => absurd h List.not_mem_nil)⟩⟩

theorem v178_eq : restRun.sl.v178 (F := Ideal) c i arg1 harg1 arg2 harg2 arg3 harg3 arg6 harg6 arg7 harg7 arg19 arg23 harg23 x1 x2 x3 x6 x7 x23 = fun y => kc I 0 (hd i 0) (y 3) (y 2) := by
  delta restRun.sl.v178
  refine (readCov_of_pieces _ (G19 I i) _ _ (keys_2 H) fun j => ?_).trans (funext fun j => ?_)
  · have h0 : (j 0).val < 1 := (j 0).isLt
    have h1 : (j 1).val < 1 := (j 1).isLt
    have h2 : (j 2).val < 192 := (j 2).isLt
    have h3 : (j 3).val < 384 := (j 3).isLt
    obtain ⟨e0, e1, e2, e3⟩ := at4 0 0 inb_S5x2x192x384_S1x1x192x384_0_0_0_0 j
    delta restRun.sl.H19_2
    by_cases hj : (j 2).val < 128
    · exact ⟨_, List.mem_cons_of_mem _ List.mem_cons_self, mem4 inb_S5x2x192x384_S1x1x128x384_0_0_0_0 _ (by rw [e0]; omega) (by rw [e1]; omega) (by rw [e2]; omega) (by rw [e3]; omega)⟩
    · exact ⟨_, List.mem_cons_self, mem4 inb_S5x2x192x384_S1x1x64x384_0_0_128_0 _ (by rw [e0]; omega) (by rw [e1]; omega) (by rw [e2]; omega) (by rw [e3]; omega)⟩
  · exact G19_idx I i 0 0 0 0 rfl rfl _ j

theorem keys_4 : ∀ p ∈ restRun.sl.H19_4 (F := Ideal) c i arg1 harg1 arg2 harg2 arg3 harg3 arg6 harg6 arg7 harg7 arg23 harg23 x1 x2 x3 x6 x7 x23, ∀ x, p.2 x = G19 I i (p.1.emb x) := by
  delta restRun.sl.H19_4
  exact List.forall_mem_cons.2 ⟨piece19_0_1_128 H, List.forall_mem_cons.2 ⟨piece19_0_1_0 H, (keys_2 H)⟩⟩

theorem v372_eq : restRun.sl.v372 (F := Ideal) c i arg1 harg1 arg2 harg2 arg3 harg3 arg6 harg6 arg7 harg7 arg19 arg23 harg23 x1 x2 x3 x6 x7 x23 = fun y => kc I 0 (hd i 1) (y 3) (y 2) := by
  delta restRun.sl.v372
  refine (readCov_of_pieces _ (G19 I i) _ _ (keys_4 H) fun j => ?_).trans (funext fun j => ?_)
  · have h0 : (j 0).val < 1 := (j 0).isLt
    have h1 : (j 1).val < 1 := (j 1).isLt
    have h2 : (j 2).val < 192 := (j 2).isLt
    have h3 : (j 3).val < 384 := (j 3).isLt
    obtain ⟨e0, e1, e2, e3⟩ := at4 0 1 inb_S5x2x192x384_S1x1x192x384_0_1_0_0 j
    delta restRun.sl.H19_4
    by_cases hj : (j 2).val < 128
    · exact ⟨_, List.mem_cons_of_mem _ List.mem_cons_self, mem4 inb_S5x2x192x384_S1x1x128x384_0_1_0_0 _ (by rw [e0]; omega) (by rw [e1]; omega) (by rw [e2]; omega) (by rw [e3]; omega)⟩
    · exact ⟨_, List.mem_cons_self, mem4 inb_S5x2x192x384_S1x1x64x384_0_1_128_0 _ (by rw [e0]; omega) (by rw [e1]; omega) (by rw [e2]; omega) (by rw [e3]; omega)⟩
  · exact G19_idx I i 0 1 0 1 rfl rfl _ j

theorem keys_6 : ∀ p ∈ restRun.sl.H19_6 (F := Ideal) c i arg1 harg1 arg2 harg2 arg3 harg3 arg6 harg6 arg7 harg7 arg23 harg23 x1 x2 x3 x6 x7 x23, ∀ x, p.2 x = G19 I i (p.1.emb x) := by
  delta restRun.sl.H19_6
  exact List.forall_mem_cons.2 ⟨piece19_1_0_128 H, List.forall_mem_cons.2 ⟨piece19_1_0_0 H, (keys_4 H)⟩⟩

theorem v574_eq : restRun.sl.v574 (F := Ideal) c i arg1 harg1 arg2 harg2 arg3 harg3 arg6 harg6 arg7 harg7 arg19 arg23 harg23 x1 x2 x3 x6 x7 x23 = fun y => kc I 1 (hd i 0) (y 3) (y 2) := by
  delta restRun.sl.v574
  refine (readCov_of_pieces _ (G19 I i) _ _ (keys_6 H) fun j => ?_).trans (funext fun j => ?_)
  · have h0 : (j 0).val < 1 := (j 0).isLt
    have h1 : (j 1).val < 1 := (j 1).isLt
    have h2 : (j 2).val < 192 := (j 2).isLt
    have h3 : (j 3).val < 384 := (j 3).isLt
    obtain ⟨e0, e1, e2, e3⟩ := at4 1 0 inb_S5x2x192x384_S1x1x192x384_1_0_0_0 j
    delta restRun.sl.H19_6
    by_cases hj : (j 2).val < 128
    · exact ⟨_, List.mem_cons_of_mem _ List.mem_cons_self, mem4 inb_S5x2x192x384_S1x1x128x384_1_0_0_0 _ (by rw [e0]; omega) (by rw [e1]; omega) (by rw [e2]; omega) (by rw [e3]; omega)⟩
    · exact ⟨_, List.mem_cons_self, mem4 inb_S5x2x192x384_S1x1x64x384_1_0_128_0 _ (by rw [e0]; omega) (by rw [e1]; omega) (by rw [e2]; omega) (by rw [e3]; omega)⟩
  · exact G19_idx I i 1 0 1 0 rfl rfl _ j

theorem keys_8 : ∀ p ∈ restRun.sl.H19_8 (F := Ideal) c i arg1 harg1 arg2 harg2 arg3 harg3 arg6 harg6 arg7 harg7 arg23 harg23 x1 x2 x3 x6 x7 x23, ∀ x, p.2 x = G19 I i (p.1.emb x) := by
  delta restRun.sl.H19_8
  exact List.forall_mem_cons.2 ⟨piece19_1_1_128 H, List.forall_mem_cons.2 ⟨piece19_1_1_0 H, (keys_6 H)⟩⟩

theorem v771_eq : restRun.sl.v771 (F := Ideal) c i arg1 harg1 arg2 harg2 arg3 harg3 arg6 harg6 arg7 harg7 arg19 arg23 harg23 x1 x2 x3 x6 x7 x23 = fun y => kc I 1 (hd i 1) (y 3) (y 2) := by
  delta restRun.sl.v771
  refine (readCov_of_pieces _ (G19 I i) _ _ (keys_8 H) fun j => ?_).trans (funext fun j => ?_)
  · have h0 : (j 0).val < 1 := (j 0).isLt
    have h1 : (j 1).val < 1 := (j 1).isLt
    have h2 : (j 2).val < 192 := (j 2).isLt
    have h3 : (j 3).val < 384 := (j 3).isLt
    obtain ⟨e0, e1, e2, e3⟩ := at4 1 1 inb_S5x2x192x384_S1x1x192x384_1_1_0_0 j
    delta restRun.sl.H19_8
    by_cases hj : (j 2).val < 128
    · exact ⟨_, List.mem_cons_of_mem _ List.mem_cons_self, mem4 inb_S5x2x192x384_S1x1x128x384_1_1_0_0 _ (by rw [e0]; omega) (by rw [e1]; omega) (by rw [e2]; omega) (by rw [e3]; omega)⟩
    · exact ⟨_, List.mem_cons_self, mem4 inb_S5x2x192x384_S1x1x64x384_1_1_128_0 _ (by rw [e0]; omega) (by rw [e1]; omega) (by rw [e2]; omega) (by rw [e3]; omega)⟩
  · exact G19_idx I i 1 1 1 1 rfl rfl _ j

theorem keys_10 : ∀ p ∈ restRun.sl.H19_10 (F := Ideal) c i arg1 harg1 arg2 harg2 arg3 harg3 arg6 harg6 arg7 harg7 arg23 harg23 x1 x2 x3 x6 x7 x23, ∀ x, p.2 x = G19 I i (p.1.emb x) := by
  delta restRun.sl.H19_10
  exact List.forall_mem_cons.2 ⟨piece19_2_0_128 H, List.forall_mem_cons.2 ⟨piece19_2_0_0 H, (keys_8 H)⟩⟩

theorem v973_eq : restRun.sl.v973 (F := Ideal) c i arg1 harg1 arg2 harg2 arg3 harg3 arg6 harg6 arg7 harg7 arg19 arg23 harg23 x1 x2 x3 x6 x7 x23 = fun y => kc I 2 (hd i 0) (y 3) (y 2) := by
  delta restRun.sl.v973
  refine (readCov_of_pieces _ (G19 I i) _ _ (keys_10 H) fun j => ?_).trans (funext fun j => ?_)
  · have h0 : (j 0).val < 1 := (j 0).isLt
    have h1 : (j 1).val < 1 := (j 1).isLt
    have h2 : (j 2).val < 192 := (j 2).isLt
    have h3 : (j 3).val < 384 := (j 3).isLt
    obtain ⟨e0, e1, e2, e3⟩ := at4 2 0 inb_S5x2x192x384_S1x1x192x384_2_0_0_0 j
    delta restRun.sl.H19_10
    by_cases hj : (j 2).val < 128
    · exact ⟨_, List.mem_cons_of_mem _ List.mem_cons_self, mem4 inb_S5x2x192x384_S1x1x128x384_2_0_0_0 _ (by rw [e0]; omega) (by rw [e1]; omega) (by rw [e2]; omega) (by rw [e3]; omega)⟩
    · exact ⟨_, List.mem_cons_self, mem4 inb_S5x2x192x384_S1x1x64x384_2_0_128_0 _ (by rw [e0]; omega) (by rw [e1]; omega) (by rw [e2]; omega) (by rw [e3]; omega)⟩
  · exact G19_idx I i 2 0 2 0 rfl rfl _ j

theorem keys_12 : ∀ p ∈ restRun.sl.H19_12 (F := Ideal) c i arg1 harg1 arg2 harg2 arg3 harg3 arg6 harg6 arg7 harg7 arg23 harg23 x1 x2 x3 x6 x7 x23, ∀ x, p.2 x = G19 I i (p.1.emb x) := by
  delta restRun.sl.H19_12
  exact List.forall_mem_cons.2 ⟨piece19_2_1_128 H, List.forall_mem_cons.2 ⟨piece19_2_1_0 H, (keys_10 H)⟩⟩

theorem v1170_eq : restRun.sl.v1170 (F := Ideal) c i arg1 harg1 arg2 harg2 arg3 harg3 arg6 harg6 arg7 harg7 arg19 arg23 harg23 x1 x2 x3 x6 x7 x23 = fun y => kc I 2 (hd i 1) (y 3) (y 2) := by
  delta restRun.sl.v1170
  refine (readCov_of_pieces _ (G19 I i) _ _ (keys_12 H) fun j => ?_).trans (funext fun j => ?_)
  · have h0 : (j 0).val < 1 := (j 0).isLt
    have h1 : (j 1).val < 1 := (j 1).isLt
    have h2 : (j 2).val < 192 := (j 2).isLt
    have h3 : (j 3).val < 384 := (j 3).isLt
    obtain ⟨e0, e1, e2, e3⟩ := at4 2 1 inb_S5x2x192x384_S1x1x192x384_2_1_0_0 j
    delta restRun.sl.H19_12
    by_cases hj : (j 2).val < 128
    · exact ⟨_, List.mem_cons_of_mem _ List.mem_cons_self, mem4 inb_S5x2x192x384_S1x1x128x384_2_1_0_0 _ (by rw [e0]; omega) (by rw [e1]; omega) (by rw [e2]; omega) (by rw [e3]; omega)⟩
    · exact ⟨_, List.mem_cons_self, mem4 inb_S5x2x192x384_S1x1x64x384_2_1_128_0 _ (by rw [e0]; omega) (by rw [e1]; omega) (by rw [e2]; omega) (by rw [e3]; omega)⟩
  · exact G19_idx I i 2 1 2 1 rfl rfl _ j

theorem keys_14 : ∀ p ∈ restRun.sl.H19_14 (F := Ideal) c i arg1 harg1 arg2 harg2 arg3 harg3 arg6 harg6 arg7 harg7 arg23 harg23 x1 x2 x3 x6 x7 x23, ∀ x, p.2 x = G19 I i (p.1.emb x) := by
  delta restRun.sl.H19_14
  exact List.forall_mem_cons.2 ⟨piece19_3_0_128 H, List.forall_mem_cons.2 ⟨piece19_3_0_0 H, (keys_12 H)⟩⟩

theorem v1372_eq : restRun.sl.v1372 (F := Ideal) c i arg1 harg1 arg2 harg2 arg3 harg3 arg6 harg6 arg7 harg7 arg19 arg23 harg23 x1 x2 x3 x6 x7 x23 = fun y => kc I 3 (hd i 0) (y 3) (y 2) := by
  delta restRun.sl.v1372
  refine (readCov_of_pieces _ (G19 I i) _ _ (keys_14 H) fun j => ?_).trans (funext fun j => ?_)
  · have h0 : (j 0).val < 1 := (j 0).isLt
    have h1 : (j 1).val < 1 := (j 1).isLt
    have h2 : (j 2).val < 192 := (j 2).isLt
    have h3 : (j 3).val < 384 := (j 3).isLt
    obtain ⟨e0, e1, e2, e3⟩ := at4 3 0 inb_S5x2x192x384_S1x1x192x384_3_0_0_0 j
    delta restRun.sl.H19_14
    by_cases hj : (j 2).val < 128
    · exact ⟨_, List.mem_cons_of_mem _ List.mem_cons_self, mem4 inb_S5x2x192x384_S1x1x128x384_3_0_0_0 _ (by rw [e0]; omega) (by rw [e1]; omega) (by rw [e2]; omega) (by rw [e3]; omega)⟩
    · exact ⟨_, List.mem_cons_self, mem4 inb_S5x2x192x384_S1x1x64x384_3_0_128_0 _ (by rw [e0]; omega) (by rw [e1]; omega) (by rw [e2]; omega) (by rw [e3]; omega)⟩
  · exact G19_idx I i 3 0 3 0 rfl rfl _ j

theorem keys_16 : ∀ p ∈ restRun.sl.H19_16 (F := Ideal) c i arg1 harg1 arg2 harg2 arg3 harg3 arg6 harg6 arg7 harg7 arg23 harg23 x1 x2 x3 x6 x7 x23, ∀ x, p.2 x = G19 I i (p.1.emb x) := by
  delta restRun.sl.H19_16
  exact List.forall_mem_cons.2 ⟨piece19_3_1_128 H, List.forall_mem_cons.2 ⟨piece19_3_1_0 H, (keys_14 H)⟩⟩

theorem v1569_eq : restRun.sl.v1569 (F := Ideal) c i arg1 harg1 arg2 harg2 arg3 harg3 arg6 harg6 arg7 harg7 arg19 arg23 harg23 x1 x2 x3 x6 x7 x23 = fun y => kc I 3 (hd i 1) (y 3) (y 2) := by
  delta restRun.sl.v1569
  refine (readCov_of_pieces _ (G19 I i) _ _ (keys_16 H) fun j => ?_).trans (funext fun j => ?_)
  · have h0 : (j 0).val < 1 := (j 0).isLt
    have h1 : (j 1).val < 1 := (j 1).isLt
    have h2 : (j 2).val < 192 := (j 2).isLt
    have h3 : (j 3).val < 384 := (j 3).isLt
    obtain ⟨e0, e1, e2, e3⟩ := at4 3 1 inb_S5x2x192x384_S1x1x192x384_3_1_0_0 j
    delta restRun.sl.H19_16
    by_cases hj : (j 2).val < 128
    · exact ⟨_, List.mem_cons_of_mem _ List.mem_cons_self, mem4 inb_S5x2x192x384_S1x1x128x384_3_1_0_0 _ (by rw [e0]; omega) (by rw [e1]; omega) (by rw [e2]; omega) (by rw [e3]; omega)⟩
    · exact ⟨_, List.mem_cons_self, mem4 inb_S5x2x192x384_S1x1x64x384_3_1_128_0 _ (by rw [e0]; omega) (by rw [e1]; omega) (by rw [e2]; omega) (by rw [e3]; omega)⟩
  · exact G19_idx I i 3 1 3 1 rfl rfl _ j

theorem keys_18 : ∀ p ∈ restRun.sl.H19_18 (F := Ideal) c i arg1 harg1 arg2 harg2 arg3 harg3 arg6 harg6 arg7 harg7 arg23 harg23 x1 x2 x3 x6 x7 x23, ∀ x, p.2 x = G19 I i (p.1.emb x) := by
  delta restRun.sl.H19_18
  exact List.forall_mem_cons.2 ⟨piece19_4_0_128 H, List.forall_mem_cons.2 ⟨piece19_4_0_0 H, (keys_16 H)⟩⟩

theorem v1771_eq : restRun.sl.v1771 (F := Ideal) c i arg1 harg1 arg2 harg2 arg3 harg3 arg6 harg6 arg7 harg7 arg19 arg23 harg23 x1 x2 x3 x6 x7 x23 = fun y => kc I 4 (hd i 0) (y 3) (y 2) := by
  delta restRun.sl.v1771
  refine (readCov_of_pieces _ (G19 I i) _ _ (keys_18 H) fun j => ?_).trans (funext fun j => ?_)
  · have h0 : (j 0).val < 1 := (j 0).isLt
    have h1 : (j 1).val < 1 := (j 1).isLt
    have h2 : (j 2).val < 192 := (j 2).isLt
    have h3 : (j 3).val < 384 := (j 3).isLt
    obtain ⟨e0, e1, e2, e3⟩ := at4 4 0 inb_S5x2x192x384_S1x1x192x384_4_0_0_0 j
    delta restRun.sl.H19_18
    by_cases hj : (j 2).val < 128
    · exact ⟨_, List.mem_cons_of_mem _ List.mem_cons_self, mem4 inb_S5x2x192x384_S1x1x128x384_4_0_0_0 _ (by rw [e0]; omega) (by rw [e1]; omega) (by rw [e2]; omega) (by rw [e3]; omega)⟩
    · exact ⟨_, List.mem_cons_self, mem4 inb_S5x2x192x384_S1x1x64x384_4_0_128_0 _ (by rw [e0]; omega) (by rw [e1]; omega) (by rw [e2]; omega) (by rw [e3]; omega)⟩
  · exact G19_idx I i 4 0 4 0 rfl rfl _ j

theorem keys_20 : ∀ p ∈ restRun.sl.H19_20 (F := Ideal) c i arg1 harg1 arg2 harg2 arg3 harg3 arg6 harg6 arg7 harg7 arg23 harg23 x1 x2 x3 x6 x7 x23, ∀ x, p.2 x = G19 I i (p.1.emb x) := by
  delta restRun.sl.H19_20
  exact List.forall_mem_cons.2 ⟨piece19_4_1_128 H, List.forall_mem_cons.2 ⟨piece19_4_1_0 H, (keys_18 H)⟩⟩

theorem v1968_eq : restRun.sl.v1968 (F := Ideal) c i arg1 harg1 arg2 harg2 arg3 harg3 arg6 harg6 arg7 harg7 arg19 arg23 harg23 x1 x2 x3 x6 x7 x23 = fun y => kc I 4 (hd i 1) (y 3) (y 2) := by
  delta restRun.sl.v1968
  refine (readCov_of_pieces _ (G19 I i) _ _ (keys_20 H) fun j => ?_).trans (funext fun j => ?_)
  · have h0 : (j 0).val < 1 := (j 0).isLt
    have h1 : (j 1).val < 1 := (j 1).isLt
    have h2 : (j 2).val < 192 := (j 2).isLt
    have h3 : (j 3).val < 384 := (j 3).isLt
    obtain ⟨e0, e1, e2, e3⟩ := at4 4 1 inb_S5x2x192x384_S1x1x192x384_4_1_0_0 j
    delta restRun.sl.H19_20
    by_cases hj : (j 2).val < 128
    · exact ⟨_, List.mem_cons_of_mem _ List.mem_cons_self, mem4 inb_S5x2x192x384_S1x1x128x384_4_1_0_0 _ (by rw [e0]; omega) (by rw [e1]; omega) (by rw [e2]; omega) (by rw [e3]; omega)⟩
    · exact ⟨_, List.mem_cons_self, mem4 inb_S5x2x192x384_S1x1x64x384_4_1_128_0 _ (by rw [e0]; omega) (by rw [e1]; omega) (by rw [e2]; omega) (by rw [e3]; omega)⟩
  · exact G19_idx I i 4 1 4 1 rfl rfl _ j

end Cert.KernelIdeal.Val

end
-- ==== Proof.PieceO0.lean ====
/- The pieces of the output of batch entry 0. -/
module

public import proofs.«01_k».proof.Proof.KeyRead
public import proofs.«01_k».proof.Proof.Rows
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Mla
variable {I : In} {i : grid0.Coords} {x1 : Vec Ideal S5x384x512 .fp8e4m3} {x2 : Vec Ideal S5x384 .f32} {x3 : Vec Ideal S5x64x384 .bf16} {x4 : Vec Ideal S5x2x384x128 .bf16} {x5 : Vec Ideal S5x2x64x384 .bf16} {x6 : Vec Ideal S2x512x128 .fp8e4m3} {x7 : Vec Ideal S20x128 .f32} {x8 : Vec Ideal S2x512x128 .fp8e4m3} {x9 : Vec Ideal S20x128 .f32} {x23 : Vec Ideal S6x20x128 .f32} {x24 : Vec Ideal S5x384x128 .f32} {x25 : Vec Ideal S8x128 .f32}
variable {c : Dev nD} {arg1 : Memref sig .tc .vmem S5x384x512 .fp8e4m3} {harg1 : arg1.IsWhole} {arg2 : Memref sig .tc .vmem S5x384 .f32} {harg2 : arg2.IsWhole} {arg3 : Memref sig .tc .vmem S5x64x384 .bf16} {harg3 : arg3.IsWhole} {arg4 : Memref sig .tc .vmem S5x2x384x128 .bf16} {harg4 : arg4.IsWhole} {arg5 : Memref sig .tc .vmem S5x2x64x384 .bf16} {harg5 : arg5.IsWhole} {arg6 : Memref sig .tc .vmem S2x512x128 .fp8e4m3} {harg6 : arg6.IsWhole} {arg7 : Memref sig .tc .vmem S20x128 .f32} {harg7 : arg7.IsWhole} {arg8 : Memref sig .tc .vmem S2x512x128 .fp8e4m3} {harg8 : arg8.IsWhole} {arg9 : Memref sig .tc .vmem S20x128 .f32} {harg9 : arg9.IsWhole} {arg19 : Memref sig .tc .vmem S5x2x192x384 .fp8e4m3} {harg19 : arg19.IsWhole} {arg23 : Memref sig .tc .vmem S6x20x128 .f32} {harg23 : arg23.IsWhole} {arg24 : Memref sig .tc .vmem S5x384x128 .f32} {harg24 : arg24.IsWhole}
variable (H : Ctx I i x1 x2 x3 x4 x5 x6 x7 x8 x9 x23 x24 x25) (HB : Bounded I)
include H HB

set_option maxHeartbeats 400000 in
theorem piece13_0_1_256 : Fills (G13 I i) (Rect.unit (s := S5x2x384x128) ![0, 1, 256, 0] S1x1x128x128.size inb_S5x2x384x128_S1x1x128x128_0_1_256_0) ((k0_pay151 (F := Ideal)) k0_pay73 ((restRun.sl.r_6 (F := Ideal)) c i arg23 harg23 x23) ((restRun.sl.r_36 (F := Ideal)) c i arg1 harg1 arg8 harg8 arg9 harg9 arg23 harg23 arg24 harg24 x1 x8 x9 x23 x24) ((restRun.sl.r_41 (F := Ideal)) c i arg4 harg4 arg5 harg5 arg23 harg23 x4 x5 x23) ((restRun.sl.r_42 (F := Ideal)) c i arg1 harg1 arg2 harg2 arg3 harg3 arg6 harg6 arg7 harg7 arg19 arg23 harg23 x1 x2 x3 x6 x7 x23) ((restRun.sl.r_43 (F := Ideal)) c i arg23 harg23 x23)) := by
  intro x
  rw [G13_emb]
  idx_vars x
  delta restRun.sl.r_43 restRun.sl.r_4 restRun.sl.r_2 restRun.sl.r_42 restRun.sl.r_41 restRun.sl.r_40 restRun.sl.r_39 restRun.sl.r_3 restRun.sl.r_37 restRun.sl.r_36 restRun.sl.r_34 restRun.sl.r_33 restRun.sl.r_15 restRun.sl.r_12 restRun.sl.r_7 restRun.sl.r_6
  beta_reduce
  simp only [ld1 H, ld4 H, ld5 H, ld8 H, ld24 H, ld23_1_1 H, ld23_2_1 H, ld23_3_1 H, ld23_5_1 H, ld23_6_1 H, ld9_1 H, v372_eq H]
  pointwise [k0_pay73, k0_pay75, k0_pay81, k0_pay82, k0_pay83, k0_pay85, k0_pay86, k0_pay91, k0_pay92, k0_pay94, k0_pay129, k0_pay130, k0_pay132, k0_pay134, k0_pay135, k0_pay137, k0_pay138, k0_pay139, k0_pay142, k0_pay143, k0_pay144, k0_pay151]
  refine rowA I 0 (hd i 1) ⟨256 + x2.val, lt2 x2⟩ HB x3 (n := 384) le2 (lt2 x2) ?_ ?_ ?_ ?_
  · intro x
    beta_reduce
    refine seen2 I 0 (hd i 1) x2 x (fun p => ?_) (fun p => ?_) <;> beta_reduce
    · refine dot_of _ _ _ _ _ (fun c => ?_) (fun c => ?_) <;> (first | rfl | exact rope3 ..)
    · refine dot_of _ _ _ _ _ (fun c => ?_) (fun c => ?_) <;> (first | rfl | exact rope3 ..)
  · intro x; (first | rfl | exact fac3 ..)
  · intro x; (first | rfl | exact fac3 ..)
  · intro x; exact vc_eq ..

set_option maxHeartbeats 400000 in
theorem piece13_0_1_128 : Fills (G13 I i) (Rect.unit (s := S5x2x384x128) ![0, 1, 128, 0] S1x1x128x128.size inb_S5x2x384x128_S1x1x128x128_0_1_128_0) ((k0_pay150 (F := Ideal)) ((restRun.sl.r_45 (F := Ideal)) c i arg1 harg1 arg2 harg2 arg3 harg3 arg4 harg4 arg5 harg5 arg6 harg6 arg7 harg7 arg8 harg8 arg9 harg9 arg19 arg23 harg23 arg24 harg24 x1 x2 x3 x4 x5 x6 x7 x8 x9 x23 x24) ((restRun.sl.r_46 (F := Ideal)) c i arg1 harg1 arg2 harg2 arg3 harg3 arg4 harg4 arg5 harg5 arg6 harg6 arg7 harg7 arg19 arg23 harg23 x1 x2 x3 x4 x5 x6 x7 x23)) := by
  intro x
  rw [G13_emb]
  idx_vars x
  delta restRun.sl.r_46 restRun.sl.r_6 restRun.sl.r_45 restRun.sl.r_43 restRun.sl.r_4 restRun.sl.r_2 restRun.sl.r_42 restRun.sl.r_41 restRun.sl.r_40 restRun.sl.r_39 restRun.sl.r_3 restRun.sl.r_37 restRun.sl.r_36 restRun.sl.r_34 restRun.sl.r_33 restRun.sl.r_15 restRun.sl.r_12 restRun.sl.r_7
  beta_reduce
  simp only [ld1 H, ld4 H, ld5 H, ld8 H, ld24 H, ld23_1_1 H, ld23_2_1 H, ld23_3_1 H, ld23_5_1 H, ld23_6_1 H, ld9_1 H, v372_eq H]
  pointwise [k0_pay73, k0_pay75, k0_pay81, k0_pay82, k0_pay83, k0_pay85, k0_pay86, k0_pay91, k0_pay92, k0_pay94, k0_pay129, k0_pay130, k0_pay132, k0_pay134, k0_pay135, k0_pay137, k0_pay138, k0_pay139, k0_pay142, k0_pay143, k0_pay144, k0_pay147, k0_pay148, k0_pay149, k0_pay150]
  refine rowB I 0 (hd i 1) ⟨128 + x2.val, lt1 x2⟩ HB x3 (lt1' x2) ?_ ?_ ?_ ?_ ?_ ?_ ?_ ?_ ?_
  · intro x
    beta_reduce
    refine seen1 I 0 (hd i 1) x2 x (fun p => ?_) (fun p => ?_) <;> beta_reduce
    · refine dot_of _ _ _ _ _ (fun c => ?_) (fun c => ?_) <;> (first | rfl | exact rope3 ..)
    · refine dot_of _ _ _ _ _ (fun c => ?_) (fun c => ?_) <;> (first | rfl | exact rope3 ..)
  · intro x
    beta_reduce
    refine seen1a I 0 (hd i 1) x2 x ?_
    refine dot_of _ _ _ _ _ (fun c => ?_) (fun c => ?_) <;> (first | rfl | exact rope3 ..)
  · intro x
    beta_reduce
    refine seen1b I 0 (hd i 1) x2 x ?_
    refine dot_of _ _ _ _ _ (fun c => ?_) (fun c => ?_) <;> (first | rfl | exact rope3 ..)
  · intro x; (first | rfl | exact fac3 ..)
  · intro x; (first | rfl | exact fac3 ..)
  · intro x; (first | rfl | exact fac3 ..)
  · intro x; (first | rfl | exact fac3 ..)
  · intro x; exact vc_eq ..
  · intro x; exact vc_eq ..

set_option maxHeartbeats 400000 in
theorem piece13_0_1_0 : Fills (G13 I i) (Rect.unit (s := S5x2x384x128) ![0, 1, 0, 0] S1x1x128x128.size inb_S5x2x384x128_S1x1x128x128_0_1_0_0) ((k0_pay146 (F := Ideal)) ((restRun.sl.r_6 (F := Ideal)) c i arg23 harg23 x23) ((restRun.sl.r_36 (F := Ideal)) c i arg1 harg1 arg8 harg8 arg9 harg9 arg23 harg23 arg24 harg24 x1 x8 x9 x23 x24) ((restRun.sl.r_44 (F := Ideal)) c i arg1 harg1 arg2 harg2 arg3 harg3 arg4 harg4 arg5 harg5 arg6 harg6 arg7 harg7 arg19 arg23 harg23 x1 x2 x3 x4 x5 x6 x7 x23)) := by
  intro x
  rw [G13_emb]
  idx_vars x
  delta restRun.sl.r_44 restRun.sl.r_40 restRun.sl.r_39 restRun.sl.r_3 restRun.sl.r_37 restRun.sl.r_4 restRun.sl.r_2 restRun.sl.r_36 restRun.sl.r_34 restRun.sl.r_33 restRun.sl.r_15 restRun.sl.r_12 restRun.sl.r_7 restRun.sl.r_6
  beta_reduce
  simp only [ld1 H, ld4 H, ld5 H, ld8 H, ld24 H, ld23_1_1 H, ld23_2_1 H, ld23_3_1 H, ld23_5_1 H, ld23_6_1 H, ld9_1 H, v372_eq H]
  pointwise [k0_pay73, k0_pay75, k0_pay81, k0_pay82, k0_pay83, k0_pay85, k0_pay86, k0_pay91, k0_pay92, k0_pay94, k0_pay129, k0_pay130, k0_pay132, k0_pay134, k0_pay135, k0_pay137, k0_pay138, k0_pay139, k0_pay142, k0_pay143, k0_pay144, k0_pay145, k0_pay146]
  refine rowA I 0 (hd i 1) ⟨x2.val, lt0 x2⟩ HB x3 (n := 128) le0 x2.isLt ?_ ?_ ?_ ?_
  · intro x
    beta_reduce
    refine seen0 I 0 (hd i 1) x2 x ?_
    refine dot_of _ _ _ _ _ (fun c => ?_) (fun c => ?_) <;> (first | rfl | exact rope3 ..)
  · intro x; (first | rfl | exact fac3 ..)
  · intro x; (first | rfl | exact fac3 ..)
  · intro x; exact vc_eq ..

set_option maxHeartbeats 400000 in
theorem piece13_0_0_256 : Fills (G13 I i) (Rect.unit (s := S5x2x384x128) ![0, 0, 256, 0] S1x1x128x128.size inb_S5x2x384x128_S1x1x128x128_0_0_256_0) ((k0_pay124 (F := Ideal)) ((restRun.sl.r_31 (F := Ideal)) c i arg1 harg1 arg2 harg2 arg3 harg3 arg4 harg4 arg5 harg5 arg6 harg6 arg7 harg7 arg8 harg8 arg9 harg9 arg19 arg23 harg23 arg24 harg24 x1 x2 x3 x4 x5 x6 x7 x8 x9 x23 x24)) := by
  intro x
  rw [G13_emb]
  idx_vars x
  delta restRun.sl.r_31 restRun.sl.r_27 restRun.sl.r_26 restRun.sl.r_25 restRun.sl.r_21 restRun.sl.r_20 restRun.sl.r_19 restRun.sl.r_15 restRun.sl.r_9 restRun.sl.r_1
  beta_reduce
  simp only [ld1 H, ld4 H, ld5 H, ld8 H, ld24 H, ld23_1_0 H, ld23_2_0 H, ld23_3_0 H, ld23_5_0 H, ld23_6_0 H, ld9_0 H, v178_eq H]
  pointwise [k0_pay73, k0_pay75, k0_pay76, k0_pay77, k0_pay78, k0_pay80, k0_pay88, k0_pay92, k0_pay94, k0_pay100, k0_pay102, k0_pay104, k0_pay105, k0_pay110, k0_pay111, k0_pay112, k0_pay115, k0_pay116, k0_pay117, k0_pay123, k0_pay124]
  refine rowA I 0 (hd i 0) ⟨256 + x2.val, lt2 x2⟩ HB x3 (n := 384) le2 (lt2 x2) ?_ ?_ ?_ ?_
  · intro x
    beta_reduce
    refine seen2 I 0 (hd i 0) x2 x (fun p => ?_) (fun p => ?_) <;> beta_reduce
    · refine dot_of _ _ _ _ _ (fun c => ?_) (fun c => ?_) <;> (first | rfl | exact rope3 ..)
    · refine dot_of _ _ _ _ _ (fun c => ?_) (fun c => ?_) <;> (first | rfl | exact rope3 ..)
  · intro x; (first | rfl | exact fac3 ..)
  · intro x; (first | rfl | exact fac3 ..)
  · intro x; exact vc_eq ..

set_option maxHeartbeats 400000 in
theorem piece13_0_0_128 : Fills (G13 I i) (Rect.unit (s := S5x2x384x128) ![0, 0, 128, 0] S1x1x128x128.size inb_S5x2x384x128_S1x1x128x128_0_0_128_0) ((k0_pay122 (F := Ideal)) ((restRun.sl.r_1 (F := Ideal)) c i arg23 harg23 x23) ((restRun.sl.r_19 (F := Ideal)) c i arg1 harg1 arg8 harg8 arg9 harg9 arg23 harg23 arg24 harg24 x1 x8 x9 x23 x24) ((restRun.sl.r_29 (F := Ideal)) c i arg1 harg1 arg2 harg2 arg3 harg3 arg4 harg4 arg5 harg5 arg6 harg6 arg7 harg7 arg19 arg23 harg23 x1 x2 x3 x4 x5 x6 x7 x23) ((restRun.sl.r_30 (F := Ideal)) c i arg1 harg1 arg2 harg2 arg3 harg3 arg4 harg4 arg5 harg5 arg6 harg6 arg7 harg7 arg19 arg23 harg23 x1 x2 x3 x4 x5 x6 x7 x23) (restRun.sl.cst_110 (F := Ideal))) := by
  intro x
  rw [G13_emb]
  idx_vars x
  delta restRun.sl.cst_110 restRun.sl.r_30 restRun.sl.r_29 restRun.sl.r_27 restRun.sl.r_26 restRun.sl.r_25 restRun.sl.r_21 restRun.sl.r_20 restRun.sl.r_19 restRun.sl.r_15 restRun.sl.r_9 restRun.sl.r_1
  beta_reduce
  simp only [ld1 H, ld4 H, ld5 H, ld8 H, ld24 H, ld23_1_0 H, ld23_2_0 H, ld23_3_0 H, ld23_5_0 H, ld23_6_0 H, ld9_0 H, v178_eq H]
  pointwise [k0_pay73, k0_pay75, k0_pay76, k0_pay77, k0_pay78, k0_pay80, k0_pay88, k0_pay92, k0_pay94, k0_pay100, k0_pay102, k0_pay104, k0_pay105, k0_pay110, k0_pay111, k0_pay112, k0_pay115, k0_pay116, k0_pay117, k0_pay120, k0_pay121, k0_pay122]
  refine rowB I 0 (hd i 0) ⟨128 + x2.val, lt1 x2⟩ HB x3 (lt1' x2) ?_ ?_ ?_ ?_ ?_ ?_ ?_ ?_ ?_
  · intro x
    beta_reduce
    refine seen1 I 0 (hd i 0) x2 x (fun p => ?_) (fun p => ?_) <;> beta_reduce
    · refine dot_of _ _ _ _ _ (fun c => ?_) (fun c => ?_) <;> (first | rfl | exact rope3 ..)
    · refine dot_of _ _ _ _ _ (fun c => ?_) (fun c => ?_) <;> (first | rfl | exact rope3 ..)
  · intro x
    beta_reduce
    refine seen1a I 0 (hd i 0) x2 x ?_
    refine dot_of _ _ _ _ _ (fun c => ?_) (fun c => ?_) <;> (first | rfl | exact rope3 ..)
  · intro x
    beta_reduce
    refine seen1b I 0 (hd i 0) x2 x ?_
    refine dot_of _ _ _ _ _ (fun c => ?_) (fun c => ?_) <;> (first | rfl | exact rope3 ..)
  · intro x; (first | rfl | exact fac3 ..)
  · intro x; (first | rfl | exact fac3 ..)
  · intro x; (first | rfl | exact fac3 ..)
  · intro x; (first | rfl | exact fac3 ..)
  · intro x; exact vc_eq ..
  · intro x; exact vc_eq ..

set_option maxHeartbeats 400000 in
theorem piece13_0_0_0 : Fills (G13 I i) (Rect.unit (s := S5x2x384x128) ![0, 0, 0, 0] S1x1x128x128.size inb_S5x2x384x128_S1x1x128x128_0_0_0_0) ((k0_pay119 (F := Ideal)) k0_pay73 ((restRun.sl.r_1 (F := Ideal)) c i arg23 harg23 x23) ((restRun.sl.r_19 (F := Ideal)) c i arg1 harg1 arg8 harg8 arg9 harg9 arg23 harg23 arg24 harg24 x1 x8 x9 x23 x24) ((restRun.sl.r_27 (F := Ideal)) c i arg23 harg23 x23) ((restRun.sl.r_28 (F := Ideal)) c i arg1 harg1 arg2 harg2 arg3 harg3 arg4 harg4 arg5 harg5 arg6 harg6 arg7 harg7 arg19 arg23 harg23 x1 x2 x3 x4 x5 x6 x7 x23)) := by
  intro x
  rw [G13_emb]
  idx_vars x
  delta restRun.sl.r_28 restRun.sl.r_21 restRun.sl.r_20 restRun.sl.r_27 restRun.sl.r_19 restRun.sl.r_15 restRun.sl.r_9 restRun.sl.r_1
  beta_reduce
  simp only [ld1 H, ld4 H, ld5 H, ld8 H, ld24 H, ld23_1_0 H, ld23_2_0 H, ld23_3_0 H, ld23_5_0 H, ld23_6_0 H, ld9_0 H, v178_eq H]
  pointwise [k0_pay73, k0_pay75, k0_pay76, k0_pay77, k0_pay78, k0_pay80, k0_pay88, k0_pay92, k0_pay94, k0_pay100, k0_pay102, k0_pay104, k0_pay105, k0_pay110, k0_pay111, k0_pay112, k0_pay115, k0_pay116, k0_pay117, k0_pay118, k0_pay119]
  refine rowA I 0 (hd i 0) ⟨x2.val, lt0 x2⟩ HB x3 (n := 128) le0 x2.isLt ?_ ?_ ?_ ?_
  · intro x
    beta_reduce
    refine seen0 I 0 (hd i 0) x2 x ?_
    refine dot_of _ _ _ _ _ (fun c => ?_) (fun c => ?_) <;> (first | rfl | exact rope3 ..)
  · intro x; (first | rfl | exact fac3 ..)
  · intro x; (first | rfl | exact fac3 ..)
  · intro x; exact vc_eq ..

end Cert.KernelIdeal.Val

end
-- ==== Proof.PieceO1.lean ====
/- The pieces of the output of batch entry 1. -/
module

public import proofs.«01_k».proof.Proof.KeyRead
public import proofs.«01_k».proof.Proof.Rows
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Mla
variable {I : In} {i : grid0.Coords} {x1 : Vec Ideal S5x384x512 .fp8e4m3} {x2 : Vec Ideal S5x384 .f32} {x3 : Vec Ideal S5x64x384 .bf16} {x4 : Vec Ideal S5x2x384x128 .bf16} {x5 : Vec Ideal S5x2x64x384 .bf16} {x6 : Vec Ideal S2x512x128 .fp8e4m3} {x7 : Vec Ideal S20x128 .f32} {x8 : Vec Ideal S2x512x128 .fp8e4m3} {x9 : Vec Ideal S20x128 .f32} {x23 : Vec Ideal S6x20x128 .f32} {x24 : Vec Ideal S5x384x128 .f32} {x25 : Vec Ideal S8x128 .f32}
variable {c : Dev nD} {arg1 : Memref sig .tc .vmem S5x384x512 .fp8e4m3} {harg1 : arg1.IsWhole} {arg2 : Memref sig .tc .vmem S5x384 .f32} {harg2 : arg2.IsWhole} {arg3 : Memref sig .tc .vmem S5x64x384 .bf16} {harg3 : arg3.IsWhole} {arg4 : Memref sig .tc .vmem S5x2x384x128 .bf16} {harg4 : arg4.IsWhole} {arg5 : Memref sig .tc .vmem S5x2x64x384 .bf16} {harg5 : arg5.IsWhole} {arg6 : Memref sig .tc .vmem S2x512x128 .fp8e4m3} {harg6 : arg6.IsWhole} {arg7 : Memref sig .tc .vmem S20x128 .f32} {harg7 : arg7.IsWhole} {arg8 : Memref sig .tc .vmem S2x512x128 .fp8e4m3} {harg8 : arg8.IsWhole} {arg9 : Memref sig .tc .vmem S20x128 .f32} {harg9 : arg9.IsWhole} {arg19 : Memref sig .tc .vmem S5x2x192x384 .fp8e4m3} {harg19 : arg19.IsWhole} {arg23 : Memref sig .tc .vmem S6x20x128 .f32} {harg23 : arg23.IsWhole} {arg24 : Memref sig .tc .vmem S5x384x128 .f32} {harg24 : arg24.IsWhole}
variable (H : Ctx I i x1 x2 x3 x4 x5 x6 x7 x8 x9 x23 x24 x25) (HB : Bounded I)
include H HB

set_option maxHeartbeats 400000 in
theorem piece13_1_1_256 : Fills (G13 I i) (Rect.unit (s := S5x2x384x128) ![1, 1, 256, 0] S1x1x128x128.size inb_S5x2x384x128_S1x1x128x128_1_1_256_0) ((k0_pay214 (F := Ideal)) k0_pay73 ((restRun.sl.r_6 (F := Ideal)) c i arg23 harg23 x23) ((restRun.sl.r_72 (F := Ideal)) c i arg1 harg1 arg8 harg8 arg9 harg9 arg23 harg23 arg24 harg24 x1 x8 x9 x23 x24) ((restRun.sl.r_76 (F := Ideal)) c i arg4 harg4 arg5 harg5 arg23 harg23 x4 x5 x23) ((restRun.sl.r_77 (F := Ideal)) c i arg1 harg1 arg2 harg2 arg3 harg3 arg6 harg6 arg7 harg7 arg19 arg23 harg23 x1 x2 x3 x6 x7 x23) ((restRun.sl.r_78 (F := Ideal)) c i arg23 harg23 x23)) := by
  intro x
  rw [G13_emb]
  idx_vars x
  delta restRun.sl.r_78 restRun.sl.r_4 restRun.sl.r_2 restRun.sl.r_77 restRun.sl.r_76 restRun.sl.cst_257 restRun.sl.r_75 restRun.sl.r_74 restRun.sl.r_3 restRun.sl.r_72 restRun.sl.r_69 restRun.sl.r_50 restRun.sl.r_47 restRun.sl.r_12 restRun.sl.r_7 restRun.sl.r_6
  beta_reduce
  simp only [ld1 H, ld4 H, ld5 H, ld8 H, ld24 H, ld23_1_1 H, ld23_2_1 H, ld23_3_1 H, ld23_5_1 H, ld23_6_1 H, ld9_1 H, v771_eq H]
  pointwise [k0_pay73, k0_pay75, k0_pay81, k0_pay82, k0_pay83, k0_pay85, k0_pay86, k0_pay91, k0_pay152, k0_pay154, k0_pay190, k0_pay193, k0_pay195, k0_pay196, k0_pay198, k0_pay199, k0_pay200, k0_pay201, k0_pay202, k0_pay205, k0_pay206, k0_pay207, k0_pay214]
  refine rowA I 1 (hd i 1) ⟨256 + x2.val, lt2 x2⟩ HB x3 (n := 384) le2 (lt2 x2) ?_ ?_ ?_ ?_
  · intro x
    beta_reduce
    refine seen2 I 1 (hd i 1) x2 x (fun p => ?_) (fun p => ?_) <;> beta_reduce
    · refine dot_of _ _ _ _ _ (fun c => ?_) (fun c => ?_) <;> (first | rfl | exact rope3 ..)
    · refine dot_of _ _ _ _ _ (fun c => ?_) (fun c => ?_) <;> (first | rfl | exact rope3 ..)
  · intro x; (first | rfl | exact fac3 ..)
  · intro x; (first | rfl | exact fac3 ..)
  · intro x; exact vc_eq ..

set_option maxHeartbeats 400000 in
theorem piece13_1_1_128 : Fills (G13 I i) (Rect.unit (s := S5x2x384x128) ![1, 1, 128, 0] S1x1x128x128.size inb_S5x2x384x128_S1x1x128x128_1_1_128_0) ((k0_pay213 (F := Ideal)) ((restRun.sl.r_81 (F := Ideal)) c i arg1 harg1 arg2 harg2 arg3 harg3 arg4 harg4 arg5 harg5 arg6 harg6 arg7 harg7 arg8 harg8 arg9 harg9 arg19 arg23 harg23 arg24 harg24 x1 x2 x3 x4 x5 x6 x7 x8 x9 x23 x24)) := by
  intro x
  rw [G13_emb]
  idx_vars x
  delta restRun.sl.r_81 restRun.sl.r_78 restRun.sl.r_4 restRun.sl.r_2 restRun.sl.r_77 restRun.sl.r_76 restRun.sl.cst_257 restRun.sl.r_75 restRun.sl.r_74 restRun.sl.r_3 restRun.sl.r_72 restRun.sl.r_69 restRun.sl.r_50 restRun.sl.r_47 restRun.sl.r_12 restRun.sl.r_7 restRun.sl.r_6
  beta_reduce
  simp only [ld1 H, ld4 H, ld5 H, ld8 H, ld24 H, ld23_1_1 H, ld23_2_1 H, ld23_3_1 H, ld23_5_1 H, ld23_6_1 H, ld9_1 H, v771_eq H]
  pointwise [k0_pay73, k0_pay75, k0_pay81, k0_pay82, k0_pay83, k0_pay85, k0_pay86, k0_pay91, k0_pay152, k0_pay154, k0_pay190, k0_pay193, k0_pay195, k0_pay196, k0_pay198, k0_pay199, k0_pay200, k0_pay201, k0_pay202, k0_pay205, k0_pay206, k0_pay207, k0_pay212, k0_pay213]
  refine rowB I 1 (hd i 1) ⟨128 + x2.val, lt1 x2⟩ HB x3 (lt1' x2) ?_ ?_ ?_ ?_ ?_ ?_ ?_ ?_ ?_
  · intro x
    beta_reduce
    refine seen1 I 1 (hd i 1) x2 x (fun p => ?_) (fun p => ?_) <;> beta_reduce
    · refine dot_of _ _ _ _ _ (fun c => ?_) (fun c => ?_) <;> (first | rfl | exact rope3 ..)
    · refine dot_of _ _ _ _ _ (fun c => ?_) (fun c => ?_) <;> (first | rfl | exact rope3 ..)
  · intro x
    beta_reduce
    refine seen1a I 1 (hd i 1) x2 x ?_
    refine dot_of _ _ _ _ _ (fun c => ?_) (fun c => ?_) <;> (first | rfl | exact rope3 ..)
  · intro x
    beta_reduce
    refine seen1b I 1 (hd i 1) x2 x ?_
    refine dot_of _ _ _ _ _ (fun c => ?_) (fun c => ?_) <;> (first | rfl | exact rope3 ..)
  · intro x; (first | rfl | exact fac3 ..)
  · intro x; (first | rfl | exact fac3 ..)
  · intro x; (first | rfl | exact fac3 ..)
  · intro x; (first | rfl | exact fac3 ..)
  · intro x; exact vc_eq ..
  · intro x; exact vc_eq ..

set_option maxHeartbeats 400000 in
theorem piece13_1_1_0 : Fills (G13 I i) (Rect.unit (s := S5x2x384x128) ![1, 1, 0, 0] S1x1x128x128.size inb_S5x2x384x128_S1x1x128x128_1_1_0_0) ((k0_pay211 (F := Ideal)) ((restRun.sl.r_6 (F := Ideal)) c i arg23 harg23 x23) ((restRun.sl.r_72 (F := Ideal)) c i arg1 harg1 arg8 harg8 arg9 harg9 arg23 harg23 arg24 harg24 x1 x8 x9 x23 x24) ((restRun.sl.r_79 (F := Ideal)) c i arg1 harg1 arg2 harg2 arg3 harg3 arg4 harg4 arg5 harg5 arg6 harg6 arg7 harg7 arg19 arg23 harg23 x1 x2 x3 x4 x5 x6 x7 x23) (restRun.sl.cst_257 (F := Ideal)) ((restRun.sl.r_80 (F := Ideal)) c i arg1 harg1 arg2 harg2 arg3 harg3 arg4 harg4 arg5 harg5 arg6 harg6 arg7 harg7 arg19 arg23 harg23 x1 x2 x3 x4 x5 x6 x7 x23)) := by
  intro x
  rw [G13_emb]
  idx_vars x
  delta restRun.sl.r_80 restRun.sl.r_79 restRun.sl.cst_257 restRun.sl.r_75 restRun.sl.r_74 restRun.sl.r_3 restRun.sl.r_4 restRun.sl.r_2 restRun.sl.r_72 restRun.sl.r_69 restRun.sl.r_50 restRun.sl.r_47 restRun.sl.r_12 restRun.sl.r_7 restRun.sl.r_6
  beta_reduce
  simp only [ld1 H, ld4 H, ld5 H, ld8 H, ld24 H, ld23_1_1 H, ld23_2_1 H, ld23_3_1 H, ld23_5_1 H, ld23_6_1 H, ld9_1 H, v771_eq H]
  pointwise [k0_pay73, k0_pay75, k0_pay81, k0_pay82, k0_pay83, k0_pay85, k0_pay86, k0_pay91, k0_pay152, k0_pay154, k0_pay190, k0_pay193, k0_pay195, k0_pay196, k0_pay198, k0_pay199, k0_pay200, k0_pay201, k0_pay202, k0_pay205, k0_pay206, k0_pay207, k0_pay208, k0_pay209, k0_pay210, k0_pay211]
  refine rowA I 1 (hd i 1) ⟨x2.val, lt0 x2⟩ HB x3 (n := 128) le0 x2.isLt ?_ ?_ ?_ ?_
  · intro x
    beta_reduce
    refine seen0 I 1 (hd i 1) x2 x ?_
    refine dot_of _ _ _ _ _ (fun c => ?_) (fun c => ?_) <;> (first | rfl | exact rope3 ..)
  · intro x; (first | rfl | exact fac3 ..)
  · intro x; (first | rfl | exact fac3 ..)
  · intro x; exact vc_eq ..

set_option maxHeartbeats 400000 in
theorem piece13_1_0_256 : Fills (G13 I i) (Rect.unit (s := S5x2x384x128) ![1, 0, 256, 0] S1x1x128x128.size inb_S5x2x384x128_S1x1x128x128_1_0_256_0) ((k0_pay183 (F := Ideal)) k0_pay73 ((restRun.sl.r_1 (F := Ideal)) c i arg23 harg23 x23) ((restRun.sl.r_54 (F := Ideal)) c i arg1 harg1 arg8 harg8 arg9 harg9 arg23 harg23 arg24 harg24 x1 x8 x9 x23 x24) ((restRun.sl.r_59 (F := Ideal)) c i arg4 harg4 arg5 harg5 arg23 harg23 x4 x5 x23) ((restRun.sl.r_60 (F := Ideal)) c i arg1 harg1 arg2 harg2 arg3 harg3 arg6 harg6 arg7 harg7 arg19 arg23 harg23 x1 x2 x3 x6 x7 x23) ((restRun.sl.r_61 (F := Ideal)) c i arg23 harg23 x23)) := by
  intro x
  rw [G13_emb]
  idx_vars x
  delta restRun.sl.r_61 restRun.sl.r_60 restRun.sl.r_59 restRun.sl.r_58 restRun.sl.cst_257 restRun.sl.r_57 restRun.sl.r_55 restRun.sl.r_54 restRun.sl.r_52 restRun.sl.r_47 restRun.sl.r_9 restRun.sl.r_1
  beta_reduce
  simp only [ld1 H, ld4 H, ld5 H, ld8 H, ld24 H, ld23_1_0 H, ld23_2_0 H, ld23_3_0 H, ld23_5_0 H, ld23_6_0 H, ld9_0 H, v574_eq H]
  pointwise [k0_pay73, k0_pay75, k0_pay76, k0_pay77, k0_pay78, k0_pay80, k0_pay88, k0_pay152, k0_pay154, k0_pay159, k0_pay160, k0_pay162, k0_pay164, k0_pay165, k0_pay167, k0_pay168, k0_pay169, k0_pay170, k0_pay173, k0_pay174, k0_pay175, k0_pay183]
  refine rowA I 1 (hd i 0) ⟨256 + x2.val, lt2 x2⟩ HB x3 (n := 384) le2 (lt2 x2) ?_ ?_ ?_ ?_
  · intro x
    beta_reduce
    refine seen2 I 1 (hd i 0) x2 x (fun p => ?_) (fun p => ?_) <;> beta_reduce
    · refine dot_of _ _ _ _ _ (fun c => ?_) (fun c => ?_) <;> (first | rfl | exact rope3 ..)
    · refine dot_of _ _ _ _ _ (fun c => ?_) (fun c => ?_) <;> (first | rfl | exact rope3 ..)
  · intro x; (first | rfl | exact fac3 ..)
  · intro x; (first | rfl | exact fac3 ..)
  · intro x; exact vc_eq ..

set_option maxHeartbeats 400000 in
theorem piece13_1_0_128 : Fills (G13 I i) (Rect.unit (s := S5x2x384x128) ![1, 0, 128, 0] S1x1x128x128.size inb_S5x2x384x128_S1x1x128x128_1_0_128_0) ((k0_pay182 (F := Ideal)) ((restRun.sl.r_1 (F := Ideal)) c i arg23 harg23 x23) ((restRun.sl.r_64 (F := Ideal)) c i arg1 harg1 arg2 harg2 arg3 harg3 arg4 harg4 arg5 harg5 arg6 harg6 arg7 harg7 arg19 arg23 harg23 x1 x2 x3 x4 x5 x6 x7 x23) ((restRun.sl.r_65 (F := Ideal)) c i arg1 harg1 arg2 harg2 arg3 harg3 arg4 harg4 arg5 harg5 arg6 harg6 arg7 harg7 arg8 harg8 arg9 harg9 arg19 arg23 harg23 arg24 harg24 x1 x2 x3 x4 x5 x6 x7 x8 x9 x23 x24)) := by
  intro x
  rw [G13_emb]
  idx_vars x
  delta restRun.sl.r_65 restRun.sl.r_54 restRun.sl.r_52 restRun.sl.r_47 restRun.sl.r_9 restRun.sl.r_64 restRun.sl.r_61 restRun.sl.r_60 restRun.sl.r_59 restRun.sl.r_58 restRun.sl.cst_257 restRun.sl.r_57 restRun.sl.r_55 restRun.sl.r_1
  beta_reduce
  simp only [ld1 H, ld4 H, ld5 H, ld8 H, ld24 H, ld23_1_0 H, ld23_2_0 H, ld23_3_0 H, ld23_5_0 H, ld23_6_0 H, ld9_0 H, v574_eq H]
  pointwise [k0_pay73, k0_pay75, k0_pay76, k0_pay77, k0_pay78, k0_pay80, k0_pay88, k0_pay152, k0_pay154, k0_pay159, k0_pay160, k0_pay162, k0_pay164, k0_pay165, k0_pay167, k0_pay168, k0_pay169, k0_pay170, k0_pay173, k0_pay174, k0_pay175, k0_pay179, k0_pay180, k0_pay181, k0_pay182]
  refine rowB I 1 (hd i 0) ⟨128 + x2.val, lt1 x2⟩ HB x3 (lt1' x2) ?_ ?_ ?_ ?_ ?_ ?_ ?_ ?_ ?_
  · intro x
    beta_reduce
    refine seen1 I 1 (hd i 0) x2 x (fun p => ?_) (fun p => ?_) <;> beta_reduce
    · refine dot_of _ _ _ _ _ (fun c => ?_) (fun c => ?_) <;> (first | rfl | exact rope3 ..)
    · refine dot_of _ _ _ _ _ (fun c => ?_) (fun c => ?_) <;> (first | rfl | exact rope3 ..)
  · intro x
    beta_reduce
    refine seen1a I 1 (hd i 0) x2 x ?_
    refine dot_of _ _ _ _ _ (fun c => ?_) (fun c => ?_) <;> (first | rfl | exact rope3 ..)
  · intro x
    beta_reduce
    refine seen1b I 1 (hd i 0) x2 x ?_
    refine dot_of _ _ _ _ _ (fun c => ?_) (fun c => ?_) <;> (first | rfl | exact rope3 ..)
  · intro x; (first | rfl | exact fac3 ..)
  · intro x; (first | rfl | exact fac3 ..)
  · intro x; (first | rfl | exact fac3 ..)
  · intro x; (first | rfl | exact fac3 ..)
  · intro x; exact vc_eq ..
  · intro x; exact vc_eq ..

set_option maxHeartbeats 400000 in
theorem piece13_1_0_0 : Fills (G13 I i) (Rect.unit (s := S5x2x384x128) ![1, 0, 0, 0] S1x1x128x128.size inb_S5x2x384x128_S1x1x128x128_1_0_0_0) ((k0_pay178 (F := Ideal)) ((restRun.sl.r_1 (F := Ideal)) c i arg23 harg23 x23) ((restRun.sl.r_54 (F := Ideal)) c i arg1 harg1 arg8 harg8 arg9 harg9 arg23 harg23 arg24 harg24 x1 x8 x9 x23 x24) ((restRun.sl.r_62 (F := Ideal)) c i arg1 harg1 arg2 harg2 arg3 harg3 arg4 harg4 arg5 harg5 arg6 harg6 arg7 harg7 arg19 arg23 harg23 x1 x2 x3 x4 x5 x6 x7 x23) ((restRun.sl.r_63 (F := Ideal)) c i arg23 harg23 x23)) := by
  intro x
  rw [G13_emb]
  idx_vars x
  delta restRun.sl.r_63 restRun.sl.r_62 restRun.sl.r_58 restRun.sl.cst_257 restRun.sl.r_57 restRun.sl.r_55 restRun.sl.r_54 restRun.sl.r_52 restRun.sl.r_47 restRun.sl.r_9 restRun.sl.r_1
  beta_reduce
  simp only [ld1 H, ld4 H, ld5 H, ld8 H, ld24 H, ld23_1_0 H, ld23_2_0 H, ld23_3_0 H, ld23_5_0 H, ld23_6_0 H, ld9_0 H, v574_eq H]
  pointwise [k0_pay73, k0_pay75, k0_pay76, k0_pay77, k0_pay78, k0_pay80, k0_pay88, k0_pay152, k0_pay154, k0_pay159, k0_pay160, k0_pay162, k0_pay164, k0_pay165, k0_pay167, k0_pay168, k0_pay169, k0_pay170, k0_pay173, k0_pay174, k0_pay175, k0_pay176, k0_pay177, k0_pay178]
  refine rowA I 1 (hd i 0) ⟨x2.val, lt0 x2⟩ HB x3 (n := 128) le0 x2.isLt ?_ ?_ ?_ ?_
  · intro x
    beta_reduce
    refine seen0 I 1 (hd i 0) x2 x ?_
    refine dot_of _ _ _ _ _ (fun c => ?_) (fun c => ?_) <;> (first | rfl | exact rope3 ..)
  · intro x; (first | rfl | exact fac3 ..)
  · intro x; (first | rfl | exact fac3 ..)
  · intro x; exact vc_eq ..

end Cert.KernelIdeal.Val

end
-- ==== Proof.PieceO2.lean ====
/- The pieces of the output of batch entry 2. -/
module

public import proofs.«01_k».proof.Proof.KeyRead
public import proofs.«01_k».proof.Proof.Rows
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Mla
variable {I : In} {i : grid0.Coords} {x1 : Vec Ideal S5x384x512 .fp8e4m3} {x2 : Vec Ideal S5x384 .f32} {x3 : Vec Ideal S5x64x384 .bf16} {x4 : Vec Ideal S5x2x384x128 .bf16} {x5 : Vec Ideal S5x2x64x384 .bf16} {x6 : Vec Ideal S2x512x128 .fp8e4m3} {x7 : Vec Ideal S20x128 .f32} {x8 : Vec Ideal S2x512x128 .fp8e4m3} {x9 : Vec Ideal S20x128 .f32} {x23 : Vec Ideal S6x20x128 .f32} {x24 : Vec Ideal S5x384x128 .f32} {x25 : Vec Ideal S8x128 .f32}
variable {c : Dev nD} {arg1 : Memref sig .tc .vmem S5x384x512 .fp8e4m3} {harg1 : arg1.IsWhole} {arg2 : Memref sig .tc .vmem S5x384 .f32} {harg2 : arg2.IsWhole} {arg3 : Memref sig .tc .vmem S5x64x384 .bf16} {harg3 : arg3.IsWhole} {arg4 : Memref sig .tc .vmem S5x2x384x128 .bf16} {harg4 : arg4.IsWhole} {arg5 : Memref sig .tc .vmem S5x2x64x384 .bf16} {harg5 : arg5.IsWhole} {arg6 : Memref sig .tc .vmem S2x512x128 .fp8e4m3} {harg6 : arg6.IsWhole} {arg7 : Memref sig .tc .vmem S20x128 .f32} {harg7 : arg7.IsWhole} {arg8 : Memref sig .tc .vmem S2x512x128 .fp8e4m3} {harg8 : arg8.IsWhole} {arg9 : Memref sig .tc .vmem S20x128 .f32} {harg9 : arg9.IsWhole} {arg19 : Memref sig .tc .vmem S5x2x192x384 .fp8e4m3} {harg19 : arg19.IsWhole} {arg23 : Memref sig .tc .vmem S6x20x128 .f32} {harg23 : arg23.IsWhole} {arg24 : Memref sig .tc .vmem S5x384x128 .f32} {harg24 : arg24.IsWhole}
variable (H : Ctx I i x1 x2 x3 x4 x5 x6 x7 x8 x9 x23 x24 x25) (HB : Bounded I)
include H HB

set_option maxHeartbeats 400000 in
theorem piece13_2_1_256 : Fills (G13 I i) (Rect.unit (s := S5x2x384x128) ![2, 1, 256, 0] S1x1x128x128.size inb_S5x2x384x128_S1x1x128x128_2_1_256_0) ((k0_pay274 (F := Ideal)) k0_pay73 ((restRun.sl.r_6 (F := Ideal)) c i arg23 harg23 x23) ((restRun.sl.r_104 (F := Ideal)) c i arg1 harg1 arg8 harg8 arg9 harg9 arg23 harg23 arg24 harg24 x1 x8 x9 x23 x24) ((restRun.sl.r_110 (F := Ideal)) c i arg1 harg1 arg2 harg2 arg3 harg3 arg6 harg6 arg7 harg7 arg19 arg23 harg23 x1 x2 x3 x6 x7 x23) ((restRun.sl.r_111 (F := Ideal)) c i arg23 harg23 x23) ((restRun.sl.r_114 (F := Ideal)) c i arg4 harg4 arg5 harg5 arg23 harg23 x4 x5 x23) (restRun.sl.cst_560 (F := Ideal))) := by
  intro x
  rw [G13_emb]
  idx_vars x
  delta restRun.sl.cst_560 restRun.sl.r_114 restRun.sl.r_109 restRun.sl.r_107 restRun.sl.r_106 restRun.sl.r_3 restRun.sl.r_111 restRun.sl.r_4 restRun.sl.r_2 restRun.sl.r_110 restRun.sl.r_104 restRun.sl.r_103 restRun.sl.r_84 restRun.sl.r_12 restRun.sl.r_7 restRun.sl.r_6
  beta_reduce
  simp only [ld1 H, ld4 H, ld5 H, ld8 H, ld24 H, ld23_1_1 H, ld23_2_1 H, ld23_3_1 H, ld23_5_1 H, ld23_6_1 H, ld9_1 H, v1170_eq H]
  pointwise [k0_pay73, k0_pay75, k0_pay81, k0_pay82, k0_pay83, k0_pay85, k0_pay86, k0_pay91, k0_pay215, k0_pay217, k0_pay250, k0_pay252, k0_pay253, k0_pay254, k0_pay256, k0_pay257, k0_pay259, k0_pay260, k0_pay261, k0_pay265, k0_pay266, k0_pay267, k0_pay273, k0_pay274]
  refine rowA I 2 (hd i 1) ⟨256 + x2.val, lt2 x2⟩ HB x3 (n := 384) le2 (lt2 x2) ?_ ?_ ?_ ?_
  · intro x
    beta_reduce
    refine seen2 I 2 (hd i 1) x2 x (fun p => ?_) (fun p => ?_) <;> beta_reduce
    · refine dot_of _ _ _ _ _ (fun c => ?_) (fun c => ?_) <;> (first | rfl | exact rope3 ..)
    · refine dot_of _ _ _ _ _ (fun c => ?_) (fun c => ?_) <;> (first | rfl | exact rope3 ..)
  · intro x; (first | rfl | exact fac3 ..)
  · intro x; (first | rfl | exact fac3 ..)
  · intro x; exact vc_eq ..

set_option maxHeartbeats 400000 in
theorem piece13_2_1_128 : Fills (G13 I i) (Rect.unit (s := S5x2x384x128) ![2, 1, 128, 0] S1x1x128x128.size inb_S5x2x384x128_S1x1x128x128_2_1_128_0) ((k0_pay272 (F := Ideal)) k0_pay73 ((restRun.sl.r_6 (F := Ideal)) c i arg23 harg23 x23) ((restRun.sl.r_104 (F := Ideal)) c i arg1 harg1 arg8 harg8 arg9 harg9 arg23 harg23 arg24 harg24 x1 x8 x9 x23 x24) ((restRun.sl.r_109 (F := Ideal)) c i arg4 harg4 arg5 harg5 arg23 harg23 x4 x5 x23) ((restRun.sl.r_110 (F := Ideal)) c i arg1 harg1 arg2 harg2 arg3 harg3 arg6 harg6 arg7 harg7 arg19 arg23 harg23 x1 x2 x3 x6 x7 x23) ((restRun.sl.r_111 (F := Ideal)) c i arg23 harg23 x23)) := by
  intro x
  rw [G13_emb]
  idx_vars x
  delta restRun.sl.r_111 restRun.sl.r_4 restRun.sl.r_2 restRun.sl.r_110 restRun.sl.r_109 restRun.sl.r_107 restRun.sl.r_106 restRun.sl.r_3 restRun.sl.r_104 restRun.sl.r_103 restRun.sl.r_84 restRun.sl.r_12 restRun.sl.r_7 restRun.sl.r_6
  beta_reduce
  simp only [ld1 H, ld4 H, ld5 H, ld8 H, ld24 H, ld23_1_1 H, ld23_2_1 H, ld23_3_1 H, ld23_5_1 H, ld23_6_1 H, ld9_1 H, v1170_eq H]
  pointwise [k0_pay73, k0_pay75, k0_pay81, k0_pay82, k0_pay83, k0_pay85, k0_pay86, k0_pay91, k0_pay215, k0_pay217, k0_pay250, k0_pay252, k0_pay253, k0_pay254, k0_pay256, k0_pay257, k0_pay259, k0_pay260, k0_pay261, k0_pay265, k0_pay266, k0_pay267, k0_pay272]
  refine rowB I 2 (hd i 1) ⟨128 + x2.val, lt1 x2⟩ HB x3 (lt1' x2) ?_ ?_ ?_ ?_ ?_ ?_ ?_ ?_ ?_
  · intro x
    beta_reduce
    refine seen1 I 2 (hd i 1) x2 x (fun p => ?_) (fun p => ?_) <;> beta_reduce
    · refine dot_of _ _ _ _ _ (fun c => ?_) (fun c => ?_) <;> (first | rfl | exact rope3 ..)
    · refine dot_of _ _ _ _ _ (fun c => ?_) (fun c => ?_) <;> (first | rfl | exact rope3 ..)
  · intro x
    beta_reduce
    refine seen1a I 2 (hd i 1) x2 x ?_
    refine dot_of _ _ _ _ _ (fun c => ?_) (fun c => ?_) <;> (first | rfl | exact rope3 ..)
  · intro x
    beta_reduce
    refine seen1b I 2 (hd i 1) x2 x ?_
    refine dot_of _ _ _ _ _ (fun c => ?_) (fun c => ?_) <;> (first | rfl | exact rope3 ..)
  · intro x; (first | rfl | exact fac3 ..)
  · intro x; (first | rfl | exact fac3 ..)
  · intro x; (first | rfl | exact fac3 ..)
  · intro x; (first | rfl | exact fac3 ..)
  · intro x; exact vc_eq ..
  · intro x; exact vc_eq ..

set_option maxHeartbeats 400000 in
theorem piece13_2_1_0 : Fills (G13 I i) (Rect.unit (s := S5x2x384x128) ![2, 1, 0, 0] S1x1x128x128.size inb_S5x2x384x128_S1x1x128x128_2_1_0_0) ((k0_pay271 (F := Ideal)) ((restRun.sl.r_6 (F := Ideal)) c i arg23 harg23 x23) ((restRun.sl.r_112 (F := Ideal)) c i arg1 harg1 arg2 harg2 arg3 harg3 arg4 harg4 arg5 harg5 arg6 harg6 arg7 harg7 arg19 arg23 harg23 x1 x2 x3 x4 x5 x6 x7 x23) ((restRun.sl.r_113 (F := Ideal)) c i arg1 harg1 arg2 harg2 arg3 harg3 arg4 harg4 arg5 harg5 arg6 harg6 arg7 harg7 arg8 harg8 arg9 harg9 arg19 arg23 harg23 arg24 harg24 x1 x2 x3 x4 x5 x6 x7 x8 x9 x23 x24)) := by
  intro x
  rw [G13_emb]
  idx_vars x
  delta restRun.sl.r_113 restRun.sl.r_104 restRun.sl.r_103 restRun.sl.r_84 restRun.sl.r_12 restRun.sl.r_7 restRun.sl.r_112 restRun.sl.r_107 restRun.sl.r_106 restRun.sl.r_3 restRun.sl.r_4 restRun.sl.r_2 restRun.sl.r_6
  beta_reduce
  simp only [ld1 H, ld4 H, ld5 H, ld8 H, ld24 H, ld23_1_1 H, ld23_2_1 H, ld23_3_1 H, ld23_5_1 H, ld23_6_1 H, ld9_1 H, v1170_eq H]
  pointwise [k0_pay73, k0_pay75, k0_pay81, k0_pay82, k0_pay83, k0_pay85, k0_pay86, k0_pay91, k0_pay215, k0_pay217, k0_pay250, k0_pay252, k0_pay253, k0_pay254, k0_pay256, k0_pay257, k0_pay259, k0_pay260, k0_pay261, k0_pay265, k0_pay266, k0_pay267, k0_pay268, k0_pay269, k0_pay270, k0_pay271]
  refine rowA I 2 (hd i 1) ⟨x2.val, lt0 x2⟩ HB x3 (n := 128) le0 x2.isLt ?_ ?_ ?_ ?_
  · intro x
    beta_reduce
    refine seen0 I 2 (hd i 1) x2 x ?_
    refine dot_of _ _ _ _ _ (fun c => ?_) (fun c => ?_) <;> (first | rfl | exact rope3 ..)
  · intro x; (first | rfl | exact fac3 ..)
  · intro x; (first | rfl | exact fac3 ..)
  · intro x; exact vc_eq ..

set_option maxHeartbeats 400000 in
theorem piece13_2_0_256 : Fills (G13 I i) (Rect.unit (s := S5x2x384x128) ![2, 0, 256, 0] S1x1x128x128.size inb_S5x2x384x128_S1x1x128x128_2_0_256_0) ((k0_pay245 (F := Ideal)) k0_pay73 ((restRun.sl.r_1 (F := Ideal)) c i arg23 harg23 x23) ((restRun.sl.r_90 (F := Ideal)) c i arg1 harg1 arg8 harg8 arg9 harg9 arg23 harg23 arg24 harg24 x1 x8 x9 x23 x24) ((restRun.sl.r_94 (F := Ideal)) c i arg4 harg4 arg5 harg5 arg23 harg23 x4 x5 x23) ((restRun.sl.r_95 (F := Ideal)) c i arg1 harg1 arg2 harg2 arg3 harg3 arg6 harg6 arg7 harg7 arg19 arg23 harg23 x1 x2 x3 x6 x7 x23) ((restRun.sl.r_96 (F := Ideal)) c i arg23 harg23 x23)) := by
  intro x
  rw [G13_emb]
  idx_vars x
  delta restRun.sl.r_96 restRun.sl.r_95 restRun.sl.r_94 restRun.sl.r_93 restRun.sl.r_92 restRun.sl.r_90 restRun.sl.r_87 restRun.sl.r_84 restRun.sl.r_9 restRun.sl.r_1
  beta_reduce
  simp only [ld1 H, ld4 H, ld5 H, ld8 H, ld24 H, ld23_1_0 H, ld23_2_0 H, ld23_3_0 H, ld23_5_0 H, ld23_6_0 H, ld9_0 H, v973_eq H]
  pointwise [k0_pay73, k0_pay75, k0_pay76, k0_pay77, k0_pay78, k0_pay80, k0_pay88, k0_pay215, k0_pay217, k0_pay223, k0_pay226, k0_pay228, k0_pay229, k0_pay231, k0_pay232, k0_pay233, k0_pay234, k0_pay237, k0_pay238, k0_pay239, k0_pay245]
  refine rowA I 2 (hd i 0) ⟨256 + x2.val, lt2 x2⟩ HB x3 (n := 384) le2 (lt2 x2) ?_ ?_ ?_ ?_
  · intro x
    beta_reduce
    refine seen2 I 2 (hd i 0) x2 x (fun p => ?_) (fun p => ?_) <;> beta_reduce
    · refine dot_of _ _ _ _ _ (fun c => ?_) (fun c => ?_) <;> (first | rfl | exact rope3 ..)
    · refine dot_of _ _ _ _ _ (fun c => ?_) (fun c => ?_) <;> (first | rfl | exact rope3 ..)
  · intro x; (first | rfl | exact fac3 ..)
  · intro x; (first | rfl | exact fac3 ..)
  · intro x; exact vc_eq ..

set_option maxHeartbeats 400000 in
theorem piece13_2_0_128 : Fills (G13 I i) (Rect.unit (s := S5x2x384x128) ![2, 0, 128, 0] S1x1x128x128.size inb_S5x2x384x128_S1x1x128x128_2_0_128_0) ((k0_pay244 (F := Ideal)) ((restRun.sl.r_99 (F := Ideal)) c i arg1 harg1 arg2 harg2 arg3 harg3 arg4 harg4 arg5 harg5 arg6 harg6 arg7 harg7 arg8 harg8 arg9 harg9 arg19 arg23 harg23 arg24 harg24 x1 x2 x3 x4 x5 x6 x7 x8 x9 x23 x24)) := by
  intro x
  rw [G13_emb]
  idx_vars x
  delta restRun.sl.r_99 restRun.sl.r_96 restRun.sl.r_95 restRun.sl.r_94 restRun.sl.r_93 restRun.sl.r_92 restRun.sl.r_90 restRun.sl.r_87 restRun.sl.r_84 restRun.sl.r_9 restRun.sl.r_1
  beta_reduce
  simp only [ld1 H, ld4 H, ld5 H, ld8 H, ld24 H, ld23_1_0 H, ld23_2_0 H, ld23_3_0 H, ld23_5_0 H, ld23_6_0 H, ld9_0 H, v973_eq H]
  pointwise [k0_pay73, k0_pay75, k0_pay76, k0_pay77, k0_pay78, k0_pay80, k0_pay88, k0_pay215, k0_pay217, k0_pay223, k0_pay226, k0_pay228, k0_pay229, k0_pay231, k0_pay232, k0_pay233, k0_pay234, k0_pay237, k0_pay238, k0_pay239, k0_pay243, k0_pay244]
  refine rowB I 2 (hd i 0) ⟨128 + x2.val, lt1 x2⟩ HB x3 (lt1' x2) ?_ ?_ ?_ ?_ ?_ ?_ ?_ ?_ ?_
  · intro x
    beta_reduce
    refine seen1 I 2 (hd i 0) x2 x (fun p => ?_) (fun p => ?_) <;> beta_reduce
    · refine dot_of _ _ _ _ _ (fun c => ?_) (fun c => ?_) <;> (first | rfl | exact rope3 ..)
    · refine dot_of _ _ _ _ _ (fun c => ?_) (fun c => ?_) <;> (first | rfl | exact rope3 ..)
  · intro x
    beta_reduce
    refine seen1a I 2 (hd i 0) x2 x ?_
    refine dot_of _ _ _ _ _ (fun c => ?_) (fun c => ?_) <;> (first | rfl | exact rope3 ..)
  · intro x
    beta_reduce
    refine seen1b I 2 (hd i 0) x2 x ?_
    refine dot_of _ _ _ _ _ (fun c => ?_) (fun c => ?_) <;> (first | rfl | exact rope3 ..)
  · intro x; (first | rfl | exact fac3 ..)
  · intro x; (first | rfl | exact fac3 ..)
  · intro x; (first | rfl | exact fac3 ..)
  · intro x; (first | rfl | exact fac3 ..)
  · intro x; exact vc_eq ..
  · intro x; exact vc_eq ..

set_option maxHeartbeats 400000 in
theorem piece13_2_0_0 : Fills (G13 I i) (Rect.unit (s := S5x2x384x128) ![2, 0, 0, 0] S1x1x128x128.size inb_S5x2x384x128_S1x1x128x128_2_0_0_0) ((k0_pay242 (F := Ideal)) ((restRun.sl.r_1 (F := Ideal)) c i arg23 harg23 x23) ((restRun.sl.r_90 (F := Ideal)) c i arg1 harg1 arg8 harg8 arg9 harg9 arg23 harg23 arg24 harg24 x1 x8 x9 x23 x24) ((restRun.sl.r_97 (F := Ideal)) c i arg1 harg1 arg2 harg2 arg3 harg3 arg4 harg4 arg5 harg5 arg6 harg6 arg7 harg7 arg19 arg23 harg23 x1 x2 x3 x4 x5 x6 x7 x23) ((restRun.sl.r_98 (F := Ideal)) c i arg1 harg1 arg2 harg2 arg3 harg3 arg4 harg4 arg5 harg5 arg6 harg6 arg7 harg7 arg19 arg23 harg23 x1 x2 x3 x4 x5 x6 x7 x23) (restRun.sl.cst_110 (F := Ideal))) := by
  intro x
  rw [G13_emb]
  idx_vars x
  delta restRun.sl.cst_110 restRun.sl.r_98 restRun.sl.r_97 restRun.sl.r_93 restRun.sl.r_92 restRun.sl.r_90 restRun.sl.r_87 restRun.sl.r_84 restRun.sl.r_9 restRun.sl.r_1
  beta_reduce
  simp only [ld1 H, ld4 H, ld5 H, ld8 H, ld24 H, ld23_1_0 H, ld23_2_0 H, ld23_3_0 H, ld23_5_0 H, ld23_6_0 H, ld9_0 H, v973_eq H]
  pointwise [k0_pay73, k0_pay75, k0_pay76, k0_pay77, k0_pay78, k0_pay80, k0_pay88, k0_pay215, k0_pay217, k0_pay223, k0_pay226, k0_pay228, k0_pay229, k0_pay231, k0_pay232, k0_pay233, k0_pay234, k0_pay237, k0_pay238, k0_pay239, k0_pay240, k0_pay241, k0_pay242]
  refine rowA I 2 (hd i 0) ⟨x2.val, lt0 x2⟩ HB x3 (n := 128) le0 x2.isLt ?_ ?_ ?_ ?_
  · intro x
    beta_reduce
    refine seen0 I 2 (hd i 0) x2 x ?_
    refine dot_of _ _ _ _ _ (fun c => ?_) (fun c => ?_) <;> (first | rfl | exact rope3 ..)
  · intro x; (first | rfl | exact fac3 ..)
  · intro x; (first | rfl | exact fac3 ..)
  · intro x; exact vc_eq ..

end Cert.KernelIdeal.Val

end
-- ==== Proof.PieceO3.lean ====
/- The pieces of the output of batch entry 3. -/
module

public import proofs.«01_k».proof.Proof.KeyRead
public import proofs.«01_k».proof.Proof.Rows
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Mla
variable {I : In} {i : grid0.Coords} {x1 : Vec Ideal S5x384x512 .fp8e4m3} {x2 : Vec Ideal S5x384 .f32} {x3 : Vec Ideal S5x64x384 .bf16} {x4 : Vec Ideal S5x2x384x128 .bf16} {x5 : Vec Ideal S5x2x64x384 .bf16} {x6 : Vec Ideal S2x512x128 .fp8e4m3} {x7 : Vec Ideal S20x128 .f32} {x8 : Vec Ideal S2x512x128 .fp8e4m3} {x9 : Vec Ideal S20x128 .f32} {x23 : Vec Ideal S6x20x128 .f32} {x24 : Vec Ideal S5x384x128 .f32} {x25 : Vec Ideal S8x128 .f32}
variable {c : Dev nD} {arg1 : Memref sig .tc .vmem S5x384x512 .fp8e4m3} {harg1 : arg1.IsWhole} {arg2 : Memref sig .tc .vmem S5x384 .f32} {harg2 : arg2.IsWhole} {arg3 : Memref sig .tc .vmem S5x64x384 .bf16} {harg3 : arg3.IsWhole} {arg4 : Memref sig .tc .vmem S5x2x384x128 .bf16} {harg4 : arg4.IsWhole} {arg5 : Memref sig .tc .vmem S5x2x64x384 .bf16} {harg5 : arg5.IsWhole} {arg6 : Memref sig .tc .vmem S2x512x128 .fp8e4m3} {harg6 : arg6.IsWhole} {arg7 : Memref sig .tc .vmem S20x128 .f32} {harg7 : arg7.IsWhole} {arg8 : Memref sig .tc .vmem S2x512x128 .fp8e4m3} {harg8 : arg8.IsWhole} {arg9 : Memref sig .tc .vmem S20x128 .f32} {harg9 : arg9.IsWhole} {arg19 : Memref sig .tc .vmem S5x2x192x384 .fp8e4m3} {harg19 : arg19.IsWhole} {arg23 : Memref sig .tc .vmem S6x20x128 .f32} {harg23 : arg23.IsWhole} {arg24 : Memref sig .tc .vmem S5x384x128 .f32} {harg24 : arg24.IsWhole}
variable (H : Ctx I i x1 x2 x3 x4 x5 x6 x7 x8 x9 x23 x24 x25) (HB : Bounded I)
include H HB

set_option maxHeartbeats 400000 in
theorem piece13_3_1_256 : Fills (G13 I i) (Rect.unit (s := S5x2x384x128) ![3, 1, 256, 0] S1x1x128x128.size inb_S5x2x384x128_S1x1x128x128_3_1_256_0) ((k0_pay333 (F := Ideal)) ((restRun.sl.r_6 (F := Ideal)) c i arg23 harg23 x23) ((restRun.sl.r_136 (F := Ideal)) c i arg1 harg1 arg8 harg8 arg9 harg9 arg23 harg23 arg24 harg24 x1 x8 x9 x23 x24) ((restRun.sl.r_143 (F := Ideal)) c i arg23 harg23 x23) ((restRun.sl.r_145 (F := Ideal)) c i arg1 harg1 arg2 harg2 arg3 harg3 arg4 harg4 arg5 harg5 arg6 harg6 arg7 harg7 arg19 arg23 harg23 x1 x2 x3 x4 x5 x6 x7 x23) ((restRun.sl.r_146 (F := Ideal)) c i arg1 harg1 arg2 harg2 arg3 harg3 arg4 harg4 arg5 harg5 arg6 harg6 arg7 harg7 arg19 arg23 harg23 x1 x2 x3 x4 x5 x6 x7 x23)) := by
  intro x
  rw [G13_emb]
  idx_vars x
  delta restRun.sl.r_146 restRun.sl.r_145 restRun.sl.r_142 restRun.sl.r_141 restRun.sl.r_139 restRun.sl.r_138 restRun.sl.r_3 restRun.sl.r_143 restRun.sl.r_4 restRun.sl.r_2 restRun.sl.r_136 restRun.sl.r_117 restRun.sl.r_12 restRun.sl.r_7 restRun.sl.r_6
  beta_reduce
  simp only [ld1 H, ld4 H, ld5 H, ld8 H, ld24 H, ld23_1_1 H, ld23_2_1 H, ld23_3_1 H, ld23_5_1 H, ld23_6_1 H, ld9_1 H, v1569_eq H]
  pointwise [k0_pay73, k0_pay75, k0_pay81, k0_pay82, k0_pay83, k0_pay85, k0_pay86, k0_pay91, k0_pay275, k0_pay277, k0_pay311, k0_pay313, k0_pay315, k0_pay316, k0_pay318, k0_pay319, k0_pay320, k0_pay324, k0_pay325, k0_pay326, k0_pay330, k0_pay331, k0_pay332, k0_pay333]
  refine rowA I 3 (hd i 1) ⟨256 + x2.val, lt2 x2⟩ HB x3 (n := 384) le2 (lt2 x2) ?_ ?_ ?_ ?_
  · intro x
    beta_reduce
    refine seen2 I 3 (hd i 1) x2 x (fun p => ?_) (fun p => ?_) <;> beta_reduce
    · refine dot_of _ _ _ _ _ (fun c => ?_) (fun c => ?_) <;> (first | rfl | exact rope3 ..)
    · refine dot_of _ _ _ _ _ (fun c => ?_) (fun c => ?_) <;> (first | rfl | exact rope3 ..)
  · intro x; (first | rfl | exact fac3 ..)
  · intro x; (first | rfl | exact fac3 ..)
  · intro x; exact vc_eq ..

set_option maxHeartbeats 400000 in
theorem piece13_3_1_128 : Fills (G13 I i) (Rect.unit (s := S5x2x384x128) ![3, 1, 128, 0] S1x1x128x128.size inb_S5x2x384x128_S1x1x128x128_3_1_128_0) ((k0_pay329 (F := Ideal)) k0_pay73 ((restRun.sl.r_6 (F := Ideal)) c i arg23 harg23 x23) ((restRun.sl.r_136 (F := Ideal)) c i arg1 harg1 arg8 harg8 arg9 harg9 arg23 harg23 arg24 harg24 x1 x8 x9 x23 x24) ((restRun.sl.r_141 (F := Ideal)) c i arg4 harg4 arg5 harg5 arg23 harg23 x4 x5 x23) ((restRun.sl.r_142 (F := Ideal)) c i arg1 harg1 arg2 harg2 arg3 harg3 arg6 harg6 arg7 harg7 arg19 arg23 harg23 x1 x2 x3 x6 x7 x23) ((restRun.sl.r_143 (F := Ideal)) c i arg23 harg23 x23)) := by
  intro x
  rw [G13_emb]
  idx_vars x
  delta restRun.sl.r_143 restRun.sl.r_4 restRun.sl.r_2 restRun.sl.r_142 restRun.sl.r_141 restRun.sl.r_139 restRun.sl.r_138 restRun.sl.r_3 restRun.sl.r_136 restRun.sl.r_117 restRun.sl.r_12 restRun.sl.r_7 restRun.sl.r_6
  beta_reduce
  simp only [ld1 H, ld4 H, ld5 H, ld8 H, ld24 H, ld23_1_1 H, ld23_2_1 H, ld23_3_1 H, ld23_5_1 H, ld23_6_1 H, ld9_1 H, v1569_eq H]
  pointwise [k0_pay73, k0_pay75, k0_pay81, k0_pay82, k0_pay83, k0_pay85, k0_pay86, k0_pay91, k0_pay275, k0_pay277, k0_pay311, k0_pay313, k0_pay315, k0_pay316, k0_pay318, k0_pay319, k0_pay320, k0_pay324, k0_pay325, k0_pay326, k0_pay329]
  refine rowB I 3 (hd i 1) ⟨128 + x2.val, lt1 x2⟩ HB x3 (lt1' x2) ?_ ?_ ?_ ?_ ?_ ?_ ?_ ?_ ?_
  · intro x
    beta_reduce
    refine seen1 I 3 (hd i 1) x2 x (fun p => ?_) (fun p => ?_) <;> beta_reduce
    · refine dot_of _ _ _ _ _ (fun c => ?_) (fun c => ?_) <;> (first | rfl | exact rope3 ..)
    · refine dot_of _ _ _ _ _ (fun c => ?_) (fun c => ?_) <;> (first | rfl | exact rope3 ..)
  · intro x
    beta_reduce
    refine seen1a I 3 (hd i 1) x2 x ?_
    refine dot_of _ _ _ _ _ (fun c => ?_) (fun c => ?_) <;> (first | rfl | exact rope3 ..)
  · intro x
    beta_reduce
    refine seen1b I 3 (hd i 1) x2 x ?_
    refine dot_of _ _ _ _ _ (fun c => ?_) (fun c => ?_) <;> (first | rfl | exact rope3 ..)
  · intro x; (first | rfl | exact fac3 ..)
  · intro x; (first | rfl | exact fac3 ..)
  · intro x; (first | rfl | exact fac3 ..)
  · intro x; (first | rfl | exact fac3 ..)
  · intro x; exact vc_eq ..
  · intro x; exact vc_eq ..

set_option maxHeartbeats 400000 in
theorem piece13_3_1_0 : Fills (G13 I i) (Rect.unit (s := S5x2x384x128) ![3, 1, 0, 0] S1x1x128x128.size inb_S5x2x384x128_S1x1x128x128_3_1_0_0) ((k0_pay328 (F := Ideal)) ((restRun.sl.r_144 (F := Ideal)) c i arg1 harg1 arg2 harg2 arg3 harg3 arg4 harg4 arg5 harg5 arg6 harg6 arg7 harg7 arg8 harg8 arg9 harg9 arg19 arg23 harg23 arg24 harg24 x1 x2 x3 x4 x5 x6 x7 x8 x9 x23 x24)) := by
  intro x
  rw [G13_emb]
  idx_vars x
  delta restRun.sl.r_144 restRun.sl.r_139 restRun.sl.r_138 restRun.sl.r_3 restRun.sl.r_136 restRun.sl.r_117 restRun.sl.r_12 restRun.sl.r_7 restRun.sl.r_6 restRun.sl.r_4 restRun.sl.r_2
  beta_reduce
  simp only [ld1 H, ld4 H, ld5 H, ld8 H, ld24 H, ld23_1_1 H, ld23_2_1 H, ld23_3_1 H, ld23_5_1 H, ld23_6_1 H, ld9_1 H, v1569_eq H]
  pointwise [k0_pay73, k0_pay75, k0_pay81, k0_pay82, k0_pay83, k0_pay85, k0_pay86, k0_pay91, k0_pay275, k0_pay277, k0_pay311, k0_pay313, k0_pay315, k0_pay316, k0_pay318, k0_pay319, k0_pay320, k0_pay324, k0_pay325, k0_pay326, k0_pay327, k0_pay328]
  refine rowA I 3 (hd i 1) ⟨x2.val, lt0 x2⟩ HB x3 (n := 128) le0 x2.isLt ?_ ?_ ?_ ?_
  · intro x
    beta_reduce
    refine seen0 I 3 (hd i 1) x2 x ?_
    refine dot_of _ _ _ _ _ (fun c => ?_) (fun c => ?_) <;> (first | rfl | exact rope3 ..)
  · intro x; (first | rfl | exact fac3 ..)
  · intro x; (first | rfl | exact fac3 ..)
  · intro x; exact vc_eq ..

set_option maxHeartbeats 400000 in
theorem piece13_3_0_256 : Fills (G13 I i) (Rect.unit (s := S5x2x384x128) ![3, 0, 256, 0] S1x1x128x128.size inb_S5x2x384x128_S1x1x128x128_3_0_256_0) ((k0_pay305 (F := Ideal)) k0_pay73 ((restRun.sl.r_1 (F := Ideal)) c i arg23 harg23 x23) ((restRun.sl.r_123 (F := Ideal)) c i arg1 harg1 arg8 harg8 arg9 harg9 arg23 harg23 arg24 harg24 x1 x8 x9 x23 x24) ((restRun.sl.r_127 (F := Ideal)) c i arg4 harg4 arg5 harg5 arg23 harg23 x4 x5 x23) ((restRun.sl.r_128 (F := Ideal)) c i arg1 harg1 arg2 harg2 arg3 harg3 arg6 harg6 arg7 harg7 arg19 arg23 harg23 x1 x2 x3 x6 x7 x23) ((restRun.sl.r_129 (F := Ideal)) c i arg23 harg23 x23)) := by
  intro x
  rw [G13_emb]
  idx_vars x
  delta restRun.sl.r_129 restRun.sl.r_128 restRun.sl.r_127 restRun.sl.r_126 restRun.sl.r_125 restRun.sl.r_123 restRun.sl.cst_257 restRun.sl.cst_598 restRun.sl.r_121 restRun.sl.r_117 restRun.sl.r_9 restRun.sl.r_1
  beta_reduce
  simp only [ld1 H, ld4 H, ld5 H, ld8 H, ld24 H, ld23_1_0 H, ld23_2_0 H, ld23_3_0 H, ld23_5_0 H, ld23_6_0 H, ld9_0 H, v1372_eq H]
  pointwise [k0_pay73, k0_pay75, k0_pay76, k0_pay77, k0_pay78, k0_pay80, k0_pay88, k0_pay275, k0_pay277, k0_pay283, k0_pay285, k0_pay287, k0_pay288, k0_pay290, k0_pay291, k0_pay292, k0_pay293, k0_pay294, k0_pay297, k0_pay298, k0_pay299, k0_pay305]
  refine rowA I 3 (hd i 0) ⟨256 + x2.val, lt2 x2⟩ HB x3 (n := 384) le2 (lt2 x2) ?_ ?_ ?_ ?_
  · intro x
    beta_reduce
    refine seen2 I 3 (hd i 0) x2 x (fun p => ?_) (fun p => ?_) <;> beta_reduce
    · refine dot_of _ _ _ _ _ (fun c => ?_) (fun c => ?_) <;> (first | rfl | exact rope3 ..)
    · refine dot_of _ _ _ _ _ (fun c => ?_) (fun c => ?_) <;> (first | rfl | exact rope3 ..)
  · intro x; (first | rfl | exact fac3 ..)
  · intro x; (first | rfl | exact fac3 ..)
  · intro x; exact vc_eq ..

set_option maxHeartbeats 400000 in
theorem piece13_3_0_128 : Fills (G13 I i) (Rect.unit (s := S5x2x384x128) ![3, 0, 128, 0] S1x1x128x128.size inb_S5x2x384x128_S1x1x128x128_3_0_128_0) ((restRun.sl.r_132 (F := Ideal)) c i arg1 harg1 arg2 harg2 arg3 harg3 arg4 harg4 arg5 harg5 arg6 harg6 arg7 harg7 arg8 harg8 arg9 harg9 arg19 arg23 harg23 arg24 harg24 x1 x2 x3 x4 x5 x6 x7 x8 x9 x23 x24) := by
  intro x
  rw [G13_emb]
  idx_vars x
  delta restRun.sl.r_132 restRun.sl.r_129 restRun.sl.r_128 restRun.sl.r_127 restRun.sl.r_126 restRun.sl.r_125 restRun.sl.r_123 restRun.sl.cst_257 restRun.sl.cst_598 restRun.sl.r_121 restRun.sl.r_117 restRun.sl.r_9 restRun.sl.r_1
  beta_reduce
  simp only [ld1 H, ld4 H, ld5 H, ld8 H, ld24 H, ld23_1_0 H, ld23_2_0 H, ld23_3_0 H, ld23_5_0 H, ld23_6_0 H, ld9_0 H, v1372_eq H]
  pointwise [k0_pay73, k0_pay75, k0_pay76, k0_pay77, k0_pay78, k0_pay80, k0_pay88, k0_pay275, k0_pay277, k0_pay283, k0_pay285, k0_pay287, k0_pay288, k0_pay290, k0_pay291, k0_pay292, k0_pay293, k0_pay294, k0_pay297, k0_pay298, k0_pay299, k0_pay304]
  refine rowB I 3 (hd i 0) ⟨128 + x2.val, lt1 x2⟩ HB x3 (lt1' x2) ?_ ?_ ?_ ?_ ?_ ?_ ?_ ?_ ?_
  · intro x
    beta_reduce
    refine seen1 I 3 (hd i 0) x2 x (fun p => ?_) (fun p => ?_) <;> beta_reduce
    · refine dot_of _ _ _ _ _ (fun c => ?_) (fun c => ?_) <;> (first | rfl | exact rope3 ..)
    · refine dot_of _ _ _ _ _ (fun c => ?_) (fun c => ?_) <;> (first | rfl | exact rope3 ..)
  · intro x
    beta_reduce
    refine seen1a I 3 (hd i 0) x2 x ?_
    refine dot_of _ _ _ _ _ (fun c => ?_) (fun c => ?_) <;> (first | rfl | exact rope3 ..)
  · intro x
    beta_reduce
    refine seen1b I 3 (hd i 0) x2 x ?_
    refine dot_of _ _ _ _ _ (fun c => ?_) (fun c => ?_) <;> (first | rfl | exact rope3 ..)
  · intro x; (first | rfl | exact fac3 ..)
  · intro x; (first | rfl | exact fac3 ..)
  · intro x; (first | rfl | exact fac3 ..)
  · intro x; (first | rfl | exact fac3 ..)
  · intro x; exact vc_eq ..
  · intro x; exact vc_eq ..

set_option maxHeartbeats 400000 in
theorem piece13_3_0_0 : Fills (G13 I i) (Rect.unit (s := S5x2x384x128) ![3, 0, 0, 0] S1x1x128x128.size inb_S5x2x384x128_S1x1x128x128_3_0_0_0) ((k0_pay303 (F := Ideal)) ((restRun.sl.r_1 (F := Ideal)) c i arg23 harg23 x23) ((restRun.sl.r_123 (F := Ideal)) c i arg1 harg1 arg8 harg8 arg9 harg9 arg23 harg23 arg24 harg24 x1 x8 x9 x23 x24) ((restRun.sl.r_130 (F := Ideal)) c i arg1 harg1 arg2 harg2 arg3 harg3 arg4 harg4 arg5 harg5 arg6 harg6 arg7 harg7 arg19 arg23 harg23 x1 x2 x3 x4 x5 x6 x7 x23) ((restRun.sl.r_131 (F := Ideal)) c i arg1 harg1 arg2 harg2 arg3 harg3 arg4 harg4 arg5 harg5 arg6 harg6 arg7 harg7 arg19 arg23 harg23 x1 x2 x3 x4 x5 x6 x7 x23)) := by
  intro x
  rw [G13_emb]
  idx_vars x
  delta restRun.sl.r_131 restRun.sl.r_130 restRun.sl.r_126 restRun.sl.r_125 restRun.sl.r_123 restRun.sl.cst_257 restRun.sl.cst_598 restRun.sl.r_121 restRun.sl.r_117 restRun.sl.r_9 restRun.sl.r_1
  beta_reduce
  simp only [ld1 H, ld4 H, ld5 H, ld8 H, ld24 H, ld23_1_0 H, ld23_2_0 H, ld23_3_0 H, ld23_5_0 H, ld23_6_0 H, ld9_0 H, v1372_eq H]
  pointwise [k0_pay73, k0_pay75, k0_pay76, k0_pay77, k0_pay78, k0_pay80, k0_pay88, k0_pay275, k0_pay277, k0_pay283, k0_pay285, k0_pay287, k0_pay288, k0_pay290, k0_pay291, k0_pay292, k0_pay293, k0_pay294, k0_pay297, k0_pay298, k0_pay299, k0_pay300, k0_pay301, k0_pay302, k0_pay303]
  refine rowA I 3 (hd i 0) ⟨x2.val, lt0 x2⟩ HB x3 (n := 128) le0 x2.isLt ?_ ?_ ?_ ?_
  · intro x
    beta_reduce
    refine seen0 I 3 (hd i 0) x2 x ?_
    refine dot_of _ _ _ _ _ (fun c => ?_) (fun c => ?_) <;> (first | rfl | exact rope3 ..)
  · intro x; (first | rfl | exact fac3 ..)
  · intro x; (first | rfl | exact fac3 ..)
  · intro x; exact vc_eq ..

end Cert.KernelIdeal.Val

end
-- ==== Proof.PieceO4.lean ====
/- The pieces of the output of batch entry 4. -/
module

public import proofs.«01_k».proof.Proof.KeyRead
public import proofs.«01_k».proof.Proof.Rows
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Mla
variable {I : In} {i : grid0.Coords} {x1 : Vec Ideal S5x384x512 .fp8e4m3} {x2 : Vec Ideal S5x384 .f32} {x3 : Vec Ideal S5x64x384 .bf16} {x4 : Vec Ideal S5x2x384x128 .bf16} {x5 : Vec Ideal S5x2x64x384 .bf16} {x6 : Vec Ideal S2x512x128 .fp8e4m3} {x7 : Vec Ideal S20x128 .f32} {x8 : Vec Ideal S2x512x128 .fp8e4m3} {x9 : Vec Ideal S20x128 .f32} {x23 : Vec Ideal S6x20x128 .f32} {x24 : Vec Ideal S5x384x128 .f32} {x25 : Vec Ideal S8x128 .f32}
variable {c : Dev nD} {arg1 : Memref sig .tc .vmem S5x384x512 .fp8e4m3} {harg1 : arg1.IsWhole} {arg2 : Memref sig .tc .vmem S5x384 .f32} {harg2 : arg2.IsWhole} {arg3 : Memref sig .tc .vmem S5x64x384 .bf16} {harg3 : arg3.IsWhole} {arg4 : Memref sig .tc .vmem S5x2x384x128 .bf16} {harg4 : arg4.IsWhole} {arg5 : Memref sig .tc .vmem S5x2x64x384 .bf16} {harg5 : arg5.IsWhole} {arg6 : Memref sig .tc .vmem S2x512x128 .fp8e4m3} {harg6 : arg6.IsWhole} {arg7 : Memref sig .tc .vmem S20x128 .f32} {harg7 : arg7.IsWhole} {arg8 : Memref sig .tc .vmem S2x512x128 .fp8e4m3} {harg8 : arg8.IsWhole} {arg9 : Memref sig .tc .vmem S20x128 .f32} {harg9 : arg9.IsWhole} {arg19 : Memref sig .tc .vmem S5x2x192x384 .fp8e4m3} {harg19 : arg19.IsWhole} {arg23 : Memref sig .tc .vmem S6x20x128 .f32} {harg23 : arg23.IsWhole} {arg24 : Memref sig .tc .vmem S5x384x128 .f32} {harg24 : arg24.IsWhole}
variable (H : Ctx I i x1 x2 x3 x4 x5 x6 x7 x8 x9 x23 x24 x25) (HB : Bounded I)
include H HB

set_option maxHeartbeats 400000 in
theorem piece13_4_1_256 : Fills (G13 I i) (Rect.unit (s := S5x2x384x128) ![4, 1, 256, 0] S1x1x128x128.size inb_S5x2x384x128_S1x1x128x128_4_1_256_0) ((k0_pay390 (F := Ideal)) ((restRun.sl.r_6 (F := Ideal)) c i arg23 harg23 x23) ((restRun.sl.r_168 (F := Ideal)) c i arg1 harg1 arg8 harg8 arg9 harg9 arg23 harg23 arg24 harg24 x1 x8 x9 x23 x24) ((restRun.sl.r_175 (F := Ideal)) c i arg23 harg23 x23) ((restRun.sl.r_177 (F := Ideal)) c i arg1 harg1 arg2 harg2 arg3 harg3 arg4 harg4 arg5 harg5 arg6 harg6 arg7 harg7 arg19 arg23 harg23 x1 x2 x3 x4 x5 x6 x7 x23)) := by
  intro x
  rw [G13_emb]
  idx_vars x
  delta restRun.sl.r_177 restRun.sl.r_174 restRun.sl.r_173 restRun.sl.r_171 restRun.sl.r_170 restRun.sl.r_3 restRun.sl.r_175 restRun.sl.r_4 restRun.sl.r_2 restRun.sl.r_168 restRun.sl.r_149 restRun.sl.r_12 restRun.sl.r_7 restRun.sl.r_6
  beta_reduce
  simp only [ld1 H, ld4 H, ld5 H, ld8 H, ld24 H, ld23_1_1 H, ld23_2_1 H, ld23_3_1 H, ld23_5_1 H, ld23_6_1 H, ld9_1 H, v1968_eq H]
  pointwise [k0_pay73, k0_pay75, k0_pay81, k0_pay82, k0_pay83, k0_pay85, k0_pay86, k0_pay91, k0_pay334, k0_pay336, k0_pay371, k0_pay373, k0_pay375, k0_pay376, k0_pay378, k0_pay379, k0_pay380, k0_pay384, k0_pay385, k0_pay386, k0_pay389, k0_pay390]
  refine rowA I 4 (hd i 1) ⟨256 + x2.val, lt2 x2⟩ HB x3 (n := 384) le2 (lt2 x2) ?_ ?_ ?_ ?_
  · intro x
    beta_reduce
    refine seen2 I 4 (hd i 1) x2 x (fun p => ?_) (fun p => ?_) <;> beta_reduce
    · refine dot_of _ _ _ _ _ (fun c => ?_) (fun c => ?_) <;> (first | rfl | exact rope3 ..)
    · refine dot_of _ _ _ _ _ (fun c => ?_) (fun c => ?_) <;> (first | rfl | exact rope3 ..)
  · intro x; (first | rfl | exact fac3 ..)
  · intro x; (first | rfl | exact fac3 ..)
  · intro x; exact vc_eq ..

set_option maxHeartbeats 400000 in
theorem piece13_4_1_128 : Fills (G13 I i) (Rect.unit (s := S5x2x384x128) ![4, 1, 128, 0] S1x1x128x128.size inb_S5x2x384x128_S1x1x128x128_4_1_128_0) ((k0_pay388 (F := Ideal)) k0_pay73 ((restRun.sl.r_6 (F := Ideal)) c i arg23 harg23 x23) ((restRun.sl.r_168 (F := Ideal)) c i arg1 harg1 arg8 harg8 arg9 harg9 arg23 harg23 arg24 harg24 x1 x8 x9 x23 x24) ((restRun.sl.r_173 (F := Ideal)) c i arg4 harg4 arg5 harg5 arg23 harg23 x4 x5 x23) ((restRun.sl.r_174 (F := Ideal)) c i arg1 harg1 arg2 harg2 arg3 harg3 arg6 harg6 arg7 harg7 arg19 arg23 harg23 x1 x2 x3 x6 x7 x23) ((restRun.sl.r_175 (F := Ideal)) c i arg23 harg23 x23)) := by
  intro x
  rw [G13_emb]
  idx_vars x
  delta restRun.sl.r_175 restRun.sl.r_4 restRun.sl.r_2 restRun.sl.r_174 restRun.sl.r_173 restRun.sl.r_171 restRun.sl.r_170 restRun.sl.r_3 restRun.sl.r_168 restRun.sl.r_149 restRun.sl.r_12 restRun.sl.r_7 restRun.sl.r_6
  beta_reduce
  simp only [ld1 H, ld4 H, ld5 H, ld8 H, ld24 H, ld23_1_1 H, ld23_2_1 H, ld23_3_1 H, ld23_5_1 H, ld23_6_1 H, ld9_1 H, v1968_eq H]
  pointwise [k0_pay73, k0_pay75, k0_pay81, k0_pay82, k0_pay83, k0_pay85, k0_pay86, k0_pay91, k0_pay334, k0_pay336, k0_pay371, k0_pay373, k0_pay375, k0_pay376, k0_pay378, k0_pay379, k0_pay380, k0_pay384, k0_pay385, k0_pay386, k0_pay388]
  refine rowB I 4 (hd i 1) ⟨128 + x2.val, lt1 x2⟩ HB x3 (lt1' x2) ?_ ?_ ?_ ?_ ?_ ?_ ?_ ?_ ?_
  · intro x
    beta_reduce
    refine seen1 I 4 (hd i 1) x2 x (fun p => ?_) (fun p => ?_) <;> beta_reduce
    · refine dot_of _ _ _ _ _ (fun c => ?_) (fun c => ?_) <;> (first | rfl | exact rope3 ..)
    · refine dot_of _ _ _ _ _ (fun c => ?_) (fun c => ?_) <;> (first | rfl | exact rope3 ..)
  · intro x
    beta_reduce
    refine seen1a I 4 (hd i 1) x2 x ?_
    refine dot_of _ _ _ _ _ (fun c => ?_) (fun c => ?_) <;> (first | rfl | exact rope3 ..)
  · intro x
    beta_reduce
    refine seen1b I 4 (hd i 1) x2 x ?_
    refine dot_of _ _ _ _ _ (fun c => ?_) (fun c => ?_) <;> (first | rfl | exact rope3 ..)
  · intro x; (first | rfl | exact fac3 ..)
  · intro x; (first | rfl | exact fac3 ..)
  · intro x; (first | rfl | exact fac3 ..)
  · intro x; (first | rfl | exact fac3 ..)
  · intro x; exact vc_eq ..
  · intro x; exact vc_eq ..

set_option maxHeartbeats 400000 in
theorem piece13_4_1_0 : Fills (G13 I i) (Rect.unit (s := S5x2x384x128) ![4, 1, 0, 0] S1x1x128x128.size inb_S5x2x384x128_S1x1x128x128_4_1_0_0) ((restRun.sl.r_176 (F := Ideal)) c i arg1 harg1 arg2 harg2 arg3 harg3 arg4 harg4 arg5 harg5 arg6 harg6 arg7 harg7 arg8 harg8 arg9 harg9 arg19 arg23 harg23 arg24 harg24 x1 x2 x3 x4 x5 x6 x7 x8 x9 x23 x24) := by
  intro x
  rw [G13_emb]
  idx_vars x
  delta restRun.sl.r_176 restRun.sl.r_171 restRun.sl.r_170 restRun.sl.r_3 restRun.sl.r_168 restRun.sl.r_149 restRun.sl.r_12 restRun.sl.r_7 restRun.sl.r_6 restRun.sl.r_4 restRun.sl.r_2
  beta_reduce
  simp only [ld1 H, ld4 H, ld5 H, ld8 H, ld24 H, ld23_1_1 H, ld23_2_1 H, ld23_3_1 H, ld23_5_1 H, ld23_6_1 H, ld9_1 H, v1968_eq H]
  pointwise [k0_pay73, k0_pay75, k0_pay81, k0_pay82, k0_pay83, k0_pay85, k0_pay86, k0_pay91, k0_pay334, k0_pay336, k0_pay371, k0_pay373, k0_pay375, k0_pay376, k0_pay378, k0_pay379, k0_pay380, k0_pay384, k0_pay385, k0_pay386, k0_pay387]
  refine rowA I 4 (hd i 1) ⟨x2.val, lt0 x2⟩ HB x3 (n := 128) le0 x2.isLt ?_ ?_ ?_ ?_
  · intro x
    beta_reduce
    refine seen0 I 4 (hd i 1) x2 x ?_
    refine dot_of _ _ _ _ _ (fun c => ?_) (fun c => ?_) <;> (first | rfl | exact rope3 ..)
  · intro x; (first | rfl | exact fac3 ..)
  · intro x; (first | rfl | exact fac3 ..)
  · intro x; exact vc_eq ..

set_option maxHeartbeats 400000 in
theorem piece13_4_0_256 : Fills (G13 I i) (Rect.unit (s := S5x2x384x128) ![4, 0, 256, 0] S1x1x128x128.size inb_S5x2x384x128_S1x1x128x128_4_0_256_0) ((k0_pay365 (F := Ideal)) k0_pay73 ((restRun.sl.r_1 (F := Ideal)) c i arg23 harg23 x23) ((restRun.sl.r_153 (F := Ideal)) c i arg1 harg1 arg8 harg8 arg9 harg9 arg23 harg23 arg24 harg24 x1 x8 x9 x23 x24) ((restRun.sl.r_160 (F := Ideal)) c i arg23 harg23 x23) ((restRun.sl.r_163 (F := Ideal)) c i arg1 harg1 arg2 harg2 arg3 harg3 arg4 harg4 arg5 harg5 arg6 harg6 arg7 harg7 arg19 arg23 harg23 x1 x2 x3 x4 x5 x6 x7 x23) ((restRun.sl.r_164 (F := Ideal)) c i arg1 harg1 arg2 harg2 arg3 harg3 arg4 harg4 arg5 harg5 arg6 harg6 arg7 harg7 arg19 arg23 harg23 x1 x2 x3 x4 x5 x6 x7 x23) (restRun.sl.cst_833 (F := Ideal))) := by
  intro x
  rw [G13_emb]
  idx_vars x
  delta restRun.sl.cst_833 restRun.sl.r_164 restRun.sl.r_163 restRun.sl.r_159 restRun.sl.r_158 restRun.sl.r_156 restRun.sl.r_155 restRun.sl.r_160 restRun.sl.r_153 restRun.sl.r_149 restRun.sl.r_9 restRun.sl.r_1
  beta_reduce
  simp only [ld1 H, ld4 H, ld5 H, ld8 H, ld24 H, ld23_1_0 H, ld23_2_0 H, ld23_3_0 H, ld23_5_0 H, ld23_6_0 H, ld9_0 H, v1771_eq H]
  pointwise [k0_pay73, k0_pay75, k0_pay76, k0_pay77, k0_pay78, k0_pay80, k0_pay88, k0_pay334, k0_pay336, k0_pay342, k0_pay344, k0_pay346, k0_pay347, k0_pay349, k0_pay350, k0_pay351, k0_pay355, k0_pay356, k0_pay357, k0_pay363, k0_pay364, k0_pay365]
  refine rowA I 4 (hd i 0) ⟨256 + x2.val, lt2 x2⟩ HB x3 (n := 384) le2 (lt2 x2) ?_ ?_ ?_ ?_
  · intro x
    beta_reduce
    refine seen2 I 4 (hd i 0) x2 x (fun p => ?_) (fun p => ?_) <;> beta_reduce
    · refine dot_of _ _ _ _ _ (fun c => ?_) (fun c => ?_) <;> (first | rfl | exact rope3 ..)
    · refine dot_of _ _ _ _ _ (fun c => ?_) (fun c => ?_) <;> (first | rfl | exact rope3 ..)
  · intro x; (first | rfl | exact fac3 ..)
  · intro x; (first | rfl | exact fac3 ..)
  · intro x; exact vc_eq ..

set_option maxHeartbeats 400000 in
theorem piece13_4_0_128 : Fills (G13 I i) (Rect.unit (s := S5x2x384x128) ![4, 0, 128, 0] S1x1x128x128.size inb_S5x2x384x128_S1x1x128x128_4_0_128_0) ((k0_pay362 (F := Ideal)) k0_pay73 ((restRun.sl.r_1 (F := Ideal)) c i arg23 harg23 x23) ((restRun.sl.r_153 (F := Ideal)) c i arg1 harg1 arg8 harg8 arg9 harg9 arg23 harg23 arg24 harg24 x1 x8 x9 x23 x24) ((restRun.sl.r_158 (F := Ideal)) c i arg4 harg4 arg5 harg5 arg23 harg23 x4 x5 x23) ((restRun.sl.r_159 (F := Ideal)) c i arg1 harg1 arg2 harg2 arg3 harg3 arg6 harg6 arg7 harg7 arg19 arg23 harg23 x1 x2 x3 x6 x7 x23) ((restRun.sl.r_160 (F := Ideal)) c i arg23 harg23 x23)) := by
  intro x
  rw [G13_emb]
  idx_vars x
  delta restRun.sl.r_160 restRun.sl.r_159 restRun.sl.r_158 restRun.sl.r_156 restRun.sl.r_155 restRun.sl.r_153 restRun.sl.r_149 restRun.sl.r_9 restRun.sl.r_1
  beta_reduce
  simp only [ld1 H, ld4 H, ld5 H, ld8 H, ld24 H, ld23_1_0 H, ld23_2_0 H, ld23_3_0 H, ld23_5_0 H, ld23_6_0 H, ld9_0 H, v1771_eq H]
  pointwise [k0_pay73, k0_pay75, k0_pay76, k0_pay77, k0_pay78, k0_pay80, k0_pay88, k0_pay334, k0_pay336, k0_pay342, k0_pay344, k0_pay346, k0_pay347, k0_pay349, k0_pay350, k0_pay351, k0_pay355, k0_pay356, k0_pay357, k0_pay362]
  refine rowB I 4 (hd i 0) ⟨128 + x2.val, lt1 x2⟩ HB x3 (lt1' x2) ?_ ?_ ?_ ?_ ?_ ?_ ?_ ?_ ?_
  · intro x
    beta_reduce
    refine seen1 I 4 (hd i 0) x2 x (fun p => ?_) (fun p => ?_) <;> beta_reduce
    · refine dot_of _ _ _ _ _ (fun c => ?_) (fun c => ?_) <;> (first | rfl | exact rope3 ..)
    · refine dot_of _ _ _ _ _ (fun c => ?_) (fun c => ?_) <;> (first | rfl | exact rope3 ..)
  · intro x
    beta_reduce
    refine seen1a I 4 (hd i 0) x2 x ?_
    refine dot_of _ _ _ _ _ (fun c => ?_) (fun c => ?_) <;> (first | rfl | exact rope3 ..)
  · intro x
    beta_reduce
    refine seen1b I 4 (hd i 0) x2 x ?_
    refine dot_of _ _ _ _ _ (fun c => ?_) (fun c => ?_) <;> (first | rfl | exact rope3 ..)
  · intro x; (first | rfl | exact fac3 ..)
  · intro x; (first | rfl | exact fac3 ..)
  · intro x; (first | rfl | exact fac3 ..)
  · intro x; (first | rfl | exact fac3 ..)
  · intro x; exact vc_eq ..
  · intro x; exact vc_eq ..

set_option maxHeartbeats 400000 in
theorem piece13_4_0_0 : Fills (G13 I i) (Rect.unit (s := S5x2x384x128) ![4, 0, 0, 0] S1x1x128x128.size inb_S5x2x384x128_S1x1x128x128_4_0_0_0) ((k0_pay361 (F := Ideal)) ((restRun.sl.r_161 (F := Ideal)) c i arg1 harg1 arg2 harg2 arg3 harg3 arg4 harg4 arg5 harg5 arg6 harg6 arg7 harg7 arg8 harg8 arg9 harg9 arg19 arg23 harg23 arg24 harg24 x1 x2 x3 x4 x5 x6 x7 x8 x9 x23 x24) ((restRun.sl.r_162 (F := Ideal)) c i arg1 harg1 arg2 harg2 arg3 harg3 arg4 harg4 arg5 harg5 arg6 harg6 arg7 harg7 arg19 arg23 harg23 x1 x2 x3 x4 x5 x6 x7 x23)) := by
  intro x
  rw [G13_emb]
  idx_vars x
  delta restRun.sl.r_162 restRun.sl.r_1 restRun.sl.r_161 restRun.sl.r_156 restRun.sl.r_155 restRun.sl.r_153 restRun.sl.r_149 restRun.sl.r_9
  beta_reduce
  simp only [ld1 H, ld4 H, ld5 H, ld8 H, ld24 H, ld23_1_0 H, ld23_2_0 H, ld23_3_0 H, ld23_5_0 H, ld23_6_0 H, ld9_0 H, v1771_eq H]
  pointwise [k0_pay73, k0_pay75, k0_pay76, k0_pay77, k0_pay78, k0_pay80, k0_pay88, k0_pay334, k0_pay336, k0_pay342, k0_pay344, k0_pay346, k0_pay347, k0_pay349, k0_pay350, k0_pay351, k0_pay355, k0_pay356, k0_pay357, k0_pay358, k0_pay359, k0_pay360, k0_pay361]
  refine rowA I 4 (hd i 0) ⟨x2.val, lt0 x2⟩ HB x3 (n := 128) le0 x2.isLt ?_ ?_ ?_ ?_
  · intro x
    beta_reduce
    refine seen0 I 4 (hd i 0) x2 x ?_
    refine dot_of _ _ _ _ _ (fun c => ?_) (fun c => ?_) <;> (first | rfl | exact rope3 ..)
  · intro x; (first | rfl | exact fac3 ..)
  · intro x; (first | rfl | exact fac3 ..)
  · intro x; exact vc_eq ..

end Cert.KernelIdeal.Val

end
-- ==== Proof.RestVal.lean ====
/- What a grid point leaves in the results' blocks. -/
module

public import proofs.«01_k».proof.Proof.InitVal
public import proofs.«01_k».proof.Proof.AmaxQ
public import proofs.«01_k».proof.Proof.AmaxK
public import proofs.«01_k».proof.Proof.AmaxV
public import proofs.«01_k».proof.Proof.PieceQ
public import proofs.«01_k».proof.Proof.PieceV
public import proofs.«01_k».proof.Proof.KeyRead
public import proofs.«01_k».proof.Proof.PieceO0
public import proofs.«01_k».proof.Proof.PieceO1
public import proofs.«01_k».proof.Proof.PieceO2
public import proofs.«01_k».proof.Proof.PieceO3
public import proofs.«01_k».proof.Proof.PieceO4
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Mla

/-- A point's maximum put into its two lanes. -/
def upd (i : grid0.Coords) (am : Fin 20 → EReal) (x : S1x20.Idx → EReal) (y : S1x20.Idx) : EReal :=
  if (y 1).val = 2 * (i 0).val + 1 then am (hd i 1) else if (y 1).val = 2 * (i 0).val then am (hd i 0) else x y

theorem mem20 (inb) (y : S1x20.Idx) : y ∈ (Rect.unit (s := S1x20) ![0, 0] S1x20.size inb).set := by
  rw [Rect.mem_set_unit]
  intro a
  fin_cases a
  · exact ⟨Nat.zero_le _, by have := (y 0).isLt; exact this.trans_le (Nat.le_add_left _ _)⟩
  · exact ⟨Nat.zero_le _, by have := (y 1).isLt; exact this.trans_le (Nat.le_add_left _ _)⟩
theorem emb20 (inb) (x : (Rect.unit (s := S1x20) ![0, 0] S1x20.size inb).shape.Idx) : (Rect.unit (s := S1x20) ![0, 0] S1x20.size inb).emb x = x :=
  funext fun a => Fin.ext ((embv (s := S1x20) ![0, 0] S1x20.size inb x a).trans (by fin_cases a <;> exact Nat.zero_add _))
theorem one20 (inb) (w : S1x20.Idx → EReal) : ∀ p ∈ ([⟨Rect.unit (s := S1x20) ![0, 0] S1x20.size inb, w⟩] : List (View.Piece (Elt Ideal) S1x20 .f32)), ∀ x, p.2 x = w (p.1.emb x) :=
  List.forall_mem_cons.2 ⟨fun x => congrArg w (emb20 inb x).symm, fun _ h => absurd h List.not_mem_nil⟩

/-- A whole store into a row decides what the row reads. -/
theorem whole20 {κ : Kind} {sp : Space} (v : View sig κ sp S1x20 .f32) (f : v.ty.Contents (Elt Ideal)) (w : S1x20.Idx → EReal) (inb) (L : List (View.Piece (Elt Ideal) S1x20 .f32)) :
    v.read (Elt Ideal) (v.writes (Elt Ideal) f (⟨Rect.unit (s := S1x20) ![0, 0] S1x20.size inb, w⟩ :: L)) = w :=
  read_of_pieces v (v.writes (Elt Ideal) f L) w [⟨Rect.unit (s := S1x20) ![0, 0] S1x20.size inb, w⟩] (one20 inb w) fun y => ⟨_, List.mem_cons_self, mem20 inb y⟩
theorem cov20 {κ : Kind} {sp : Space} (v : View sig κ sp S1x20 .f32) (w : S1x20.Idx → EReal) (inb) (inb') :
    v.readCov (Val := Elt Ideal) [⟨Rect.unit (s := S1x20) ![0, 0] S1x20.size inb, w⟩] (Rect.unit (s := S1x20) ![0, 0] S1x20.size inb').toLoadRect = w := by
  refine (readCov_of_pieces v w _ _ (one20 inb w) fun j => ⟨_, List.mem_cons_self, mem20 inb _⟩).trans (funext fun j => ?_)
  exact congrArg w (emb20 inb' j)
theorem ld20 {arg : Memref sig .tc .vmem S1x20 .f32} (h : arg.IsWhole) (X : Vec Ideal S1x20 .f32) (inb) (j) :
    View.readAt (Elt Ideal) arg.view (Rect.unit (s := S1x20) ![0, 0] S1x20.size inb).toLoadRect (h.unread X) j = X j :=
  ldw h X _ _ rfl (fun a => by fin_cases a <;> rfl) inb j
variable {I : In} {i : grid0.Coords} {x1 : Vec Ideal S5x384x512 .fp8e4m3} {x2 : Vec Ideal S5x384 .f32} {x3 : Vec Ideal S5x64x384 .bf16} {x4 : Vec Ideal S5x2x384x128 .bf16} {x5 : Vec Ideal S5x2x64x384 .bf16} {x6 : Vec Ideal S2x512x128 .fp8e4m3} {x7 : Vec Ideal S20x128 .f32} {x8 : Vec Ideal S2x512x128 .fp8e4m3} {x9 : Vec Ideal S20x128 .f32} {x23 : Vec Ideal S6x20x128 .f32} {x24 : Vec Ideal S5x384x128 .f32} {x25 : Vec Ideal S8x128 .f32}
variable {c : Dev nD} {arg1 : Memref sig .tc .vmem S5x384x512 .fp8e4m3} {harg1 : arg1.IsWhole} {arg2 : Memref sig .tc .vmem S5x384 .f32} {harg2 : arg2.IsWhole} {arg3 : Memref sig .tc .vmem S5x64x384 .bf16} {harg3 : arg3.IsWhole} {arg4 : Memref sig .tc .vmem S5x2x384x128 .bf16} {harg4 : arg4.IsWhole} {arg5 : Memref sig .tc .vmem S5x2x64x384 .bf16} {harg5 : arg5.IsWhole} {arg6 : Memref sig .tc .vmem S2x512x128 .fp8e4m3} {harg6 : arg6.IsWhole} {arg7 : Memref sig .tc .vmem S20x128 .f32} {harg7 : arg7.IsWhole} {arg8 : Memref sig .tc .vmem S2x512x128 .fp8e4m3} {harg8 : arg8.IsWhole} {arg9 : Memref sig .tc .vmem S20x128 .f32} {harg9 : arg9.IsWhole} {arg10 : Memref sig .tc .vmem S13x20 .f32} {harg10 : arg10.IsWhole} {arg11 : Memref sig .tc .vmem S13x20 .f32} {harg11 : arg11.IsWhole} {arg12 : Memref sig .tc .vmem S13x20 .f32} {harg12 : arg12.IsWhole} {arg13 : Memref sig .tc .vmem S5x2x384x128 .bf16} {harg13 : arg13.IsWhole} {arg14 : Memref sig .tc .vmem S1x20 .f32} {harg14 : arg14.IsWhole} {arg15 : Memref sig .tc .vmem S1x20 .f32} {harg15 : arg15.IsWhole} {arg16 : Memref sig .tc .vmem S1x20 .f32} {harg16 : arg16.IsWhole} {arg17 : Memref sig .tc .vmem S5x2x192x384 .fp8e4m3} {harg17 : arg17.IsWhole} {arg18 : Memref sig .tc .vmem S1x20 .f32} {harg18 : arg18.IsWhole} {arg19 : Memref sig .tc .vmem S5x2x192x384 .fp8e4m3} {harg19 : arg19.IsWhole} {arg20 : Memref sig .tc .vmem S1x20 .f32} {harg20 : arg20.IsWhole} {arg21 : Memref sig .tc .vmem S5x2x384x128 .fp8e4m3} {harg21 : arg21.IsWhole} {arg22 : Memref sig .tc .vmem S1x20 .f32} {harg22 : arg22.IsWhole} {arg23 : Memref sig .tc .vmem S6x20x128 .f32} {harg23 : arg23.IsWhole} {arg24 : Memref sig .tc .vmem S5x384x128 .f32} {harg24 : arg24.IsWhole} {arg25 : Memref sig .tc .vmem S8x128 .f32} {harg25 : arg25.IsWhole}
variable {x14 x15 x16 : Vec Ideal S1x20 .f32}
variable (H : Ctx I i x1 x2 x3 x4 x5 x6 x7 x8 x9 x23 x24 x25) (HB : Bounded I)
include H HB

theorem v2114_eq : restRun.sl.v2114 (F := Ideal) c i arg4 harg4 arg5 harg5 arg14 harg14 x4 x5 x14 = fun y => if (y 1).val = 2 * (i 0).val then qa I (hd i 0) else x14 y := by
  delta restRun.sl.v2114 restRun.sl.H14_1
  beta_reduce
  refine (cov20 _ _ _ _).trans (funext fun y => (amaxQ0 H HB _ y).trans ?_)
  exact congrArg (fun z => if (y 1).val = 2 * (i 0).val then qa I (hd i 0) else z) (ld20 _ _ _ y)

theorem left14 (f) : arg14.view.read (Elt Ideal) (arg14.view.writes (Elt Ideal) f (restRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x1 x2 x3 x4 x5 x6 x7 x8 x9 x23 x24 x25 x14 x15 x16).2.1) = upd i (qa I) x14 := by
  delta restRun
  refine (whole20 _ _ _ _ _).trans (funext fun y => (amaxQ1 H HB _ y).trans ?_)
  exact congrArg (fun z => if (y 1).val = 2 * (i 0).val + 1 then qa I (hd i 1) else z) (congrFun (v2114_eq H HB) y)

theorem v2120_eq : restRun.sl.v2120 (F := Ideal) c i arg1 harg1 arg2 harg2 arg6 harg6 arg7 harg7 arg15 harg15 arg23 harg23 arg25 harg25 x1 x2 x6 x7 x23 x25 x15 = fun y => if (y 1).val = 2 * (i 0).val then ka I (hd i 0) else x15 y := by
  delta restRun.sl.v2120 restRun.sl.H15_1
  beta_reduce
  refine (cov20 _ _ _ _).trans (funext fun y => (amaxK0 H HB _ y).trans ?_)
  exact congrArg (fun z => if (y 1).val = 2 * (i 0).val then ka I (hd i 0) else z) (ld20 _ _ _ y)

theorem left15 (f) : arg15.view.read (Elt Ideal) (arg15.view.writes (Elt Ideal) f (restRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x1 x2 x3 x4 x5 x6 x7 x8 x9 x23 x24 x25 x14 x15 x16).2.2.1) = upd i (ka I) x15 := by
  delta restRun restRun.sl.r_183
  refine (whole20 _ _ _ _ _).trans (funext fun y => (amaxK1 H HB _ y).trans ?_)
  exact congrArg (fun z => if (y 1).val = 2 * (i 0).val + 1 then ka I (hd i 1) else z) (congrFun (v2120_eq H HB) y)

theorem v2126_eq : restRun.sl.v2126 (F := Ideal) c i arg1 harg1 arg8 harg8 arg9 harg9 arg16 harg16 arg23 harg23 arg24 harg24 x1 x8 x9 x23 x24 x16 = fun y => if (y 1).val = 2 * (i 0).val then va I (hd i 0) else x16 y := by
  delta restRun.sl.v2126 restRun.sl.H16_1
  beta_reduce
  refine (cov20 _ _ _ _).trans (funext fun y => (amaxV0 H HB _ y).trans ?_)
  exact congrArg (fun z => if (y 1).val = 2 * (i 0).val then va I (hd i 0) else z) (ld20 _ _ _ y)

theorem left16 (f) : arg16.view.read (Elt Ideal) (arg16.view.writes (Elt Ideal) f (restRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x1 x2 x3 x4 x5 x6 x7 x8 x9 x23 x24 x25 x14 x15 x16).2.2.2.1) = upd i (va I) x16 := by
  delta restRun
  refine (whole20 _ _ _ _ _).trans (funext fun y => (amaxV1 H HB _ y).trans ?_)
  exact congrArg (fun z => if (y 1).val = 2 * (i 0).val + 1 then va I (hd i 1) else z) (congrFun (v2126_eq H HB) y)

theorem left13_of : ∀ p ∈ (restRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x1 x2 x3 x4 x5 x6 x7 x8 x9 x23 x24 x25 x14 x15 x16).1, ∀ x, p.2 x = G13 I i (p.1.emb x) := by
  delta restRun
  exact
    (List.forall_mem_cons.2 ⟨piece13_4_1_256 H HB,
    (List.forall_mem_cons.2 ⟨piece13_4_1_128 H HB,
    (List.forall_mem_cons.2 ⟨piece13_4_1_0 H HB,
    (List.forall_mem_cons.2 ⟨piece13_4_0_256 H HB,
    (List.forall_mem_cons.2 ⟨piece13_4_0_128 H HB,
    (List.forall_mem_cons.2 ⟨piece13_4_0_0 H HB,
    (List.forall_mem_cons.2 ⟨piece13_3_1_256 H HB,
    (List.forall_mem_cons.2 ⟨piece13_3_1_128 H HB,
    (List.forall_mem_cons.2 ⟨piece13_3_1_0 H HB,
    (List.forall_mem_cons.2 ⟨piece13_3_0_256 H HB,
    (List.forall_mem_cons.2 ⟨piece13_3_0_128 H HB,
    (List.forall_mem_cons.2 ⟨piece13_3_0_0 H HB,
    (List.forall_mem_cons.2 ⟨piece13_2_1_256 H HB,
    (List.forall_mem_cons.2 ⟨piece13_2_1_128 H HB,
    (List.forall_mem_cons.2 ⟨piece13_2_1_0 H HB,
    (List.forall_mem_cons.2 ⟨piece13_2_0_256 H HB,
    (List.forall_mem_cons.2 ⟨piece13_2_0_128 H HB,
    (List.forall_mem_cons.2 ⟨piece13_2_0_0 H HB,
    (List.forall_mem_cons.2 ⟨piece13_1_1_256 H HB,
    (List.forall_mem_cons.2 ⟨piece13_1_1_128 H HB,
    (List.forall_mem_cons.2 ⟨piece13_1_1_0 H HB,
    (List.forall_mem_cons.2 ⟨piece13_1_0_256 H HB,
    (List.forall_mem_cons.2 ⟨piece13_1_0_128 H HB,
    (List.forall_mem_cons.2 ⟨piece13_1_0_0 H HB,
    (List.forall_mem_cons.2 ⟨piece13_0_1_256 H HB,
    (List.forall_mem_cons.2 ⟨piece13_0_1_128 H HB,
    (List.forall_mem_cons.2 ⟨piece13_0_1_0 H HB,
    (List.forall_mem_cons.2 ⟨piece13_0_0_256 H HB,
    (List.forall_mem_cons.2 ⟨piece13_0_0_128 H HB,
    (List.forall_mem_cons.2 ⟨piece13_0_0_0 H HB, (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)

theorem left13 (f) : arg13.view.read (Elt Ideal) (arg13.view.writes (Elt Ideal) f (restRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x1 x2 x3 x4 x5 x6 x7 x8 x9 x23 x24 x25 x14 x15 x16).1) = G13 I i :=
  read_of_pieces _ _ _ _ (left13_of H HB) (View.cover_of_tiledL _ ![1, 1, 128, 128] (by rfl))

theorem left17_of : ∀ p ∈ (restRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x1 x2 x3 x4 x5 x6 x7 x8 x9 x23 x24 x25 x14 x15 x16).2.2.2.2.1, ∀ x, p.2 x = G17 I i (p.1.emb x) := by
  delta restRun
  exact
    (List.forall_mem_cons.2 ⟨piece17_4_1_128 H,
    (List.forall_mem_cons.2 ⟨piece17_4_1_0 H,
    (List.forall_mem_cons.2 ⟨piece17_4_0_128 H,
    (List.forall_mem_cons.2 ⟨piece17_4_0_0 H,
    (List.forall_mem_cons.2 ⟨piece17_3_1_128 H,
    (List.forall_mem_cons.2 ⟨piece17_3_1_0 H,
    (List.forall_mem_cons.2 ⟨piece17_3_0_128 H,
    (List.forall_mem_cons.2 ⟨piece17_3_0_0 H,
    (List.forall_mem_cons.2 ⟨piece17_2_1_128 H,
    (List.forall_mem_cons.2 ⟨piece17_2_1_0 H,
    (List.forall_mem_cons.2 ⟨piece17_2_0_128 H,
    (List.forall_mem_cons.2 ⟨piece17_2_0_0 H,
    (List.forall_mem_cons.2 ⟨piece17_1_1_128 H,
    (List.forall_mem_cons.2 ⟨piece17_1_1_0 H,
    (List.forall_mem_cons.2 ⟨piece17_1_0_128 H,
    (List.forall_mem_cons.2 ⟨piece17_1_0_0 H,
    (List.forall_mem_cons.2 ⟨piece17_0_1_128 H,
    (List.forall_mem_cons.2 ⟨piece17_0_1_0 H,
    (List.forall_mem_cons.2 ⟨piece17_0_0_128 H,
    (List.forall_mem_cons.2 ⟨piece17_0_0_0 H, (fun _ h => absurd h List.not_mem_nil)⟩)⟩)⟩)⟩)⟩)⟩)⟩)⟩)⟩)⟩)⟩)⟩)⟩)⟩)⟩)⟩)⟩)⟩)⟩)⟩)

theorem left17 (f) : arg17.view.read (Elt Ideal) (arg17.view.writes (Elt Ideal) f (restRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x1 x2 x3 x4 x5 x6 x7 x8 x9 x23 x24 x25 x14 x15 x16).2.2.2.2.1) = G17 I i :=
  read_of_pieces _ _ _ _ (left17_of H HB) (View.cover_of_tiledBy _ ![1, 1, 64, 384] (by sl_kernel_rfl))

theorem left19_of : ∀ p ∈ (restRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x1 x2 x3 x4 x5 x6 x7 x8 x9 x23 x24 x25 x14 x15 x16).2.2.2.2.2.1, ∀ x, p.2 x = G19 I i (p.1.emb x) := by
  delta restRun
  exact keys_20 H

theorem left19 (f) : arg19.view.read (Elt Ideal) (arg19.view.writes (Elt Ideal) f (restRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x1 x2 x3 x4 x5 x6 x7 x8 x9 x23 x24 x25 x14 x15 x16).2.2.2.2.2.1) = G19 I i :=
  read_of_pieces _ _ _ _ (left19_of H HB) (View.cover_of_tiledBy _ ![1, 1, 64, 384] (by sl_kernel_rfl))

theorem left21_of : ∀ p ∈ (restRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x1 x2 x3 x4 x5 x6 x7 x8 x9 x23 x24 x25 x14 x15 x16).2.2.2.2.2.2.1, ∀ x, p.2 x = G21 I i (p.1.emb x) := by
  delta restRun
  exact
    (List.forall_mem_cons.2 ⟨piece21_4_1_0 H,
    (List.forall_mem_cons.2 ⟨piece21_4_0_0 H,
    (List.forall_mem_cons.2 ⟨piece21_3_1_0 H,
    (List.forall_mem_cons.2 ⟨piece21_3_0_0 H,
    (List.forall_mem_cons.2 ⟨piece21_2_1_0 H,
    (List.forall_mem_cons.2 ⟨piece21_2_0_0 H,
    (List.forall_mem_cons.2 ⟨piece21_1_1_0 H,
    (List.forall_mem_cons.2 ⟨piece21_1_0_0 H,
    (List.forall_mem_cons.2 ⟨piece21_0_1_0 H,
    (List.forall_mem_cons.2 ⟨piece21_0_0_0 H, (fun _ h => absurd h List.not_mem_nil)⟩)⟩)⟩)⟩)⟩)⟩)⟩)⟩)⟩)⟩)

theorem left21 (f) : arg21.view.read (Elt Ideal) (arg21.view.writes (Elt Ideal) f (restRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x1 x2 x3 x4 x5 x6 x7 x8 x9 x23 x24 x25 x14 x15 x16).2.2.2.2.2.2.1) = G21 I i :=
  read_of_pieces _ _ _ _ (left21_of H HB) (View.cover_of_tiledL _ ![1, 1, 384, 128] (by rfl))

end Cert.KernelIdeal.Val

end
-- ==== Proof.RestTriple.lean ====
/- A grid point but for the first one's preparation: what it leaves in every buffer. -/
module

public import proofs.«01_k».proof.Proof.RestVal
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Mla
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable {I : In} {i : grid0.Coords} {x1 : Vec Ideal S5x384x512 .fp8e4m3} {x2 : Vec Ideal S5x384 .f32} {x3 : Vec Ideal S5x64x384 .bf16} {x4 : Vec Ideal S5x2x384x128 .bf16} {x5 : Vec Ideal S5x2x64x384 .bf16} {x6 : Vec Ideal S2x512x128 .fp8e4m3} {x7 : Vec Ideal S20x128 .f32} {x8 : Vec Ideal S2x512x128 .fp8e4m3} {x9 : Vec Ideal S20x128 .f32} {x23 : Vec Ideal S6x20x128 .f32} {x24 : Vec Ideal S5x384x128 .f32} {x25 : Vec Ideal S8x128 .f32}
variable {c : Dev nD} {arg1 : Memref sig .tc .vmem S5x384x512 .fp8e4m3} {harg1 : arg1.IsWhole} {arg2 : Memref sig .tc .vmem S5x384 .f32} {harg2 : arg2.IsWhole} {arg3 : Memref sig .tc .vmem S5x64x384 .bf16} {harg3 : arg3.IsWhole} {arg4 : Memref sig .tc .vmem S5x2x384x128 .bf16} {harg4 : arg4.IsWhole} {arg5 : Memref sig .tc .vmem S5x2x64x384 .bf16} {harg5 : arg5.IsWhole} {arg6 : Memref sig .tc .vmem S2x512x128 .fp8e4m3} {harg6 : arg6.IsWhole} {arg7 : Memref sig .tc .vmem S20x128 .f32} {harg7 : arg7.IsWhole} {arg8 : Memref sig .tc .vmem S2x512x128 .fp8e4m3} {harg8 : arg8.IsWhole} {arg9 : Memref sig .tc .vmem S20x128 .f32} {harg9 : arg9.IsWhole} {arg10 : Memref sig .tc .vmem S13x20 .f32} {harg10 : arg10.IsWhole} {arg11 : Memref sig .tc .vmem S13x20 .f32} {harg11 : arg11.IsWhole} {arg12 : Memref sig .tc .vmem S13x20 .f32} {harg12 : arg12.IsWhole} {arg13 : Memref sig .tc .vmem S5x2x384x128 .bf16} {harg13 : arg13.IsWhole} {arg14 : Memref sig .tc .vmem S1x20 .f32} {harg14 : arg14.IsWhole} {arg15 : Memref sig .tc .vmem S1x20 .f32} {harg15 : arg15.IsWhole} {arg16 : Memref sig .tc .vmem S1x20 .f32} {harg16 : arg16.IsWhole} {arg17 : Memref sig .tc .vmem S5x2x192x384 .fp8e4m3} {harg17 : arg17.IsWhole} {arg18 : Memref sig .tc .vmem S1x20 .f32} {harg18 : arg18.IsWhole} {arg19 : Memref sig .tc .vmem S5x2x192x384 .fp8e4m3} {harg19 : arg19.IsWhole} {arg20 : Memref sig .tc .vmem S1x20 .f32} {harg20 : arg20.IsWhole} {arg21 : Memref sig .tc .vmem S5x2x384x128 .fp8e4m3} {harg21 : arg21.IsWhole} {arg22 : Memref sig .tc .vmem S1x20 .f32} {harg22 : arg22.IsWhole} {arg23 : Memref sig .tc .vmem S6x20x128 .f32} {harg23 : arg23.IsWhole} {arg24 : Memref sig .tc .vmem S5x384x128 .f32} {harg24 : arg24.IsWhole} {arg25 : Memref sig .tc .vmem S8x128 .f32} {harg25 : arg25.IsWhole}
variable {x14 x15 x16 : Vec Ideal S1x20 .f32}
variable (H : Ctx I i x1 x2 x3 x4 x5 x6 x7 x8 x9 x23 x24 x25) (HB : Bounded I)
include H HB

/-- A grid point but for the first one's preparation: what it leaves in every buffer. -/
theorem rest_triple (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg13 fullShare d) ∗ owns (c : Thread nD τ) arg14 fullShare x14 ∗ owns (c : Thread nD τ) arg15 fullShare x15 ∗ owns (c : Thread nD τ) arg16 fullShare x16 ∗ (∃ d, owns (c : Thread nD τ) arg17 fullShare d) ∗ (∃ d, owns (c : Thread nD τ) arg19 fullShare d) ∗ (∃ d, owns (c : Thread nD τ) arg21 fullShare d) ∗ owns (c : Thread nD τ) arg23 fullShare x23 ∗ owns (c : Thread nD τ) arg24 fullShare x24 ∗ owns (c : Thread nD τ) arg25 fullShare x25 ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg13 fullShare (G13 I i) ∗ owns (c : Thread nD τ) arg14 fullShare (upd i (qa I) x14) ∗ owns (c : Thread nD τ) arg15 fullShare (upd i (ka I) x15) ∗ owns (c : Thread nD τ) arg16 fullShare (upd i (va I) x16) ∗ owns (c : Thread nD τ) arg17 fullShare (G17 I i) ∗ owns (c : Thread nD τ) arg19 fullShare (G19 I i) ∗ owns (c : Thread nD τ) arg21 fullShare (G21 I i) ∗ owns (c : Thread nD τ) arg23 fullShare x23 ∗ owns (c : Thread nD τ) arg24 fullShare x24 ∗ owns (c : Thread nD τ) arg25 fullShare x25) -∗ K ⟨⟩))
      ⊢ wp frame (wpE (defs₀ (F := Ideal)) Variants.none c none) E (restProg (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (rest17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25)) K := by
  refine BIBase.Entails.trans ?_ ((restRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x1 x2 x3 x4 x5 x6 x7 x8 x9 x23 x24 x25 x14 x15 x16).2.2.2.2.2.2.2 E K)
  iintro ⟨H1, H2, H3, H4, H5, H6, H7, H8, H9, H13, H14, H15, H16, H17, H19, H21, H23, H24, H25, Hk⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H13]; · iexact H13
  isplitl [H14]; · iexact H14
  isplitl [H15]; · iexact H15
  isplitl [H16]; · iexact H16
  isplitl [H17]; · iexact H17
  isplitl [H19]; · iexact H19
  isplitl [H21]; · iexact H21
  isplitl [H23]; · iexact H23
  isplitl [H24]; · iexact H24
  isplitl [H25]; · iexact H25
  iintro ⟨H1, H2, H3, H4, H5, H6, H7, H8, H9, ⟨%f13, H13⟩, ⟨%f14, H14⟩, ⟨%f15, H15⟩, ⟨%f16, H16⟩, ⟨%f17, H17⟩, ⟨%f19, H19⟩, ⟨%f21, H21⟩, H23, H24, H25⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H13]
  · unfold owns; iexists _; isplitr; swap; · iexact H13
    ipureintro; exact left13 H HB _
  isplitl [H14]
  · unfold owns; iexists _; isplitr; swap; · iexact H14
    ipureintro; exact left14 H HB _
  isplitl [H15]
  · unfold owns; iexists _; isplitr; swap; · iexact H15
    ipureintro; exact left15 H HB _
  isplitl [H16]
  · unfold owns; iexists _; isplitr; swap; · iexact H16
    ipureintro; exact left16 H HB _
  isplitl [H17]
  · unfold owns; iexists _; isplitr; swap; · iexact H17
    ipureintro; exact left17 H HB _
  isplitl [H19]
  · unfold owns; iexists _; isplitr; swap; · iexact H19
    ipureintro; exact left19 H HB _
  isplitl [H21]
  · unfold owns; iexists _; isplitr; swap; · iexact H21
    ipureintro; exact left21 H HB _
  isplitl [H23]; · iexact H23
  isplitl [H24]; · iexact H24
  iexact H25

end Cert.KernelIdeal.Val

end
-- ==== Proof.FirstVal.lean ====
/- What the first grid point leaves in the buffers it fills once. -/
module

public import proofs.«01_k».proof.Proof.RestVal
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Mla
variable {I : In} {i : grid0.Coords} {α : Type}
variable {c : Dev nD} {arg1 : Memref sig .tc .vmem S5x384x512 .fp8e4m3} {harg1 : arg1.IsWhole} {arg2 : Memref sig .tc .vmem S5x384 .f32} {harg2 : arg2.IsWhole} {arg3 : Memref sig .tc .vmem S5x64x384 .bf16} {harg3 : arg3.IsWhole} {arg4 : Memref sig .tc .vmem S5x2x384x128 .bf16} {harg4 : arg4.IsWhole} {arg5 : Memref sig .tc .vmem S5x2x64x384 .bf16} {harg5 : arg5.IsWhole} {arg6 : Memref sig .tc .vmem S2x512x128 .fp8e4m3} {harg6 : arg6.IsWhole} {arg7 : Memref sig .tc .vmem S20x128 .f32} {harg7 : arg7.IsWhole} {arg8 : Memref sig .tc .vmem S2x512x128 .fp8e4m3} {harg8 : arg8.IsWhole} {arg9 : Memref sig .tc .vmem S20x128 .f32} {harg9 : arg9.IsWhole} {arg10 : Memref sig .tc .vmem S13x20 .f32} {harg10 : arg10.IsWhole} {arg11 : Memref sig .tc .vmem S13x20 .f32} {harg11 : arg11.IsWhole} {arg12 : Memref sig .tc .vmem S13x20 .f32} {harg12 : arg12.IsWhole} {arg13 : Memref sig .tc .vmem S5x2x384x128 .bf16} {harg13 : arg13.IsWhole} {arg14 : Memref sig .tc .vmem S1x20 .f32} {harg14 : arg14.IsWhole} {arg15 : Memref sig .tc .vmem S1x20 .f32} {harg15 : arg15.IsWhole} {arg16 : Memref sig .tc .vmem S1x20 .f32} {harg16 : arg16.IsWhole} {arg17 : Memref sig .tc .vmem S5x2x192x384 .fp8e4m3} {harg17 : arg17.IsWhole} {arg18 : Memref sig .tc .vmem S1x20 .f32} {harg18 : arg18.IsWhole} {arg19 : Memref sig .tc .vmem S5x2x192x384 .fp8e4m3} {harg19 : arg19.IsWhole} {arg20 : Memref sig .tc .vmem S1x20 .f32} {harg20 : arg20.IsWhole} {arg21 : Memref sig .tc .vmem S5x2x384x128 .fp8e4m3} {harg21 : arg21.IsWhole} {arg22 : Memref sig .tc .vmem S1x20 .f32} {harg22 : arg22.IsWhole} {arg23 : Memref sig .tc .vmem S6x20x128 .f32} {harg23 : arg23.IsWhole} {arg24 : Memref sig .tc .vmem S5x384x128 .f32} {harg24 : arg24.IsWhole} {arg25 : Memref sig .tc .vmem S8x128 .f32} {harg25 : arg25.IsWhole}
variable (HB : Bounded I)

theorem z70 (y : S1x20.Idx) : k0_pay70 (F := Ideal) y = 0 := ofBits_zero
theorem z71 (y : S1x20.Idx) : k0_pay71 (F := Ideal) y = 0 := ofBits_zero
theorem z72 (y : S1x20.Idx) : k0_pay72 (F := Ideal) y = 0 := ofBits_zero
theorem emb8 (inb) (x : (Rect.unit (s := S8x128) ![0, 0] ![8, 128] inb).shape.Idx) : (Rect.unit (s := S8x128) ![0, 0] ![8, 128] inb).emb x = x :=
  funext fun a => Fin.ext ((embv (s := S8x128) ![0, 0] ![8, 128] inb x a).trans (by fin_cases a <;> exact Nat.zero_add _))

theorem first14 (f) : arg14.view.read (Elt Ideal) (arg14.view.writes (Elt Ideal) f (initRun (F := Ideal) (α := α) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (fun j => I.cs (j 0) (j 1)) (fun j => I.kr (j 0) (j 2) (j 1)) (fun j => I.qh (j 0) (j 1)) (fun j => I.kh (j 0) (j 1)) (fun j => I.vh (j 0) (j 1))).1) = fun _ => (0 : EReal) := by
  delta initRun
  exact (whole20 _ _ _ _ _).trans (funext fun y => z70 y)

theorem first15 (f) : arg15.view.read (Elt Ideal) (arg15.view.writes (Elt Ideal) f (initRun (F := Ideal) (α := α) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (fun j => I.cs (j 0) (j 1)) (fun j => I.kr (j 0) (j 2) (j 1)) (fun j => I.qh (j 0) (j 1)) (fun j => I.kh (j 0) (j 1)) (fun j => I.vh (j 0) (j 1))).2.1) = fun _ => (0 : EReal) := by
  delta initRun
  exact (whole20 _ _ _ _ _).trans (funext fun y => z71 y)

theorem first16 (f) : arg16.view.read (Elt Ideal) (arg16.view.writes (Elt Ideal) f (initRun (F := Ideal) (α := α) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (fun j => I.cs (j 0) (j 1)) (fun j => I.kr (j 0) (j 2) (j 1)) (fun j => I.qh (j 0) (j 1)) (fun j => I.kh (j 0) (j 1)) (fun j => I.vh (j 0) (j 1))).2.2.1) = fun _ => (0 : EReal) := by
  delta initRun
  exact (whole20 _ _ _ _ _).trans (funext fun y => z72 y)

include HB in
theorem first18 (f) : arg18.view.read (Elt Ideal) (arg18.view.writes (Elt Ideal) f (initRun (F := Ideal) (α := α) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (fun j => I.cs (j 0) (j 1)) (fun j => I.kr (j 0) (j 2) (j 1)) (fun j => I.qh (j 0) (j 1)) (fun j => I.kh (j 0) (j 1)) (fun j => I.vh (j 0) (j 1))).2.2.2.1) = G18 I := by
  delta initRun
  exact (whole20 _ _ _ _ _).trans (funext fun y => init18 HB y)

include HB in
theorem first20 (f) : arg20.view.read (Elt Ideal) (arg20.view.writes (Elt Ideal) f (initRun (F := Ideal) (α := α) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (fun j => I.cs (j 0) (j 1)) (fun j => I.kr (j 0) (j 2) (j 1)) (fun j => I.qh (j 0) (j 1)) (fun j => I.kh (j 0) (j 1)) (fun j => I.vh (j 0) (j 1))).2.2.2.2.1) = G20 I := by
  delta initRun
  exact (whole20 _ _ _ _ _).trans (funext fun y => init20 HB y)

include HB in
theorem first22 (f) : arg22.view.read (Elt Ideal) (arg22.view.writes (Elt Ideal) f (initRun (F := Ideal) (α := α) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (fun j => I.cs (j 0) (j 1)) (fun j => I.kr (j 0) (j 2) (j 1)) (fun j => I.qh (j 0) (j 1)) (fun j => I.kh (j 0) (j 1)) (fun j => I.vh (j 0) (j 1))).2.2.2.2.2.1) = G22 I := by
  delta initRun
  exact (whole20 _ _ _ _ _).trans (funext fun y => init22 HB y)

include HB in
theorem first23 (f) : arg23.view.read (Elt Ideal) (arg23.view.writes (Elt Ideal) f (initRun (F := Ideal) (α := α) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (fun j => I.cs (j 0) (j 1)) (fun j => I.kr (j 0) (j 2) (j 1)) (fun j => I.qh (j 0) (j 1)) (fun j => I.kh (j 0) (j 1)) (fun j => I.vh (j 0) (j 1))).2.2.2.2.2.2.1) = G23 I := by
  refine read_of_pieces _ _ _ _ ?_ (View.cover_of_tiledL _ ![1, 20, 128] (by rfl))
  delta initRun
  exact
    (List.forall_mem_cons.2 ⟨fun x => (init23_5 HB x).trans (G23_emb 5 _ rfl inb_S6x20x128_S1x20x128_5_0_0 x).symm,
    (List.forall_mem_cons.2 ⟨fun x => (init23_4 HB x).trans (G23_emb 4 _ rfl inb_S6x20x128_S1x20x128_4_0_0 x).symm,
    (List.forall_mem_cons.2 ⟨fun x => (init23_3 HB x).trans (G23_emb 3 _ rfl inb_S6x20x128_S1x20x128_3_0_0 x).symm,
    (List.forall_mem_cons.2 ⟨fun x => (init23_2 HB x).trans (G23_emb 2 _ rfl inb_S6x20x128_S1x20x128_2_0_0 x).symm,
    (List.forall_mem_cons.2 ⟨fun x => (init23_1 HB x).trans (G23_emb 1 _ rfl inb_S6x20x128_S1x20x128_1_0_0 x).symm,
    (List.forall_mem_cons.2 ⟨fun x => (init23_0 HB x).trans (G23_emb 0 _ rfl inb_S6x20x128_S1x20x128_0_0_0 x).symm, (fun _ h => absurd h List.not_mem_nil)⟩)⟩)⟩)⟩)⟩)⟩)

set_option maxHeartbeats 4000000 in
theorem first24 (f) : arg24.view.read (Elt Ideal) (arg24.view.writes (Elt Ideal) f (initRun (F := Ideal) (α := α) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (fun j => I.cs (j 0) (j 1)) (fun j => I.kr (j 0) (j 2) (j 1)) (fun j => I.qh (j 0) (j 1)) (fun j => I.kh (j 0) (j 1)) (fun j => I.vh (j 0) (j 1))).2.2.2.2.2.2.2.1) = G24 I := by
  refine read_of_pieces _ _ _ _ ?_ (View.cover_of_tiledL _ ![1, 128, 128] (by rfl))
  delta initRun
  exact
    (List.forall_mem_cons.2 ⟨fun x => (init24_4_256 x).trans (G24_emb 4 256 (by norm_num) inb_S5x384x128_S1x128x128_4_256_0 x).symm,
    (List.forall_mem_cons.2 ⟨fun x => (init24_4_128 x).trans (G24_emb 4 128 (by norm_num) inb_S5x384x128_S1x128x128_4_128_0 x).symm,
    (List.forall_mem_cons.2 ⟨fun x => (init24_4_0 x).trans (G24_emb 4 0 (by norm_num) inb_S5x384x128_S1x128x128_4_0_0 x).symm,
    (List.forall_mem_cons.2 ⟨fun x => (init24_3_256 x).trans (G24_emb 3 256 (by norm_num) inb_S5x384x128_S1x128x128_3_256_0 x).symm,
    (List.forall_mem_cons.2 ⟨fun x => (init24_3_128 x).trans (G24_emb 3 128 (by norm_num) inb_S5x384x128_S1x128x128_3_128_0 x).symm,
    (List.forall_mem_cons.2 ⟨fun x => (init24_3_0 x).trans (G24_emb 3 0 (by norm_num) inb_S5x384x128_S1x128x128_3_0_0 x).symm,
    (List.forall_mem_cons.2 ⟨fun x => (init24_2_256 x).trans (G24_emb 2 256 (by norm_num) inb_S5x384x128_S1x128x128_2_256_0 x).symm,
    (List.forall_mem_cons.2 ⟨fun x => (init24_2_128 x).trans (G24_emb 2 128 (by norm_num) inb_S5x384x128_S1x128x128_2_128_0 x).symm,
    (List.forall_mem_cons.2 ⟨fun x => (init24_2_0 x).trans (G24_emb 2 0 (by norm_num) inb_S5x384x128_S1x128x128_2_0_0 x).symm,
    (List.forall_mem_cons.2 ⟨fun x => (init24_1_256 x).trans (G24_emb 1 256 (by norm_num) inb_S5x384x128_S1x128x128_1_256_0 x).symm,
    (List.forall_mem_cons.2 ⟨fun x => (init24_1_128 x).trans (G24_emb 1 128 (by norm_num) inb_S5x384x128_S1x128x128_1_128_0 x).symm,
    (List.forall_mem_cons.2 ⟨fun x => (init24_1_0 x).trans (G24_emb 1 0 (by norm_num) inb_S5x384x128_S1x128x128_1_0_0 x).symm,
    (List.forall_mem_cons.2 ⟨fun x => (init24_0_256 x).trans (G24_emb 0 256 (by norm_num) inb_S5x384x128_S1x128x128_0_256_0 x).symm,
    (List.forall_mem_cons.2 ⟨fun x => (init24_0_128 x).trans (G24_emb 0 128 (by norm_num) inb_S5x384x128_S1x128x128_0_128_0 x).symm,
    (List.forall_mem_cons.2 ⟨fun x => (init24_0_0 x).trans (G24_emb 0 0 (by norm_num) inb_S5x384x128_S1x128x128_0_0_0 x).symm, (fun _ h => absurd h List.not_mem_nil)⟩)⟩)⟩)⟩)⟩)⟩)⟩)⟩)⟩)⟩)⟩)⟩)⟩)⟩)⟩)

theorem first25 (f) : arg25.view.read (Elt Ideal) (arg25.view.writes (Elt Ideal) f (initRun (F := Ideal) (α := α) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (fun j => I.cs (j 0) (j 1)) (fun j => I.kr (j 0) (j 2) (j 1)) (fun j => I.qh (j 0) (j 1)) (fun j => I.kh (j 0) (j 1)) (fun j => I.vh (j 0) (j 1))).2.2.2.2.2.2.2.2.1) = fun _ => krMax I := by
  refine read_of_pieces _ _ _ _ ?_ (View.cover_of_tiledL _ ![8, 128] (by rfl))
  delta initRun
  exact
    (List.forall_mem_cons.2 ⟨fun x => init25 x, (fun _ h => absurd h List.not_mem_nil)⟩)

end Cert.KernelIdeal.Val

end
-- ==== Proof.InitTriple.lean ====
/- The first point's preparation: what it leaves in the buffers it fills. -/
module

public import proofs.«01_k».proof.Proof.FirstVal
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Mla
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable {I : In} {i : grid0.Coords} {α : Type}
variable {c : Dev nD} {arg1 : Memref sig .tc .vmem S5x384x512 .fp8e4m3} {harg1 : arg1.IsWhole} {arg2 : Memref sig .tc .vmem S5x384 .f32} {harg2 : arg2.IsWhole} {arg3 : Memref sig .tc .vmem S5x64x384 .bf16} {harg3 : arg3.IsWhole} {arg4 : Memref sig .tc .vmem S5x2x384x128 .bf16} {harg4 : arg4.IsWhole} {arg5 : Memref sig .tc .vmem S5x2x64x384 .bf16} {harg5 : arg5.IsWhole} {arg6 : Memref sig .tc .vmem S2x512x128 .fp8e4m3} {harg6 : arg6.IsWhole} {arg7 : Memref sig .tc .vmem S20x128 .f32} {harg7 : arg7.IsWhole} {arg8 : Memref sig .tc .vmem S2x512x128 .fp8e4m3} {harg8 : arg8.IsWhole} {arg9 : Memref sig .tc .vmem S20x128 .f32} {harg9 : arg9.IsWhole} {arg10 : Memref sig .tc .vmem S13x20 .f32} {harg10 : arg10.IsWhole} {arg11 : Memref sig .tc .vmem S13x20 .f32} {harg11 : arg11.IsWhole} {arg12 : Memref sig .tc .vmem S13x20 .f32} {harg12 : arg12.IsWhole} {arg13 : Memref sig .tc .vmem S5x2x384x128 .bf16} {harg13 : arg13.IsWhole} {arg14 : Memref sig .tc .vmem S1x20 .f32} {harg14 : arg14.IsWhole} {arg15 : Memref sig .tc .vmem S1x20 .f32} {harg15 : arg15.IsWhole} {arg16 : Memref sig .tc .vmem S1x20 .f32} {harg16 : arg16.IsWhole} {arg17 : Memref sig .tc .vmem S5x2x192x384 .fp8e4m3} {harg17 : arg17.IsWhole} {arg18 : Memref sig .tc .vmem S1x20 .f32} {harg18 : arg18.IsWhole} {arg19 : Memref sig .tc .vmem S5x2x192x384 .fp8e4m3} {harg19 : arg19.IsWhole} {arg20 : Memref sig .tc .vmem S1x20 .f32} {harg20 : arg20.IsWhole} {arg21 : Memref sig .tc .vmem S5x2x384x128 .fp8e4m3} {harg21 : arg21.IsWhole} {arg22 : Memref sig .tc .vmem S1x20 .f32} {harg22 : arg22.IsWhole} {arg23 : Memref sig .tc .vmem S6x20x128 .f32} {harg23 : arg23.IsWhole} {arg24 : Memref sig .tc .vmem S5x384x128 .f32} {harg24 : arg24.IsWhole} {arg25 : Memref sig .tc .vmem S8x128 .f32} {harg25 : arg25.IsWhole}
variable (HB : Bounded I)
include HB

/-- The first point's preparation: what it leaves in the buffers it fills. -/
theorem init_triple (rest : Prog (TpuEff nD τ sig (Elt Ideal) Λ₀ .tc) α) (E : Set ℕ) (K : α → sProp 𝕄) :
    iprop(owns (c : Thread nD τ) arg2 fullShare (fun j => I.cs (j 0) (j 1)) ∗ owns (c : Thread nD τ) arg3 fullShare (fun j => I.kr (j 0) (j 2) (j 1)) ∗ owns (c : Thread nD τ) arg10 fullShare (fun j => I.qh (j 0) (j 1)) ∗ owns (c : Thread nD τ) arg11 fullShare (fun j => I.kh (j 0) (j 1)) ∗ owns (c : Thread nD τ) arg12 fullShare (fun j => I.vh (j 0) (j 1)) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg18 fullShare d) ∗ (∃ d, owns (c : Thread nD τ) arg20 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (iprop(owns (c : Thread nD τ) arg2 fullShare (fun j => I.cs (j 0) (j 1)) ∗ owns (c : Thread nD τ) arg3 fullShare (fun j => I.kr (j 0) (j 2) (j 1)) ∗ owns (c : Thread nD τ) arg10 fullShare (fun j => I.qh (j 0) (j 1)) ∗ owns (c : Thread nD τ) arg11 fullShare (fun j => I.kh (j 0) (j 1)) ∗ owns (c : Thread nD τ) arg12 fullShare (fun j => I.vh (j 0) (j 1)) ∗ owns (c : Thread nD τ) arg14 fullShare (fun _ => (0 : EReal)) ∗ owns (c : Thread nD τ) arg15 fullShare (fun _ => (0 : EReal)) ∗ owns (c : Thread nD τ) arg16 fullShare (fun _ => (0 : EReal)) ∗ owns (c : Thread nD τ) arg18 fullShare (G18 I) ∗ owns (c : Thread nD τ) arg20 fullShare (G20 I) ∗ owns (c : Thread nD τ) arg22 fullShare (G22 I) ∗ owns (c : Thread nD τ) arg23 fullShare (G23 I) ∗ owns (c : Thread nD τ) arg24 fullShare (G24 I) ∗ owns (c : Thread nD τ) arg25 fullShare (fun _ => krMax I)) -∗ wp frame (wpE (defs₀ (F := Ideal)) Variants.none c none) E rest K))
      ⊢ wp frame (wpE (defs₀ (F := Ideal)) Variants.none c none) E (initThen (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 rest) K := by
  refine BIBase.Entails.trans ?_ ((initRun (F := Ideal) (α := α) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (fun j => I.cs (j 0) (j 1)) (fun j => I.kr (j 0) (j 2) (j 1)) (fun j => I.qh (j 0) (j 1)) (fun j => I.kh (j 0) (j 1)) (fun j => I.vh (j 0) (j 1))).2.2.2.2.2.2.2.2.2 rest E K)
  iintro ⟨H2, H3, H10, H11, H12, H14, H15, H16, H18, H20, H22, H23, H24, H25, Hk⟩
  isplitl [H2]; · iexact H2
  isplitl [H3]; · iexact H3
  isplitl [H10]; · iexact H10
  isplitl [H11]; · iexact H11
  isplitl [H12]; · iexact H12
  isplitl [H14]; · iexact H14
  isplitl [H15]; · iexact H15
  isplitl [H16]; · iexact H16
  isplitl [H18]; · iexact H18
  isplitl [H20]; · iexact H20
  isplitl [H22]; · iexact H22
  isplitl [H23]; · iexact H23
  isplitl [H24]; · iexact H24
  isplitl [H25]; · iexact H25
  iintro ⟨H2, H3, H10, H11, H12, ⟨%f14, H14⟩, ⟨%f15, H15⟩, ⟨%f16, H16⟩, ⟨%f18, H18⟩, ⟨%f20, H20⟩, ⟨%f22, H22⟩, ⟨%f23, H23⟩, ⟨%f24, H24⟩, ⟨%f25, H25⟩⟩
  iapply Hk
  isplitl [H2]; · iexact H2
  isplitl [H3]; · iexact H3
  isplitl [H10]; · iexact H10
  isplitl [H11]; · iexact H11
  isplitl [H12]; · iexact H12
  isplitl [H14]
  · unfold owns; iexists _; isplitr; swap; · iexact H14
    ipureintro; exact first14 _
  isplitl [H15]
  · unfold owns; iexists _; isplitr; swap; · iexact H15
    ipureintro; exact first15 _
  isplitl [H16]
  · unfold owns; iexists _; isplitr; swap; · iexact H16
    ipureintro; exact first16 _
  isplitl [H18]
  · unfold owns; iexists _; isplitr; swap; · iexact H18
    ipureintro; exact first18 HB _
  isplitl [H20]
  · unfold owns; iexists _; isplitr; swap; · iexact H20
    ipureintro; exact first20 HB _
  isplitl [H22]
  · unfold owns; iexists _; isplitr; swap; · iexact H22
    ipureintro; exact first22 HB _
  isplitl [H23]
  · unfold owns; iexists _; isplitr; swap; · iexact H23
    ipureintro; exact first23 HB _
  isplitl [H24]
  · unfold owns; iexists _; isplitr; swap; · iexact H24
    ipureintro; exact first24 _
  unfold owns; iexists _; isplitr; swap; · iexact H25
  ipureintro; exact first25 _

end Cert.KernelIdeal.Val

end
-- ==== Proof.KerFrame.lean ====
/- The kernel run over all its points: what every buffer holds after each. -/
module

public import proofs.«01_k».proof.Proof.Blocks
public import proofs.«01_k».proof.Proof.RestTriple
public import proofs.«01_k».proof.Proof.InitTriple
public import Idealize.ShloMosaic.Lib.Claim
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Mla
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- A row of absolute maxima after `n` points: the heads met so far, nothing yet for the others. -/
def am (f : Fin 20 → EReal) (n : ℕ) : S1x20.Idx → EReal := fun y => if (y 1).val < 2 * n then f (y 1) else 0

theorem am_zero (f : Fin 20 → EReal) : am f 0 = fun _ => (0 : EReal) := funext fun y => if_neg (by omega)
theorem am_full (f : Fin 20 → EReal) : am f 10 = fun y => f (y 1) := funext fun y => if_pos (y 1).isLt
theorem coord_val (t : Fin cfg0.N) : (grid0.coords t 0).val = t.val := by
  have ht : t.val < 10 := lt_of_lt_of_eq t.isLt (show cfg0.N = 10 from N_0)
  have e0 : (grid0.coords t 0).val = t.val / 1 % 10 := Pipeline.Grid.coords_val t 0 (by decide) rfl
  omega
theorem am_succ (f : Fin 20 → EReal) (t : Fin cfg0.N) : upd (grid0.coords t) f (am f t.val) = am f (t.val + 1) := by
  have e := coord_val t
  funext y
  unfold upd am
  by_cases h1 : (y 1).val = 2 * (grid0.coords t 0).val + 1
  · rw [if_pos h1, if_pos (by omega)]
    exact congrArg f (Fin.ext (show 2 * (grid0.coords t 0).val + 1 = (y 1).val from h1.symm))
  · rw [if_neg h1]
    by_cases h0 : (y 1).val = 2 * (grid0.coords t 0).val
    · rw [if_pos h0, if_pos (by omega)]
      exact congrArg f (Fin.ext (show 2 * (grid0.coords t 0).val + 0 = (y 1).val from h0.symm))
    · rw [if_neg h0]
      by_cases h2 : (y 1).val < 2 * t.val
      · rw [if_pos h2, if_pos (by omega)]
      · rw [if_neg h2, if_neg (by omega)]

/-- What the kernel's own buffers hold between points: anything before the first, the tables after it. -/
def vPhi (c : Dev nD) : (n : ℕ) → sProp 𝕄
  | 0 => Pipeline.ΦA spec0 c
  | _ + 1 => iprop(iprop(owns (c : Thread nD τ) scM0_0 fullShare (G23 (inOf m c)) ∗ owns (c : Thread nD τ) scM0_1 fullShare (G24 (inOf m c)) ∗ owns (c : Thread nD τ) scM0_2 fullShare (fun _ => krMax (inOf m c))) ∗ (∃ r, prngReg c r))
theorem vPhi_zero (c : Dev nD) (n : ℕ) (hz : n = 0) : vPhi m c n = Pipeline.ΦA spec0 c := by subst hz; rfl
theorem vPhi_pos (c : Dev nD) (n : ℕ) (hz : n ≠ 0) : vPhi m c n = iprop(iprop(owns (c : Thread nD τ) scM0_0 fullShare (G23 (inOf m c)) ∗ owns (c : Thread nD τ) scM0_1 fullShare (G24 (inOf m c)) ∗ owns (c : Thread nD τ) scM0_2 fullShare (fun _ => krMax (inOf m c))) ∗ (∃ r, prngReg c r)) := by
  cases n with
  | zero => exact absurd rfl hz
  | succ n => rfl

/-- What every buffer holds after each point. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => G13 (inOf m c) (grid0.coords t)
    | ⟨13, _⟩ => am (qa (inOf m c)) (t.val + 1)
    | ⟨14, _⟩ => am (ka (inOf m c)) (t.val + 1)
    | ⟨15, _⟩ => am (va (inOf m c)) (t.val + 1)
    | ⟨16, _⟩ => G17 (inOf m c) (grid0.coords t)
    | ⟨17, _⟩ => G18 (inOf m c)
    | ⟨18, _⟩ => G19 (inOf m c) (grid0.coords t)
    | ⟨19, _⟩ => G20 (inOf m c)
    | ⟨20, _⟩ => G21 (inOf m c) (grid0.coords t)
    | ⟨21, _⟩ => G22 (inOf m c)
    | ⟨_ + 22, h⟩ => absurd h (Nat.not_lt.2 (Nat.le_add_left _ _))
  Φ t := vPhi m c t.val
  q _ := fullShare
  owed _ := 0

theorem vA_eq (c : Dev nD) (w : Fin cfg0.W) : (vdats m 0 c).A w = V m c (Pipeline.arrRef spec0 w) := by
  dsimp only [vdats]
theorem vPhi_eq (c : Dev nD) (t : Fin (cfg0.N + 1)) : (vdats m 0 c).Φ t = vPhi m c t.val := by
  dsimp only [vdats]
theorem va_0 (c : Dev nD) (t : Fin cfg0.N) : (vdats m 0 c).after 0 t = iblk m c 0 t := by dsimp only [vdats]
theorem va_1 (c : Dev nD) (t : Fin cfg0.N) : (vdats m 0 c).after 1 t = iblk m c 1 t := by dsimp only [vdats]
theorem va_2 (c : Dev nD) (t : Fin cfg0.N) : (vdats m 0 c).after 2 t = iblk m c 2 t := by dsimp only [vdats]
theorem va_3 (c : Dev nD) (t : Fin cfg0.N) : (vdats m 0 c).after 3 t = iblk m c 3 t := by dsimp only [vdats]
theorem va_4 (c : Dev nD) (t : Fin cfg0.N) : (vdats m 0 c).after 4 t = iblk m c 4 t := by dsimp only [vdats]
theorem va_5 (c : Dev nD) (t : Fin cfg0.N) : (vdats m 0 c).after 5 t = iblk m c 5 t := by dsimp only [vdats]
theorem va_6 (c : Dev nD) (t : Fin cfg0.N) : (vdats m 0 c).after 6 t = iblk m c 6 t := by dsimp only [vdats]
theorem va_7 (c : Dev nD) (t : Fin cfg0.N) : (vdats m 0 c).after 7 t = iblk m c 7 t := by dsimp only [vdats]
theorem va_8 (c : Dev nD) (t : Fin cfg0.N) : (vdats m 0 c).after 8 t = iblk m c 8 t := by dsimp only [vdats]
theorem va_9 (c : Dev nD) (t : Fin cfg0.N) : (vdats m 0 c).after 9 t = iblk m c 9 t := by dsimp only [vdats]
theorem va_10 (c : Dev nD) (t : Fin cfg0.N) : (vdats m 0 c).after 10 t = iblk m c 10 t := by dsimp only [vdats]
theorem va_11 (c : Dev nD) (t : Fin cfg0.N) : (vdats m 0 c).after 11 t = iblk m c 11 t := by dsimp only [vdats]
theorem va_12 (c : Dev nD) (t : Fin cfg0.N) : (vdats m 0 c).after 12 t = G13 (inOf m c) (grid0.coords t) := by dsimp only [vdats]
theorem va_13 (c : Dev nD) (t : Fin cfg0.N) : (vdats m 0 c).after 13 t = am (qa (inOf m c)) (t.val + 1) := by dsimp only [vdats]
theorem va_14 (c : Dev nD) (t : Fin cfg0.N) : (vdats m 0 c).after 14 t = am (ka (inOf m c)) (t.val + 1) := by dsimp only [vdats]
theorem va_15 (c : Dev nD) (t : Fin cfg0.N) : (vdats m 0 c).after 15 t = am (va (inOf m c)) (t.val + 1) := by dsimp only [vdats]
theorem va_16 (c : Dev nD) (t : Fin cfg0.N) : (vdats m 0 c).after 16 t = G17 (inOf m c) (grid0.coords t) := by dsimp only [vdats]
theorem va_17 (c : Dev nD) (t : Fin cfg0.N) : (vdats m 0 c).after 17 t = G18 (inOf m c) := by dsimp only [vdats]
theorem va_18 (c : Dev nD) (t : Fin cfg0.N) : (vdats m 0 c).after 18 t = G19 (inOf m c) (grid0.coords t) := by dsimp only [vdats]
theorem va_19 (c : Dev nD) (t : Fin cfg0.N) : (vdats m 0 c).after 19 t = G20 (inOf m c) := by dsimp only [vdats]
theorem va_20 (c : Dev nD) (t : Fin cfg0.N) : (vdats m 0 c).after 20 t = G21 (inOf m c) (grid0.coords t) := by dsimp only [vdats]
theorem va_21 (c : Dev nD) (t : Fin cfg0.N) : (vdats m 0 c).after 21 t = G22 (inOf m c) := by dsimp only [vdats]
theorem vb_0 (c : Dev nD) (t : Fin cfg0.N) (d) : (vdats m 0 c).before 0 t d = iblk m c 0 t :=
  before0_0_of m (vdats m 0 c) (vA_eq m c 0) (va_0 m c) t d
theorem vb_1 (c : Dev nD) (t : Fin cfg0.N) (d) : (vdats m 0 c).before 1 t d = iblk m c 1 t :=
  before0_1_of m (vdats m 0 c) (vA_eq m c 1) (va_1 m c) t d
theorem vb_2 (c : Dev nD) (t : Fin cfg0.N) (d) : (vdats m 0 c).before 2 t d = iblk m c 2 t :=
  before0_2_of m (vdats m 0 c) (vA_eq m c 2) (va_2 m c) t d
theorem vb_3 (c : Dev nD) (t : Fin cfg0.N) (d) : (vdats m 0 c).before 3 t d = iblk m c 3 t :=
  before0_3_of m (vdats m 0 c) (vA_eq m c 3) (va_3 m c) t d
theorem vb_4 (c : Dev nD) (t : Fin cfg0.N) (d) : (vdats m 0 c).before 4 t d = iblk m c 4 t :=
  before0_4_of m (vdats m 0 c) (vA_eq m c 4) (va_4 m c) t d
theorem vb_5 (c : Dev nD) (t : Fin cfg0.N) (d) : (vdats m 0 c).before 5 t d = iblk m c 5 t :=
  before0_5_of m (vdats m 0 c) (vA_eq m c 5) (va_5 m c) t d
theorem vb_6 (c : Dev nD) (t : Fin cfg0.N) (d) : (vdats m 0 c).before 6 t d = iblk m c 6 t :=
  before0_6_of m (vdats m 0 c) (vA_eq m c 6) (va_6 m c) t d
theorem vb_7 (c : Dev nD) (t : Fin cfg0.N) (d) : (vdats m 0 c).before 7 t d = iblk m c 7 t :=
  before0_7_of m (vdats m 0 c) (vA_eq m c 7) (va_7 m c) t d
theorem vb_8 (c : Dev nD) (t : Fin cfg0.N) (d) : (vdats m 0 c).before 8 t d = iblk m c 8 t :=
  before0_8_of m (vdats m 0 c) (vA_eq m c 8) (va_8 m c) t d
theorem vb_9 (c : Dev nD) (t : Fin cfg0.N) (d) : (vdats m 0 c).before 9 t d = iblk m c 9 t :=
  before0_9_of m (vdats m 0 c) (vA_eq m c 9) (va_9 m c) t d
theorem vb_10 (c : Dev nD) (t : Fin cfg0.N) (d) : (vdats m 0 c).before 10 t d = iblk m c 10 t :=
  before0_10_of m (vdats m 0 c) (vA_eq m c 10) (va_10 m c) t d
theorem vb_11 (c : Dev nD) (t : Fin cfg0.N) (d) : (vdats m 0 c).before 11 t d = iblk m c 11 t :=
  before0_11_of m (vdats m 0 c) (vA_eq m c 11) (va_11 m c) t d
theorem vb_13 (c : Dev nD) (t : Fin cfg0.N) (h0 : ¬ t.val = 0) (d) : (vdats m 0 c).before 13 t d = am (qa (inOf m c)) t.val := by
  have hN : t.val < 10 := lt_of_lt_of_eq t.isLt (show cfg0.N = 10 from N_0)
  rw [Dat.before_out_kept _ 13 rfl t (by omega) (Bool.eq_false_iff.mpr fun h => by have := (flush0_13 _).mp h; dsimp only at this; omega)
    (fun _ => rfl) (fun _ _ => rfl)]
  dsimp only [vdats]
  rw [show t.val - 1 + 1 = t.val from by omega]
theorem vb_14 (c : Dev nD) (t : Fin cfg0.N) (h0 : ¬ t.val = 0) (d) : (vdats m 0 c).before 14 t d = am (ka (inOf m c)) t.val := by
  have hN : t.val < 10 := lt_of_lt_of_eq t.isLt (show cfg0.N = 10 from N_0)
  rw [Dat.before_out_kept _ 14 rfl t (by omega) (Bool.eq_false_iff.mpr fun h => by have := (flush0_14 _).mp h; dsimp only at this; omega)
    (fun _ => rfl) (fun _ _ => rfl)]
  dsimp only [vdats]
  rw [show t.val - 1 + 1 = t.val from by omega]
theorem vb_15 (c : Dev nD) (t : Fin cfg0.N) (h0 : ¬ t.val = 0) (d) : (vdats m 0 c).before 15 t d = am (va (inOf m c)) t.val := by
  have hN : t.val < 10 := lt_of_lt_of_eq t.isLt (show cfg0.N = 10 from N_0)
  rw [Dat.before_out_kept _ 15 rfl t (by omega) (Bool.eq_false_iff.mpr fun h => by have := (flush0_15 _).mp h; dsimp only at this; omega)
    (fun _ => rfl) (fun _ _ => rfl)]
  dsimp only [vdats]
  rw [show t.val - 1 + 1 = t.val from by omega]

theorem idle_17_zero (t : Fin cfg0.N) (h : t.val = 0) : cfg0.idle 17 (cfg0.grid.coords t) = false := by
  show (!(k0_cond1 (grid0.coords t) == 1#1)) = false
  rw [show k0_cond1 (grid0.coords t) = 1#1 from (hcond0_0 t).mpr (by omega)]; rfl
theorem idle_17_pos (t : Fin cfg0.N) (h : ¬ t.val = 0) : cfg0.idle 17 (cfg0.grid.coords t) = true := by
  have hN : t.val < 10 := lt_of_lt_of_eq t.isLt (show cfg0.N = 10 from N_0)
  show (!(k0_cond1 (grid0.coords t) == 1#1)) = true
  rw [beq_eq_false_iff_ne.mpr (fun e : k0_cond1 (grid0.coords t) = 1#1 => h (by have := (hcond0_0 t).mp e; omega))]; rfl
theorem vb'_17 (c : Dev nD) : ∀ (n : ℕ) (hn : n < cfg0.N), n ≠ 0 → ∀ d, (vdats m 0 c).before 17 ⟨n, hn⟩ d = G18 (inOf m c)
  | 0, _, h, _ => absurd rfl h
  | n + 1, hn, _, d => by
    have hn' : n + 1 < 10 := lt_of_lt_of_eq hn (show cfg0.N = 10 from N_0)
    have hfl : ¬ (cfg0.win 17).flush ⟨n, Nat.lt_of_succ_lt hn⟩ = true := fun h => by have := (flush0_17 _).mp h; dsimp only at this; omega
    refine (Dat.before_of_pos _ 17 ⟨n + 1, hn⟩ (Nat.succ_ne_zero n) (Pipeline.Window.fetch_out _ rfl _) d).trans ?_
    refine (if_neg hfl).trans ?_
    show (vdats m 0 c).left 17 ⟨n, Nat.lt_of_succ_lt hn⟩ d = _
    unfold Dat.left
    by_cases h : n = 0
    · rw [idle_17_zero ⟨n, Nat.lt_of_succ_lt hn⟩ h]
      exact va_17 m c ⟨n, Nat.lt_of_succ_lt hn⟩
    · rw [idle_17_pos ⟨n, Nat.lt_of_succ_lt hn⟩ h]
      exact vb'_17 c n _ h d
theorem vb_17 (c : Dev nD) (t : Fin cfg0.N) (h0 : ¬ t.val = 0) (d) : (vdats m 0 c).before 17 t d = G18 (inOf m c) := vb'_17 m c t.val t.isLt h0 d

/-- What a point returns of window 17: at a point that does not store it, what it was. -/
def vLv_17 (c : Dev nD) (t : Fin cfg0.N) : sProp 𝕄 :=
  match cfg0.idle 17 (cfg0.grid.coords t) with
  | true =>
    match (cfg0.win 17).flush t with
    | false => iprop(∃ d, owns (c : Thread nD τ) (ms0_17 t) fullShare ((vdats m 0 c).before 17 t d))
    | true => owns (c : Thread nD τ) (ms0_17 t) fullShare ((vdats m 0 c).after 17 t)
  | false => owns (c : Thread nD τ) (ms0_17 t) fullShare ((vdats m 0 c).after 17 t)
theorem lv_17 (c : Dev nD) (t : Fin cfg0.N) : owns (c : Thread nD τ) (ms0_17 t) fullShare (G18 (inOf m c)) ⊢ vLv_17 m c t := by
  unfold vLv_17
  by_cases h : t.val = 0
  · rw [idle_17_zero t h]
    dsimp only
    rw [va_17]
  · rw [idle_17_pos t h]
    cases hf : (cfg0.win 17).flush t with
    | true =>
      dsimp only
      rw [va_17]
    | false =>
      dsimp only
      simp only [vb_17 m c t h]
      iintro H
      iexists (G18 (inOf m c))
      iexact H

theorem idle_19_zero (t : Fin cfg0.N) (h : t.val = 0) : cfg0.idle 19 (cfg0.grid.coords t) = false := by
  show (!(k0_cond1 (grid0.coords t) == 1#1)) = false
  rw [show k0_cond1 (grid0.coords t) = 1#1 from (hcond0_0 t).mpr (by omega)]; rfl
theorem idle_19_pos (t : Fin cfg0.N) (h : ¬ t.val = 0) : cfg0.idle 19 (cfg0.grid.coords t) = true := by
  have hN : t.val < 10 := lt_of_lt_of_eq t.isLt (show cfg0.N = 10 from N_0)
  show (!(k0_cond1 (grid0.coords t) == 1#1)) = true
  rw [beq_eq_false_iff_ne.mpr (fun e : k0_cond1 (grid0.coords t) = 1#1 => h (by have := (hcond0_0 t).mp e; omega))]; rfl
theorem vb'_19 (c : Dev nD) : ∀ (n : ℕ) (hn : n < cfg0.N), n ≠ 0 → ∀ d, (vdats m 0 c).before 19 ⟨n, hn⟩ d = G20 (inOf m c)
  | 0, _, h, _ => absurd rfl h
  | n + 1, hn, _, d => by
    have hn' : n + 1 < 10 := lt_of_lt_of_eq hn (show cfg0.N = 10 from N_0)
    have hfl : ¬ (cfg0.win 19).flush ⟨n, Nat.lt_of_succ_lt hn⟩ = true := fun h => by have := (flush0_19 _).mp h; dsimp only at this; omega
    refine (Dat.before_of_pos _ 19 ⟨n + 1, hn⟩ (Nat.succ_ne_zero n) (Pipeline.Window.fetch_out _ rfl _) d).trans ?_
    refine (if_neg hfl).trans ?_
    show (vdats m 0 c).left 19 ⟨n, Nat.lt_of_succ_lt hn⟩ d = _
    unfold Dat.left
    by_cases h : n = 0
    · rw [idle_19_zero ⟨n, Nat.lt_of_succ_lt hn⟩ h]
      exact va_19 m c ⟨n, Nat.lt_of_succ_lt hn⟩
    · rw [idle_19_pos ⟨n, Nat.lt_of_succ_lt hn⟩ h]
      exact vb'_19 c n _ h d
theorem vb_19 (c : Dev nD) (t : Fin cfg0.N) (h0 : ¬ t.val = 0) (d) : (vdats m 0 c).before 19 t d = G20 (inOf m c) := vb'_19 m c t.val t.isLt h0 d

/-- What a point returns of window 19: at a point that does not store it, what it was. -/
def vLv_19 (c : Dev nD) (t : Fin cfg0.N) : sProp 𝕄 :=
  match cfg0.idle 19 (cfg0.grid.coords t) with
  | true =>
    match (cfg0.win 19).flush t with
    | false => iprop(∃ d, owns (c : Thread nD τ) (ms0_19 t) fullShare ((vdats m 0 c).before 19 t d))
    | true => owns (c : Thread nD τ) (ms0_19 t) fullShare ((vdats m 0 c).after 19 t)
  | false => owns (c : Thread nD τ) (ms0_19 t) fullShare ((vdats m 0 c).after 19 t)
theorem lv_19 (c : Dev nD) (t : Fin cfg0.N) : owns (c : Thread nD τ) (ms0_19 t) fullShare (G20 (inOf m c)) ⊢ vLv_19 m c t := by
  unfold vLv_19
  by_cases h : t.val = 0
  · rw [idle_19_zero t h]
    dsimp only
    rw [va_19]
  · rw [idle_19_pos t h]
    cases hf : (cfg0.win 19).flush t with
    | true =>
      dsimp only
      rw [va_19]
    | false =>
      dsimp only
      simp only [vb_19 m c t h]
      iintro H
      iexists (G20 (inOf m c))
      iexact H

theorem idle_21_zero (t : Fin cfg0.N) (h : t.val = 0) : cfg0.idle 21 (cfg0.grid.coords t) = false := by
  show (!(k0_cond1 (grid0.coords t) == 1#1)) = false
  rw [show k0_cond1 (grid0.coords t) = 1#1 from (hcond0_0 t).mpr (by omega)]; rfl
theorem idle_21_pos (t : Fin cfg0.N) (h : ¬ t.val = 0) : cfg0.idle 21 (cfg0.grid.coords t) = true := by
  have hN : t.val < 10 := lt_of_lt_of_eq t.isLt (show cfg0.N = 10 from N_0)
  show (!(k0_cond1 (grid0.coords t) == 1#1)) = true
  rw [beq_eq_false_iff_ne.mpr (fun e : k0_cond1 (grid0.coords t) = 1#1 => h (by have := (hcond0_0 t).mp e; omega))]; rfl
theorem vb'_21 (c : Dev nD) : ∀ (n : ℕ) (hn : n < cfg0.N), n ≠ 0 → ∀ d, (vdats m 0 c).before 21 ⟨n, hn⟩ d = G22 (inOf m c)
  | 0, _, h, _ => absurd rfl h
  | n + 1, hn, _, d => by
    have hn' : n + 1 < 10 := lt_of_lt_of_eq hn (show cfg0.N = 10 from N_0)
    have hfl : ¬ (cfg0.win 21).flush ⟨n, Nat.lt_of_succ_lt hn⟩ = true := fun h => by have := (flush0_21 _).mp h; dsimp only at this; omega
    refine (Dat.before_of_pos _ 21 ⟨n + 1, hn⟩ (Nat.succ_ne_zero n) (Pipeline.Window.fetch_out _ rfl _) d).trans ?_
    refine (if_neg hfl).trans ?_
    show (vdats m 0 c).left 21 ⟨n, Nat.lt_of_succ_lt hn⟩ d = _
    unfold Dat.left
    by_cases h : n = 0
    · rw [idle_21_zero ⟨n, Nat.lt_of_succ_lt hn⟩ h]
      exact va_21 m c ⟨n, Nat.lt_of_succ_lt hn⟩
    · rw [idle_21_pos ⟨n, Nat.lt_of_succ_lt hn⟩ h]
      exact vb'_21 c n _ h d
theorem vb_21 (c : Dev nD) (t : Fin cfg0.N) (h0 : ¬ t.val = 0) (d) : (vdats m 0 c).before 21 t d = G22 (inOf m c) := vb'_21 m c t.val t.isLt h0 d

/-- What a point returns of window 21: at a point that does not store it, what it was. -/
def vLv_21 (c : Dev nD) (t : Fin cfg0.N) : sProp 𝕄 :=
  match cfg0.idle 21 (cfg0.grid.coords t) with
  | true =>
    match (cfg0.win 21).flush t with
    | false => iprop(∃ d, owns (c : Thread nD τ) (ms0_21 t) fullShare ((vdats m 0 c).before 21 t d))
    | true => owns (c : Thread nD τ) (ms0_21 t) fullShare ((vdats m 0 c).after 21 t)
  | false => owns (c : Thread nD τ) (ms0_21 t) fullShare ((vdats m 0 c).after 21 t)
theorem lv_21 (c : Dev nD) (t : Fin cfg0.N) : owns (c : Thread nD τ) (ms0_21 t) fullShare (G22 (inOf m c)) ⊢ vLv_21 m c t := by
  unfold vLv_21
  by_cases h : t.val = 0
  · rw [idle_21_zero t h]
    dsimp only
    rw [va_21]
  · rw [idle_21_pos t h]
    cases hf : (cfg0.win 21).flush t with
    | true =>
      dsimp only
      rw [va_21]
    | false =>
      dsimp only
      simp only [vb_21 m c t h]
      iintro H
      iexists (G22 (inOf m c))
      iexact H

/-- What the body is called with at point `t`, -/
def vPre (c : Dev nD) (t : Fin cfg0.N) : sProp 𝕄 :=
  iprop((vdats m 0 c).Φ t.castSucc ∗ (vdats m 0 c).owesAt () t.castSucc
    ∗ (∃ d, owns (c : Thread nD τ) (ms0_0 t) fullShare ((vdats m 0 c).before 0 t d))
    ∗ (∃ d, owns (c : Thread nD τ) (ms0_1 t) fullShare ((vdats m 0 c).before 1 t d))
    ∗ (∃ d, owns (c : Thread nD τ) (ms0_2 t) fullShare ((vdats m 0 c).before 2 t d))
    ∗ (∃ d, owns (c : Thread nD τ) (ms0_3 t) fullShare ((vdats m 0 c).before 3 t d))
    ∗ (∃ d, owns (c : Thread nD τ) (ms0_4 t) fullShare ((vdats m 0 c).before 4 t d))
    ∗ (∃ d, owns (c : Thread nD τ) (ms0_5 t) fullShare ((vdats m 0 c).before 5 t d))
    ∗ (∃ d, owns (c : Thread nD τ) (ms0_6 t) fullShare ((vdats m 0 c).before 6 t d))
    ∗ (∃ d, owns (c : Thread nD τ) (ms0_7 t) fullShare ((vdats m 0 c).before 7 t d))
    ∗ (∃ d, owns (c : Thread nD τ) (ms0_8 t) fullShare ((vdats m 0 c).before 8 t d))
    ∗ (∃ d, owns (c : Thread nD τ) (ms0_9 t) fullShare ((vdats m 0 c).before 9 t d))
    ∗ (∃ d, owns (c : Thread nD τ) (ms0_10 t) fullShare ((vdats m 0 c).before 10 t d))
    ∗ (∃ d, owns (c : Thread nD τ) (ms0_11 t) fullShare ((vdats m 0 c).before 11 t d))
    ∗ (∃ d, owns (c : Thread nD τ) (ms0_12 t) fullShare ((vdats m 0 c).before 12 t d))
    ∗ (∃ d, owns (c : Thread nD τ) (ms0_13 t) fullShare ((vdats m 0 c).before 13 t d))
    ∗ (∃ d, owns (c : Thread nD τ) (ms0_14 t) fullShare ((vdats m 0 c).before 14 t d))
    ∗ (∃ d, owns (c : Thread nD τ) (ms0_15 t) fullShare ((vdats m 0 c).before 15 t d))
    ∗ (∃ d, owns (c : Thread nD τ) (ms0_16 t) fullShare ((vdats m 0 c).before 16 t d))
    ∗ (∃ d, owns (c : Thread nD τ) (ms0_17 t) fullShare ((vdats m 0 c).before 17 t d))
    ∗ (∃ d, owns (c : Thread nD τ) (ms0_18 t) fullShare ((vdats m 0 c).before 18 t d))
    ∗ (∃ d, owns (c : Thread nD τ) (ms0_19 t) fullShare ((vdats m 0 c).before 19 t d))
    ∗ (∃ d, owns (c : Thread nD τ) (ms0_20 t) fullShare ((vdats m 0 c).before 20 t d))
    ∗ (∃ d, owns (c : Thread nD τ) (ms0_21 t) fullShare ((vdats m 0 c).before 21 t d)))
/-- and what it returns. -/
def vPost (c : Dev nD) (t : Fin cfg0.N) : sProp 𝕄 :=
  iprop((vdats m 0 c).Φ t.succ ∗ (vdats m 0 c).owesAt () t.succ
    ∗ owns (c : Thread nD τ) (ms0_0 t) fullShare ((vdats m 0 c).after 0 t)
    ∗ owns (c : Thread nD τ) (ms0_1 t) fullShare ((vdats m 0 c).after 1 t)
    ∗ owns (c : Thread nD τ) (ms0_2 t) fullShare ((vdats m 0 c).after 2 t)
    ∗ owns (c : Thread nD τ) (ms0_3 t) fullShare ((vdats m 0 c).after 3 t)
    ∗ owns (c : Thread nD τ) (ms0_4 t) fullShare ((vdats m 0 c).after 4 t)
    ∗ owns (c : Thread nD τ) (ms0_5 t) fullShare ((vdats m 0 c).after 5 t)
    ∗ owns (c : Thread nD τ) (ms0_6 t) fullShare ((vdats m 0 c).after 6 t)
    ∗ owns (c : Thread nD τ) (ms0_7 t) fullShare ((vdats m 0 c).after 7 t)
    ∗ owns (c : Thread nD τ) (ms0_8 t) fullShare ((vdats m 0 c).after 8 t)
    ∗ owns (c : Thread nD τ) (ms0_9 t) fullShare ((vdats m 0 c).after 9 t)
    ∗ owns (c : Thread nD τ) (ms0_10 t) fullShare ((vdats m 0 c).after 10 t)
    ∗ owns (c : Thread nD τ) (ms0_11 t) fullShare ((vdats m 0 c).after 11 t)
    ∗ owns (c : Thread nD τ) (ms0_12 t) fullShare ((vdats m 0 c).after 12 t)
    ∗ owns (c : Thread nD τ) (ms0_13 t) fullShare ((vdats m 0 c).after 13 t)
    ∗ owns (c : Thread nD τ) (ms0_14 t) fullShare ((vdats m 0 c).after 14 t)
    ∗ owns (c : Thread nD τ) (ms0_15 t) fullShare ((vdats m 0 c).after 15 t)
    ∗ owns (c : Thread nD τ) (ms0_16 t) fullShare ((vdats m 0 c).after 16 t)
    ∗ vLv_17 m c t
    ∗ owns (c : Thread nD τ) (ms0_18 t) fullShare ((vdats m 0 c).after 18 t)
    ∗ vLv_19 m c t
    ∗ owns (c : Thread nD τ) (ms0_20 t) fullShare ((vdats m 0 c).after 20 t)
    ∗ vLv_21 m c t)

/-- The blocks a point is given, and the tables, are the arguments' own. -/
theorem ctx (c : Dev nD) (t : Fin cfg0.N) : Ctx (inOf m c) (grid0.coords t) (iblk m c 0 t) (iblk m c 1 t) (iblk m c 2 t) (iblk m c 3 t) (iblk m c 4 t) (iblk m c 5 t) (iblk m c 6 t) (iblk m c 7 t) (iblk m c 8 t) (G23 (inOf m c)) (G24 (inOf m c)) (fun _ => krMax (inOf m c)) :=
  ⟨blk_0 m c t, blk_1 m c t, blk_2 m c t, blk_3 m c t, blk_4 m c t, blk_5 m c t, blk_6 m c t, blk_7 m c t, blk_8 m c t, rfl, rfl, rfl⟩

set_option maxHeartbeats 4000000 in
/-- Every point but the first. -/
theorem sound_later (c : Dev nD) (HB : Bounded (inOf m c)) (t : Fin cfg0.N) (h0 : ¬ t.val = 0) :
    vPre m c t ⊢ wp frame (wpE (defs₀ (F := Ideal)) Variants.none c none) Set.univ (bodyAt0 t) (fun _ => vPost m c t) := by
  have hN : t.val < 10 := lt_of_lt_of_eq t.isLt (show cfg0.N = 10 from N_0)
  unfold vPre vPost
  simp only [vb_0, vb_1, vb_2, vb_3, vb_4, vb_5, vb_6, vb_7, vb_8, vb_9, vb_10, vb_11]
  rw [show (vdats m 0 c).owesAt () t.succ = (vdats m 0 c).owesAt () t.castSucc from rfl,
    va_0, va_1, va_2, va_3, va_4, va_5, va_6, va_7, va_8, va_9, va_10, va_11, va_12, va_13, va_14, va_15, va_16, va_18, va_20]
  rw [vPhi_eq, vPhi_eq, vPhi_pos m c t.succ.val (by rw [Fin.val_succ]; omega)]
  rw [vPhi_pos m c t.castSucc.val h0]
  simp only [vb_13 m c t h0, vb_14 m c t h0, vb_15 m c t h0, vb_17 m c t h0, vb_19 m c t h0, vb_21 m c t h0]
  unfold bodyAt0
  rw [body_eq, part17_rest (hc0 := fun h => h0 (by have := (hcond0_0 t).mp h; omega))]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (rest_triple (ctx m c t) HB Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H12]; · iexists _; iexact H12
  isplitl [H13]; · iexact H13
  isplitl [H14]; · iexact H14
  isplitl [H15]; · iexact H15
  isplitl [H16]; · iexists _; iexact H16
  isplitl [H18]; · iexists _; iexact H18
  isplitl [H20]; · iexists _; iexact H20
  isplitl [HS0]; · iexact HS0
  isplitl [HS1]; · iexact HS1
  isplitl [HS2]; · iexact HS2
  iintro ⟨H0, H1, H2, H3, H4, H5, H6, H7, H8, H12, H13, H14, H15, H16, H18, H20, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · (rw [← am_succ]; iexact H13)
  isplitl [H14]; · (rw [← am_succ]; iexact H14)
  isplitl [H15]; · (rw [← am_succ]; iexact H15)
  isplitl [H16]; · iexact H16
  isplitl [H17]; · iapply (lv_17 m c t); iexact H17
  isplitl [H18]; · iexact H18
  isplitl [H19]; · iapply (lv_19 m c t); iexact H19
  isplitl [H20]; · iexact H20
  iapply (lv_21 m c t); iexact H21

set_option maxHeartbeats 4000000 in
/-- The first point. -/
theorem sound_first (c : Dev nD) (HB : Bounded (inOf m c)) (t : Fin cfg0.N) (h0 : t.val = 0) :
    vPre m c t ⊢ wp frame (wpE (defs₀ (F := Ideal)) Variants.none c none) Set.univ (bodyAt0 t) (fun _ => vPost m c t) := by
  unfold vPre vPost
  simp only [vb_0, vb_1, vb_2, vb_3, vb_4, vb_5, vb_6, vb_7, vb_8, vb_9, vb_10, vb_11]
  rw [show (vdats m 0 c).owesAt () t.succ = (vdats m 0 c).owesAt () t.castSucc from rfl,
    va_0, va_1, va_2, va_3, va_4, va_5, va_6, va_7, va_8, va_9, va_10, va_11, va_12, va_13, va_14, va_15, va_16, va_18, va_20]
  rw [vPhi_eq, vPhi_eq, vPhi_pos m c t.succ.val (by rw [Fin.val_succ]; omega)]
  rw [vPhi_zero m c t.castSucc.val h0, PhiA0_eq]
  have H := ctx m c t
  rw [blk_1 m c t, blk_2 m c t, blk_9 m c t, blk_10 m c t, blk_11 m c t]
  rw [blk_1 m c t, blk_2 m c t] at H
  unfold bodyAt0
  rw [body_eq, part17_init (hc0 := (hcond0_0 t).mpr (by omega))]
  obtain ⟨Q, hQ⟩ := wp_restProg (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) Set.univ _
  rw [hQ]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (init_triple HB _ Set.univ Q)
  isplitl [H1]; · iexact H1
  isplitl [H2]; · iexact H2
  isplitl [H9]; · iexact H9
  isplitl [H10]; · iexact H10
  isplitl [H11]; · iexact H11
  isplitl [H13]; · iexists _; iexact H13
  isplitl [H14]; · iexists _; iexact H14
  isplitl [H15]; · iexists _; iexact H15
  isplitl [H17]; · iexists _; iexact H17
  isplitl [H19]; · iexists _; iexact H19
  isplitl [H21]; · iexists _; iexact H21
  isplitl [HS0]; · iexact HS0
  isplitl [HS1]; · iexact HS1
  isplitl [HS2]; · iexact HS2
  iintro ⟨H1, H2, H9, H10, H11, H13, H14, H15, H17, H19, H21, HS0, HS1, HS2⟩
  rw [← hQ]
  iapply (rest_triple H HB Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H12]; · iexists _; iexact H12
  isplitl [H13]; · iexact H13
  isplitl [H14]; · iexact H14
  isplitl [H15]; · iexact H15
  isplitl [H16]; · iexists _; iexact H16
  isplitl [H18]; · iexists _; iexact H18
  isplitl [H20]; · iexists _; iexact H20
  isplitl [HS0]; · iexact HS0
  isplitl [HS1]; · iexact HS1
  isplitl [HS2]; · iexact HS2
  iintro ⟨H0, H1, H2, H3, H4, H5, H6, H7, H8, H12, H13, H14, H15, H16, H18, H20, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · (rw [← am_succ, h0, am_zero]; iexact H13)
  isplitl [H14]; · (rw [← am_succ, h0, am_zero]; iexact H14)
  isplitl [H15]; · (rw [← am_succ, h0, am_zero]; iexact H15)
  isplitl [H16]; · iexact H16
  isplitl [H17]; · iapply (lv_17 m c t); iexact H17
  isplitl [H18]; · iexact H18
  isplitl [H19]; · iapply (lv_19 m c t); iexact H19
  isplitl [H20]; · iexact H20
  iapply (lv_21 m c t); iexact H21

/-- The body at any point. -/
theorem vsound (HB : ∀ c, Bounded (inOf m c)) (c : Dev nD) (t : Fin cfg0.N) :
    vPre m c t ⊢ wp frame (wpE (defs₀ (F := Ideal)) Variants.none c none) Set.univ (bodyAt0 t) (fun _ => vPost m c t) := by
  by_cases h0 : t.val = 0
  · exact sound_first m c (HB c) t h0
  · exact sound_later m c (HB c) t h0

theorem vrow (t : Fin cfg0.N) :
    defs₀ (F := Ideal) .tc cfg0.body (cfg0.bodyArgs t (cfg0.slots t)) = bodyAt0 t := by
  unfold defs₀; rw [Defs.onTc_tc]

theorem vbody (HB : ∀ c, Bounded (inOf m c)) (c : Dev nD) : BodyObligation (vdats m 0 c) (defs₀ (F := Ideal)) Variants.none () Set.univ := fun t => by
  rw [bigSep_W0, bigSep_W0, vrow]
  exact triple_restated (vsound m HB c t) rfl .rfl fun _ => .rfl

theorem vin (c : Dev nD) : Pipeline.ΦA spec0 c ⊢ (vdats m 0 c).Φ 0 := by
  rw [vPhi_eq, vPhi_zero m c (0 : Fin (cfg0.N + 1)).val rfl]
  try exact Idealize.SL.BI.Entails.refl _

theorem vout (c : Dev nD) : (vdats m 0 c).Φ (Fin.last cfg0.N) ⊢ Pipeline.ΦA spec0 c := by
  rw [vPhi_eq, vPhi_pos m c _ (by rw [Fin.val_last]; have : cfg0.N = 10 := N_0; omega), PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- The launch: every array ends as the blocks written back to it say, every counter at zero. -/
theorem vrun (HB : ∀ c, Bounded (inOf m c)) : θ_run defs (onTc (τ := τ) (main (F := Ideal))) ⟨m, fun _ => 0, ρ⟩ (fun r => (Pipeline.FramePost cfgs (vdats m) 0 (V m)) r ∧ r.2.sem = fun _ => 0) :=
  Pipeline.θ_run_frame_track (Q' := _) cfgs (vdats m) (0 : Fin 1) launch0 defs₀ Variants.none m ρ main
    (hbody := fun c => (vbody m HB c).loose) (hshare := fun c => (vdats m 0 c).share_full fun _ => rfl)
    (howed := fun _ _ => rfl) (V := V m) (hmain := hmain m Variants.none) (hA := vA_eq m) (hin := vin m) (hout := vout m)

end Cert.KernelIdeal.Val

end
-- ==== Proof.KerFinal.lean ====
/- What each result array holds when the kernel has run. -/
module

public import proofs.«01_k».proof.Proof.KerFrame
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Mla
open Idealize.ShloMosaic.Pipeline (Dat Cfg Window)

variable (m : (ℓ : Loc nD τ sig) → Buf (Elt Ideal) ℓ)

theorem N10 (t : Fin cfg0.N) : t.val < 10 := lt_of_lt_of_eq t.isLt (show cfg0.N = 10 from N_0)
/-- The point that meets head `h`, -/
def tOf (h : Fin 20) : Fin cfg0.N := ⟨h.val / 2, by rw [show cfg0.N = 10 from N_0]; omega⟩
/-- and the last point. -/
def tLast : Fin cfg0.N := ⟨9, by rw [show cfg0.N = 10 from N_0]; omega⟩
theorem hd_tOf (h : Fin 20) : hd (grid0.coords (tOf h)) ⟨h.val % 2, by omega⟩ = h := by
  have e := coord_val (tOf h)
  have e' : (tOf h).val = h.val / 2 := rfl
  refine Fin.ext ?_
  show 2 * (grid0.coords (tOf h) 0).val + h.val % 2 = h.val
  omega

/-- Result 0, whole. -/
def R12 (I : In) : S5x20x384x128.Idx → EReal := fun y => oo I (y 0) (y 1) (y 2) (y 3)
theorem flushed_12 (c : Dev nD) (t : Fin cfg0.N) (hf : (cfg0.win 12).flush t = true) :
    (vdats m 0 c).flushed 12 t = ((cfg0.win 12).blk t).view.read (Elt Ideal) (R12 (inOf m c)) := by
  show (cfg0.win 12).cut (grid0.coords t) ((vdats m 0 c).after 12 t) = _
  rw [va_12]
  funext (y : S5x2x384x128.Idx)
  show G13 (inOf m c) (grid0.coords t) y = R12 (inOf m c) (((cfg0.win 12).blk t).view.emb y)
  rw [emb_12]
  rfl
theorem final_12 (c : Dev nD) : (vdats m 0 c).arrAt 12 cfg0.N = R12 (inOf m c) :=
  (vdats m 0 c).arrAt_eq_of_cover 12 (R12 (inOf m c)) (flushed_12 m c) fun (i : S5x20x384x128.Idx) =>
    ⟨tOf (i 1), flush0_12 _, by
      have e : i = ((cfg0.win 12).blk (tOf (i 1))).view.emb (ix4 (i 0) ⟨(i 1).val % 2, by omega⟩ (i 2) (i 3) : S5x2x384x128.Idx) := by
        rw [emb_12]
        have h : hd (grid0.coords (tOf (i 1))) ⟨(i 1).val % 2, by omega⟩ = i 1 := hd_tOf (i 1)
        refine funext fun (a : Fin 4) => match a with
          | ⟨0, _⟩ => rfl
          | ⟨1, _⟩ => h.symm
          | ⟨2, _⟩ => rfl
          | ⟨3, _⟩ => rfl
      exact Eq.mpr (congrArg (fun z => z ∈ ((cfg0.win 12).blk (tOf (i 1))).view.set) e) (View.emb_mem_set _ _)⟩

/-- Result 1, whole. -/
def R13 (I : In) : S1x20.Idx → EReal := fun y => qa I (y 1)
theorem flushed_13 (c : Dev nD) (t : Fin cfg0.N) (hf : (cfg0.win 13).flush t = true) :
    (vdats m 0 c).flushed 13 t = ((cfg0.win 13).blk t).view.read (Elt Ideal) (R13 (inOf m c)) := by
  have h9 : t.val = 9 := by have := (flush0_13 t).mp hf; have := N10 t; omega
  show (cfg0.win 13).cut (grid0.coords t) ((vdats m 0 c).after 13 t) = _
  rw [va_13, h9, am_full]
  funext (y : S1x20.Idx)
  show qa (inOf m c) (y 1) = R13 (inOf m c) (((cfg0.win 13).blk t).view.emb y)
  rw [emb_13]
  rfl
theorem final_13 (c : Dev nD) : (vdats m 0 c).arrAt 13 cfg0.N = R13 (inOf m c) :=
  (vdats m 0 c).arrAt_eq_of_cover 13 (R13 (inOf m c)) (flushed_13 m c) fun (i : S1x20.Idx) =>
    ⟨tLast, (flush0_13 _).mpr rfl, by
      have e : i = ((cfg0.win 13).blk tLast).view.emb (i : S1x20.Idx) := by
        rw [emb_13]
        exact funext fun (a : Fin 2) => match a with
          | ⟨0, _⟩ => rfl
          | ⟨1, _⟩ => rfl
      rw [e]
      exact View.emb_mem_set _ _⟩

/-- Result 2, whole. -/
def R14 (I : In) : S1x20.Idx → EReal := fun y => ka I (y 1)
theorem flushed_14 (c : Dev nD) (t : Fin cfg0.N) (hf : (cfg0.win 14).flush t = true) :
    (vdats m 0 c).flushed 14 t = ((cfg0.win 14).blk t).view.read (Elt Ideal) (R14 (inOf m c)) := by
  have h9 : t.val = 9 := by have := (flush0_14 t).mp hf; have := N10 t; omega
  show (cfg0.win 14).cut (grid0.coords t) ((vdats m 0 c).after 14 t) = _
  rw [va_14, h9, am_full]
  funext (y : S1x20.Idx)
  show ka (inOf m c) (y 1) = R14 (inOf m c) (((cfg0.win 14).blk t).view.emb y)
  rw [emb_14]
  rfl
theorem final_14 (c : Dev nD) : (vdats m 0 c).arrAt 14 cfg0.N = R14 (inOf m c) :=
  (vdats m 0 c).arrAt_eq_of_cover 14 (R14 (inOf m c)) (flushed_14 m c) fun (i : S1x20.Idx) =>
    ⟨tLast, (flush0_14 _).mpr rfl, by
      have e : i = ((cfg0.win 14).blk tLast).view.emb (i : S1x20.Idx) := by
        rw [emb_14]
        exact funext fun (a : Fin 2) => match a with
          | ⟨0, _⟩ => rfl
          | ⟨1, _⟩ => rfl
      rw [e]
      exact View.emb_mem_set _ _⟩

/-- Result 3, whole. -/
def R15 (I : In) : S1x20.Idx → EReal := fun y => va I (y 1)
theorem flushed_15 (c : Dev nD) (t : Fin cfg0.N) (hf : (cfg0.win 15).flush t = true) :
    (vdats m 0 c).flushed 15 t = ((cfg0.win 15).blk t).view.read (Elt Ideal) (R15 (inOf m c)) := by
  have h9 : t.val = 9 := by have := (flush0_15 t).mp hf; have := N10 t; omega
  show (cfg0.win 15).cut (grid0.coords t) ((vdats m 0 c).after 15 t) = _
  rw [va_15, h9, am_full]
  funext (y : S1x20.Idx)
  show va (inOf m c) (y 1) = R15 (inOf m c) (((cfg0.win 15).blk t).view.emb y)
  rw [emb_15]
  rfl
theorem final_15 (c : Dev nD) : (vdats m 0 c).arrAt 15 cfg0.N = R15 (inOf m c) :=
  (vdats m 0 c).arrAt_eq_of_cover 15 (R15 (inOf m c)) (flushed_15 m c) fun (i : S1x20.Idx) =>
    ⟨tLast, (flush0_15 _).mpr rfl, by
      have e : i = ((cfg0.win 15).blk tLast).view.emb (i : S1x20.Idx) := by
        rw [emb_15]
        exact funext fun (a : Fin 2) => match a with
          | ⟨0, _⟩ => rfl
          | ⟨1, _⟩ => rfl
      rw [e]
      exact View.emb_mem_set _ _⟩

/-- Result 4, whole. -/
def R16 (I : In) : S5x20x192x384.Idx → EReal := fun y => qc I (y 0) (y 1) (y 3) (y 2)
theorem flushed_16 (c : Dev nD) (t : Fin cfg0.N) (hf : (cfg0.win 16).flush t = true) :
    (vdats m 0 c).flushed 16 t = ((cfg0.win 16).blk t).view.read (Elt Ideal) (R16 (inOf m c)) := by
  show (cfg0.win 16).cut (grid0.coords t) ((vdats m 0 c).after 16 t) = _
  rw [va_16]
  funext (y : S5x2x192x384.Idx)
  show G17 (inOf m c) (grid0.coords t) y = R16 (inOf m c) (((cfg0.win 16).blk t).view.emb y)
  rw [emb_16]
  rfl
theorem final_16 (c : Dev nD) : (vdats m 0 c).arrAt 16 cfg0.N = R16 (inOf m c) :=
  (vdats m 0 c).arrAt_eq_of_cover 16 (R16 (inOf m c)) (flushed_16 m c) fun (i : S5x20x192x384.Idx) =>
    ⟨tOf (i 1), flush0_16 _, by
      have e : i = ((cfg0.win 16).blk (tOf (i 1))).view.emb (ix4 (i 0) ⟨(i 1).val % 2, by omega⟩ (i 2) (i 3) : S5x2x192x384.Idx) := by
        rw [emb_16]
        have h : hd (grid0.coords (tOf (i 1))) ⟨(i 1).val % 2, by omega⟩ = i 1 := hd_tOf (i 1)
        refine funext fun (a : Fin 4) => match a with
          | ⟨0, _⟩ => rfl
          | ⟨1, _⟩ => h.symm
          | ⟨2, _⟩ => rfl
          | ⟨3, _⟩ => rfl
      exact Eq.mpr (congrArg (fun z => z ∈ ((cfg0.win 16).blk (tOf (i 1))).view.set) e) (View.emb_mem_set _ _)⟩

/-- Result 5, whole. -/
def R17 (I : In) : S1x20.Idx → EReal := fun y => qs I (y 1)
theorem flushed_17 (c : Dev nD) (t : Fin cfg0.N) (hf : (cfg0.win 17).flush t = true) :
    (vdats m 0 c).flushed 17 t = ((cfg0.win 17).blk t).view.read (Elt Ideal) (R17 (inOf m c)) := by
  have h9 : t.val = 9 := by have := (flush0_17 t).mp hf; have := N10 t; omega
  show (cfg0.win 17).cut (grid0.coords t) ((vdats m 0 c).after 17 t) = _
  rw [va_17]
  funext (y : S1x20.Idx)
  show qs (inOf m c) (y 1) = R17 (inOf m c) (((cfg0.win 17).blk t).view.emb y)
  rw [emb_17]
  rfl
theorem final_17 (c : Dev nD) : (vdats m 0 c).arrAt 17 cfg0.N = R17 (inOf m c) :=
  (vdats m 0 c).arrAt_eq_of_cover 17 (R17 (inOf m c)) (flushed_17 m c) fun (i : S1x20.Idx) =>
    ⟨tLast, (flush0_17 _).mpr rfl, by
      have e : i = ((cfg0.win 17).blk tLast).view.emb (i : S1x20.Idx) := by
        rw [emb_17]
        exact funext fun (a : Fin 2) => match a with
          | ⟨0, _⟩ => rfl
          | ⟨1, _⟩ => rfl
      rw [e]
      exact View.emb_mem_set _ _⟩

/-- Result 6, whole. -/
def R18 (I : In) : S5x20x192x384.Idx → EReal := fun y => kc I (y 0) (y 1) (y 3) (y 2)
theorem flushed_18 (c : Dev nD) (t : Fin cfg0.N) (hf : (cfg0.win 18).flush t = true) :
    (vdats m 0 c).flushed 18 t = ((cfg0.win 18).blk t).view.read (Elt Ideal) (R18 (inOf m c)) := by
  show (cfg0.win 18).cut (grid0.coords t) ((vdats m 0 c).after 18 t) = _
  rw [va_18]
  funext (y : S5x2x192x384.Idx)
  show G19 (inOf m c) (grid0.coords t) y = R18 (inOf m c) (((cfg0.win 18).blk t).view.emb y)
  rw [emb_18]
  rfl
theorem final_18 (c : Dev nD) : (vdats m 0 c).arrAt 18 cfg0.N = R18 (inOf m c) :=
  (vdats m 0 c).arrAt_eq_of_cover 18 (R18 (inOf m c)) (flushed_18 m c) fun (i : S5x20x192x384.Idx) =>
    ⟨tOf (i 1), flush0_18 _, by
      have e : i = ((cfg0.win 18).blk (tOf (i 1))).view.emb (ix4 (i 0) ⟨(i 1).val % 2, by omega⟩ (i 2) (i 3) : S5x2x192x384.Idx) := by
        rw [emb_18]
        have h : hd (grid0.coords (tOf (i 1))) ⟨(i 1).val % 2, by omega⟩ = i 1 := hd_tOf (i 1)
        refine funext fun (a : Fin 4) => match a with
          | ⟨0, _⟩ => rfl
          | ⟨1, _⟩ => h.symm
          | ⟨2, _⟩ => rfl
          | ⟨3, _⟩ => rfl
      exact Eq.mpr (congrArg (fun z => z ∈ ((cfg0.win 18).blk (tOf (i 1))).view.set) e) (View.emb_mem_set _ _)⟩

/-- Result 7, whole. -/
def R19 (I : In) : S1x20.Idx → EReal := fun y => ks I (y 1)
theorem flushed_19 (c : Dev nD) (t : Fin cfg0.N) (hf : (cfg0.win 19).flush t = true) :
    (vdats m 0 c).flushed 19 t = ((cfg0.win 19).blk t).view.read (Elt Ideal) (R19 (inOf m c)) := by
  have h9 : t.val = 9 := by have := (flush0_19 t).mp hf; have := N10 t; omega
  show (cfg0.win 19).cut (grid0.coords t) ((vdats m 0 c).after 19 t) = _
  rw [va_19]
  funext (y : S1x20.Idx)
  show ks (inOf m c) (y 1) = R19 (inOf m c) (((cfg0.win 19).blk t).view.emb y)
  rw [emb_19]
  rfl
theorem final_19 (c : Dev nD) : (vdats m 0 c).arrAt 19 cfg0.N = R19 (inOf m c) :=
  (vdats m 0 c).arrAt_eq_of_cover 19 (R19 (inOf m c)) (flushed_19 m c) fun (i : S1x20.Idx) =>
    ⟨tLast, (flush0_19 _).mpr rfl, by
      have e : i = ((cfg0.win 19).blk tLast).view.emb (i : S1x20.Idx) := by
        rw [emb_19]
        exact funext fun (a : Fin 2) => match a with
          | ⟨0, _⟩ => rfl
          | ⟨1, _⟩ => rfl
      rw [e]
      exact View.emb_mem_set _ _⟩

/-- Result 8, whole. -/
def R20 (I : In) : S5x20x384x128.Idx → EReal := fun y => vc I (y 0) (y 1) (y 2) (y 3)
theorem flushed_20 (c : Dev nD) (t : Fin cfg0.N) (hf : (cfg0.win 20).flush t = true) :
    (vdats m 0 c).flushed 20 t = ((cfg0.win 20).blk t).view.read (Elt Ideal) (R20 (inOf m c)) := by
  show (cfg0.win 20).cut (grid0.coords t) ((vdats m 0 c).after 20 t) = _
  rw [va_20]
  funext (y : S5x2x384x128.Idx)
  show G21 (inOf m c) (grid0.coords t) y = R20 (inOf m c) (((cfg0.win 20).blk t).view.emb y)
  rw [emb_20]
  rfl
theorem final_20 (c : Dev nD) : (vdats m 0 c).arrAt 20 cfg0.N = R20 (inOf m c) :=
  (vdats m 0 c).arrAt_eq_of_cover 20 (R20 (inOf m c)) (flushed_20 m c) fun (i : S5x20x384x128.Idx) =>
    ⟨tOf (i 1), flush0_20 _, by
      have e : i = ((cfg0.win 20).blk (tOf (i 1))).view.emb (ix4 (i 0) ⟨(i 1).val % 2, by omega⟩ (i 2) (i 3) : S5x2x384x128.Idx) := by
        rw [emb_20]
        have h : hd (grid0.coords (tOf (i 1))) ⟨(i 1).val % 2, by omega⟩ = i 1 := hd_tOf (i 1)
        refine funext fun (a : Fin 4) => match a with
          | ⟨0, _⟩ => rfl
          | ⟨1, _⟩ => h.symm
          | ⟨2, _⟩ => rfl
          | ⟨3, _⟩ => rfl
      exact Eq.mpr (congrArg (fun z => z ∈ ((cfg0.win 20).blk (tOf (i 1))).view.set) e) (View.emb_mem_set _ _)⟩

/-- Result 9, whole. -/
def R21 (I : In) : S1x20.Idx → EReal := fun y => vs I (y 1)
theorem flushed_21 (c : Dev nD) (t : Fin cfg0.N) (hf : (cfg0.win 21).flush t = true) :
    (vdats m 0 c).flushed 21 t = ((cfg0.win 21).blk t).view.read (Elt Ideal) (R21 (inOf m c)) := by
  have h9 : t.val = 9 := by have := (flush0_21 t).mp hf; have := N10 t; omega
  show (cfg0.win 21).cut (grid0.coords t) ((vdats m 0 c).after 21 t) = _
  rw [va_21]
  funext (y : S1x20.Idx)
  show vs (inOf m c) (y 1) = R21 (inOf m c) (((cfg0.win 21).blk t).view.emb y)
  rw [emb_21]
  rfl
theorem final_21 (c : Dev nD) : (vdats m 0 c).arrAt 21 cfg0.N = R21 (inOf m c) :=
  (vdats m 0 c).arrAt_eq_of_cover 21 (R21 (inOf m c)) (flushed_21 m c) fun (i : S1x20.Idx) =>
    ⟨tLast, (flush0_21 _).mpr rfl, by
      have e : i = ((cfg0.win 21).blk tLast).view.emb (i : S1x20.Idx) := by
        rw [emb_21]
        exact funext fun (a : Fin 2) => match a with
          | ⟨0, _⟩ => rfl
          | ⟨1, _⟩ => rfl
      rw [e]
      exact View.emb_mem_set _ _⟩

end Cert.KernelIdeal.Val

end
-- ==== Proof.RefPay.lean ====
/- The reference's values, each read at a point. -/
module

public import proofs.«01_k».proof.Proof.Gen.ReferenceIdeal.Frame
public import proofs.«01_k».proof.Proof.Spec
public import proofs.«01_k».proof.Proof.AmaxMath
public import Idealize.ShloMosaic.Lib.Pointwise

@[expose] public section

set_option maxRecDepth 16384

noncomputable section

namespace Cert.ReferenceIdeal.Val

open Cert.ReferenceIdeal.Gen
open Idealize.ShloMosaic Idealize.ShloMosaic.TcCoe Idealize.ShloMosaic.Tactic
open Cert.Mla

variable (I : In)

def a0 : Vec Ideal S5x384x512 .fp8e4m3 := fun j => I.ckv (j 0) (j 1) (j 2)
def a1 : Vec Ideal S5x384 .f32 := fun j => I.cs (j 0) (j 1)
def a2 : Vec Ideal S5x384x64 .bf16 := fun j => I.kr (j 0) (j 1) (j 2)
def a3 : Vec Ideal S5x20x384x128 .bf16 := fun j => I.qn (j 0) (j 2) (j 1) (j 3)
def a4 : Vec Ideal S5x20x384x64 .bf16 := fun j => I.qr (j 0) (j 2) (j 1) (j 3)
def a5 : Vec Ideal S20x512x128 .fp8e4m3 := fun j => I.wuk (j 0) (j 1) (j 2)
def a6 : Vec Ideal S20x128 .f32 := fun j => I.wks (j 0) (j 1)
def a7 : Vec Ideal S20x512x128 .fp8e4m3 := fun j => I.wuv (j 0) (j 1) (j 2)
def a8 : Vec Ideal S20x128 .f32 := fun j => I.wvs (j 0) (j 1)
def a9 : Vec Ideal S13x20 .f32 := fun j => I.qh (j 0) (j 1)
def a10 : Vec Ideal S13x20 .f32 := fun j => I.kh (j 0) (j 1)
def a11 : Vec Ideal S13x20 .f32 := fun j => I.vh (j 0) (j 1)

def uKn : FVec Ideal S5x20x384x128 .f32 := fun j => kn I (j 0) (j 1) (j 2) (j 3)
def uVv : FVec Ideal S5x20x384x128 .f32 := fun j => vv I (j 0) (j 1) (j 2) (j 3)
def uQq : FVec Ideal S5x20x384x192 .f32 := fun j => qq I (j 0) (j 1) (j 2) (j 3)
def uKk : FVec Ideal S5x20x384x192 .f32 := fun j => kk I (j 0) (j 1) (j 2) (j 3)
def uQs : FVec Ideal S1x20 .f32 := fun j => qs I (j 1)
def uKs : FVec Ideal S1x20 .f32 := fun j => ks I (j 1)
def uVs : FVec Ideal S1x20 .f32 := fun j => vs I (j 1)
def uQc : FVec Ideal S5x20x384x192 .fp8e4m3 := fun j => qc I (j 0) (j 1) (j 2) (j 3)
def uKc : FVec Ideal S5x20x384x192 .fp8e4m3 := fun j => kc I (j 0) (j 1) (j 2) (j 3)
def uVc : FVec Ideal S5x20x384x128 .fp8e4m3 := fun j => vc I (j 0) (j 1) (j 2) (j 3)

theorem pay2_eq : k0_pay2 (F := Ideal) (a5 I) (a6 I) (a0 I) (a1 I) = uKn I := by
  funext j
  idx_vars j
  pointwise [k0_pay2]
  rfl

theorem pay3_eq : k0_pay3 (F := Ideal) (a7 I) (a8 I) (a0 I) (a1 I) = uVv I := by
  funext j
  idx_vars j
  pointwise [k0_pay3]
  rfl

theorem pay4_eq : k0_pay4 (F := Ideal) (a3 I) (a4 I) = uQq I := by
  funext j
  idx_vars j
  pointwise [k0_pay4]
  rfl

theorem pay11_eq : k0_pay11 (F := Ideal) (uKn I) (a2 I) = uKk I := by
  funext j
  idx_vars j
  pointwise [k0_pay11]
  rfl

theorem pay7_eq : k0_pay7 (F := Ideal) (a9 I) = uQs I := by
  funext j
  idx_vars j
  pointwise [k0_pay7, k0_pay6, uQs, a9, qs, scaleOf, expo, quo, mag, top]
  rfl

theorem pay14_eq : k0_pay14 (F := Ideal) (a10 I) = uKs I := by
  funext j
  idx_vars j
  pointwise [k0_pay14, k0_pay13, uKs, a10, ks, scaleOf, expo, quo, mag, top]
  rfl

theorem pay20_eq : k0_pay20 (F := Ideal) (a11 I) = uVs I := by
  funext j
  idx_vars j
  pointwise [k0_pay20, k0_pay19, uVs, a11, vs, scaleOf, expo, quo, mag, top]
  rfl

theorem qcode_eq : k0_pay10 (F := Ideal) (k0_pay8 (a3 I) (a4 I) (a9 I)) k0_pay9 = uQc I := by
  funext j
  idx_vars j
  pointwise [k0_pay10, k0_pay9, k0_pay8, k0_pay4, k0_pay6, uQc, a9, qc, qi, code, invOf, expo, quo, mag, top]
  rfl

theorem kcode_eq : k0_pay17 (F := Ideal) (k0_pay15 (uKn I) (a2 I) (a10 I)) k0_pay16 = uKc I := by
  funext j
  idx_vars j
  pointwise [k0_pay17, k0_pay16, k0_pay15, k0_pay11, k0_pay13, uKc, a10, kc, ki, code, invOf, expo, quo, mag, top]
  rfl

theorem vcode_eq : k0_pay21 (F := Ideal) (uVv I) (a11 I) = uVc I := by
  funext j
  idx_vars j
  pointwise [k0_pay21, k0_pay19, uVc, a11, vc, vi, code, invOf, expo, quo, mag, top]
  rfl

/-- A score, hidden where the key comes after the query. -/
theorem score_raw (b : Fin 5) (h : Fin 20) (t j : Fin 384) :
    Scalar.select (IntOp.cmpi CmpIPredicate.sle (BitVec.ofNat 32 j.val) (BitVec.ofNat 32 t.val))
      ((∑ c, uQc I (ix4 b h t c) * uKc I (ix4 b h j c)) * (uQs I (ix2 0 h) * uKs I (ix2 0 h) * Named.named (F := Ideal) κ "sm_scale" (φ := .f32) 0x3D93CD3A#32))
      ⊥ = score I b h t j := by
  rw [sle_iff (by omega) (by omega)]
  unfold score
  by_cases hx : j.val ≤ t.val
  · rw [if_pos hx, if_pos (show j ≤ t from hx)]; rfl
  · rw [if_neg hx, if_neg (show ¬ j ≤ t from hx)]

theorem o_eq : k0_pay1 (F := Ideal) (k0_pay25 (uQs I) (uQc I) (uKs I) (uKc I)) (k0_pay26 (uQs I) (uQc I) (uKs I) (uKc I) (uVc I)) (k0_pay27 (uVs I))
    = fun j => oo I (j 0) (j 1) (j 2) (j 3) := by
  funext j
  idx_vars j
  pointwise [k0_pay1, k0_pay25, k0_pay26, k0_pay27, k0_pay24]
  simp only [ofBits_bot, score_raw]
  rfl

theorem qa_eq : k0_pay5 (F := Ideal) (a3 I) (a4 I) = fun j => qa I (j 1) := by
  funext j
  idx_vars j
  pointwise [k0_pay5, k0_pay4]
  refine eq_of_forall_ge_iff fun u => ?_
  rw [ofBits_bot]
  unfold qa
  simp only [fold_le, iSup_le_iff, Prod.forall]
  rfl

theorem ka_eq : k0_pay12 (F := Ideal) (uKn I) (a2 I) = fun j => ka I (j 1) := by
  funext j
  idx_vars j
  pointwise [k0_pay12, k0_pay11]
  refine eq_of_forall_ge_iff fun u => ?_
  rw [ofBits_bot]
  unfold ka
  simp only [fold_le, iSup_le_iff, Prod.forall]
  rfl

theorem va_eq : k0_pay18 (F := Ideal) (uVv I) = fun j => va I (j 1) := by
  funext j
  idx_vars j
  pointwise [k0_pay18]
  refine eq_of_forall_ge_iff fun u => ?_
  rw [ofBits_bot]
  unfold va
  simp only [fold_le, iSup_le_iff, Prod.forall]
  rfl

theorem kcT_eq : k0_pay23 (F := Ideal) (uKc I) = fun j => kc I (j 0) (j 1) (j 3) (j 2) := by
  funext j
  idx_vars j
  pointwise [k0_pay23]
  rfl
theorem qcT_eq : k0_pay22 (F := Ideal) (uQc I) = fun j => qc I (j 0) (j 1) (j 3) (j 2) := by
  funext j
  idx_vars j
  pointwise [k0_pay22]
  rfl

end Cert.ReferenceIdeal.Val

end
-- ==== Proof.RefOut.lean ====
/- What the reference's body leaves in each result's buffer. -/
module

public import proofs.«01_k».proof.Proof.RefPay
public import Idealize.ShloMosaic.Lib.Pipeline.Value
public import Idealize.ShloMosaic.Lib.Pipeline.ValueKit

@[expose] public section

set_option maxRecDepth 16384

noncomputable section

namespace Cert.ReferenceIdeal.Val

open Cert.ReferenceIdeal.Gen
open Idealize.ShloMosaic Idealize.ShloMosaic.TcCoe Idealize.ShloMosaic.Tactic
open Cert.Mla

variable (I : In)

theorem z2 : (![0, 0] : Fin 2 → Nat) = fun _ => 0 := by decide
theorem z3 : (![0, 0, 0] : Fin 3 → Nat) = fun _ => 0 := by decide
theorem z4 : (![0, 0, 0, 0] : Fin 4 → Nat) = fun _ => 0 := by decide
theorem ld_0 {e : EltTy} (X : S20x512x128.Idx → Elt Ideal e) : View.ld X r0_0 = X := View.ld_unit_zero (S := S20x512x128) z3 _ X
theorem ld_1 {e : EltTy} (X : S20x128.Idx → Elt Ideal e) : View.ld X r0_1 = X := View.ld_unit_zero (S := S20x128) z2 _ X
theorem ld_2 {e : EltTy} (X : S5x384x512.Idx → Elt Ideal e) : View.ld X r0_2 = X := View.ld_unit_zero (S := S5x384x512) z3 _ X
theorem ld_3 {e : EltTy} (X : S5x384.Idx → Elt Ideal e) : View.ld X r0_3 = X := View.ld_unit_zero (S := S5x384) z2 _ X
theorem ld_4 {e : EltTy} (X : S5x20x384x128.Idx → Elt Ideal e) : View.ld X r0_4 = X := View.ld_unit_zero (S := S5x20x384x128) z4 _ X
theorem cn_4 {e : EltTy} (X : S5x20x384x128.Idx → Elt Ideal e) : View.canon [⟨r0_4, X⟩] = X := View.canon_unit_zero (S := S5x20x384x128) z4 _ X
theorem ld_5 {e : EltTy} (X : S5x20x384x64.Idx → Elt Ideal e) : View.ld X r0_5 = X := View.ld_unit_zero (S := S5x20x384x64) z4 _ X
theorem ld_6 {e : EltTy} (X : S1x20.Idx → Elt Ideal e) : View.ld X r0_6 = X := View.ld_unit_zero (S := S1x20) z2 _ X
theorem cn_6 {e : EltTy} (X : S1x20.Idx → Elt Ideal e) : View.canon [⟨r0_6, X⟩] = X := View.canon_unit_zero (S := S1x20) z2 _ X
theorem ld_7 {e : EltTy} (X : S13x20.Idx → Elt Ideal e) : View.ld X r0_7 = X := View.ld_unit_zero (S := S13x20) z2 _ X
theorem ld_8 {e : EltTy} (X : S5x384x64.Idx → Elt Ideal e) : View.ld X r0_8 = X := View.ld_unit_zero (S := S5x384x64) z3 _ X
theorem ld_9 {e : EltTy} (X : S5x20x192x384.Idx → Elt Ideal e) : View.ld X r0_9 = X := View.ld_unit_zero (S := S5x20x192x384) z4 _ X
theorem cn_9 {e : EltTy} (X : S5x20x192x384.Idx → Elt Ideal e) : View.canon [⟨r0_9, X⟩] = X := View.canon_unit_zero (S := S5x20x192x384) z4 _ X
theorem p28_eq : k0_pay28 (F := Ideal) (a0 I) (a1 I) (a2 I) (a3 I) (a4 I) (a5 I) (a6 I) (a7 I) (a8 I) (a9 I) (a10 I) (a11 I) = uKn I := by
  delta k0_pay28
  beta_reduce
  rw [ld_0, ld_1, ld_2, ld_3]
  exact pay2_eq I
theorem p29_eq : k0_pay29 (F := Ideal) (a0 I) (a1 I) (a2 I) (a3 I) (a4 I) (a5 I) (a6 I) (a7 I) (a8 I) (a9 I) (a10 I) (a11 I) = uVv I := by
  delta k0_pay29
  beta_reduce
  rw [ld_0, ld_1, ld_2, ld_3]
  exact pay3_eq I
theorem p30_eq : k0_pay30 (F := Ideal) (a0 I) (a1 I) (a2 I) (a3 I) (a4 I) (a5 I) (a6 I) (a7 I) (a8 I) (a9 I) (a10 I) (a11 I) = uQs I := by
  delta k0_pay30
  beta_reduce
  rw [ld_7]
  exact pay7_eq I
theorem p31_eq : k0_pay31 (F := Ideal) (a0 I) (a1 I) (a2 I) (a3 I) (a4 I) (a5 I) (a6 I) (a7 I) (a8 I) (a9 I) (a10 I) (a11 I) = uQc I := by
  delta k0_pay31
  beta_reduce
  rw [ld_4, ld_5, ld_7]
  exact qcode_eq I
theorem p32_eq : k0_pay32 (F := Ideal) (a0 I) (a1 I) (a2 I) (a3 I) (a4 I) (a5 I) (a6 I) (a7 I) (a8 I) (a9 I) (a10 I) (a11 I) = uKs I := by
  delta k0_pay32
  beta_reduce
  rw [ld_7]
  exact pay14_eq I
theorem p33_eq : k0_pay33 (F := Ideal) (a0 I) (a1 I) (a2 I) (a3 I) (a4 I) (a5 I) (a6 I) (a7 I) (a8 I) (a9 I) (a10 I) (a11 I) = uKc I := by
  delta k0_pay33
  beta_reduce
  rw [ld_8, ld_7]
  rw [p28_eq]; exact kcode_eq I
theorem p34_eq : k0_pay34 (F := Ideal) (a0 I) (a1 I) (a2 I) (a3 I) (a4 I) (a5 I) (a6 I) (a7 I) (a8 I) (a9 I) (a10 I) (a11 I) = uVs I := by
  delta k0_pay34
  beta_reduce
  rw [ld_7]
  exact pay20_eq I
theorem p35_eq : k0_pay35 (F := Ideal) (a0 I) (a1 I) (a2 I) (a3 I) (a4 I) (a5 I) (a6 I) (a7 I) (a8 I) (a9 I) (a10 I) (a11 I) = uVc I := by
  delta k0_pay35
  beta_reduce
  rw [ld_7]
  rw [p29_eq]; exact vcode_eq I

def W12 : S5x20x384x128.Idx → EReal := fun j => oo I (j 0) (j 1) (j 2) (j 3)
theorem out_12 : out0_12 (F := Ideal) (a0 I) (a1 I) (a2 I) (a3 I) (a4 I) (a5 I) (a6 I) (a7 I) (a8 I) (a9 I) (a10 I) (a11 I) = W12 I := by
  delta out0_12
  beta_reduce
  rw [cn_4]
  rw [p30_eq, p31_eq, p32_eq, p33_eq, p34_eq, p35_eq]; exact o_eq I

def W13 : S1x20.Idx → EReal := fun j => qa I (j 1)
theorem out_13 : out0_13 (F := Ideal) (a0 I) (a1 I) (a2 I) (a3 I) (a4 I) (a5 I) (a6 I) (a7 I) (a8 I) (a9 I) (a10 I) (a11 I) = W13 I := by
  delta out0_13
  beta_reduce
  rw [cn_6]
  rw [ld_4, ld_5]; exact qa_eq I

def W14 : S1x20.Idx → EReal := fun j => ka I (j 1)
theorem out_14 : out0_14 (F := Ideal) (a0 I) (a1 I) (a2 I) (a3 I) (a4 I) (a5 I) (a6 I) (a7 I) (a8 I) (a9 I) (a10 I) (a11 I) = W14 I := by
  delta out0_14
  beta_reduce
  rw [cn_6]
  rw [ld_8, p28_eq]; exact ka_eq I

def W15 : S1x20.Idx → EReal := fun j => va I (j 1)
theorem out_15 : out0_15 (F := Ideal) (a0 I) (a1 I) (a2 I) (a3 I) (a4 I) (a5 I) (a6 I) (a7 I) (a8 I) (a9 I) (a10 I) (a11 I) = W15 I := by
  delta out0_15
  beta_reduce
  rw [cn_6]
  rw [p29_eq]; exact va_eq I

def W16 : S5x20x192x384.Idx → EReal := fun j => qc I (j 0) (j 1) (j 3) (j 2)
theorem out_16 : out0_16 (F := Ideal) (a0 I) (a1 I) (a2 I) (a3 I) (a4 I) (a5 I) (a6 I) (a7 I) (a8 I) (a9 I) (a10 I) (a11 I) = W16 I := by
  delta out0_16
  beta_reduce
  rw [cn_9]
  rw [p31_eq]; exact qcT_eq I

def W17 : S1x20.Idx → EReal := fun j => qs I (j 1)
theorem out_17 : out0_17 (F := Ideal) (a0 I) (a1 I) (a2 I) (a3 I) (a4 I) (a5 I) (a6 I) (a7 I) (a8 I) (a9 I) (a10 I) (a11 I) = W17 I := by
  delta out0_17
  beta_reduce
  rw [cn_6]
  rw [p30_eq]; rfl

def W18 : S5x20x192x384.Idx → EReal := fun j => kc I (j 0) (j 1) (j 3) (j 2)
theorem out_18 : out0_18 (F := Ideal) (a0 I) (a1 I) (a2 I) (a3 I) (a4 I) (a5 I) (a6 I) (a7 I) (a8 I) (a9 I) (a10 I) (a11 I) = W18 I := by
  delta out0_18
  beta_reduce
  rw [cn_9]
  rw [p33_eq]; exact kcT_eq I

def W19 : S1x20.Idx → EReal := fun j => ks I (j 1)
theorem out_19 : out0_19 (F := Ideal) (a0 I) (a1 I) (a2 I) (a3 I) (a4 I) (a5 I) (a6 I) (a7 I) (a8 I) (a9 I) (a10 I) (a11 I) = W19 I := by
  delta out0_19
  beta_reduce
  rw [cn_6]
  rw [p32_eq]; rfl

def W20 : S5x20x384x128.Idx → EReal := fun j => vc I (j 0) (j 1) (j 2) (j 3)
theorem out_20 : out0_20 (F := Ideal) (a0 I) (a1 I) (a2 I) (a3 I) (a4 I) (a5 I) (a6 I) (a7 I) (a8 I) (a9 I) (a10 I) (a11 I) = W20 I := by
  delta out0_20
  beta_reduce
  rw [cn_4]
  rw [p35_eq]; rfl

def W21 : S1x20.Idx → EReal := fun j => vs I (j 1)
theorem out_21 : out0_21 (F := Ideal) (a0 I) (a1 I) (a2 I) (a3 I) (a4 I) (a5 I) (a6 I) (a7 I) (a8 I) (a9 I) (a10 I) (a11 I) = W21 I := by
  delta out0_21
  beta_reduce
  rw [cn_6]
  rw [p34_eq]; rfl

end Cert.ReferenceIdeal.Val

end
-- ==== Proof.RefRun.lean ====
/- The reference's run: what its results are, as functions of the arguments. -/
module

public import proofs.«01_k».proof.Proof.RefOut
public import Idealize.ShloMosaic.Lib.Pipeline.Value
public import Idealize.ShloMosaic.Lib.Pipeline.ValueKit
public import Idealize.ShloMosaic.Lib.StableHlo.RunRead

@[expose] public section

set_option maxRecDepth 16384

noncomputable section

namespace Cert.ReferenceIdeal.Val

open Cert.ReferenceIdeal.Gen
open Idealize.ShloMosaic Idealize.ShloMosaic.TcCoe Idealize.ShloMosaic.Tactic
open Cert.Mla

variable (m : (ℓ : Loc nD τ sig) → Buf (Elt Ideal) ℓ)

/-- The arguments, read off the launched memory. -/
def inOf (c : Dev nD) : In where
  ckv b t l := (m ((c : Thread nD τ).loc main_arg0) : S5x384x512.Idx → EReal) (ix3 b t l)
  cs b t := (m ((c : Thread nD τ).loc main_arg1) : S5x384.Idx → EReal) (ix2 b t)
  kr b t l := (m ((c : Thread nD τ).loc main_arg2) : S5x384x64.Idx → EReal) (ix3 b t l)
  qn b t h l := (m ((c : Thread nD τ).loc main_arg3) : S5x384x20x128.Idx → EReal) (ix4 b t h l)
  qr b t h l := (m ((c : Thread nD τ).loc main_arg4) : S5x384x20x64.Idx → EReal) (ix4 b t h l)
  wuk h l c' := (m ((c : Thread nD τ).loc main_arg5) : S20x512x128.Idx → EReal) (ix3 h l c')
  wks h c' := (m ((c : Thread nD τ).loc main_arg6) : S20x128.Idx → EReal) (ix2 h c')
  wuv h l c' := (m ((c : Thread nD τ).loc main_arg7) : S20x512x128.Idx → EReal) (ix3 h l c')
  wvs h c' := (m ((c : Thread nD τ).loc main_arg8) : S20x128.Idx → EReal) (ix2 h c')
  qh r h := (m ((c : Thread nD τ).loc main_arg9) : S13x20.Idx → EReal) (ix2 r h)
  kh r h := (m ((c : Thread nD τ).loc main_arg10) : S13x20.Idx → EReal) (ix2 r h)
  vh r h := (m ((c : Thread nD τ).loc main_arg11) : S13x20.Idx → EReal) (ix2 r h)

theorem V_main_v0 (c : Dev nD) : V m c main_v0 = transpose S5x20x384x128 [0, 2, 1, 3] (m ((c : Thread nD τ).loc main_arg3) : S5x384x20x128.Idx → EReal) transposes_S5x384x20x128_S5x20x384x128_0_2_1_3 := by
  show StableHlo.after hostOps0 _ (Proc.devRef .tc main_v0) = _
  after_results
theorem V_main_v1 (c : Dev nD) : V m c main_v1 = transpose S5x20x384x64 [0, 2, 1, 3] (m ((c : Thread nD τ).loc main_arg4) : S5x384x20x64.Idx → EReal) transposes_S5x384x20x64_S5x20x384x64_0_2_1_3 := by
  show StableHlo.after hostOps0 _ (Proc.devRef .tc main_v1) = _
  after_results
theorem tr3 (X : S5x384x20x128.Idx → EReal) (y : S5x20x384x128.Idx) : transpose S5x20x384x128 [0, 2, 1, 3] X transposes_S5x384x20x128_S5x20x384x128_0_2_1_3 y = X (ix4 (y 0) (y 2) (y 1) (y 3)) := by
  idx_vars y
  pointwise
theorem tr4 (X : S5x384x20x64.Idx → EReal) (y : S5x20x384x64.Idx) : transpose S5x20x384x64 [0, 2, 1, 3] X transposes_S5x384x20x64_S5x20x384x64_0_2_1_3 y = X (ix4 (y 0) (y 2) (y 1) (y 3)) := by
  idx_vars y
  pointwise
theorem emb_0 (t : Fin cfg0.N) (y : S5x384x512.Idx) : ((cfg0.win 0).blk t).view.emb y = y :=
  funext fun (a : Fin 3) => Fin.ext (by show 0 * _ + 1 * (y a).val = (y a).val; omega)
theorem emb_1 (t : Fin cfg0.N) (y : S5x384.Idx) : ((cfg0.win 1).blk t).view.emb y = y :=
  funext fun (a : Fin 2) => Fin.ext (by show 0 * _ + 1 * (y a).val = (y a).val; omega)
theorem emb_2 (t : Fin cfg0.N) (y : S5x384x64.Idx) : ((cfg0.win 2).blk t).view.emb y = y :=
  funext fun (a : Fin 3) => Fin.ext (by show 0 * _ + 1 * (y a).val = (y a).val; omega)
theorem emb_3 (t : Fin cfg0.N) (y : S5x20x384x128.Idx) : ((cfg0.win 3).blk t).view.emb y = y :=
  funext fun (a : Fin 4) => Fin.ext (by show 0 * _ + 1 * (y a).val = (y a).val; omega)
theorem emb_4 (t : Fin cfg0.N) (y : S5x20x384x64.Idx) : ((cfg0.win 4).blk t).view.emb y = y :=
  funext fun (a : Fin 4) => Fin.ext (by show 0 * _ + 1 * (y a).val = (y a).val; omega)
theorem emb_5 (t : Fin cfg0.N) (y : S20x512x128.Idx) : ((cfg0.win 5).blk t).view.emb y = y :=
  funext fun (a : Fin 3) => Fin.ext (by show 0 * _ + 1 * (y a).val = (y a).val; omega)
theorem emb_6 (t : Fin cfg0.N) (y : S20x128.Idx) : ((cfg0.win 6).blk t).view.emb y = y :=
  funext fun (a : Fin 2) => Fin.ext (by show 0 * _ + 1 * (y a).val = (y a).val; omega)
theorem emb_7 (t : Fin cfg0.N) (y : S20x512x128.Idx) : ((cfg0.win 7).blk t).view.emb y = y :=
  funext fun (a : Fin 3) => Fin.ext (by show 0 * _ + 1 * (y a).val = (y a).val; omega)
theorem emb_8 (t : Fin cfg0.N) (y : S20x128.Idx) : ((cfg0.win 8).blk t).view.emb y = y :=
  funext fun (a : Fin 2) => Fin.ext (by show 0 * _ + 1 * (y a).val = (y a).val; omega)
theorem emb_9 (t : Fin cfg0.N) (y : S13x20.Idx) : ((cfg0.win 9).blk t).view.emb y = y :=
  funext fun (a : Fin 2) => Fin.ext (by show 0 * _ + 1 * (y a).val = (y a).val; omega)
theorem emb_10 (t : Fin cfg0.N) (y : S13x20.Idx) : ((cfg0.win 10).blk t).view.emb y = y :=
  funext fun (a : Fin 2) => Fin.ext (by show 0 * _ + 1 * (y a).val = (y a).val; omega)
theorem emb_11 (t : Fin cfg0.N) (y : S13x20.Idx) : ((cfg0.win 11).blk t).view.emb y = y :=
  funext fun (a : Fin 2) => Fin.ext (by show 0 * _ + 1 * (y a).val = (y a).val; omega)
theorem emb_12 (t : Fin cfg0.N) (y : S5x20x384x128.Idx) : ((cfg0.win 12).blk t).view.emb y = y :=
  funext fun (a : Fin 4) => Fin.ext (by show 0 * _ + 1 * (y a).val = (y a).val; omega)
theorem emb_13 (t : Fin cfg0.N) (y : S1x20.Idx) : ((cfg0.win 13).blk t).view.emb y = y :=
  funext fun (a : Fin 2) => Fin.ext (by show 0 * _ + 1 * (y a).val = (y a).val; omega)
theorem emb_14 (t : Fin cfg0.N) (y : S1x20.Idx) : ((cfg0.win 14).blk t).view.emb y = y :=
  funext fun (a : Fin 2) => Fin.ext (by show 0 * _ + 1 * (y a).val = (y a).val; omega)
theorem emb_15 (t : Fin cfg0.N) (y : S1x20.Idx) : ((cfg0.win 15).blk t).view.emb y = y :=
  funext fun (a : Fin 2) => Fin.ext (by show 0 * _ + 1 * (y a).val = (y a).val; omega)
theorem emb_16 (t : Fin cfg0.N) (y : S5x20x192x384.Idx) : ((cfg0.win 16).blk t).view.emb y = y :=
  funext fun (a : Fin 4) => Fin.ext (by show 0 * _ + 1 * (y a).val = (y a).val; omega)
theorem emb_17 (t : Fin cfg0.N) (y : S1x20.Idx) : ((cfg0.win 17).blk t).view.emb y = y :=
  funext fun (a : Fin 2) => Fin.ext (by show 0 * _ + 1 * (y a).val = (y a).val; omega)
theorem emb_18 (t : Fin cfg0.N) (y : S5x20x192x384.Idx) : ((cfg0.win 18).blk t).view.emb y = y :=
  funext fun (a : Fin 4) => Fin.ext (by show 0 * _ + 1 * (y a).val = (y a).val; omega)
theorem emb_19 (t : Fin cfg0.N) (y : S1x20.Idx) : ((cfg0.win 19).blk t).view.emb y = y :=
  funext fun (a : Fin 2) => Fin.ext (by show 0 * _ + 1 * (y a).val = (y a).val; omega)
theorem emb_20 (t : Fin cfg0.N) (y : S5x20x384x128.Idx) : ((cfg0.win 20).blk t).view.emb y = y :=
  funext fun (a : Fin 4) => Fin.ext (by show 0 * _ + 1 * (y a).val = (y a).val; omega)
theorem emb_21 (t : Fin cfg0.N) (y : S1x20.Idx) : ((cfg0.win 21).blk t).view.emb y = y :=
  funext fun (a : Fin 2) => Fin.ext (by show 0 * _ + 1 * (y a).val = (y a).val; omega)

theorem blk_0 (c : Dev nD) (t : Fin cfg0.N) : iblk m c 0 t = a0 (inOf m c) := by
  funext (j : S5x384x512.Idx)
  show (V m c main_arg0) (((cfg0.win 0).blk t).view.emb j) = _
  rw [emb_0, V_main_arg0]
  idx_vars j; rfl

theorem blk_1 (c : Dev nD) (t : Fin cfg0.N) : iblk m c 1 t = a1 (inOf m c) := by
  funext (j : S5x384.Idx)
  show (V m c main_arg1) (((cfg0.win 1).blk t).view.emb j) = _
  rw [emb_1, V_main_arg1]
  idx_vars j; rfl

theorem blk_2 (c : Dev nD) (t : Fin cfg0.N) : iblk m c 2 t = a2 (inOf m c) := by
  funext (j : S5x384x64.Idx)
  show (V m c main_arg2) (((cfg0.win 2).blk t).view.emb j) = _
  rw [emb_2, V_main_arg2]
  idx_vars j; rfl

theorem blk_3 (c : Dev nD) (t : Fin cfg0.N) : iblk m c 3 t = a3 (inOf m c) := by
  funext (j : S5x20x384x128.Idx)
  show (V m c main_v0) (((cfg0.win 3).blk t).view.emb j) = _
  rw [emb_3, V_main_v0]
  exact tr3 _ _

theorem blk_4 (c : Dev nD) (t : Fin cfg0.N) : iblk m c 4 t = a4 (inOf m c) := by
  funext (j : S5x20x384x64.Idx)
  show (V m c main_v1) (((cfg0.win 4).blk t).view.emb j) = _
  rw [emb_4, V_main_v1]
  exact tr4 _ _

theorem blk_5 (c : Dev nD) (t : Fin cfg0.N) : iblk m c 5 t = a5 (inOf m c) := by
  funext (j : S20x512x128.Idx)
  show (V m c main_arg5) (((cfg0.win 5).blk t).view.emb j) = _
  rw [emb_5, V_main_arg5]
  idx_vars j; rfl

theorem blk_6 (c : Dev nD) (t : Fin cfg0.N) : iblk m c 6 t = a6 (inOf m c) := by
  funext (j : S20x128.Idx)
  show (V m c main_arg6) (((cfg0.win 6).blk t).view.emb j) = _
  rw [emb_6, V_main_arg6]
  idx_vars j; rfl

theorem blk_7 (c : Dev nD) (t : Fin cfg0.N) : iblk m c 7 t = a7 (inOf m c) := by
  funext (j : S20x512x128.Idx)
  show (V m c main_arg7) (((cfg0.win 7).blk t).view.emb j) = _
  rw [emb_7, V_main_arg7]
  idx_vars j; rfl

theorem blk_8 (c : Dev nD) (t : Fin cfg0.N) : iblk m c 8 t = a8 (inOf m c) := by
  funext (j : S20x128.Idx)
  show (V m c main_arg8) (((cfg0.win 8).blk t).view.emb j) = _
  rw [emb_8, V_main_arg8]
  idx_vars j; rfl

theorem blk_9 (c : Dev nD) (t : Fin cfg0.N) : iblk m c 9 t = a9 (inOf m c) := by
  funext (j : S13x20.Idx)
  show (V m c main_arg9) (((cfg0.win 9).blk t).view.emb j) = _
  rw [emb_9, V_main_arg9]
  idx_vars j; rfl

theorem blk_10 (c : Dev nD) (t : Fin cfg0.N) : iblk m c 10 t = a10 (inOf m c) := by
  funext (j : S13x20.Idx)
  show (V m c main_arg10) (((cfg0.win 10).blk t).view.emb j) = _
  rw [emb_10, V_main_arg10]
  idx_vars j; rfl

theorem blk_11 (c : Dev nD) (t : Fin cfg0.N) : iblk m c 11 t = a11 (inOf m c) := by
  funext (j : S13x20.Idx)
  show (V m c main_arg11) (((cfg0.win 11).blk t).view.emb j) = _
  rw [emb_11, V_main_arg11]
  idx_vars j; rfl

variable (ρ : Dev nD → PrngReg)

/-- The one point. -/
def t0 : Fin cfg0.N := ⟨0, by decide⟩

theorem flushed_12 (c : Dev nD) (t : Fin cfg0.N) (hf : (cfg0.win 12).flush t = true) :
    (dats m 0 c).flushed 12 t = ((cfg0.win 12).blk t).view.read (Elt Ideal) (W12 (inOf m c)) := by
  show (cfg0.win 12).cut (grid0.coords t) ((dats m 0 c).after 12 t) = _
  rw [after0_12, blk_0, blk_1, blk_2, blk_3, blk_4, blk_5, blk_6, blk_7, blk_8, blk_9, blk_10, blk_11, out_12]
  funext (y : S5x20x384x128.Idx)
  show W12 (inOf m c) y = W12 (inOf m c) (((cfg0.win 12).blk t).view.emb y)
  rw [emb_12]
theorem final_12 (c : Dev nD) : (dats m 0 c).arrAt 12 cfg0.N = W12 (inOf m c) :=
  (dats m 0 c).arrAt_eq_of_cover 12 (W12 (inOf m c)) (flushed_12 m c) fun (i : S5x20x384x128.Idx) =>
    ⟨t0, flush0_12 _, Eq.mpr (congrArg (fun z => z ∈ ((cfg0.win 12).blk t0).view.set) (emb_12 t0 i).symm) (View.emb_mem_set _ _)⟩

theorem flushed_13 (c : Dev nD) (t : Fin cfg0.N) (hf : (cfg0.win 13).flush t = true) :
    (dats m 0 c).flushed 13 t = ((cfg0.win 13).blk t).view.read (Elt Ideal) (W13 (inOf m c)) := by
  show (cfg0.win 13).cut (grid0.coords t) ((dats m 0 c).after 13 t) = _
  rw [after0_13, blk_0, blk_1, blk_2, blk_3, blk_4, blk_5, blk_6, blk_7, blk_8, blk_9, blk_10, blk_11, out_13]
  funext (y : S1x20.Idx)
  show W13 (inOf m c) y = W13 (inOf m c) (((cfg0.win 13).blk t).view.emb y)
  rw [emb_13]
theorem final_13 (c : Dev nD) : (dats m 0 c).arrAt 13 cfg0.N = W13 (inOf m c) :=
  (dats m 0 c).arrAt_eq_of_cover 13 (W13 (inOf m c)) (flushed_13 m c) fun (i : S1x20.Idx) =>
    ⟨t0, flush0_13 _, Eq.mpr (congrArg (fun z => z ∈ ((cfg0.win 13).blk t0).view.set) (emb_13 t0 i).symm) (View.emb_mem_set _ _)⟩

theorem flushed_14 (c : Dev nD) (t : Fin cfg0.N) (hf : (cfg0.win 14).flush t = true) :
    (dats m 0 c).flushed 14 t = ((cfg0.win 14).blk t).view.read (Elt Ideal) (W14 (inOf m c)) := by
  show (cfg0.win 14).cut (grid0.coords t) ((dats m 0 c).after 14 t) = _
  rw [after0_14, blk_0, blk_1, blk_2, blk_3, blk_4, blk_5, blk_6, blk_7, blk_8, blk_9, blk_10, blk_11, out_14]
  funext (y : S1x20.Idx)
  show W14 (inOf m c) y = W14 (inOf m c) (((cfg0.win 14).blk t).view.emb y)
  rw [emb_14]
theorem final_14 (c : Dev nD) : (dats m 0 c).arrAt 14 cfg0.N = W14 (inOf m c) :=
  (dats m 0 c).arrAt_eq_of_cover 14 (W14 (inOf m c)) (flushed_14 m c) fun (i : S1x20.Idx) =>
    ⟨t0, flush0_14 _, Eq.mpr (congrArg (fun z => z ∈ ((cfg0.win 14).blk t0).view.set) (emb_14 t0 i).symm) (View.emb_mem_set _ _)⟩

theorem flushed_15 (c : Dev nD) (t : Fin cfg0.N) (hf : (cfg0.win 15).flush t = true) :
    (dats m 0 c).flushed 15 t = ((cfg0.win 15).blk t).view.read (Elt Ideal) (W15 (inOf m c)) := by
  show (cfg0.win 15).cut (grid0.coords t) ((dats m 0 c).after 15 t) = _
  rw [after0_15, blk_0, blk_1, blk_2, blk_3, blk_4, blk_5, blk_6, blk_7, blk_8, blk_9, blk_10, blk_11, out_15]
  funext (y : S1x20.Idx)
  show W15 (inOf m c) y = W15 (inOf m c) (((cfg0.win 15).blk t).view.emb y)
  rw [emb_15]
theorem final_15 (c : Dev nD) : (dats m 0 c).arrAt 15 cfg0.N = W15 (inOf m c) :=
  (dats m 0 c).arrAt_eq_of_cover 15 (W15 (inOf m c)) (flushed_15 m c) fun (i : S1x20.Idx) =>
    ⟨t0, flush0_15 _, Eq.mpr (congrArg (fun z => z ∈ ((cfg0.win 15).blk t0).view.set) (emb_15 t0 i).symm) (View.emb_mem_set _ _)⟩

theorem flushed_16 (c : Dev nD) (t : Fin cfg0.N) (hf : (cfg0.win 16).flush t = true) :
    (dats m 0 c).flushed 16 t = ((cfg0.win 16).blk t).view.read (Elt Ideal) (W16 (inOf m c)) := by
  show (cfg0.win 16).cut (grid0.coords t) ((dats m 0 c).after 16 t) = _
  rw [after0_16, blk_0, blk_1, blk_2, blk_3, blk_4, blk_5, blk_6, blk_7, blk_8, blk_9, blk_10, blk_11, out_16]
  funext (y : S5x20x192x384.Idx)
  show W16 (inOf m c) y = W16 (inOf m c) (((cfg0.win 16).blk t).view.emb y)
  rw [emb_16]
theorem final_16 (c : Dev nD) : (dats m 0 c).arrAt 16 cfg0.N = W16 (inOf m c) :=
  (dats m 0 c).arrAt_eq_of_cover 16 (W16 (inOf m c)) (flushed_16 m c) fun (i : S5x20x192x384.Idx) =>
    ⟨t0, flush0_16 _, Eq.mpr (congrArg (fun z => z ∈ ((cfg0.win 16).blk t0).view.set) (emb_16 t0 i).symm) (View.emb_mem_set _ _)⟩

theorem flushed_17 (c : Dev nD) (t : Fin cfg0.N) (hf : (cfg0.win 17).flush t = true) :
    (dats m 0 c).flushed 17 t = ((cfg0.win 17).blk t).view.read (Elt Ideal) (W17 (inOf m c)) := by
  show (cfg0.win 17).cut (grid0.coords t) ((dats m 0 c).after 17 t) = _
  rw [after0_17, blk_0, blk_1, blk_2, blk_3, blk_4, blk_5, blk_6, blk_7, blk_8, blk_9, blk_10, blk_11, out_17]
  funext (y : S1x20.Idx)
  show W17 (inOf m c) y = W17 (inOf m c) (((cfg0.win 17).blk t).view.emb y)
  rw [emb_17]
theorem final_17 (c : Dev nD) : (dats m 0 c).arrAt 17 cfg0.N = W17 (inOf m c) :=
  (dats m 0 c).arrAt_eq_of_cover 17 (W17 (inOf m c)) (flushed_17 m c) fun (i : S1x20.Idx) =>
    ⟨t0, flush0_17 _, Eq.mpr (congrArg (fun z => z ∈ ((cfg0.win 17).blk t0).view.set) (emb_17 t0 i).symm) (View.emb_mem_set _ _)⟩

theorem flushed_18 (c : Dev nD) (t : Fin cfg0.N) (hf : (cfg0.win 18).flush t = true) :
    (dats m 0 c).flushed 18 t = ((cfg0.win 18).blk t).view.read (Elt Ideal) (W18 (inOf m c)) := by
  show (cfg0.win 18).cut (grid0.coords t) ((dats m 0 c).after 18 t) = _
  rw [after0_18, blk_0, blk_1, blk_2, blk_3, blk_4, blk_5, blk_6, blk_7, blk_8, blk_9, blk_10, blk_11, out_18]
  funext (y : S5x20x192x384.Idx)
  show W18 (inOf m c) y = W18 (inOf m c) (((cfg0.win 18).blk t).view.emb y)
  rw [emb_18]
theorem final_18 (c : Dev nD) : (dats m 0 c).arrAt 18 cfg0.N = W18 (inOf m c) :=
  (dats m 0 c).arrAt_eq_of_cover 18 (W18 (inOf m c)) (flushed_18 m c) fun (i : S5x20x192x384.Idx) =>
    ⟨t0, flush0_18 _, Eq.mpr (congrArg (fun z => z ∈ ((cfg0.win 18).blk t0).view.set) (emb_18 t0 i).symm) (View.emb_mem_set _ _)⟩

theorem flushed_19 (c : Dev nD) (t : Fin cfg0.N) (hf : (cfg0.win 19).flush t = true) :
    (dats m 0 c).flushed 19 t = ((cfg0.win 19).blk t).view.read (Elt Ideal) (W19 (inOf m c)) := by
  show (cfg0.win 19).cut (grid0.coords t) ((dats m 0 c).after 19 t) = _
  rw [after0_19, blk_0, blk_1, blk_2, blk_3, blk_4, blk_5, blk_6, blk_7, blk_8, blk_9, blk_10, blk_11, out_19]
  funext (y : S1x20.Idx)
  show W19 (inOf m c) y = W19 (inOf m c) (((cfg0.win 19).blk t).view.emb y)
  rw [emb_19]
theorem final_19 (c : Dev nD) : (dats m 0 c).arrAt 19 cfg0.N = W19 (inOf m c) :=
  (dats m 0 c).arrAt_eq_of_cover 19 (W19 (inOf m c)) (flushed_19 m c) fun (i : S1x20.Idx) =>
    ⟨t0, flush0_19 _, Eq.mpr (congrArg (fun z => z ∈ ((cfg0.win 19).blk t0).view.set) (emb_19 t0 i).symm) (View.emb_mem_set _ _)⟩

theorem flushed_20 (c : Dev nD) (t : Fin cfg0.N) (hf : (cfg0.win 20).flush t = true) :
    (dats m 0 c).flushed 20 t = ((cfg0.win 20).blk t).view.read (Elt Ideal) (W20 (inOf m c)) := by
  show (cfg0.win 20).cut (grid0.coords t) ((dats m 0 c).after 20 t) = _
  rw [after0_20, blk_0, blk_1, blk_2, blk_3, blk_4, blk_5, blk_6, blk_7, blk_8, blk_9, blk_10, blk_11, out_20]
  funext (y : S5x20x384x128.Idx)
  show W20 (inOf m c) y = W20 (inOf m c) (((cfg0.win 20).blk t).view.emb y)
  rw [emb_20]
theorem final_20 (c : Dev nD) : (dats m 0 c).arrAt 20 cfg0.N = W20 (inOf m c) :=
  (dats m 0 c).arrAt_eq_of_cover 20 (W20 (inOf m c)) (flushed_20 m c) fun (i : S5x20x384x128.Idx) =>
    ⟨t0, flush0_20 _, Eq.mpr (congrArg (fun z => z ∈ ((cfg0.win 20).blk t0).view.set) (emb_20 t0 i).symm) (View.emb_mem_set _ _)⟩

theorem flushed_21 (c : Dev nD) (t : Fin cfg0.N) (hf : (cfg0.win 21).flush t = true) :
    (dats m 0 c).flushed 21 t = ((cfg0.win 21).blk t).view.read (Elt Ideal) (W21 (inOf m c)) := by
  show (cfg0.win 21).cut (grid0.coords t) ((dats m 0 c).after 21 t) = _
  rw [after0_21, blk_0, blk_1, blk_2, blk_3, blk_4, blk_5, blk_6, blk_7, blk_8, blk_9, blk_10, blk_11, out_21]
  funext (y : S1x20.Idx)
  show W21 (inOf m c) y = W21 (inOf m c) (((cfg0.win 21).blk t).view.emb y)
  rw [emb_21]
theorem final_21 (c : Dev nD) : (dats m 0 c).arrAt 21 cfg0.N = W21 (inOf m c) :=
  (dats m 0 c).arrAt_eq_of_cover 21 (W21 (inOf m c)) (flushed_21 m c) fun (i : S1x20.Idx) =>
    ⟨t0, flush0_21 _, Eq.mpr (congrArg (fun z => z ∈ ((cfg0.win 21).blk t0).view.set) (emb_21 t0 i).symm) (View.emb_mem_set _ _)⟩

/-- After the frame run, argument `main_arg0` is as launched: input window 0 stages it and never writes it back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 5 stages it and never writes it back. -/
theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 9 stages it and never writes it back. -/
theorem kept_main_arg9 (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- After the frame run, argument `main_arg10` is as launched: input window 10 stages it and never writes it back. -/
theorem kept_main_arg10 (r : PUnit × MemSt nD τ sig (Elt Ideal)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- After the frame run, argument `main_arg11` is as launched: input window 11 stages it and never writes it back. -/
theorem kept_main_arg11 (r : PUnit × MemSt nD τ sig (Elt Ideal)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

theorem run : θ_run defs (onTc (τ := τ) (main (F := Ideal))) ⟨m, fun _ => 0, ρ⟩ fun r => ∀ c : Dev nD,
      r.2.mem ((c : Thread nD τ).loc main_v2_0) = W12 (inOf m c)
      ∧ r.2.mem ((c : Thread nD τ).loc main_v2_1) = W13 (inOf m c)
      ∧ r.2.mem ((c : Thread nD τ).loc main_v2_2) = W14 (inOf m c)
      ∧ r.2.mem ((c : Thread nD τ).loc main_v2_3) = W15 (inOf m c)
      ∧ r.2.mem ((c : Thread nD τ).loc main_v2_4) = W16 (inOf m c)
      ∧ r.2.mem ((c : Thread nD τ).loc main_v2_5) = W17 (inOf m c)
      ∧ r.2.mem ((c : Thread nD τ).loc main_v2_6) = W18 (inOf m c)
      ∧ r.2.mem ((c : Thread nD τ).loc main_v2_7) = W19 (inOf m c)
      ∧ r.2.mem ((c : Thread nD τ).loc main_v2_8) = W20 (inOf m c)
      ∧ r.2.mem ((c : Thread nD τ).loc main_v2_9) = W21 (inOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨((h c).1 12).trans (final_12 m c), ((h c).1 13).trans (final_13 m c), ((h c).1 14).trans (final_14 m c), ((h c).1 15).trans (final_15 m c), ((h c).1 16).trans (final_16 m c), ((h c).1 17).trans (final_17 m c), ((h c).1 18).trans (final_18 m c), ((h c).1 19).trans (final_19 m c), ((h c).1 20).trans (final_20 m c), ((h c).1 21).trans (final_21 m c), kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c, kept_main_arg10 m r h c, kept_main_arg11 m r h c⟩)
    (run_main m ρ)

end Cert.ReferenceIdeal.Val

end
-- ==== Proof.Bound.lean ====
/- What the precondition says: every entry of the histories is a finite f32. -/
module

public import proofs.«01_k».proof.Defs
public import proofs.«01_k».proof.Proof.Blocks
public import Idealize.ShloMosaic.Lib.ReduceAll
public import Idealize.ShloMosaic.Lib.Affine

@[expose] public section

set_option maxRecDepth 16384

noncomputable section

namespace Cert.Pre_bounded

open Idealize.ShloMosaic

instance facts : Cert.Pre_bounded.Facts where
  bcast_S_S13x20 := by decide
  reducesTo_S13x20_S_d0_1 := by decide
  h_S_ := by decide

instance : Subsingleton S_.Idx := ⟨fun a b => funext fun k => k.elim0⟩

/-- One history's part of the precondition. -/
theorem part (X : FVec Ideal S13x20 .f32) (j : S_.Idx)
    (e : Host.reduce IntOp.andi (cmpf .ole (Host.absf X) (broadcastInDim S13x20 ![] facts.bcast_S_S13x20 (constant (F := Ideal) S_ .f32 0x7F7FFFFF#32)))
      (constantI S_ 1 1#1) facts.reducesTo_S13x20_S_d0_1 facts.h_S_ j = 1#1) (i : S13x20.Idx) :
    Cert.Mla.mag (X i) ≤ Ideal.ofBits .f32 0x7F7FFFFF#32 := by
  have h := Host.reduce_andi_all _ _ _ _ j e i
  have h' : BitVec.ofBool (decide (Cert.Mla.mag (X i) ≤ Ideal.ofBits .f32 0x7F7FFFFF#32)) = 1#1 := h
  by_contra hn
  rw [decide_eq_false hn] at h'
  exact absurd h' (by decide)

theorem bounded (m : (ℓ : Loc Cert.KernelIdeal.nD Cert.KernelIdeal.τ Cert.KernelIdeal.sig) → Buf (Elt Ideal) ℓ)
    (h : Cert.Pre_KernelIdeal_bounded m) (c : Dev Cert.KernelIdeal.nD) : Cert.Mla.Bounded (Cert.KernelIdeal.Val.inOf m c) := by
  have e := congrFun (h c) (fun k => k.elim0 : S_.Idx)
  obtain ⟨e12, e3⟩ := IntOp.andi_eq_one.mp e
  obtain ⟨e1, e2⟩ := IntOp.andi_eq_one.mp e12
  exact ⟨fun r i => part _ _ e1 _, fun r i => part _ _ e2 _, fun r i => part _ _ e3 _⟩

end Cert.Pre_bounded

end
-- ==== Proof.lean ====
module

public import proofs.«01_k».proof.Defs
public import proofs.«01_k».proof.Proof.KernelFrame
public import proofs.«01_k».proof.Proof.IdealFrame
public import proofs.«01_k».proof.Proof.KerFinal
public import proofs.«01_k».proof.Proof.RefRun
public import proofs.«01_k».proof.Proof.Bound
public import Idealize.ShloMosaic.Adequacy
public import Idealize.ShloMosaic.Init

@[expose] public section

noncomputable section

namespace Cert.Proof

open Idealize.ShloMosaic Idealize.ShloMosaic.TcCoe Idealize.SL.Sem

/-! ## The idealized kernel's run -/

section

open Cert.KernelIdeal Cert.KernelIdeal.Gen Cert.KernelIdeal.Val

variable (m : (ℓ : Loc Cert.KernelIdeal.nD Cert.KernelIdeal.τ Cert.KernelIdeal.sig) → Buf (Elt Ideal) ℓ) (ρ : Dev Cert.KernelIdeal.nD → PrngReg)

theorem kept_main_arg0 (r : PUnit × MemSt nD τ sig (Elt Ideal)) (h : Pipeline.FramePost cfgs (vdats m) 0 (V m) r) (c : Dev nD) :
    r.2.mem ((c : Thread nD τ).loc main_arg0) = m ((c : Thread nD τ).loc main_arg0) :=
  ((h c).1 0).trans (((vdats m 0 c).arrAt_in 0 rfl _).trans ((vA_eq m c 0).trans (V_main_arg0 m c)))
theorem kept_main_arg1 (r : PUnit × MemSt nD τ sig (Elt Ideal)) (h : Pipeline.FramePost cfgs (vdats m) 0 (V m) r) (c : Dev nD) :
    r.2.mem ((c : Thread nD τ).loc main_arg1) = m ((c : Thread nD τ).loc main_arg1) :=
  ((h c).1 1).trans (((vdats m 0 c).arrAt_in 1 rfl _).trans ((vA_eq m c 1).trans (V_main_arg1 m c)))
theorem kept_main_arg2 (r : PUnit × MemSt nD τ sig (Elt Ideal)) (h : Pipeline.FramePost cfgs (vdats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
theorem kept_main_arg3 (r : PUnit × MemSt nD τ sig (Elt Ideal)) (h : Pipeline.FramePost cfgs (vdats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
theorem kept_main_arg4 (r : PUnit × MemSt nD τ sig (Elt Ideal)) (h : Pipeline.FramePost cfgs (vdats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
theorem kept_main_arg5 (r : PUnit × MemSt nD τ sig (Elt Ideal)) (h : Pipeline.FramePost cfgs (vdats m) 0 (V m) r) (c : Dev nD) :
    r.2.mem ((c : Thread nD τ).loc main_arg5) = m ((c : Thread nD τ).loc main_arg5) :=
  ((h c).1 5).trans (((vdats m 0 c).arrAt_in 5 rfl _).trans ((vA_eq m c 5).trans (V_main_arg5 m c)))
theorem kept_main_arg6 (r : PUnit × MemSt nD τ sig (Elt Ideal)) (h : Pipeline.FramePost cfgs (vdats m) 0 (V m) r) (c : Dev nD) :
    r.2.mem ((c : Thread nD τ).loc main_arg6) = m ((c : Thread nD τ).loc main_arg6) :=
  ((h c).1 6).trans (((vdats m 0 c).arrAt_in 6 rfl _).trans ((vA_eq m c 6).trans (V_main_arg6 m c)))
theorem kept_main_arg7 (r : PUnit × MemSt nD τ sig (Elt Ideal)) (h : Pipeline.FramePost cfgs (vdats m) 0 (V m) r) (c : Dev nD) :
    r.2.mem ((c : Thread nD τ).loc main_arg7) = m ((c : Thread nD τ).loc main_arg7) :=
  ((h c).1 7).trans (((vdats m 0 c).arrAt_in 7 rfl _).trans ((vA_eq m c 7).trans (V_main_arg7 m c)))
theorem kept_main_arg8 (r : PUnit × MemSt nD τ sig (Elt Ideal)) (h : Pipeline.FramePost cfgs (vdats m) 0 (V m) r) (c : Dev nD) :
    r.2.mem ((c : Thread nD τ).loc main_arg8) = m ((c : Thread nD τ).loc main_arg8) :=
  ((h c).1 8).trans (((vdats m 0 c).arrAt_in 8 rfl _).trans ((vA_eq m c 8).trans (V_main_arg8 m c)))
theorem kept_main_arg9 (r : PUnit × MemSt nD τ sig (Elt Ideal)) (h : Pipeline.FramePost cfgs (vdats m) 0 (V m) r) (c : Dev nD) :
    r.2.mem ((c : Thread nD τ).loc main_arg9) = m ((c : Thread nD τ).loc main_arg9) :=
  ((h c).1 9).trans (((vdats m 0 c).arrAt_in 9 rfl _).trans ((vA_eq m c 9).trans (V_main_arg9 m c)))
theorem kept_main_arg10 (r : PUnit × MemSt nD τ sig (Elt Ideal)) (h : Pipeline.FramePost cfgs (vdats m) 0 (V m) r) (c : Dev nD) :
    r.2.mem ((c : Thread nD τ).loc main_arg10) = m ((c : Thread nD τ).loc main_arg10) :=
  ((h c).1 10).trans (((vdats m 0 c).arrAt_in 10 rfl _).trans ((vA_eq m c 10).trans (V_main_arg10 m c)))
theorem kept_main_arg11 (r : PUnit × MemSt nD τ sig (Elt Ideal)) (h : Pipeline.FramePost cfgs (vdats m) 0 (V m) r) (c : Dev nD) :
    r.2.mem ((c : Thread nD τ).loc main_arg11) = m ((c : Thread nD τ).loc main_arg11) :=
  ((h c).1 11).trans (((vdats m 0 c).arrAt_in 11 rfl _).trans ((vA_eq m c 11).trans (V_main_arg11 m c)))

theorem kernel_run (HB : ∀ c, Cert.Mla.Bounded (inOf m c)) : θ_run defs (onTc (τ := τ) (main (F := Ideal))) ⟨m, fun _ => 0, ρ⟩ fun r => ∀ c : Dev nD,
      r.2.mem ((c : Thread nD τ).loc main_v3_0) = R12 (inOf m c)
      ∧ r.2.mem ((c : Thread nD τ).loc main_v3_1) = R13 (inOf m c)
      ∧ r.2.mem ((c : Thread nD τ).loc main_v3_2) = R14 (inOf m c)
      ∧ r.2.mem ((c : Thread nD τ).loc main_v3_3) = R15 (inOf m c)
      ∧ r.2.mem ((c : Thread nD τ).loc main_v3_4) = R16 (inOf m c)
      ∧ r.2.mem ((c : Thread nD τ).loc main_v3_5) = R17 (inOf m c)
      ∧ r.2.mem ((c : Thread nD τ).loc main_v3_6) = R18 (inOf m c)
      ∧ r.2.mem ((c : Thread nD τ).loc main_v3_7) = R19 (inOf m c)
      ∧ r.2.mem ((c : Thread nD τ).loc main_v3_8) = R20 (inOf m c)
      ∧ r.2.mem ((c : Thread nD τ).loc main_v3_9) = R21 (inOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨((h.1 c).1 12).trans (final_12 m c), ((h.1 c).1 13).trans (final_13 m c), ((h.1 c).1 14).trans (final_14 m c), ((h.1 c).1 15).trans (final_15 m c), ((h.1 c).1 16).trans (final_16 m c), ((h.1 c).1 17).trans (final_17 m c), ((h.1 c).1 18).trans (final_18 m c), ((h.1 c).1 19).trans (final_19 m c), ((h.1 c).1 20).trans (final_20 m c), ((h.1 c).1 21).trans (final_21 m c), kept_main_arg0 m r h.1 c, kept_main_arg1 m r h.1 c, kept_main_arg2 m r h.1 c, kept_main_arg3 m r h.1 c, kept_main_arg4 m r h.1 c, kept_main_arg5 m r h.1 c, kept_main_arg6 m r h.1 c, kept_main_arg7 m r h.1 c, kept_main_arg8 m r h.1 c, kept_main_arg9 m r h.1 c, kept_main_arg10 m r h.1 c, kept_main_arg11 m r h.1 c⟩)
    (vrun m ρ HB)

end

/-! ## The two programs' arguments -/

theorem inOf_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Val.inOf m' c = Cert.KernelIdeal.Val.inOf m c := by
  obtain ⟨h0, h1, h2, h3, h4, h5, h6, h7, h8, h9, h10, h11⟩ := h
  unfold Cert.ReferenceIdeal.Val.inOf Cert.KernelIdeal.Val.inOf
  rw [Cert.Mla.In.mk.injEq]
  exact ⟨funext fun a => funext fun b => funext fun d => congrFun h0 (ix3 a b d),
    funext fun a => funext fun b => congrFun h1 (ix2 a b),
    funext fun a => funext fun b => funext fun d => congrFun h2 (ix3 a b d),
    funext fun a => funext fun b => funext fun d => funext fun f => congrFun h3 (ix4 a b d f),
    funext fun a => funext fun b => funext fun d => funext fun f => congrFun h4 (ix4 a b d f),
    funext fun a => funext fun b => funext fun d => congrFun h5 (ix3 a b d),
    funext fun a => funext fun b => congrFun h6 (ix2 a b),
    funext fun a => funext fun b => funext fun d => congrFun h7 (ix3 a b d),
    funext fun a => funext fun b => congrFun h8 (ix2 a b),
    funext fun a => funext fun b => congrFun h9 (ix2 a b),
    funext fun a => funext fun b => congrFun h10 (ix2 a b),
    funext fun a => funext fun b => congrFun h11 (ix2 a b)⟩

theorem equal : Cert.algebraic_KernelIdeal_ReferenceIdeal_pre_bounded (hKernelIdeal := Cert.KernelIdeal.Gen.facts)
    (hReferenceIdeal := Cert.ReferenceIdeal.Gen.facts) (hPre_bounded := Cert.Pre_bounded.facts) := by
  intro m g m' g' hpre hargs
  have HB := Cert.Pre_bounded.bounded m hpre
  refine ⟨fun c => Cert.KernelIdeal.Val.R12 (Cert.KernelIdeal.Val.inOf m c), fun c => Cert.KernelIdeal.Val.R13 (Cert.KernelIdeal.Val.inOf m c), fun c => Cert.KernelIdeal.Val.R14 (Cert.KernelIdeal.Val.inOf m c), fun c => Cert.KernelIdeal.Val.R15 (Cert.KernelIdeal.Val.inOf m c), fun c => Cert.KernelIdeal.Val.R16 (Cert.KernelIdeal.Val.inOf m c), fun c => Cert.KernelIdeal.Val.R17 (Cert.KernelIdeal.Val.inOf m c), fun c => Cert.KernelIdeal.Val.R18 (Cert.KernelIdeal.Val.inOf m c), fun c => Cert.KernelIdeal.Val.R19 (Cert.KernelIdeal.Val.inOf m c), fun c => Cert.KernelIdeal.Val.R20 (Cert.KernelIdeal.Val.inOf m c), fun c => Cert.KernelIdeal.Val.R21 (Cert.KernelIdeal.Val.inOf m c), kernel_run m g HB, ?_⟩
  refine (θ_run _ _ _).mono (fun r h c => ?_) (Cert.ReferenceIdeal.Val.run m' g')
  obtain ⟨w12, w13, w14, w15, w16, w17, w18, w19, w20, w21, k0, k1, k2, k3, k4, k5, k6, k7, k8, k9, k10, k11⟩ := h c
  have e := inOf_eq m m' c (hargs c)
  exact ⟨w12.trans (congrArg Cert.ReferenceIdeal.Val.W12 e), w13.trans (congrArg Cert.ReferenceIdeal.Val.W13 e), w14.trans (congrArg Cert.ReferenceIdeal.Val.W14 e), w15.trans (congrArg Cert.ReferenceIdeal.Val.W15 e), w16.trans (congrArg Cert.ReferenceIdeal.Val.W16 e), w17.trans (congrArg Cert.ReferenceIdeal.Val.W17 e), w18.trans (congrArg Cert.ReferenceIdeal.Val.W18 e), w19.trans (congrArg Cert.ReferenceIdeal.Val.W19 e), w20.trans (congrArg Cert.ReferenceIdeal.Val.W20 e), w21.trans (congrArg Cert.ReferenceIdeal.Val.W21 e), k0, k1, k2, k3, k4, k5, k6, k7, k8, k9, k10, k11⟩

theorem claim : Cert.Claim :=
  ⟨Cert.Kernel.Gen.facts, Cert.KernelIdeal.Gen.facts, Cert.ReferenceIdeal.Gen.facts, Cert.Pre_bounded.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    IdealRules.named_const.statement Cert.KernelIdeal.κ "score_scale" .f32 0x3DD53B95#32
      (((Real.sqrt 192)⁻¹ * (Real.log 2)⁻¹ : ℝ) : EReal) rfl,
    equal⟩

end Cert.Proof

end
